-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2in (m : (ℓ : Loc Cert.Kernel2in.nD Cert.Kernel2in.τ Cert.Kernel2in.sig) → Buf (Elt Bits) ℓ) : Prop :=
  True

def Pre_Kernel2inIdeal (m : (ℓ : Loc Cert.Kernel2inIdeal.nD Cert.Kernel2inIdeal.τ Cert.Kernel2inIdeal.sig) → Buf (Elt Ideal) ℓ) : Prop :=
  True

def Pre_Reference2inIdeal (m : (ℓ : Loc Cert.Reference2inIdeal.nD Cert.Reference2inIdeal.τ Cert.Reference2inIdeal.sig) → Buf (Elt Ideal) ℓ) : Prop :=
  True

def Pre_Kernelin (m : (ℓ : Loc Cert.Kernelin.nD Cert.Kernelin.τ Cert.Kernelin.sig) → Buf (Elt Bits) ℓ) : Prop :=
  True

def Pre_KernelinIdeal (m : (ℓ : Loc Cert.KernelinIdeal.nD Cert.KernelinIdeal.τ Cert.KernelinIdeal.sig) → Buf (Elt Ideal) ℓ) : Prop :=
  True

def Pre_ReferenceinIdeal (m : (ℓ : Loc Cert.ReferenceinIdeal.nD Cert.ReferenceinIdeal.τ Cert.ReferenceinIdeal.sig) → Buf (Elt Ideal) ℓ) : Prop :=
  True

def Pre_Kernelbranch (m : (ℓ : Loc Cert.Kernelbranch.nD Cert.Kernelbranch.τ Cert.Kernelbranch.sig) → Buf (Elt Bits) ℓ) : Prop :=
  True

def Pre_KernelbranchIdeal (m : (ℓ : Loc Cert.KernelbranchIdeal.nD Cert.KernelbranchIdeal.τ Cert.KernelbranchIdeal.sig) → Buf (Elt Ideal) ℓ) : Prop :=
  True

def Pre_ReferencebranchIdeal (m : (ℓ : Loc Cert.ReferencebranchIdeal.nD Cert.ReferencebranchIdeal.τ Cert.ReferencebranchIdeal.sig) → Buf (Elt Ideal) ℓ) : Prop :=
  True

def Pre_Kernel2out (m : (ℓ : Loc Cert.Kernel2out.nD Cert.Kernel2out.τ Cert.Kernel2out.sig) → Buf (Elt Bits) ℓ) : Prop :=
  True

def Pre_Kernel2outIdeal (m : (ℓ : Loc Cert.Kernel2outIdeal.nD Cert.Kernel2outIdeal.τ Cert.Kernel2outIdeal.sig) → Buf (Elt Ideal) ℓ) : Prop :=
  True

def Pre_Reference2outIdeal (m : (ℓ : Loc Cert.Reference2outIdeal.nD Cert.Reference2outIdeal.τ Cert.Reference2outIdeal.sig) → Buf (Elt Ideal) ℓ) : Prop :=
  True

def Pre_Kernelout (m : (ℓ : Loc Cert.Kernelout.nD Cert.Kernelout.τ Cert.Kernelout.sig) → Buf (Elt Bits) ℓ) : Prop :=
  True

def Pre_KerneloutIdeal (m : (ℓ : Loc Cert.KerneloutIdeal.nD Cert.KerneloutIdeal.τ Cert.KerneloutIdeal.sig) → Buf (Elt Ideal) ℓ) : Prop :=
  True

def Pre_ReferenceoutIdeal (m : (ℓ : Loc Cert.ReferenceoutIdeal.nD Cert.ReferenceoutIdeal.τ Cert.ReferenceoutIdeal.sig) → Buf (Elt Ideal) ℓ) : Prop :=
  True

def Pre_Kernelfwd (m : (ℓ : Loc Cert.Kernelfwd.nD Cert.Kernelfwd.τ Cert.Kernelfwd.sig) → Buf (Elt Bits) ℓ) : Prop :=
  True

def Pre_KernelfwdIdeal (m : (ℓ : Loc Cert.KernelfwdIdeal.nD Cert.KernelfwdIdeal.τ Cert.KernelfwdIdeal.sig) → Buf (Elt Ideal) ℓ) : Prop :=
  True

def Pre_ReferencefwdIdeal (m : (ℓ : Loc Cert.ReferencefwdIdeal.nD Cert.ReferencefwdIdeal.τ Cert.ReferencefwdIdeal.sig) → Buf (Elt Ideal) ℓ) : Prop :=
  True

def Pre_Kernellast (m : (ℓ : Loc Cert.Kernellast.nD Cert.Kernellast.τ Cert.Kernellast.sig) → Buf (Elt Bits) ℓ) : Prop :=
  True

def Pre_KernellastIdeal (m : (ℓ : Loc Cert.KernellastIdeal.nD Cert.KernellastIdeal.τ Cert.KernellastIdeal.sig) → Buf (Elt Ideal) ℓ) : Prop :=
  True

def Pre_KernellastIdeal_finite_last [hPre_finite_last : Cert.Pre_finite_last.Facts] (m : (ℓ : Loc Cert.KernellastIdeal.nD Cert.KernellastIdeal.τ Cert.KernellastIdeal.sig) → Buf (Elt Ideal) ℓ) : Prop :=
  ∀ c : Dev Cert.KernellastIdeal.nD,
    (Cert.Pre_finite_last.fn (F := Ideal) (m ((c.tc : Thread Cert.KernellastIdeal.nD Cert.KernellastIdeal.τ).loc Cert.KernellastIdeal.main_arg0)) (m ((c.tc : Thread Cert.KernellastIdeal.nD Cert.KernellastIdeal.τ).loc Cert.KernellastIdeal.main_arg1)) (m ((c.tc : Thread Cert.KernellastIdeal.nD Cert.KernellastIdeal.τ).loc Cert.KernellastIdeal.main_arg2)) (m ((c.tc : Thread Cert.KernellastIdeal.nD Cert.KernellastIdeal.τ).loc Cert.KernellastIdeal.main_arg3)) (m ((c.tc : Thread Cert.KernellastIdeal.nD Cert.KernellastIdeal.τ).loc Cert.KernellastIdeal.main_arg4)) (m ((c.tc : Thread Cert.KernellastIdeal.nD Cert.KernellastIdeal.τ).loc Cert.KernellastIdeal.main_arg5)) (m ((c.tc : Thread Cert.KernellastIdeal.nD Cert.KernellastIdeal.τ).loc Cert.KernellastIdeal.main_arg6)) (m ((c.tc : Thread Cert.KernellastIdeal.nD Cert.KernellastIdeal.τ).loc Cert.KernellastIdeal.main_arg7)) (m ((c.tc : Thread Cert.KernellastIdeal.nD Cert.KernellastIdeal.τ).loc Cert.KernellastIdeal.main_arg8))) = (fun _ => 1#1)

def Pre_ReferencelastIdeal (m : (ℓ : Loc Cert.ReferencelastIdeal.nD Cert.ReferencelastIdeal.τ Cert.ReferencelastIdeal.sig) → Buf (Elt Ideal) ℓ) : Prop :=
  True

def Pre_ReferencelastIdeal_finite_last [hPre_finite_last : Cert.Pre_finite_last.Facts] (m : (ℓ : Loc Cert.ReferencelastIdeal.nD Cert.ReferencelastIdeal.τ Cert.ReferencelastIdeal.sig) → Buf (Elt Ideal) ℓ) : Prop :=
  ∀ c : Dev Cert.ReferencelastIdeal.nD,
    (Cert.Pre_finite_last.fn (F := Ideal) (m ((c.tc : Thread Cert.ReferencelastIdeal.nD Cert.ReferencelastIdeal.τ).loc Cert.ReferencelastIdeal.main_arg0)) (m ((c.tc : Thread Cert.ReferencelastIdeal.nD Cert.ReferencelastIdeal.τ).loc Cert.ReferencelastIdeal.main_arg1)) (m ((c.tc : Thread Cert.ReferencelastIdeal.nD Cert.ReferencelastIdeal.τ).loc Cert.ReferencelastIdeal.main_arg2)) (m ((c.tc : Thread Cert.ReferencelastIdeal.nD Cert.ReferencelastIdeal.τ).loc Cert.ReferencelastIdeal.main_arg3)) (m ((c.tc : Thread Cert.ReferencelastIdeal.nD Cert.ReferencelastIdeal.τ).loc Cert.ReferencelastIdeal.main_arg4)) (m ((c.tc : Thread Cert.ReferencelastIdeal.nD Cert.ReferencelastIdeal.τ).loc Cert.ReferencelastIdeal.main_arg5)) (m ((c.tc : Thread Cert.ReferencelastIdeal.nD Cert.ReferencelastIdeal.τ).loc Cert.ReferencelastIdeal.main_arg6)) (m ((c.tc : Thread Cert.ReferencelastIdeal.nD Cert.ReferencelastIdeal.τ).loc Cert.ReferencelastIdeal.main_arg7)) (m ((c.tc : Thread Cert.ReferencelastIdeal.nD Cert.ReferencelastIdeal.τ).loc Cert.ReferencelastIdeal.main_arg8))) = (fun _ => 1#1)

def Pre_Kernelpool (m : (ℓ : Loc Cert.Kernelpool.nD Cert.Kernelpool.τ Cert.Kernelpool.sig) → Buf (Elt Bits) ℓ) : Prop :=
  True

def Pre_KernelpoolIdeal (m : (ℓ : Loc Cert.KernelpoolIdeal.nD Cert.KernelpoolIdeal.τ Cert.KernelpoolIdeal.sig) → Buf (Elt Ideal) ℓ) : Prop :=
  True

def Pre_ReferencepoolIdeal (m : (ℓ : Loc Cert.ReferencepoolIdeal.nD Cert.ReferencepoolIdeal.τ Cert.ReferencepoolIdeal.sig) → Buf (Elt Ideal) ℓ) : Prop :=
  True

def Pre_Kernelada (m : (ℓ : Loc Cert.Kernelada.nD Cert.Kernelada.τ Cert.Kernelada.sig) → Buf (Elt Bits) ℓ) : Prop :=
  True

def Pre_KerneladaIdeal (m : (ℓ : Loc Cert.KerneladaIdeal.nD Cert.KerneladaIdeal.τ Cert.KerneladaIdeal.sig) → Buf (Elt Ideal) ℓ) : Prop :=
  True

def Pre_ReferenceadaIdeal (m : (ℓ : Loc Cert.ReferenceadaIdeal.nD Cert.ReferenceadaIdeal.τ Cert.ReferenceadaIdeal.sig) → Buf (Elt Ideal) ℓ) : Prop :=
  True

def Pre_Kernelslots (m : (ℓ : Loc Cert.Kernelslots.nD Cert.Kernelslots.τ Cert.Kernelslots.sig) → Buf (Elt Bits) ℓ) : Prop :=
  True

def Pre_KernelslotsIdeal (m : (ℓ : Loc Cert.KernelslotsIdeal.nD Cert.KernelslotsIdeal.τ Cert.KernelslotsIdeal.sig) → Buf (Elt Ideal) ℓ) : Prop :=
  True

def Pre_ReferenceslotsIdeal (m : (ℓ : Loc Cert.ReferenceslotsIdeal.nD Cert.ReferenceslotsIdeal.τ Cert.ReferenceslotsIdeal.sig) → Buf (Elt Ideal) ℓ) : Prop :=
  True

def Pre_Kernelmod (m : (ℓ : Loc Cert.Kernelmod.nD Cert.Kernelmod.τ Cert.Kernelmod.sig) → Buf (Elt Bits) ℓ) : Prop :=
  True

def Pre_KernelmodIdeal (m : (ℓ : Loc Cert.KernelmodIdeal.nD Cert.KernelmodIdeal.τ Cert.KernelmodIdeal.sig) → Buf (Elt Ideal) ℓ) : Prop :=
  True

def Pre_ReferencemodIdeal (m : (ℓ : Loc Cert.ReferencemodIdeal.nD Cert.ReferencemodIdeal.τ Cert.ReferencemodIdeal.sig) → Buf (Elt Ideal) ℓ) : Prop :=
  True

def Pre_Kernelpoolfwd (m : (ℓ : Loc Cert.Kernelpoolfwd.nD Cert.Kernelpoolfwd.τ Cert.Kernelpoolfwd.sig) → Buf (Elt Bits) ℓ) : Prop :=
  True

def Pre_KernelpoolfwdIdeal (m : (ℓ : Loc Cert.KernelpoolfwdIdeal.nD Cert.KernelpoolfwdIdeal.τ Cert.KernelpoolfwdIdeal.sig) → Buf (Elt Ideal) ℓ) : Prop :=
  True

def Pre_ReferencepoolfwdIdeal (m : (ℓ : Loc Cert.ReferencepoolfwdIdeal.nD Cert.ReferencepoolfwdIdeal.τ Cert.ReferencepoolfwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2in [hKernel2in : Cert.Kernel2in.Facts] : Prop :=
  ∀ (m : (ℓ : Loc Cert.Kernel2in.nD Cert.Kernel2in.τ Cert.Kernel2in.sig) → Buf (Elt Bits) ℓ) (g : Dev Cert.Kernel2in.nD → PrngReg), Pre_Kernel2in m →
    θ_run (Cert.Kernel2in.defs (F := Bits)) (onTc (τ := Cert.Kernel2in.τ) (Cert.Kernel2in.main (F := Bits))) ⟨m, fun _ => 0, g⟩ (fun r => (∀ c : Dev Cert.Kernel2in.nD,
      r.2.mem ((c.tc : Thread Cert.Kernel2in.nD Cert.Kernel2in.τ).loc Cert.Kernel2in.main_arg0) = m ((c.tc : Thread Cert.Kernel2in.nD Cert.Kernel2in.τ).loc Cert.Kernel2in.main_arg0)
      ∧ r.2.mem ((c.tc : Thread Cert.Kernel2in.nD Cert.Kernel2in.τ).loc Cert.Kernel2in.main_arg1) = m ((c.tc : Thread Cert.Kernel2in.nD Cert.Kernel2in.τ).loc Cert.Kernel2in.main_arg1)
      ∧ r.2.mem ((c.tc : Thread Cert.Kernel2in.nD Cert.Kernel2in.τ).loc Cert.Kernel2in.main_arg2) = m ((c.tc : Thread Cert.Kernel2in.nD Cert.Kernel2in.τ).loc Cert.Kernel2in.main_arg2))
      ∧ r.2.sem = fun _ => 0)

def quiescent_Kernel2inIdeal [hKernel2inIdeal : Cert.Kernel2inIdeal.Facts] : Prop :=
  ∀ (m : (ℓ : Loc Cert.Kernel2inIdeal.nD Cert.Kernel2inIdeal.τ Cert.Kernel2inIdeal.sig) → Buf (Elt Ideal) ℓ) (g : Dev Cert.Kernel2inIdeal.nD → PrngReg), Pre_Kernel2inIdeal m →
    θ_run (Cert.Kernel2inIdeal.defs (F := Ideal)) (onTc (τ := Cert.Kernel2inIdeal.τ) (Cert.Kernel2inIdeal.main (F := Ideal))) ⟨m, fun _ => 0, g⟩ (fun r => (∀ c : Dev Cert.Kernel2inIdeal.nD,
      r.2.mem ((c.tc : Thread Cert.Kernel2inIdeal.nD Cert.Kernel2inIdeal.τ).loc Cert.Kernel2inIdeal.main_arg0) = m ((c.tc : Thread Cert.Kernel2inIdeal.nD Cert.Kernel2inIdeal.τ).loc Cert.Kernel2inIdeal.main_arg0)
      ∧ r.2.mem ((c.tc : Thread Cert.Kernel2inIdeal.nD Cert.Kernel2inIdeal.τ).loc Cert.Kernel2inIdeal.main_arg1) = m ((c.tc : Thread Cert.Kernel2inIdeal.nD Cert.Kernel2inIdeal.τ).loc Cert.Kernel2inIdeal.main_arg1)
      ∧ r.2.mem ((c.tc : Thread Cert.Kernel2inIdeal.nD Cert.Kernel2inIdeal.τ).loc Cert.Kernel2inIdeal.main_arg2) = m ((c.tc : Thread Cert.Kernel2inIdeal.nD Cert.Kernel2inIdeal.τ).loc Cert.Kernel2inIdeal.main_arg2))
      ∧ r.2.sem = fun _ => 0)

def quiescent_Reference2inIdeal [hReference2inIdeal : Cert.Reference2inIdeal.Facts] : Prop :=
  ∀ (m : (ℓ : Loc Cert.Reference2inIdeal.nD Cert.Reference2inIdeal.τ Cert.Reference2inIdeal.sig) → Buf (Elt Ideal) ℓ) (g : Dev Cert.Reference2inIdeal.nD → PrngReg), Pre_Reference2inIdeal m →
    θ_run (Cert.Reference2inIdeal.defs (F := Ideal)) (onTc (τ := Cert.Reference2inIdeal.τ) (Cert.Reference2inIdeal.main (F := Ideal))) ⟨m, fun _ => 0, g⟩ (fun r => (∀ c : Dev Cert.Reference2inIdeal.nD,
      r.2.mem ((c.tc : Thread Cert.Reference2inIdeal.nD Cert.Reference2inIdeal.τ).loc Cert.Reference2inIdeal.main_arg0) = m ((c.tc : Thread Cert.Reference2inIdeal.nD Cert.Reference2inIdeal.τ).loc Cert.Reference2inIdeal.main_arg0)
      ∧ r.2.mem ((c.tc : Thread Cert.Reference2inIdeal.nD Cert.Reference2inIdeal.τ).loc Cert.Reference2inIdeal.main_arg1) = m ((c.tc : Thread Cert.Reference2inIdeal.nD Cert.Reference2inIdeal.τ).loc Cert.Reference2inIdeal.main_arg1)
      ∧ r.2.mem ((c.tc : Thread Cert.Reference2inIdeal.nD Cert.Reference2inIdeal.τ).loc Cert.Reference2inIdeal.main_arg2) = m ((c.tc : Thread Cert.Reference2inIdeal.nD Cert.Reference2inIdeal.τ).loc Cert.Reference2inIdeal.main_arg2))
      ∧ r.2.sem = fun _ => 0)

def quiescent_Kernelin [hKernelin : Cert.Kernelin.Facts] : Prop :=
  ∀ (m : (ℓ : Loc Cert.Kernelin.nD Cert.Kernelin.τ Cert.Kernelin.sig) → Buf (Elt Bits) ℓ) (g : Dev Cert.Kernelin.nD → PrngReg), Pre_Kernelin m →
    θ_run (Cert.Kernelin.defs (F := Bits)) (onTc (τ := Cert.Kernelin.τ) (Cert.Kernelin.main (F := Bits))) ⟨m, fun _ => 0, g⟩ (fun r => (∀ c : Dev Cert.Kernelin.nD,
      r.2.mem ((c.tc : Thread Cert.Kernelin.nD Cert.Kernelin.τ).loc Cert.Kernelin.main_arg0) = m ((c.tc : Thread Cert.Kernelin.nD Cert.Kernelin.τ).loc Cert.Kernelin.main_arg0)
      ∧ r.2.mem ((c.tc : Thread Cert.Kernelin.nD Cert.Kernelin.τ).loc Cert.Kernelin.main_arg1) = m ((c.tc : Thread Cert.Kernelin.nD Cert.Kernelin.τ).loc Cert.Kernelin.main_arg1))
      ∧ r.2.sem = fun _ => 0)

def quiescent_KernelinIdeal [hKernelinIdeal : Cert.KernelinIdeal.Facts] : Prop :=
  ∀ (m : (ℓ : Loc Cert.KernelinIdeal.nD Cert.KernelinIdeal.τ Cert.KernelinIdeal.sig) → Buf (Elt Ideal) ℓ) (g : Dev Cert.KernelinIdeal.nD → PrngReg), Pre_KernelinIdeal m →
    θ_run (Cert.KernelinIdeal.defs (F := Ideal)) (onTc (τ := Cert.KernelinIdeal.τ) (Cert.KernelinIdeal.main (F := Ideal))) ⟨m, fun _ => 0, g⟩ (fun r => (∀ c : Dev Cert.KernelinIdeal.nD,
      r.2.mem ((c.tc : Thread Cert.KernelinIdeal.nD Cert.KernelinIdeal.τ).loc Cert.KernelinIdeal.main_arg0) = m ((c.tc : Thread Cert.KernelinIdeal.nD Cert.KernelinIdeal.τ).loc Cert.KernelinIdeal.main_arg0)
      ∧ r.2.mem ((c.tc : Thread Cert.KernelinIdeal.nD Cert.KernelinIdeal.τ).loc Cert.KernelinIdeal.main_arg1) = m ((c.tc : Thread Cert.KernelinIdeal.nD Cert.KernelinIdeal.τ).loc Cert.KernelinIdeal.main_arg1))
      ∧ r.2.sem = fun _ => 0)

def quiescent_ReferenceinIdeal [hReferenceinIdeal : Cert.ReferenceinIdeal.Facts] : Prop :=
  ∀ (m : (ℓ : Loc Cert.ReferenceinIdeal.nD Cert.ReferenceinIdeal.τ Cert.ReferenceinIdeal.sig) → Buf (Elt Ideal) ℓ) (g : Dev Cert.ReferenceinIdeal.nD → PrngReg), Pre_ReferenceinIdeal m →
    θ_run (Cert.ReferenceinIdeal.defs (F := Ideal)) (onTc (τ := Cert.ReferenceinIdeal.τ) (Cert.ReferenceinIdeal.main (F := Ideal))) ⟨m, fun _ => 0, g⟩ (fun r => (∀ c : Dev Cert.ReferenceinIdeal.nD,
      r.2.mem ((c.tc : Thread Cert.ReferenceinIdeal.nD Cert.ReferenceinIdeal.τ).loc Cert.ReferenceinIdeal.main_arg0) = m ((c.tc : Thread Cert.ReferenceinIdeal.nD Cert.ReferenceinIdeal.τ).loc Cert.ReferenceinIdeal.main_arg0)
      ∧ r.2.mem ((c.tc : Thread Cert.ReferenceinIdeal.nD Cert.ReferenceinIdeal.τ).loc Cert.ReferenceinIdeal.main_arg1) = m ((c.tc : Thread Cert.ReferenceinIdeal.nD Cert.ReferenceinIdeal.τ).loc Cert.ReferenceinIdeal.main_arg1))
      ∧ r.2.sem = fun _ => 0)

def quiescent_Kernelbranch [hKernelbranch : Cert.Kernelbranch.Facts] : Prop :=
  ∀ (m : (ℓ : Loc Cert.Kernelbranch.nD Cert.Kernelbranch.τ Cert.Kernelbranch.sig) → Buf (Elt Bits) ℓ) (g : Dev Cert.Kernelbranch.nD → PrngReg), Pre_Kernelbranch m →
    θ_run (Cert.Kernelbranch.defs (F := Bits)) (onTc (τ := Cert.Kernelbranch.τ) (Cert.Kernelbranch.main (F := Bits))) ⟨m, fun _ => 0, g⟩ (fun r => (∀ c : Dev Cert.Kernelbranch.nD,
      r.2.mem ((c.tc : Thread Cert.Kernelbranch.nD Cert.Kernelbranch.τ).loc Cert.Kernelbranch.main_arg0) = m ((c.tc : Thread Cert.Kernelbranch.nD Cert.Kernelbranch.τ).loc Cert.Kernelbranch.main_arg0)
      ∧ r.2.mem ((c.tc : Thread Cert.Kernelbranch.nD Cert.Kernelbranch.τ).loc Cert.Kernelbranch.main_arg1) = m ((c.tc : Thread Cert.Kernelbranch.nD Cert.Kernelbranch.τ).loc Cert.Kernelbranch.main_arg1))
      ∧ r.2.sem = fun _ => 0)

def quiescent_KernelbranchIdeal [hKernelbranchIdeal : Cert.KernelbranchIdeal.Facts] : Prop :=
  ∀ (m : (ℓ : Loc Cert.KernelbranchIdeal.nD Cert.KernelbranchIdeal.τ Cert.KernelbranchIdeal.sig) → Buf (Elt Ideal) ℓ) (g : Dev Cert.KernelbranchIdeal.nD → PrngReg), Pre_KernelbranchIdeal m →
    θ_run (Cert.KernelbranchIdeal.defs (F := Ideal)) (onTc (τ := Cert.KernelbranchIdeal.τ) (Cert.KernelbranchIdeal.main (F := Ideal))) ⟨m, fun _ => 0, g⟩ (fun r => (∀ c : Dev Cert.KernelbranchIdeal.nD,
      r.2.mem ((c.tc : Thread Cert.KernelbranchIdeal.nD Cert.KernelbranchIdeal.τ).loc Cert.KernelbranchIdeal.main_arg0) = m ((c.tc : Thread Cert.KernelbranchIdeal.nD Cert.KernelbranchIdeal.τ).loc Cert.KernelbranchIdeal.main_arg0)
      ∧ r.2.mem ((c.tc : Thread Cert.KernelbranchIdeal.nD Cert.KernelbranchIdeal.τ).loc Cert.KernelbranchIdeal.main_arg1) = m ((c.tc : Thread Cert.KernelbranchIdeal.nD Cert.KernelbranchIdeal.τ).loc Cert.KernelbranchIdeal.main_arg1))
      ∧ r.2.sem = fun _ => 0)

def quiescent_ReferencebranchIdeal [hReferencebranchIdeal : Cert.ReferencebranchIdeal.Facts] : Prop :=
  ∀ (m : (ℓ : Loc Cert.ReferencebranchIdeal.nD Cert.ReferencebranchIdeal.τ Cert.ReferencebranchIdeal.sig) → Buf (Elt Ideal) ℓ) (g : Dev Cert.ReferencebranchIdeal.nD → PrngReg), Pre_ReferencebranchIdeal m →
    θ_run (Cert.ReferencebranchIdeal.defs (F := Ideal)) (onTc (τ := Cert.ReferencebranchIdeal.τ) (Cert.ReferencebranchIdeal.main (F := Ideal))) ⟨m, fun _ => 0, g⟩ (fun r => (∀ c : Dev Cert.ReferencebranchIdeal.nD,
      r.2.mem ((c.tc : Thread Cert.ReferencebranchIdeal.nD Cert.ReferencebranchIdeal.τ).loc Cert.ReferencebranchIdeal.main_arg0) = m ((c.tc : Thread Cert.ReferencebranchIdeal.nD Cert.ReferencebranchIdeal.τ).loc Cert.ReferencebranchIdeal.main_arg0)
      ∧ r.2.mem ((c.tc : Thread Cert.ReferencebranchIdeal.nD Cert.ReferencebranchIdeal.τ).loc Cert.ReferencebranchIdeal.main_arg1) = m ((c.tc : Thread Cert.ReferencebranchIdeal.nD Cert.ReferencebranchIdeal.τ).loc Cert.ReferencebranchIdeal.main_arg1))
      ∧ r.2.sem = fun _ => 0)

def quiescent_Kernel2out [hKernel2out : Cert.Kernel2out.Facts] : Prop :=
  ∀ (m : (ℓ : Loc Cert.Kernel2out.nD Cert.Kernel2out.τ Cert.Kernel2out.sig) → Buf (Elt Bits) ℓ) (g : Dev Cert.Kernel2out.nD → PrngReg), Pre_Kernel2out m →
    θ_run (Cert.Kernel2out.defs (F := Bits)) (onTc (τ := Cert.Kernel2out.τ) (Cert.Kernel2out.main (F := Bits))) ⟨m, fun _ => 0, g⟩ (fun r => (∀ c : Dev Cert.Kernel2out.nD,
      r.2.mem ((c.tc : Thread Cert.Kernel2out.nD Cert.Kernel2out.τ).loc Cert.Kernel2out.main_arg0) = m ((c.tc : Thread Cert.Kernel2out.nD Cert.Kernel2out.τ).loc Cert.Kernel2out.main_arg0)
      ∧ r.2.mem ((c.tc : Thread Cert.Kernel2out.nD Cert.Kernel2out.τ).loc Cert.Kernel2out.main_arg1) = m ((c.tc : Thread Cert.Kernel2out.nD Cert.Kernel2out.τ).loc Cert.Kernel2out.main_arg1))
      ∧ r.2.sem = fun _ => 0)

def quiescent_Kernel2outIdeal [hKernel2outIdeal : Cert.Kernel2outIdeal.Facts] : Prop :=
  ∀ (m : (ℓ : Loc Cert.Kernel2outIdeal.nD Cert.Kernel2outIdeal.τ Cert.Kernel2outIdeal.sig) → Buf (Elt Ideal) ℓ) (g : Dev Cert.Kernel2outIdeal.nD → PrngReg), Pre_Kernel2outIdeal m →
    θ_run (Cert.Kernel2outIdeal.defs (F := Ideal)) (onTc (τ := Cert.Kernel2outIdeal.τ) (Cert.Kernel2outIdeal.main (F := Ideal))) ⟨m, fun _ => 0, g⟩ (fun r => (∀ c : Dev Cert.Kernel2outIdeal.nD,
      r.2.mem ((c.tc : Thread Cert.Kernel2outIdeal.nD Cert.Kernel2outIdeal.τ).loc Cert.Kernel2outIdeal.main_arg0) = m ((c.tc : Thread Cert.Kernel2outIdeal.nD Cert.Kernel2outIdeal.τ).loc Cert.Kernel2outIdeal.main_arg0)
      ∧ r.2.mem ((c.tc : Thread Cert.Kernel2outIdeal.nD Cert.Kernel2outIdeal.τ).loc Cert.Kernel2outIdeal.main_arg1) = m ((c.tc : Thread Cert.Kernel2outIdeal.nD Cert.Kernel2outIdeal.τ).loc Cert.Kernel2outIdeal.main_arg1))
      ∧ r.2.sem = fun _ => 0)

def quiescent_Reference2outIdeal [hReference2outIdeal : Cert.Reference2outIdeal.Facts] : Prop :=
  ∀ (m : (ℓ : Loc Cert.Reference2outIdeal.nD Cert.Reference2outIdeal.τ Cert.Reference2outIdeal.sig) → Buf (Elt Ideal) ℓ) (g : Dev Cert.Reference2outIdeal.nD → PrngReg), Pre_Reference2outIdeal m →
    θ_run (Cert.Reference2outIdeal.defs (F := Ideal)) (onTc (τ := Cert.Reference2outIdeal.τ) (Cert.Reference2outIdeal.main (F := Ideal))) ⟨m, fun _ => 0, g⟩ (fun r => (∀ c : Dev Cert.Reference2outIdeal.nD,
      r.2.mem ((c.tc : Thread Cert.Reference2outIdeal.nD Cert.Reference2outIdeal.τ).loc Cert.Reference2outIdeal.main_arg0) = m ((c.tc : Thread Cert.Reference2outIdeal.nD Cert.Reference2outIdeal.τ).loc Cert.Reference2outIdeal.main_arg0)
      ∧ r.2.mem ((c.tc : Thread Cert.Reference2outIdeal.nD Cert.Reference2outIdeal.τ).loc Cert.Reference2outIdeal.main_arg1) = m ((c.tc : Thread Cert.Reference2outIdeal.nD Cert.Reference2outIdeal.τ).loc Cert.Reference2outIdeal.main_arg1))
      ∧ r.2.sem = fun _ => 0)

def quiescent_Kernelout [hKernelout : Cert.Kernelout.Facts] : Prop :=
  ∀ (m : (ℓ : Loc Cert.Kernelout.nD Cert.Kernelout.τ Cert.Kernelout.sig) → Buf (Elt Bits) ℓ) (g : Dev Cert.Kernelout.nD → PrngReg), Pre_Kernelout m →
    θ_run (Cert.Kernelout.defs (F := Bits)) (onTc (τ := Cert.Kernelout.τ) (Cert.Kernelout.main (F := Bits))) ⟨m, fun _ => 0, g⟩ (fun r => (∀ c : Dev Cert.Kernelout.nD,
      r.2.mem ((c.tc : Thread Cert.Kernelout.nD Cert.Kernelout.τ).loc Cert.Kernelout.main_arg0) = m ((c.tc : Thread Cert.Kernelout.nD Cert.Kernelout.τ).loc Cert.Kernelout.main_arg0)
      ∧ r.2.mem ((c.tc : Thread Cert.Kernelout.nD Cert.Kernelout.τ).loc Cert.Kernelout.main_arg1) = m ((c.tc : Thread Cert.Kernelout.nD Cert.Kernelout.τ).loc Cert.Kernelout.main_arg1))
      ∧ r.2.sem = fun _ => 0)

def quiescent_KerneloutIdeal [hKerneloutIdeal : Cert.KerneloutIdeal.Facts] : Prop :=
  ∀ (m : (ℓ : Loc Cert.KerneloutIdeal.nD Cert.KerneloutIdeal.τ Cert.KerneloutIdeal.sig) → Buf (Elt Ideal) ℓ) (g : Dev Cert.KerneloutIdeal.nD → PrngReg), Pre_KerneloutIdeal m →
    θ_run (Cert.KerneloutIdeal.defs (F := Ideal)) (onTc (τ := Cert.KerneloutIdeal.τ) (Cert.KerneloutIdeal.main (F := Ideal))) ⟨m, fun _ => 0, g⟩ (fun r => (∀ c : Dev Cert.KerneloutIdeal.nD,
      r.2.mem ((c.tc : Thread Cert.KerneloutIdeal.nD Cert.KerneloutIdeal.τ).loc Cert.KerneloutIdeal.main_arg0) = m ((c.tc : Thread Cert.KerneloutIdeal.nD Cert.KerneloutIdeal.τ).loc Cert.KerneloutIdeal.main_arg0)
      ∧ r.2.mem ((c.tc : Thread Cert.KerneloutIdeal.nD Cert.KerneloutIdeal.τ).loc Cert.KerneloutIdeal.main_arg1) = m ((c.tc : Thread Cert.KerneloutIdeal.nD Cert.KerneloutIdeal.τ).loc Cert.KerneloutIdeal.main_arg1))
      ∧ r.2.sem = fun _ => 0)

def quiescent_ReferenceoutIdeal [hReferenceoutIdeal : Cert.ReferenceoutIdeal.Facts] : Prop :=
  ∀ (m : (ℓ : Loc Cert.ReferenceoutIdeal.nD Cert.ReferenceoutIdeal.τ Cert.ReferenceoutIdeal.sig) → Buf (Elt Ideal) ℓ) (g : Dev Cert.ReferenceoutIdeal.nD → PrngReg), Pre_ReferenceoutIdeal m →
    θ_run (Cert.ReferenceoutIdeal.defs (F := Ideal)) (onTc (τ := Cert.ReferenceoutIdeal.τ) (Cert.ReferenceoutIdeal.main (F := Ideal))) ⟨m, fun _ => 0, g⟩ (fun r => (∀ c : Dev Cert.ReferenceoutIdeal.nD,
      r.2.mem ((c.tc : Thread Cert.ReferenceoutIdeal.nD Cert.ReferenceoutIdeal.τ).loc Cert.ReferenceoutIdeal.main_arg0) = m ((c.tc : Thread Cert.ReferenceoutIdeal.nD Cert.ReferenceoutIdeal.τ).loc Cert.ReferenceoutIdeal.main_arg0)
      ∧ r.2.mem ((c.tc : Thread Cert.ReferenceoutIdeal.nD Cert.ReferenceoutIdeal.τ).loc Cert.ReferenceoutIdeal.main_arg1) = m ((c.tc : Thread Cert.ReferenceoutIdeal.nD Cert.ReferenceoutIdeal.τ).loc Cert.ReferenceoutIdeal.main_arg1))
      ∧ r.2.sem = fun _ => 0)

def quiescent_Kernelfwd [hKernelfwd : Cert.Kernelfwd.Facts] : Prop :=
  ∀ (m : (ℓ : Loc Cert.Kernelfwd.nD Cert.Kernelfwd.τ Cert.Kernelfwd.sig) → Buf (Elt Bits) ℓ) (g : Dev Cert.Kernelfwd.nD → PrngReg), Pre_Kernelfwd m →
    θ_run (Cert.Kernelfwd.defs (F := Bits)) (onTc (τ := Cert.Kernelfwd.τ) (Cert.Kernelfwd.main (F := Bits))) ⟨m, fun _ => 0, g⟩ (fun r => (∀ c : Dev Cert.Kernelfwd.nD,
      r.2.mem ((c.tc : Thread Cert.Kernelfwd.nD Cert.Kernelfwd.τ).loc Cert.Kernelfwd.main_arg0) = m ((c.tc : Thread Cert.Kernelfwd.nD Cert.Kernelfwd.τ).loc Cert.Kernelfwd.main_arg0)
      ∧ r.2.mem ((c.tc : Thread Cert.Kernelfwd.nD Cert.Kernelfwd.τ).loc Cert.Kernelfwd.main_arg1) = m ((c.tc : Thread Cert.Kernelfwd.nD Cert.Kernelfwd.τ).loc Cert.Kernelfwd.main_arg1)
      ∧ r.2.mem ((c.tc : Thread Cert.Kernelfwd.nD Cert.Kernelfwd.τ).loc Cert.Kernelfwd.main_arg2) = m ((c.tc : Thread Cert.Kernelfwd.nD Cert.Kernelfwd.τ).loc Cert.Kernelfwd.main_arg2)
      ∧ r.2.mem ((c.tc : Thread Cert.Kernelfwd.nD Cert.Kernelfwd.τ).loc Cert.Kernelfwd.main_arg3) = m ((c.tc : Thread Cert.Kernelfwd.nD Cert.Kernelfwd.τ).loc Cert.Kernelfwd.main_arg3)
      ∧ r.2.mem ((c.tc : Thread Cert.Kernelfwd.nD Cert.Kernelfwd.τ).loc Cert.Kernelfwd.main_arg4) = m ((c.tc : Thread Cert.Kernelfwd.nD Cert.Kernelfwd.τ).loc Cert.Kernelfwd.main_arg4)
      ∧ r.2.mem ((c.tc : Thread Cert.Kernelfwd.nD Cert.Kernelfwd.τ).loc Cert.Kernelfwd.main_arg5) = m ((c.tc : Thread Cert.Kernelfwd.nD Cert.Kernelfwd.τ).loc Cert.Kernelfwd.main_arg5)
      ∧ r.2.mem ((c.tc : Thread Cert.Kernelfwd.nD Cert.Kernelfwd.τ).loc Cert.Kernelfwd.main_arg6) = m ((c.tc : Thread Cert.Kernelfwd.nD Cert.Kernelfwd.τ).loc Cert.Kernelfwd.main_arg6))
      ∧ r.2.sem = fun _ => 0)

def quiescent_KernelfwdIdeal [hKernelfwdIdeal : Cert.KernelfwdIdeal.Facts] : Prop :=
  ∀ (m : (ℓ : Loc Cert.KernelfwdIdeal.nD Cert.KernelfwdIdeal.τ Cert.KernelfwdIdeal.sig) → Buf (Elt Ideal) ℓ) (g : Dev Cert.KernelfwdIdeal.nD → PrngReg), Pre_KernelfwdIdeal m →
    θ_run (Cert.KernelfwdIdeal.defs (F := Ideal)) (onTc (τ := Cert.KernelfwdIdeal.τ) (Cert.KernelfwdIdeal.main (F := Ideal))) ⟨m, fun _ => 0, g⟩ (fun r => (∀ c : Dev Cert.KernelfwdIdeal.nD,
      r.2.mem ((c.tc : Thread Cert.KernelfwdIdeal.nD Cert.KernelfwdIdeal.τ).loc Cert.KernelfwdIdeal.main_arg0) = m ((c.tc : Thread Cert.KernelfwdIdeal.nD Cert.KernelfwdIdeal.τ).loc Cert.KernelfwdIdeal.main_arg0)
      ∧ r.2.mem ((c.tc : Thread Cert.KernelfwdIdeal.nD Cert.KernelfwdIdeal.τ).loc Cert.KernelfwdIdeal.main_arg1) = m ((c.tc : Thread Cert.KernelfwdIdeal.nD Cert.KernelfwdIdeal.τ).loc Cert.KernelfwdIdeal.main_arg1)
      ∧ r.2.mem ((c.tc : Thread Cert.KernelfwdIdeal.nD Cert.KernelfwdIdeal.τ).loc Cert.KernelfwdIdeal.main_arg2) = m ((c.tc : Thread Cert.KernelfwdIdeal.nD Cert.KernelfwdIdeal.τ).loc Cert.KernelfwdIdeal.main_arg2)
      ∧ r.2.mem ((c.tc : Thread Cert.KernelfwdIdeal.nD Cert.KernelfwdIdeal.τ).loc Cert.KernelfwdIdeal.main_arg3) = m ((c.tc : Thread Cert.KernelfwdIdeal.nD Cert.KernelfwdIdeal.τ).loc Cert.KernelfwdIdeal.main_arg3)
      ∧ r.2.mem ((c.tc : Thread Cert.KernelfwdIdeal.nD Cert.KernelfwdIdeal.τ).loc Cert.KernelfwdIdeal.main_arg4) = m ((c.tc : Thread Cert.KernelfwdIdeal.nD Cert.KernelfwdIdeal.τ).loc Cert.KernelfwdIdeal.main_arg4)
      ∧ r.2.mem ((c.tc : Thread Cert.KernelfwdIdeal.nD Cert.KernelfwdIdeal.τ).loc Cert.KernelfwdIdeal.main_arg5) = m ((c.tc : Thread Cert.KernelfwdIdeal.nD Cert.KernelfwdIdeal.τ).loc Cert.KernelfwdIdeal.main_arg5)
      ∧ r.2.mem ((c.tc : Thread Cert.KernelfwdIdeal.nD Cert.KernelfwdIdeal.τ).loc Cert.KernelfwdIdeal.main_arg6) = m ((c.tc : Thread Cert.KernelfwdIdeal.nD Cert.KernelfwdIdeal.τ).loc Cert.KernelfwdIdeal.main_arg6))
      ∧ r.2.sem = fun _ => 0)

def quiescent_ReferencefwdIdeal [hReferencefwdIdeal : Cert.ReferencefwdIdeal.Facts] : Prop :=
  ∀ (m : (ℓ : Loc Cert.ReferencefwdIdeal.nD Cert.ReferencefwdIdeal.τ Cert.ReferencefwdIdeal.sig) → Buf (Elt Ideal) ℓ) (g : Dev Cert.ReferencefwdIdeal.nD → PrngReg), Pre_ReferencefwdIdeal m →
    θ_run (Cert.ReferencefwdIdeal.defs (F := Ideal)) (onTc (τ := Cert.ReferencefwdIdeal.τ) (Cert.ReferencefwdIdeal.main (F := Ideal))) ⟨m, fun _ => 0, g⟩ (fun r => (∀ c : Dev Cert.ReferencefwdIdeal.nD,
      r.2.mem ((c.tc : Thread Cert.ReferencefwdIdeal.nD Cert.ReferencefwdIdeal.τ).loc Cert.ReferencefwdIdeal.main_arg0) = m ((c.tc : Thread Cert.ReferencefwdIdeal.nD Cert.ReferencefwdIdeal.τ).loc Cert.ReferencefwdIdeal.main_arg0)
      ∧ r.2.mem ((c.tc : Thread Cert.ReferencefwdIdeal.nD Cert.ReferencefwdIdeal.τ).loc Cert.ReferencefwdIdeal.main_arg1) = m ((c.tc : Thread Cert.ReferencefwdIdeal.nD Cert.ReferencefwdIdeal.τ).loc Cert.ReferencefwdIdeal.main_arg1)
      ∧ r.2.mem ((c.tc : Thread Cert.ReferencefwdIdeal.nD Cert.ReferencefwdIdeal.τ).loc Cert.ReferencefwdIdeal.main_arg2) = m ((c.tc : Thread Cert.ReferencefwdIdeal.nD Cert.ReferencefwdIdeal.τ).loc Cert.ReferencefwdIdeal.main_arg2)
      ∧ r.2.mem ((c.tc : Thread Cert.ReferencefwdIdeal.nD Cert.ReferencefwdIdeal.τ).loc Cert.ReferencefwdIdeal.main_arg3) = m ((c.tc : Thread Cert.ReferencefwdIdeal.nD Cert.ReferencefwdIdeal.τ).loc Cert.ReferencefwdIdeal.main_arg3)
      ∧ r.2.mem ((c.tc : Thread Cert.ReferencefwdIdeal.nD Cert.ReferencefwdIdeal.τ).loc Cert.ReferencefwdIdeal.main_arg4) = m ((c.tc : Thread Cert.ReferencefwdIdeal.nD Cert.ReferencefwdIdeal.τ).loc Cert.ReferencefwdIdeal.main_arg4)
      ∧ r.2.mem ((c.tc : Thread Cert.ReferencefwdIdeal.nD Cert.ReferencefwdIdeal.τ).loc Cert.ReferencefwdIdeal.main_arg5) = m ((c.tc : Thread Cert.ReferencefwdIdeal.nD Cert.ReferencefwdIdeal.τ).loc Cert.ReferencefwdIdeal.main_arg5)
      ∧ r.2.mem ((c.tc : Thread Cert.ReferencefwdIdeal.nD Cert.ReferencefwdIdeal.τ).loc Cert.ReferencefwdIdeal.main_arg6) = m ((c.tc : Thread Cert.ReferencefwdIdeal.nD Cert.ReferencefwdIdeal.τ).loc Cert.ReferencefwdIdeal.main_arg6))
      ∧ r.2.sem = fun _ => 0)

def quiescent_Kernellast [hKernellast : Cert.Kernellast.Facts] : Prop :=
  ∀ (m : (ℓ : Loc Cert.Kernellast.nD Cert.Kernellast.τ Cert.Kernellast.sig) → Buf (Elt Bits) ℓ) (g : Dev Cert.Kernellast.nD → PrngReg), Pre_Kernellast m →
    θ_run (Cert.Kernellast.defs (F := Bits)) (onTc (τ := Cert.Kernellast.τ) (Cert.Kernellast.main (F := Bits))) ⟨m, fun _ => 0, g⟩ (fun r => (∀ c : Dev Cert.Kernellast.nD,
      r.2.mem ((c.tc : Thread Cert.Kernellast.nD Cert.Kernellast.τ).loc Cert.Kernellast.main_arg0) = m ((c.tc : Thread Cert.Kernellast.nD Cert.Kernellast.τ).loc Cert.Kernellast.main_arg0)
      ∧ r.2.mem ((c.tc : Thread Cert.Kernellast.nD Cert.Kernellast.τ).loc Cert.Kernellast.main_arg1) = m ((c.tc : Thread Cert.Kernellast.nD Cert.Kernellast.τ).loc Cert.Kernellast.main_arg1)
      ∧ r.2.mem ((c.tc : Thread Cert.Kernellast.nD Cert.Kernellast.τ).loc Cert.Kernellast.main_arg2) = m ((c.tc : Thread Cert.Kernellast.nD Cert.Kernellast.τ).loc Cert.Kernellast.main_arg2)
      ∧ r.2.mem ((c.tc : Thread Cert.Kernellast.nD Cert.Kernellast.τ).loc Cert.Kernellast.main_arg3) = m ((c.tc : Thread Cert.Kernellast.nD Cert.Kernellast.τ).loc Cert.Kernellast.main_arg3)
      ∧ r.2.mem ((c.tc : Thread Cert.Kernellast.nD Cert.Kernellast.τ).loc Cert.Kernellast.main_arg4) = m ((c.tc : Thread Cert.Kernellast.nD Cert.Kernellast.τ).loc Cert.Kernellast.main_arg4)
      ∧ r.2.mem ((c.tc : Thread Cert.Kernellast.nD Cert.Kernellast.τ).loc Cert.Kernellast.main_arg5) = m ((c.tc : Thread Cert.Kernellast.nD Cert.Kernellast.τ).loc Cert.Kernellast.main_arg5)
      ∧ r.2.mem ((c.tc : Thread Cert.Kernellast.nD Cert.Kernellast.τ).loc Cert.Kernellast.main_arg6) = m ((c.tc : Thread Cert.Kernellast.nD Cert.Kernellast.τ).loc Cert.Kernellast.main_arg6)
      ∧ r.2.mem ((c.tc : Thread Cert.Kernellast.nD Cert.Kernellast.τ).loc Cert.Kernellast.main_arg7) = m ((c.tc : Thread Cert.Kernellast.nD Cert.Kernellast.τ).loc Cert.Kernellast.main_arg7)
      ∧ r.2.mem ((c.tc : Thread Cert.Kernellast.nD Cert.Kernellast.τ).loc Cert.Kernellast.main_arg8) = m ((c.tc : Thread Cert.Kernellast.nD Cert.Kernellast.τ).loc Cert.Kernellast.main_arg8))
      ∧ r.2.sem = fun _ => 0)

def quiescent_KernellastIdeal [hKernellastIdeal : Cert.KernellastIdeal.Facts] : Prop :=
  ∀ (m : (ℓ : Loc Cert.KernellastIdeal.nD Cert.KernellastIdeal.τ Cert.KernellastIdeal.sig) → Buf (Elt Ideal) ℓ) (g : Dev Cert.KernellastIdeal.nD → PrngReg), Pre_KernellastIdeal m →
    θ_run (Cert.KernellastIdeal.defs (F := Ideal)) (onTc (τ := Cert.KernellastIdeal.τ) (Cert.KernellastIdeal.main (F := Ideal))) ⟨m, fun _ => 0, g⟩ (fun r => (∀ c : Dev Cert.KernellastIdeal.nD,
      r.2.mem ((c.tc : Thread Cert.KernellastIdeal.nD Cert.KernellastIdeal.τ).loc Cert.KernellastIdeal.main_arg0) = m ((c.tc : Thread Cert.KernellastIdeal.nD Cert.KernellastIdeal.τ).loc Cert.KernellastIdeal.main_arg0)
      ∧ r.2.mem ((c.tc : Thread Cert.KernellastIdeal.nD Cert.KernellastIdeal.τ).loc Cert.KernellastIdeal.main_arg1) = m ((c.tc : Thread Cert.KernellastIdeal.nD Cert.KernellastIdeal.τ).loc Cert.KernellastIdeal.main_arg1)
      ∧ r.2.mem ((c.tc : Thread Cert.KernellastIdeal.nD Cert.KernellastIdeal.τ).loc Cert.KernellastIdeal.main_arg2) = m ((c.tc : Thread Cert.KernellastIdeal.nD Cert.KernellastIdeal.τ).loc Cert.KernellastIdeal.main_arg2)
      ∧ r.2.mem ((c.tc : Thread Cert.KernellastIdeal.nD Cert.KernellastIdeal.τ).loc Cert.KernellastIdeal.main_arg3) = m ((c.tc : Thread Cert.KernellastIdeal.nD Cert.KernellastIdeal.τ).loc Cert.KernellastIdeal.main_arg3)
      ∧ r.2.mem ((c.tc : Thread Cert.KernellastIdeal.nD Cert.KernellastIdeal.τ).loc Cert.KernellastIdeal.main_arg4) = m ((c.tc : Thread Cert.KernellastIdeal.nD Cert.KernellastIdeal.τ).loc Cert.KernellastIdeal.main_arg4)
      ∧ r.2.mem ((c.tc : Thread Cert.KernellastIdeal.nD Cert.KernellastIdeal.τ).loc Cert.KernellastIdeal.main_arg5) = m ((c.tc : Thread Cert.KernellastIdeal.nD Cert.KernellastIdeal.τ).loc Cert.KernellastIdeal.main_arg5)
      ∧ r.2.mem ((c.tc : Thread Cert.KernellastIdeal.nD Cert.KernellastIdeal.τ).loc Cert.KernellastIdeal.main_arg6) = m ((c.tc : Thread Cert.KernellastIdeal.nD Cert.KernellastIdeal.τ).loc Cert.KernellastIdeal.main_arg6)
      ∧ r.2.mem ((c.tc : Thread Cert.KernellastIdeal.nD Cert.KernellastIdeal.τ).loc Cert.KernellastIdeal.main_arg7) = m ((c.tc : Thread Cert.KernellastIdeal.nD Cert.KernellastIdeal.τ).loc Cert.KernellastIdeal.main_arg7)
      ∧ r.2.mem ((c.tc : Thread Cert.KernellastIdeal.nD Cert.KernellastIdeal.τ).loc Cert.KernellastIdeal.main_arg8) = m ((c.tc : Thread Cert.KernellastIdeal.nD Cert.KernellastIdeal.τ).loc Cert.KernellastIdeal.main_arg8))
      ∧ r.2.sem = fun _ => 0)

def quiescent_KernellastIdeal_pre_finite_last [hKernellastIdeal : Cert.KernellastIdeal.Facts] [hPre_finite_last : Cert.Pre_finite_last.Facts] : Prop :=
  ∀ (m : (ℓ : Loc Cert.KernellastIdeal.nD Cert.KernellastIdeal.τ Cert.KernellastIdeal.sig) → Buf (Elt Ideal) ℓ) (g : Dev Cert.KernellastIdeal.nD → PrngReg), Pre_KernellastIdeal_finite_last m →
    θ_run (Cert.KernellastIdeal.defs (F := Ideal)) (onTc (τ := Cert.KernellastIdeal.τ) (Cert.KernellastIdeal.main (F := Ideal))) ⟨m, fun _ => 0, g⟩ (fun r => (∀ c : Dev Cert.KernellastIdeal.nD,
      r.2.mem ((c.tc : Thread Cert.KernellastIdeal.nD Cert.KernellastIdeal.τ).loc Cert.KernellastIdeal.main_arg0) = m ((c.tc : Thread Cert.KernellastIdeal.nD Cert.KernellastIdeal.τ).loc Cert.KernellastIdeal.main_arg0)
      ∧ r.2.mem ((c.tc : Thread Cert.KernellastIdeal.nD Cert.KernellastIdeal.τ).loc Cert.KernellastIdeal.main_arg1) = m ((c.tc : Thread Cert.KernellastIdeal.nD Cert.KernellastIdeal.τ).loc Cert.KernellastIdeal.main_arg1)
      ∧ r.2.mem ((c.tc : Thread Cert.KernellastIdeal.nD Cert.KernellastIdeal.τ).loc Cert.KernellastIdeal.main_arg2) = m ((c.tc : Thread Cert.KernellastIdeal.nD Cert.KernellastIdeal.τ).loc Cert.KernellastIdeal.main_arg2)
      ∧ r.2.mem ((c.tc : Thread Cert.KernellastIdeal.nD Cert.KernellastIdeal.τ).loc Cert.KernellastIdeal.main_arg3) = m ((c.tc : Thread Cert.KernellastIdeal.nD Cert.KernellastIdeal.τ).loc Cert.KernellastIdeal.main_arg3)
      ∧ r.2.mem ((c.tc : Thread Cert.KernellastIdeal.nD Cert.KernellastIdeal.τ).loc Cert.KernellastIdeal.main_arg4) = m ((c.tc : Thread Cert.KernellastIdeal.nD Cert.KernellastIdeal.τ).loc Cert.KernellastIdeal.main_arg4)
      ∧ r.2.mem ((c.tc : Thread Cert.KernellastIdeal.nD Cert.KernellastIdeal.τ).loc Cert.KernellastIdeal.main_arg5) = m ((c.tc : Thread Cert.KernellastIdeal.nD Cert.KernellastIdeal.τ).loc Cert.KernellastIdeal.main_arg5)
      ∧ r.2.mem ((c.tc : Thread Cert.KernellastIdeal.nD Cert.KernellastIdeal.τ).loc Cert.KernellastIdeal.main_arg6) = m ((c.tc : Thread Cert.KernellastIdeal.nD Cert.KernellastIdeal.τ).loc Cert.KernellastIdeal.main_arg6)
      ∧ r.2.mem ((c.tc : Thread Cert.KernellastIdeal.nD Cert.KernellastIdeal.τ).loc Cert.KernellastIdeal.main_arg7) = m ((c.tc : Thread Cert.KernellastIdeal.nD Cert.KernellastIdeal.τ).loc Cert.KernellastIdeal.main_arg7)
      ∧ r.2.mem ((c.tc : Thread Cert.KernellastIdeal.nD Cert.KernellastIdeal.τ).loc Cert.KernellastIdeal.main_arg8) = m ((c.tc : Thread Cert.KernellastIdeal.nD Cert.KernellastIdeal.τ).loc Cert.KernellastIdeal.main_arg8))
      ∧ r.2.sem = fun _ => 0)

def quiescent_ReferencelastIdeal [hReferencelastIdeal : Cert.ReferencelastIdeal.Facts] : Prop :=
  ∀ (m : (ℓ : Loc Cert.ReferencelastIdeal.nD Cert.ReferencelastIdeal.τ Cert.ReferencelastIdeal.sig) → Buf (Elt Ideal) ℓ) (g : Dev Cert.ReferencelastIdeal.nD → PrngReg), Pre_ReferencelastIdeal m →
    θ_run (Cert.ReferencelastIdeal.defs (F := Ideal)) (onTc (τ := Cert.ReferencelastIdeal.τ) (Cert.ReferencelastIdeal.main (F := Ideal))) ⟨m, fun _ => 0, g⟩ (fun r => (∀ c : Dev Cert.ReferencelastIdeal.nD,
      r.2.mem ((c.tc : Thread Cert.ReferencelastIdeal.nD Cert.ReferencelastIdeal.τ).loc Cert.ReferencelastIdeal.main_arg0) = m ((c.tc : Thread Cert.ReferencelastIdeal.nD Cert.ReferencelastIdeal.τ).loc Cert.ReferencelastIdeal.main_arg0)
      ∧ r.2.mem ((c.tc : Thread Cert.ReferencelastIdeal.nD Cert.ReferencelastIdeal.τ).loc Cert.ReferencelastIdeal.main_arg1) = m ((c.tc : Thread Cert.ReferencelastIdeal.nD Cert.ReferencelastIdeal.τ).loc Cert.ReferencelastIdeal.main_arg1)
      ∧ r.2.mem ((c.tc : Thread Cert.ReferencelastIdeal.nD Cert.ReferencelastIdeal.τ).loc Cert.ReferencelastIdeal.main_arg2) = m ((c.tc : Thread Cert.ReferencelastIdeal.nD Cert.ReferencelastIdeal.τ).loc Cert.ReferencelastIdeal.main_arg2)
      ∧ r.2.mem ((c.tc : Thread Cert.ReferencelastIdeal.nD Cert.ReferencelastIdeal.τ).loc Cert.ReferencelastIdeal.main_arg3) = m ((c.tc : Thread Cert.ReferencelastIdeal.nD Cert.ReferencelastIdeal.τ).loc Cert.ReferencelastIdeal.main_arg3)
      ∧ r.2.mem ((c.tc : Thread Cert.ReferencelastIdeal.nD Cert.ReferencelastIdeal.τ).loc Cert.ReferencelastIdeal.main_arg4) = m ((c.tc : Thread Cert.ReferencelastIdeal.nD Cert.ReferencelastIdeal.τ).loc Cert.ReferencelastIdeal.main_arg4)
      ∧ r.2.mem ((c.tc : Thread Cert.ReferencelastIdeal.nD Cert.ReferencelastIdeal.τ).loc Cert.ReferencelastIdeal.main_arg5) = m ((c.tc : Thread Cert.ReferencelastIdeal.nD Cert.ReferencelastIdeal.τ).loc Cert.ReferencelastIdeal.main_arg5)
      ∧ r.2.mem ((c.tc : Thread Cert.ReferencelastIdeal.nD Cert.ReferencelastIdeal.τ).loc Cert.ReferencelastIdeal.main_arg6) = m ((c.tc : Thread Cert.ReferencelastIdeal.nD Cert.ReferencelastIdeal.τ).loc Cert.ReferencelastIdeal.main_arg6)
      ∧ r.2.mem ((c.tc : Thread Cert.ReferencelastIdeal.nD Cert.ReferencelastIdeal.τ).loc Cert.ReferencelastIdeal.main_arg7) = m ((c.tc : Thread Cert.ReferencelastIdeal.nD Cert.ReferencelastIdeal.τ).loc Cert.ReferencelastIdeal.main_arg7)
      ∧ r.2.mem ((c.tc : Thread Cert.ReferencelastIdeal.nD Cert.ReferencelastIdeal.τ).loc Cert.ReferencelastIdeal.main_arg8) = m ((c.tc : Thread Cert.ReferencelastIdeal.nD Cert.ReferencelastIdeal.τ).loc Cert.ReferencelastIdeal.main_arg8))
      ∧ r.2.sem = fun _ => 0)

def quiescent_ReferencelastIdeal_pre_finite_last [hReferencelastIdeal : Cert.ReferencelastIdeal.Facts] [hPre_finite_last : Cert.Pre_finite_last.Facts] : Prop :=
  ∀ (m : (ℓ : Loc Cert.ReferencelastIdeal.nD Cert.ReferencelastIdeal.τ Cert.ReferencelastIdeal.sig) → Buf (Elt Ideal) ℓ) (g : Dev Cert.ReferencelastIdeal.nD → PrngReg), Pre_ReferencelastIdeal_finite_last m →
    θ_run (Cert.ReferencelastIdeal.defs (F := Ideal)) (onTc (τ := Cert.ReferencelastIdeal.τ) (Cert.ReferencelastIdeal.main (F := Ideal))) ⟨m, fun _ => 0, g⟩ (fun r => (∀ c : Dev Cert.ReferencelastIdeal.nD,
      r.2.mem ((c.tc : Thread Cert.ReferencelastIdeal.nD Cert.ReferencelastIdeal.τ).loc Cert.ReferencelastIdeal.main_arg0) = m ((c.tc : Thread Cert.ReferencelastIdeal.nD Cert.ReferencelastIdeal.τ).loc Cert.ReferencelastIdeal.main_arg0)
      ∧ r.2.mem ((c.tc : Thread Cert.ReferencelastIdeal.nD Cert.ReferencelastIdeal.τ).loc Cert.ReferencelastIdeal.main_arg1) = m ((c.tc : Thread Cert.ReferencelastIdeal.nD Cert.ReferencelastIdeal.τ).loc Cert.ReferencelastIdeal.main_arg1)
      ∧ r.2.mem ((c.tc : Thread Cert.ReferencelastIdeal.nD Cert.ReferencelastIdeal.τ).loc Cert.ReferencelastIdeal.main_arg2) = m ((c.tc : Thread Cert.ReferencelastIdeal.nD Cert.ReferencelastIdeal.τ).loc Cert.ReferencelastIdeal.main_arg2)
      ∧ r.2.mem ((c.tc : Thread Cert.ReferencelastIdeal.nD Cert.ReferencelastIdeal.τ).loc Cert.ReferencelastIdeal.main_arg3) = m ((c.tc : Thread Cert.ReferencelastIdeal.nD Cert.ReferencelastIdeal.τ).loc Cert.ReferencelastIdeal.main_arg3)
      ∧ r.2.mem ((c.tc : Thread Cert.ReferencelastIdeal.nD Cert.ReferencelastIdeal.τ).loc Cert.ReferencelastIdeal.main_arg4) = m ((c.tc : Thread Cert.ReferencelastIdeal.nD Cert.ReferencelastIdeal.τ).loc Cert.ReferencelastIdeal.main_arg4)
      ∧ r.2.mem ((c.tc : Thread Cert.ReferencelastIdeal.nD Cert.ReferencelastIdeal.τ).loc Cert.ReferencelastIdeal.main_arg5) = m ((c.tc : Thread Cert.ReferencelastIdeal.nD Cert.ReferencelastIdeal.τ).loc Cert.ReferencelastIdeal.main_arg5)
      ∧ r.2.mem ((c.tc : Thread Cert.ReferencelastIdeal.nD Cert.ReferencelastIdeal.τ).loc Cert.ReferencelastIdeal.main_arg6) = m ((c.tc : Thread Cert.ReferencelastIdeal.nD Cert.ReferencelastIdeal.τ).loc Cert.ReferencelastIdeal.main_arg6)
      ∧ r.2.mem ((c.tc : Thread Cert.ReferencelastIdeal.nD Cert.ReferencelastIdeal.τ).loc Cert.ReferencelastIdeal.main_arg7) = m ((c.tc : Thread Cert.ReferencelastIdeal.nD Cert.ReferencelastIdeal.τ).loc Cert.ReferencelastIdeal.main_arg7)
      ∧ r.2.mem ((c.tc : Thread Cert.ReferencelastIdeal.nD Cert.ReferencelastIdeal.τ).loc Cert.ReferencelastIdeal.main_arg8) = m ((c.tc : Thread Cert.ReferencelastIdeal.nD Cert.ReferencelastIdeal.τ).loc Cert.ReferencelastIdeal.main_arg8))
      ∧ r.2.sem = fun _ => 0)

def quiescent_Kernelpool [hKernelpool : Cert.Kernelpool.Facts] : Prop :=
  ∀ (m : (ℓ : Loc Cert.Kernelpool.nD Cert.Kernelpool.τ Cert.Kernelpool.sig) → Buf (Elt Bits) ℓ) (g : Dev Cert.Kernelpool.nD → PrngReg), Pre_Kernelpool m →
    θ_run (Cert.Kernelpool.defs (F := Bits)) (onTc (τ := Cert.Kernelpool.τ) (Cert.Kernelpool.main (F := Bits))) ⟨m, fun _ => 0, g⟩ (fun r => (∀ c : Dev Cert.Kernelpool.nD,
      r.2.mem ((c.tc : Thread Cert.Kernelpool.nD Cert.Kernelpool.τ).loc Cert.Kernelpool.main_arg0) = m ((c.tc : Thread Cert.Kernelpool.nD Cert.Kernelpool.τ).loc Cert.Kernelpool.main_arg0)
      ∧ r.2.mem ((c.tc : Thread Cert.Kernelpool.nD Cert.Kernelpool.τ).loc Cert.Kernelpool.main_arg1) = m ((c.tc : Thread Cert.Kernelpool.nD Cert.Kernelpool.τ).loc Cert.Kernelpool.main_arg1)
      ∧ r.2.mem ((c.tc : Thread Cert.Kernelpool.nD Cert.Kernelpool.τ).loc Cert.Kernelpool.main_arg2) = m ((c.tc : Thread Cert.Kernelpool.nD Cert.Kernelpool.τ).loc Cert.Kernelpool.main_arg2)
      ∧ r.2.mem ((c.tc : Thread Cert.Kernelpool.nD Cert.Kernelpool.τ).loc Cert.Kernelpool.main_arg3) = m ((c.tc : Thread Cert.Kernelpool.nD Cert.Kernelpool.τ).loc Cert.Kernelpool.main_arg3))
      ∧ r.2.sem = fun _ => 0)

def quiescent_KernelpoolIdeal [hKernelpoolIdeal : Cert.KernelpoolIdeal.Facts] : Prop :=
  ∀ (m : (ℓ : Loc Cert.KernelpoolIdeal.nD Cert.KernelpoolIdeal.τ Cert.KernelpoolIdeal.sig) → Buf (Elt Ideal) ℓ) (g : Dev Cert.KernelpoolIdeal.nD → PrngReg), Pre_KernelpoolIdeal m →
    θ_run (Cert.KernelpoolIdeal.defs (F := Ideal)) (onTc (τ := Cert.KernelpoolIdeal.τ) (Cert.KernelpoolIdeal.main (F := Ideal))) ⟨m, fun _ => 0, g⟩ (fun r => (∀ c : Dev Cert.KernelpoolIdeal.nD,
      r.2.mem ((c.tc : Thread Cert.KernelpoolIdeal.nD Cert.KernelpoolIdeal.τ).loc Cert.KernelpoolIdeal.main_arg0) = m ((c.tc : Thread Cert.KernelpoolIdeal.nD Cert.KernelpoolIdeal.τ).loc Cert.KernelpoolIdeal.main_arg0)
      ∧ r.2.mem ((c.tc : Thread Cert.KernelpoolIdeal.nD Cert.KernelpoolIdeal.τ).loc Cert.KernelpoolIdeal.main_arg1) = m ((c.tc : Thread Cert.KernelpoolIdeal.nD Cert.KernelpoolIdeal.τ).loc Cert.KernelpoolIdeal.main_arg1)
      ∧ r.2.mem ((c.tc : Thread Cert.KernelpoolIdeal.nD Cert.KernelpoolIdeal.τ).loc Cert.KernelpoolIdeal.main_arg2) = m ((c.tc : Thread Cert.KernelpoolIdeal.nD Cert.KernelpoolIdeal.τ).loc Cert.KernelpoolIdeal.main_arg2)
      ∧ r.2.mem ((c.tc : Thread Cert.KernelpoolIdeal.nD Cert.KernelpoolIdeal.τ).loc Cert.KernelpoolIdeal.main_arg3) = m ((c.tc : Thread Cert.KernelpoolIdeal.nD Cert.KernelpoolIdeal.τ).loc Cert.KernelpoolIdeal.main_arg3))
      ∧ r.2.sem = fun _ => 0)

def quiescent_ReferencepoolIdeal [hReferencepoolIdeal : Cert.ReferencepoolIdeal.Facts] : Prop :=
  ∀ (m : (ℓ : Loc Cert.ReferencepoolIdeal.nD Cert.ReferencepoolIdeal.τ Cert.ReferencepoolIdeal.sig) → Buf (Elt Ideal) ℓ) (g : Dev Cert.ReferencepoolIdeal.nD → PrngReg), Pre_ReferencepoolIdeal m →
    θ_run (Cert.ReferencepoolIdeal.defs (F := Ideal)) (onTc (τ := Cert.ReferencepoolIdeal.τ) (Cert.ReferencepoolIdeal.main (F := Ideal))) ⟨m, fun _ => 0, g⟩ (fun r => (∀ c : Dev Cert.ReferencepoolIdeal.nD,
      r.2.mem ((c.tc : Thread Cert.ReferencepoolIdeal.nD Cert.ReferencepoolIdeal.τ).loc Cert.ReferencepoolIdeal.main_arg0) = m ((c.tc : Thread Cert.ReferencepoolIdeal.nD Cert.ReferencepoolIdeal.τ).loc Cert.ReferencepoolIdeal.main_arg0)
      ∧ r.2.mem ((c.tc : Thread Cert.ReferencepoolIdeal.nD Cert.ReferencepoolIdeal.τ).loc Cert.ReferencepoolIdeal.main_arg1) = m ((c.tc : Thread Cert.ReferencepoolIdeal.nD Cert.ReferencepoolIdeal.τ).loc Cert.ReferencepoolIdeal.main_arg1)
      ∧ r.2.mem ((c.tc : Thread Cert.ReferencepoolIdeal.nD Cert.ReferencepoolIdeal.τ).loc Cert.ReferencepoolIdeal.main_arg2) = m ((c.tc : Thread Cert.ReferencepoolIdeal.nD Cert.ReferencepoolIdeal.τ).loc Cert.ReferencepoolIdeal.main_arg2)
      ∧ r.2.mem ((c.tc : Thread Cert.ReferencepoolIdeal.nD Cert.ReferencepoolIdeal.τ).loc Cert.ReferencepoolIdeal.main_arg3) = m ((c.tc : Thread Cert.ReferencepoolIdeal.nD Cert.ReferencepoolIdeal.τ).loc Cert.ReferencepoolIdeal.main_arg3))
      ∧ r.2.sem = fun _ => 0)

def quiescent_Kernelada [hKernelada : Cert.Kernelada.Facts] : Prop :=
  ∀ (m : (ℓ : Loc Cert.Kernelada.nD Cert.Kernelada.τ Cert.Kernelada.sig) → Buf (Elt Bits) ℓ) (g : Dev Cert.Kernelada.nD → PrngReg), Pre_Kernelada m →
    θ_run (Cert.Kernelada.defs (F := Bits)) (onTc (τ := Cert.Kernelada.τ) (Cert.Kernelada.main (F := Bits))) ⟨m, fun _ => 0, g⟩ (fun r => (∀ c : Dev Cert.Kernelada.nD,
      r.2.mem ((c.tc : Thread Cert.Kernelada.nD Cert.Kernelada.τ).loc Cert.Kernelada.main_arg0) = m ((c.tc : Thread Cert.Kernelada.nD Cert.Kernelada.τ).loc Cert.Kernelada.main_arg0)
      ∧ r.2.mem ((c.tc : Thread Cert.Kernelada.nD Cert.Kernelada.τ).loc Cert.Kernelada.main_arg1) = m ((c.tc : Thread Cert.Kernelada.nD Cert.Kernelada.τ).loc Cert.Kernelada.main_arg1)
      ∧ r.2.mem ((c.tc : Thread Cert.Kernelada.nD Cert.Kernelada.τ).loc Cert.Kernelada.main_arg2) = m ((c.tc : Thread Cert.Kernelada.nD Cert.Kernelada.τ).loc Cert.Kernelada.main_arg2)
      ∧ r.2.mem ((c.tc : Thread Cert.Kernelada.nD Cert.Kernelada.τ).loc Cert.Kernelada.main_arg3) = m ((c.tc : Thread Cert.Kernelada.nD Cert.Kernelada.τ).loc Cert.Kernelada.main_arg3)
      ∧ r.2.mem ((c.tc : Thread Cert.Kernelada.nD Cert.Kernelada.τ).loc Cert.Kernelada.main_arg4) = m ((c.tc : Thread Cert.Kernelada.nD Cert.Kernelada.τ).loc Cert.Kernelada.main_arg4))
      ∧ r.2.sem = fun _ => 0)

def quiescent_KerneladaIdeal [hKerneladaIdeal : Cert.KerneladaIdeal.Facts] : Prop :=
  ∀ (m : (ℓ : Loc Cert.KerneladaIdeal.nD Cert.KerneladaIdeal.τ Cert.KerneladaIdeal.sig) → Buf (Elt Ideal) ℓ) (g : Dev Cert.KerneladaIdeal.nD → PrngReg), Pre_KerneladaIdeal m →
    θ_run (Cert.KerneladaIdeal.defs (F := Ideal)) (onTc (τ := Cert.KerneladaIdeal.τ) (Cert.KerneladaIdeal.main (F := Ideal))) ⟨m, fun _ => 0, g⟩ (fun r => (∀ c : Dev Cert.KerneladaIdeal.nD,
      r.2.mem ((c.tc : Thread Cert.KerneladaIdeal.nD Cert.KerneladaIdeal.τ).loc Cert.KerneladaIdeal.main_arg0) = m ((c.tc : Thread Cert.KerneladaIdeal.nD Cert.KerneladaIdeal.τ).loc Cert.KerneladaIdeal.main_arg0)
      ∧ r.2.mem ((c.tc : Thread Cert.KerneladaIdeal.nD Cert.KerneladaIdeal.τ).loc Cert.KerneladaIdeal.main_arg1) = m ((c.tc : Thread Cert.KerneladaIdeal.nD Cert.KerneladaIdeal.τ).loc Cert.KerneladaIdeal.main_arg1)
      ∧ r.2.mem ((c.tc : Thread Cert.KerneladaIdeal.nD Cert.KerneladaIdeal.τ).loc Cert.KerneladaIdeal.main_arg2) = m ((c.tc : Thread Cert.KerneladaIdeal.nD Cert.KerneladaIdeal.τ).loc Cert.KerneladaIdeal.main_arg2)
      ∧ r.2.mem ((c.tc : Thread Cert.KerneladaIdeal.nD Cert.KerneladaIdeal.τ).loc Cert.KerneladaIdeal.main_arg3) = m ((c.tc : Thread Cert.KerneladaIdeal.nD Cert.KerneladaIdeal.τ).loc Cert.KerneladaIdeal.main_arg3)
      ∧ r.2.mem ((c.tc : Thread Cert.KerneladaIdeal.nD Cert.KerneladaIdeal.τ).loc Cert.KerneladaIdeal.main_arg4) = m ((c.tc : Thread Cert.KerneladaIdeal.nD Cert.KerneladaIdeal.τ).loc Cert.KerneladaIdeal.main_arg4))
      ∧ r.2.sem = fun _ => 0)

def quiescent_ReferenceadaIdeal [hReferenceadaIdeal : Cert.ReferenceadaIdeal.Facts] : Prop :=
  ∀ (m : (ℓ : Loc Cert.ReferenceadaIdeal.nD Cert.ReferenceadaIdeal.τ Cert.ReferenceadaIdeal.sig) → Buf (Elt Ideal) ℓ) (g : Dev Cert.ReferenceadaIdeal.nD → PrngReg), Pre_ReferenceadaIdeal m →
    θ_run (Cert.ReferenceadaIdeal.defs (F := Ideal)) (onTc (τ := Cert.ReferenceadaIdeal.τ) (Cert.ReferenceadaIdeal.main (F := Ideal))) ⟨m, fun _ => 0, g⟩ (fun r => (∀ c : Dev Cert.ReferenceadaIdeal.nD,
      r.2.mem ((c.tc : Thread Cert.ReferenceadaIdeal.nD Cert.ReferenceadaIdeal.τ).loc Cert.ReferenceadaIdeal.main_arg0) = m ((c.tc : Thread Cert.ReferenceadaIdeal.nD Cert.ReferenceadaIdeal.τ).loc Cert.ReferenceadaIdeal.main_arg0)
      ∧ r.2.mem ((c.tc : Thread Cert.ReferenceadaIdeal.nD Cert.ReferenceadaIdeal.τ).loc Cert.ReferenceadaIdeal.main_arg1) = m ((c.tc : Thread Cert.ReferenceadaIdeal.nD Cert.ReferenceadaIdeal.τ).loc Cert.ReferenceadaIdeal.main_arg1)
      ∧ r.2.mem ((c.tc : Thread Cert.ReferenceadaIdeal.nD Cert.ReferenceadaIdeal.τ).loc Cert.ReferenceadaIdeal.main_arg2) = m ((c.tc : Thread Cert.ReferenceadaIdeal.nD Cert.ReferenceadaIdeal.τ).loc Cert.ReferenceadaIdeal.main_arg2)
      ∧ r.2.mem ((c.tc : Thread Cert.ReferenceadaIdeal.nD Cert.ReferenceadaIdeal.τ).loc Cert.ReferenceadaIdeal.main_arg3) = m ((c.tc : Thread Cert.ReferenceadaIdeal.nD Cert.ReferenceadaIdeal.τ).loc Cert.ReferenceadaIdeal.main_arg3)
      ∧ r.2.mem ((c.tc : Thread Cert.ReferenceadaIdeal.nD Cert.ReferenceadaIdeal.τ).loc Cert.ReferenceadaIdeal.main_arg4) = m ((c.tc : Thread Cert.ReferenceadaIdeal.nD Cert.ReferenceadaIdeal.τ).loc Cert.ReferenceadaIdeal.main_arg4))
      ∧ r.2.sem = fun _ => 0)

def quiescent_Kernelslots [hKernelslots : Cert.Kernelslots.Facts] : Prop :=
  ∀ (m : (ℓ : Loc Cert.Kernelslots.nD Cert.Kernelslots.τ Cert.Kernelslots.sig) → Buf (Elt Bits) ℓ) (g : Dev Cert.Kernelslots.nD → PrngReg), Pre_Kernelslots m →
    θ_run (Cert.Kernelslots.defs (F := Bits)) (onTc (τ := Cert.Kernelslots.τ) (Cert.Kernelslots.main (F := Bits))) ⟨m, fun _ => 0, g⟩ (fun r => (∀ c : Dev Cert.Kernelslots.nD,
      r.2.mem ((c.tc : Thread Cert.Kernelslots.nD Cert.Kernelslots.τ).loc Cert.Kernelslots.main_arg0) = m ((c.tc : Thread Cert.Kernelslots.nD Cert.Kernelslots.τ).loc Cert.Kernelslots.main_arg0))
      ∧ r.2.sem = fun _ => 0)

def quiescent_KernelslotsIdeal [hKernelslotsIdeal : Cert.KernelslotsIdeal.Facts] : Prop :=
  ∀ (m : (ℓ : Loc Cert.KernelslotsIdeal.nD Cert.KernelslotsIdeal.τ Cert.KernelslotsIdeal.sig) → Buf (Elt Ideal) ℓ) (g : Dev Cert.KernelslotsIdeal.nD → PrngReg), Pre_KernelslotsIdeal m →
    θ_run (Cert.KernelslotsIdeal.defs (F := Ideal)) (onTc (τ := Cert.KernelslotsIdeal.τ) (Cert.KernelslotsIdeal.main (F := Ideal))) ⟨m, fun _ => 0, g⟩ (fun r => (∀ c : Dev Cert.KernelslotsIdeal.nD,
      r.2.mem ((c.tc : Thread Cert.KernelslotsIdeal.nD Cert.KernelslotsIdeal.τ).loc Cert.KernelslotsIdeal.main_arg0) = m ((c.tc : Thread Cert.KernelslotsIdeal.nD Cert.KernelslotsIdeal.τ).loc Cert.KernelslotsIdeal.main_arg0))
      ∧ r.2.sem = fun _ => 0)

def quiescent_ReferenceslotsIdeal [hReferenceslotsIdeal : Cert.ReferenceslotsIdeal.Facts] : Prop :=
  ∀ (m : (ℓ : Loc Cert.ReferenceslotsIdeal.nD Cert.ReferenceslotsIdeal.τ Cert.ReferenceslotsIdeal.sig) → Buf (Elt Ideal) ℓ) (g : Dev Cert.ReferenceslotsIdeal.nD → PrngReg), Pre_ReferenceslotsIdeal m →
    θ_run (Cert.ReferenceslotsIdeal.defs (F := Ideal)) (onTc (τ := Cert.ReferenceslotsIdeal.τ) (Cert.ReferenceslotsIdeal.main (F := Ideal))) ⟨m, fun _ => 0, g⟩ (fun r => (∀ c : Dev Cert.ReferenceslotsIdeal.nD,
      r.2.mem ((c.tc : Thread Cert.ReferenceslotsIdeal.nD Cert.ReferenceslotsIdeal.τ).loc Cert.ReferenceslotsIdeal.main_arg0) = m ((c.tc : Thread Cert.ReferenceslotsIdeal.nD Cert.ReferenceslotsIdeal.τ).loc Cert.ReferenceslotsIdeal.main_arg0))
      ∧ r.2.sem = fun _ => 0)

def quiescent_Kernelmod [hKernelmod : Cert.Kernelmod.Facts] : Prop :=
  ∀ (m : (ℓ : Loc Cert.Kernelmod.nD Cert.Kernelmod.τ Cert.Kernelmod.sig) → Buf (Elt Bits) ℓ) (g : Dev Cert.Kernelmod.nD → PrngReg), Pre_Kernelmod m →
    θ_run (Cert.Kernelmod.defs (F := Bits)) (onTc (τ := Cert.Kernelmod.τ) (Cert.Kernelmod.main (F := Bits))) ⟨m, fun _ => 0, g⟩ (fun r => (∀ c : Dev Cert.Kernelmod.nD,
      r.2.mem ((c.tc : Thread Cert.Kernelmod.nD Cert.Kernelmod.τ).loc Cert.Kernelmod.main_arg0) = m ((c.tc : Thread Cert.Kernelmod.nD Cert.Kernelmod.τ).loc Cert.Kernelmod.main_arg0)
      ∧ r.2.mem ((c.tc : Thread Cert.Kernelmod.nD Cert.Kernelmod.τ).loc Cert.Kernelmod.main_arg1) = m ((c.tc : Thread Cert.Kernelmod.nD Cert.Kernelmod.τ).loc Cert.Kernelmod.main_arg1)
      ∧ r.2.mem ((c.tc : Thread Cert.Kernelmod.nD Cert.Kernelmod.τ).loc Cert.Kernelmod.main_arg2) = m ((c.tc : Thread Cert.Kernelmod.nD Cert.Kernelmod.τ).loc Cert.Kernelmod.main_arg2))
      ∧ r.2.sem = fun _ => 0)

def quiescent_KernelmodIdeal [hKernelmodIdeal : Cert.KernelmodIdeal.Facts] : Prop :=
  ∀ (m : (ℓ : Loc Cert.KernelmodIdeal.nD Cert.KernelmodIdeal.τ Cert.KernelmodIdeal.sig) → Buf (Elt Ideal) ℓ) (g : Dev Cert.KernelmodIdeal.nD → PrngReg), Pre_KernelmodIdeal m →
    θ_run (Cert.KernelmodIdeal.defs (F := Ideal)) (onTc (τ := Cert.KernelmodIdeal.τ) (Cert.KernelmodIdeal.main (F := Ideal))) ⟨m, fun _ => 0, g⟩ (fun r => (∀ c : Dev Cert.KernelmodIdeal.nD,
      r.2.mem ((c.tc : Thread Cert.KernelmodIdeal.nD Cert.KernelmodIdeal.τ).loc Cert.KernelmodIdeal.main_arg0) = m ((c.tc : Thread Cert.KernelmodIdeal.nD Cert.KernelmodIdeal.τ).loc Cert.KernelmodIdeal.main_arg0)
      ∧ r.2.mem ((c.tc : Thread Cert.KernelmodIdeal.nD Cert.KernelmodIdeal.τ).loc Cert.KernelmodIdeal.main_arg1) = m ((c.tc : Thread Cert.KernelmodIdeal.nD Cert.KernelmodIdeal.τ).loc Cert.KernelmodIdeal.main_arg1)
      ∧ r.2.mem ((c.tc : Thread Cert.KernelmodIdeal.nD Cert.KernelmodIdeal.τ).loc Cert.KernelmodIdeal.main_arg2) = m ((c.tc : Thread Cert.KernelmodIdeal.nD Cert.KernelmodIdeal.τ).loc Cert.KernelmodIdeal.main_arg2))
      ∧ r.2.sem = fun _ => 0)

def quiescent_ReferencemodIdeal [hReferencemodIdeal : Cert.ReferencemodIdeal.Facts] : Prop :=
  ∀ (m : (ℓ : Loc Cert.ReferencemodIdeal.nD Cert.ReferencemodIdeal.τ Cert.ReferencemodIdeal.sig) → Buf (Elt Ideal) ℓ) (g : Dev Cert.ReferencemodIdeal.nD → PrngReg), Pre_ReferencemodIdeal m →
    θ_run (Cert.ReferencemodIdeal.defs (F := Ideal)) (onTc (τ := Cert.ReferencemodIdeal.τ) (Cert.ReferencemodIdeal.main (F := Ideal))) ⟨m, fun _ => 0, g⟩ (fun r => (∀ c : Dev Cert.ReferencemodIdeal.nD,
      r.2.mem ((c.tc : Thread Cert.ReferencemodIdeal.nD Cert.ReferencemodIdeal.τ).loc Cert.ReferencemodIdeal.main_arg0) = m ((c.tc : Thread Cert.ReferencemodIdeal.nD Cert.ReferencemodIdeal.τ).loc Cert.ReferencemodIdeal.main_arg0)
      ∧ r.2.mem ((c.tc : Thread Cert.ReferencemodIdeal.nD Cert.ReferencemodIdeal.τ).loc Cert.ReferencemodIdeal.main_arg1) = m ((c.tc : Thread Cert.ReferencemodIdeal.nD Cert.ReferencemodIdeal.τ).loc Cert.ReferencemodIdeal.main_arg1)
      ∧ r.2.mem ((c.tc : Thread Cert.ReferencemodIdeal.nD Cert.ReferencemodIdeal.τ).loc Cert.ReferencemodIdeal.main_arg2) = m ((c.tc : Thread Cert.ReferencemodIdeal.nD Cert.ReferencemodIdeal.τ).loc Cert.ReferencemodIdeal.main_arg2))
      ∧ r.2.sem = fun _ => 0)

def quiescent_Kernelpoolfwd [hKernelpoolfwd : Cert.Kernelpoolfwd.Facts] : Prop :=
  ∀ (m : (ℓ : Loc Cert.Kernelpoolfwd.nD Cert.Kernelpoolfwd.τ Cert.Kernelpoolfwd.sig) → Buf (Elt Bits) ℓ) (g : Dev Cert.Kernelpoolfwd.nD → PrngReg), Pre_Kernelpoolfwd m →
    θ_run (Cert.Kernelpoolfwd.defs (F := Bits)) (onTc (τ := Cert.Kernelpoolfwd.τ) (Cert.Kernelpoolfwd.main (F := Bits))) ⟨m, fun _ => 0, g⟩ (fun r => (∀ c : Dev Cert.Kernelpoolfwd.nD,
      r.2.mem ((c.tc : Thread Cert.Kernelpoolfwd.nD Cert.Kernelpoolfwd.τ).loc Cert.Kernelpoolfwd.main_arg0) = m ((c.tc : Thread Cert.Kernelpoolfwd.nD Cert.Kernelpoolfwd.τ).loc Cert.Kernelpoolfwd.main_arg0)
      ∧ r.2.mem ((c.tc : Thread Cert.Kernelpoolfwd.nD Cert.Kernelpoolfwd.τ).loc Cert.Kernelpoolfwd.main_arg1) = m ((c.tc : Thread Cert.Kernelpoolfwd.nD Cert.Kernelpoolfwd.τ).loc Cert.Kernelpoolfwd.main_arg1)
      ∧ r.2.mem ((c.tc : Thread Cert.Kernelpoolfwd.nD Cert.Kernelpoolfwd.τ).loc Cert.Kernelpoolfwd.main_arg2) = m ((c.tc : Thread Cert.Kernelpoolfwd.nD Cert.Kernelpoolfwd.τ).loc Cert.Kernelpoolfwd.main_arg2))
      ∧ r.2.sem = fun _ => 0)

def quiescent_KernelpoolfwdIdeal [hKernelpoolfwdIdeal : Cert.KernelpoolfwdIdeal.Facts] : Prop :=
  ∀ (m : (ℓ : Loc Cert.KernelpoolfwdIdeal.nD Cert.KernelpoolfwdIdeal.τ Cert.KernelpoolfwdIdeal.sig) → Buf (Elt Ideal) ℓ) (g : Dev Cert.KernelpoolfwdIdeal.nD → PrngReg), Pre_KernelpoolfwdIdeal m →
    θ_run (Cert.KernelpoolfwdIdeal.defs (F := Ideal)) (onTc (τ := Cert.KernelpoolfwdIdeal.τ) (Cert.KernelpoolfwdIdeal.main (F := Ideal))) ⟨m, fun _ => 0, g⟩ (fun r => (∀ c : Dev Cert.KernelpoolfwdIdeal.nD,
      r.2.mem ((c.tc : Thread Cert.KernelpoolfwdIdeal.nD Cert.KernelpoolfwdIdeal.τ).loc Cert.KernelpoolfwdIdeal.main_arg0) = m ((c.tc : Thread Cert.KernelpoolfwdIdeal.nD Cert.KernelpoolfwdIdeal.τ).loc Cert.KernelpoolfwdIdeal.main_arg0)
      ∧ r.2.mem ((c.tc : Thread Cert.KernelpoolfwdIdeal.nD Cert.KernelpoolfwdIdeal.τ).loc Cert.KernelpoolfwdIdeal.main_arg1) = m ((c.tc : Thread Cert.KernelpoolfwdIdeal.nD Cert.KernelpoolfwdIdeal.τ).loc Cert.KernelpoolfwdIdeal.main_arg1)
      ∧ r.2.mem ((c.tc : Thread Cert.KernelpoolfwdIdeal.nD Cert.KernelpoolfwdIdeal.τ).loc Cert.KernelpoolfwdIdeal.main_arg2) = m ((c.tc : Thread Cert.KernelpoolfwdIdeal.nD Cert.KernelpoolfwdIdeal.τ).loc Cert.KernelpoolfwdIdeal.main_arg2))
      ∧ r.2.sem = fun _ => 0)

def quiescent_ReferencepoolfwdIdeal [hReferencepoolfwdIdeal : Cert.ReferencepoolfwdIdeal.Facts] : Prop :=
  ∀ (m : (ℓ : Loc Cert.ReferencepoolfwdIdeal.nD Cert.ReferencepoolfwdIdeal.τ Cert.ReferencepoolfwdIdeal.sig) → Buf (Elt Ideal) ℓ) (g : Dev Cert.ReferencepoolfwdIdeal.nD → PrngReg), Pre_ReferencepoolfwdIdeal m →
    θ_run (Cert.ReferencepoolfwdIdeal.defs (F := Ideal)) (onTc (τ := Cert.ReferencepoolfwdIdeal.τ) (Cert.ReferencepoolfwdIdeal.main (F := Ideal))) ⟨m, fun _ => 0, g⟩ (fun r => (∀ c : Dev Cert.ReferencepoolfwdIdeal.nD,
      r.2.mem ((c.tc : Thread Cert.ReferencepoolfwdIdeal.nD Cert.ReferencepoolfwdIdeal.τ).loc Cert.ReferencepoolfwdIdeal.main_arg0) = m ((c.tc : Thread Cert.ReferencepoolfwdIdeal.nD Cert.ReferencepoolfwdIdeal.τ).loc Cert.ReferencepoolfwdIdeal.main_arg0)
      ∧ r.2.mem ((c.tc : Thread Cert.ReferencepoolfwdIdeal.nD Cert.ReferencepoolfwdIdeal.τ).loc Cert.ReferencepoolfwdIdeal.main_arg1) = m ((c.tc : Thread Cert.ReferencepoolfwdIdeal.nD Cert.ReferencepoolfwdIdeal.τ).loc Cert.ReferencepoolfwdIdeal.main_arg1)
      ∧ r.2.mem ((c.tc : Thread Cert.ReferencepoolfwdIdeal.nD Cert.ReferencepoolfwdIdeal.τ).loc Cert.ReferencepoolfwdIdeal.main_arg2) = m ((c.tc : Thread Cert.ReferencepoolfwdIdeal.nD Cert.ReferencepoolfwdIdeal.τ).loc Cert.ReferencepoolfwdIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)) (v3 : (c : Dev Cert.KernelIdeal.nD) → Buf (Elt Ideal) ((c.tc : Thread Cert.KernelIdeal.nD Cert.KernelIdeal.τ).loc Cert.KernelIdeal.main_v42_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_v42_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2in_Kernel2inIdeal : Prop :=
  True

def algebraic_Kernel2inIdeal_Reference2inIdeal [hKernel2inIdeal : Cert.Kernel2inIdeal.Facts] [hReference2inIdeal : Cert.Reference2inIdeal.Facts] : Prop :=
  ∀ (m : (ℓ : Loc Cert.Kernel2inIdeal.nD Cert.Kernel2inIdeal.τ Cert.Kernel2inIdeal.sig) → Buf (Elt Ideal) ℓ) (g : Dev Cert.Kernel2inIdeal.nD → PrngReg)
    (m' : (ℓ : Loc Cert.Reference2inIdeal.nD Cert.Reference2inIdeal.τ Cert.Reference2inIdeal.sig) → Buf (Elt Ideal) ℓ) (g' : Dev Cert.Reference2inIdeal.nD → PrngReg), Pre_Kernel2inIdeal m →
    (∀ c : Dev Cert.Kernel2inIdeal.nD,
      m' ((c.tc : Thread Cert.Reference2inIdeal.nD Cert.Reference2inIdeal.τ).loc Cert.Reference2inIdeal.main_arg0) = m ((c.tc : Thread Cert.Kernel2inIdeal.nD Cert.Kernel2inIdeal.τ).loc Cert.Kernel2inIdeal.main_arg0)
      ∧ m' ((c.tc : Thread Cert.Reference2inIdeal.nD Cert.Reference2inIdeal.τ).loc Cert.Reference2inIdeal.main_arg1) = m ((c.tc : Thread Cert.Kernel2inIdeal.nD Cert.Kernel2inIdeal.τ).loc Cert.Kernel2inIdeal.main_arg1)
      ∧ m' ((c.tc : Thread Cert.Reference2inIdeal.nD Cert.Reference2inIdeal.τ).loc Cert.Reference2inIdeal.main_arg2) = m ((c.tc : Thread Cert.Kernel2inIdeal.nD Cert.Kernel2inIdeal.τ).loc Cert.Kernel2inIdeal.main_arg2)) →
    ∃ (v0 : (c : Dev Cert.Kernel2inIdeal.nD) → Buf (Elt Ideal) ((c.tc : Thread Cert.Kernel2inIdeal.nD Cert.Kernel2inIdeal.τ).loc Cert.Kernel2inIdeal.main_v5)),
      θ_run (Cert.Kernel2inIdeal.defs (F := Ideal)) (onTc (τ := Cert.Kernel2inIdeal.τ) (Cert.Kernel2inIdeal.main (F := Ideal))) ⟨m, fun _ => 0, g⟩ (fun r => ∀ c : Dev Cert.Kernel2inIdeal.nD,
          r.2.mem ((c.tc : Thread Cert.Kernel2inIdeal.nD Cert.Kernel2inIdeal.τ).loc Cert.Kernel2inIdeal.main_v5) = v0 c
          ∧ r.2.mem ((c.tc : Thread Cert.Kernel2inIdeal.nD Cert.Kernel2inIdeal.τ).loc Cert.Kernel2inIdeal.main_arg0) = m ((c.tc : Thread Cert.Kernel2inIdeal.nD Cert.Kernel2inIdeal.τ).loc Cert.Kernel2inIdeal.main_arg0)
          ∧ r.2.mem ((c.tc : Thread Cert.Kernel2inIdeal.nD Cert.Kernel2inIdeal.τ).loc Cert.Kernel2inIdeal.main_arg1) = m ((c.tc : Thread Cert.Kernel2inIdeal.nD Cert.Kernel2inIdeal.τ).loc Cert.Kernel2inIdeal.main_arg1)
          ∧ r.2.mem ((c.tc : Thread Cert.Kernel2inIdeal.nD Cert.Kernel2inIdeal.τ).loc Cert.Kernel2inIdeal.main_arg2) = m ((c.tc : Thread Cert.Kernel2inIdeal.nD Cert.Kernel2inIdeal.τ).loc Cert.Kernel2inIdeal.main_arg2))
      ∧ θ_run (Cert.Reference2inIdeal.defs (F := Ideal)) (onTc (τ := Cert.Reference2inIdeal.τ) (Cert.Reference2inIdeal.main (F := Ideal))) ⟨m', fun _ => 0, g'⟩ (fun r => ∀ c : Dev Cert.Reference2inIdeal.nD,
          r.2.mem ((c.tc : Thread Cert.Reference2inIdeal.nD Cert.Reference2inIdeal.τ).loc Cert.Reference2inIdeal.main_v9) = v0 c
          ∧ r.2.mem ((c.tc : Thread Cert.Reference2inIdeal.nD Cert.Reference2inIdeal.τ).loc Cert.Reference2inIdeal.main_arg0) = m' ((c.tc : Thread Cert.Reference2inIdeal.nD Cert.Reference2inIdeal.τ).loc Cert.Reference2inIdeal.main_arg0)
          ∧ r.2.mem ((c.tc : Thread Cert.Reference2inIdeal.nD Cert.Reference2inIdeal.τ).loc Cert.Reference2inIdeal.main_arg1) = m' ((c.tc : Thread Cert.Reference2inIdeal.nD Cert.Reference2inIdeal.τ).loc Cert.Reference2inIdeal.main_arg1)
          ∧ r.2.mem ((c.tc : Thread Cert.Reference2inIdeal.nD Cert.Reference2inIdeal.τ).loc Cert.Reference2inIdeal.main_arg2) = m' ((c.tc : Thread Cert.Reference2inIdeal.nD Cert.Reference2inIdeal.τ).loc Cert.Reference2inIdeal.main_arg2))

def preserves_Kernelin_KernelinIdeal : Prop :=
  True

def algebraic_KernelinIdeal_ReferenceinIdeal [hKernelinIdeal : Cert.KernelinIdeal.Facts] [hReferenceinIdeal : Cert.ReferenceinIdeal.Facts] : Prop :=
  ∀ (m : (ℓ : Loc Cert.KernelinIdeal.nD Cert.KernelinIdeal.τ Cert.KernelinIdeal.sig) → Buf (Elt Ideal) ℓ) (g : Dev Cert.KernelinIdeal.nD → PrngReg)
    (m' : (ℓ : Loc Cert.ReferenceinIdeal.nD Cert.ReferenceinIdeal.τ Cert.ReferenceinIdeal.sig) → Buf (Elt Ideal) ℓ) (g' : Dev Cert.ReferenceinIdeal.nD → PrngReg), Pre_KernelinIdeal m →
    (∀ c : Dev Cert.KernelinIdeal.nD,
      m' ((c.tc : Thread Cert.ReferenceinIdeal.nD Cert.ReferenceinIdeal.τ).loc Cert.ReferenceinIdeal.main_arg0) = m ((c.tc : Thread Cert.KernelinIdeal.nD Cert.KernelinIdeal.τ).loc Cert.KernelinIdeal.main_arg0)
      ∧ m' ((c.tc : Thread Cert.ReferenceinIdeal.nD Cert.ReferenceinIdeal.τ).loc Cert.ReferenceinIdeal.main_arg1) = m ((c.tc : Thread Cert.KernelinIdeal.nD Cert.KernelinIdeal.τ).loc Cert.KernelinIdeal.main_arg1)) →
    ∃ (v0 : (c : Dev Cert.KernelinIdeal.nD) → Buf (Elt Ideal) ((c.tc : Thread Cert.KernelinIdeal.nD Cert.KernelinIdeal.τ).loc Cert.KernelinIdeal.main_v2)),
      θ_run (Cert.KernelinIdeal.defs (F := Ideal)) (onTc (τ := Cert.KernelinIdeal.τ) (Cert.KernelinIdeal.main (F := Ideal))) ⟨m, fun _ => 0, g⟩ (fun r => ∀ c : Dev Cert.KernelinIdeal.nD,
          r.2.mem ((c.tc : Thread Cert.KernelinIdeal.nD Cert.KernelinIdeal.τ).loc Cert.KernelinIdeal.main_v2) = v0 c
          ∧ r.2.mem ((c.tc : Thread Cert.KernelinIdeal.nD Cert.KernelinIdeal.τ).loc Cert.KernelinIdeal.main_arg0) = m ((c.tc : Thread Cert.KernelinIdeal.nD Cert.KernelinIdeal.τ).loc Cert.KernelinIdeal.main_arg0)
          ∧ r.2.mem ((c.tc : Thread Cert.KernelinIdeal.nD Cert.KernelinIdeal.τ).loc Cert.KernelinIdeal.main_arg1) = m ((c.tc : Thread Cert.KernelinIdeal.nD Cert.KernelinIdeal.τ).loc Cert.KernelinIdeal.main_arg1))
      ∧ θ_run (Cert.ReferenceinIdeal.defs (F := Ideal)) (onTc (τ := Cert.ReferenceinIdeal.τ) (Cert.ReferenceinIdeal.main (F := Ideal))) ⟨m', fun _ => 0, g'⟩ (fun r => ∀ c : Dev Cert.ReferenceinIdeal.nD,
          r.2.mem ((c.tc : Thread Cert.ReferenceinIdeal.nD Cert.ReferenceinIdeal.τ).loc Cert.ReferenceinIdeal.main_v5) = v0 c
          ∧ r.2.mem ((c.tc : Thread Cert.ReferenceinIdeal.nD Cert.ReferenceinIdeal.τ).loc Cert.ReferenceinIdeal.main_arg0) = m' ((c.tc : Thread Cert.ReferenceinIdeal.nD Cert.ReferenceinIdeal.τ).loc Cert.ReferenceinIdeal.main_arg0)
          ∧ r.2.mem ((c.tc : Thread Cert.ReferenceinIdeal.nD Cert.ReferenceinIdeal.τ).loc Cert.ReferenceinIdeal.main_arg1) = m' ((c.tc : Thread Cert.ReferenceinIdeal.nD Cert.ReferenceinIdeal.τ).loc Cert.ReferenceinIdeal.main_arg1))

def preserves_Kernelbranch_KernelbranchIdeal : Prop :=
  True

def algebraic_KernelbranchIdeal_ReferencebranchIdeal [hKernelbranchIdeal : Cert.KernelbranchIdeal.Facts] [hReferencebranchIdeal : Cert.ReferencebranchIdeal.Facts] : Prop :=
  ∀ (m : (ℓ : Loc Cert.KernelbranchIdeal.nD Cert.KernelbranchIdeal.τ Cert.KernelbranchIdeal.sig) → Buf (Elt Ideal) ℓ) (g : Dev Cert.KernelbranchIdeal.nD → PrngReg)
    (m' : (ℓ : Loc Cert.ReferencebranchIdeal.nD Cert.ReferencebranchIdeal.τ Cert.ReferencebranchIdeal.sig) → Buf (Elt Ideal) ℓ) (g' : Dev Cert.ReferencebranchIdeal.nD → PrngReg), Pre_KernelbranchIdeal m →
    (∀ c : Dev Cert.KernelbranchIdeal.nD,
      m' ((c.tc : Thread Cert.ReferencebranchIdeal.nD Cert.ReferencebranchIdeal.τ).loc Cert.ReferencebranchIdeal.main_arg0) = m ((c.tc : Thread Cert.KernelbranchIdeal.nD Cert.KernelbranchIdeal.τ).loc Cert.KernelbranchIdeal.main_arg0)
      ∧ m' ((c.tc : Thread Cert.ReferencebranchIdeal.nD Cert.ReferencebranchIdeal.τ).loc Cert.ReferencebranchIdeal.main_arg1) = m ((c.tc : Thread Cert.KernelbranchIdeal.nD Cert.KernelbranchIdeal.τ).loc Cert.KernelbranchIdeal.main_arg1)) →
    ∃ (v0 : (c : Dev Cert.KernelbranchIdeal.nD) → Buf (Elt Ideal) ((c.tc : Thread Cert.KernelbranchIdeal.nD Cert.KernelbranchIdeal.τ).loc Cert.KernelbranchIdeal.main_v2)),
      θ_run (Cert.KernelbranchIdeal.defs (F := Ideal)) (onTc (τ := Cert.KernelbranchIdeal.τ) (Cert.KernelbranchIdeal.main (F := Ideal))) ⟨m, fun _ => 0, g⟩ (fun r => ∀ c : Dev Cert.KernelbranchIdeal.nD,
          r.2.mem ((c.tc : Thread Cert.KernelbranchIdeal.nD Cert.KernelbranchIdeal.τ).loc Cert.KernelbranchIdeal.main_v2) = v0 c
          ∧ r.2.mem ((c.tc : Thread Cert.KernelbranchIdeal.nD Cert.KernelbranchIdeal.τ).loc Cert.KernelbranchIdeal.main_arg0) = m ((c.tc : Thread Cert.KernelbranchIdeal.nD Cert.KernelbranchIdeal.τ).loc Cert.KernelbranchIdeal.main_arg0)
          ∧ r.2.mem ((c.tc : Thread Cert.KernelbranchIdeal.nD Cert.KernelbranchIdeal.τ).loc Cert.KernelbranchIdeal.main_arg1) = m ((c.tc : Thread Cert.KernelbranchIdeal.nD Cert.KernelbranchIdeal.τ).loc Cert.KernelbranchIdeal.main_arg1))
      ∧ θ_run (Cert.ReferencebranchIdeal.defs (F := Ideal)) (onTc (τ := Cert.ReferencebranchIdeal.τ) (Cert.ReferencebranchIdeal.main (F := Ideal))) ⟨m', fun _ => 0, g'⟩ (fun r => ∀ c : Dev Cert.ReferencebranchIdeal.nD,
          r.2.mem ((c.tc : Thread Cert.ReferencebranchIdeal.nD Cert.ReferencebranchIdeal.τ).loc Cert.ReferencebranchIdeal.main_v4) = v0 c
          ∧ r.2.mem ((c.tc : Thread Cert.ReferencebranchIdeal.nD Cert.ReferencebranchIdeal.τ).loc Cert.ReferencebranchIdeal.main_arg0) = m' ((c.tc : Thread Cert.ReferencebranchIdeal.nD Cert.ReferencebranchIdeal.τ).loc Cert.ReferencebranchIdeal.main_arg0)
          ∧ r.2.mem ((c.tc : Thread Cert.ReferencebranchIdeal.nD Cert.ReferencebranchIdeal.τ).loc Cert.ReferencebranchIdeal.main_arg1) = m' ((c.tc : Thread Cert.ReferencebranchIdeal.nD Cert.ReferencebranchIdeal.τ).loc Cert.ReferencebranchIdeal.main_arg1))

def preserves_Kernel2out_Kernel2outIdeal : Prop :=
  True

def algebraic_Kernel2outIdeal_Reference2outIdeal [hKernel2outIdeal : Cert.Kernel2outIdeal.Facts] [hReference2outIdeal : Cert.Reference2outIdeal.Facts] : Prop :=
  ∀ (m : (ℓ : Loc Cert.Kernel2outIdeal.nD Cert.Kernel2outIdeal.τ Cert.Kernel2outIdeal.sig) → Buf (Elt Ideal) ℓ) (g : Dev Cert.Kernel2outIdeal.nD → PrngReg)
    (m' : (ℓ : Loc Cert.Reference2outIdeal.nD Cert.Reference2outIdeal.τ Cert.Reference2outIdeal.sig) → Buf (Elt Ideal) ℓ) (g' : Dev Cert.Reference2outIdeal.nD → PrngReg), Pre_Kernel2outIdeal m →
    (∀ c : Dev Cert.Kernel2outIdeal.nD,
      m' ((c.tc : Thread Cert.Reference2outIdeal.nD Cert.Reference2outIdeal.τ).loc Cert.Reference2outIdeal.main_arg0) = m ((c.tc : Thread Cert.Kernel2outIdeal.nD Cert.Kernel2outIdeal.τ).loc Cert.Kernel2outIdeal.main_arg0)
      ∧ m' ((c.tc : Thread Cert.Reference2outIdeal.nD Cert.Reference2outIdeal.τ).loc Cert.Reference2outIdeal.main_arg1) = m ((c.tc : Thread Cert.Kernel2outIdeal.nD Cert.Kernel2outIdeal.τ).loc Cert.Kernel2outIdeal.main_arg1)) →
    ∃ (v0 : (c : Dev Cert.Kernel2outIdeal.nD) → Buf (Elt Ideal) ((c.tc : Thread Cert.Kernel2outIdeal.nD Cert.Kernel2outIdeal.τ).loc Cert.Kernel2outIdeal.main_v2)),
      θ_run (Cert.Kernel2outIdeal.defs (F := Ideal)) (onTc (τ := Cert.Kernel2outIdeal.τ) (Cert.Kernel2outIdeal.main (F := Ideal))) ⟨m, fun _ => 0, g⟩ (fun r => ∀ c : Dev Cert.Kernel2outIdeal.nD,
          r.2.mem ((c.tc : Thread Cert.Kernel2outIdeal.nD Cert.Kernel2outIdeal.τ).loc Cert.Kernel2outIdeal.main_v2) = v0 c
          ∧ r.2.mem ((c.tc : Thread Cert.Kernel2outIdeal.nD Cert.Kernel2outIdeal.τ).loc Cert.Kernel2outIdeal.main_arg0) = m ((c.tc : Thread Cert.Kernel2outIdeal.nD Cert.Kernel2outIdeal.τ).loc Cert.Kernel2outIdeal.main_arg0)
          ∧ r.2.mem ((c.tc : Thread Cert.Kernel2outIdeal.nD Cert.Kernel2outIdeal.τ).loc Cert.Kernel2outIdeal.main_arg1) = m ((c.tc : Thread Cert.Kernel2outIdeal.nD Cert.Kernel2outIdeal.τ).loc Cert.Kernel2outIdeal.main_arg1))
      ∧ θ_run (Cert.Reference2outIdeal.defs (F := Ideal)) (onTc (τ := Cert.Reference2outIdeal.τ) (Cert.Reference2outIdeal.main (F := Ideal))) ⟨m', fun _ => 0, g'⟩ (fun r => ∀ c : Dev Cert.Reference2outIdeal.nD,
          r.2.mem ((c.tc : Thread Cert.Reference2outIdeal.nD Cert.Reference2outIdeal.τ).loc Cert.Reference2outIdeal.main_v4) = v0 c
          ∧ r.2.mem ((c.tc : Thread Cert.Reference2outIdeal.nD Cert.Reference2outIdeal.τ).loc Cert.Reference2outIdeal.main_arg0) = m' ((c.tc : Thread Cert.Reference2outIdeal.nD Cert.Reference2outIdeal.τ).loc Cert.Reference2outIdeal.main_arg0)
          ∧ r.2.mem ((c.tc : Thread Cert.Reference2outIdeal.nD Cert.Reference2outIdeal.τ).loc Cert.Reference2outIdeal.main_arg1) = m' ((c.tc : Thread Cert.Reference2outIdeal.nD Cert.Reference2outIdeal.τ).loc Cert.Reference2outIdeal.main_arg1))

def preserves_Kernelout_KerneloutIdeal : Prop :=
  True

def algebraic_KerneloutIdeal_ReferenceoutIdeal [hKerneloutIdeal : Cert.KerneloutIdeal.Facts] [hReferenceoutIdeal : Cert.ReferenceoutIdeal.Facts] : Prop :=
  ∀ (m : (ℓ : Loc Cert.KerneloutIdeal.nD Cert.KerneloutIdeal.τ Cert.KerneloutIdeal.sig) → Buf (Elt Ideal) ℓ) (g : Dev Cert.KerneloutIdeal.nD → PrngReg)
    (m' : (ℓ : Loc Cert.ReferenceoutIdeal.nD Cert.ReferenceoutIdeal.τ Cert.ReferenceoutIdeal.sig) → Buf (Elt Ideal) ℓ) (g' : Dev Cert.ReferenceoutIdeal.nD → PrngReg), Pre_KerneloutIdeal m →
    (∀ c : Dev Cert.KerneloutIdeal.nD,
      m' ((c.tc : Thread Cert.ReferenceoutIdeal.nD Cert.ReferenceoutIdeal.τ).loc Cert.ReferenceoutIdeal.main_arg0) = m ((c.tc : Thread Cert.KerneloutIdeal.nD Cert.KerneloutIdeal.τ).loc Cert.KerneloutIdeal.main_arg0)
      ∧ m' ((c.tc : Thread Cert.ReferenceoutIdeal.nD Cert.ReferenceoutIdeal.τ).loc Cert.ReferenceoutIdeal.main_arg1) = m ((c.tc : Thread Cert.KerneloutIdeal.nD Cert.KerneloutIdeal.τ).loc Cert.KerneloutIdeal.main_arg1)) →
    ∃ (v0 : (c : Dev Cert.KerneloutIdeal.nD) → Buf (Elt Ideal) ((c.tc : Thread Cert.KerneloutIdeal.nD Cert.KerneloutIdeal.τ).loc Cert.KerneloutIdeal.main_v2)),
      θ_run (Cert.KerneloutIdeal.defs (F := Ideal)) (onTc (τ := Cert.KerneloutIdeal.τ) (Cert.KerneloutIdeal.main (F := Ideal))) ⟨m, fun _ => 0, g⟩ (fun r => ∀ c : Dev Cert.KerneloutIdeal.nD,
          r.2.mem ((c.tc : Thread Cert.KerneloutIdeal.nD Cert.KerneloutIdeal.τ).loc Cert.KerneloutIdeal.main_v2) = v0 c
          ∧ r.2.mem ((c.tc : Thread Cert.KerneloutIdeal.nD Cert.KerneloutIdeal.τ).loc Cert.KerneloutIdeal.main_arg0) = m ((c.tc : Thread Cert.KerneloutIdeal.nD Cert.KerneloutIdeal.τ).loc Cert.KerneloutIdeal.main_arg0)
          ∧ r.2.mem ((c.tc : Thread Cert.KerneloutIdeal.nD Cert.KerneloutIdeal.τ).loc Cert.KerneloutIdeal.main_arg1) = m ((c.tc : Thread Cert.KerneloutIdeal.nD Cert.KerneloutIdeal.τ).loc Cert.KerneloutIdeal.main_arg1))
      ∧ θ_run (Cert.ReferenceoutIdeal.defs (F := Ideal)) (onTc (τ := Cert.ReferenceoutIdeal.τ) (Cert.ReferenceoutIdeal.main (F := Ideal))) ⟨m', fun _ => 0, g'⟩ (fun r => ∀ c : Dev Cert.ReferenceoutIdeal.nD,
          r.2.mem ((c.tc : Thread Cert.ReferenceoutIdeal.nD Cert.ReferenceoutIdeal.τ).loc Cert.ReferenceoutIdeal.main_v4) = v0 c
          ∧ r.2.mem ((c.tc : Thread Cert.ReferenceoutIdeal.nD Cert.ReferenceoutIdeal.τ).loc Cert.ReferenceoutIdeal.main_arg0) = m' ((c.tc : Thread Cert.ReferenceoutIdeal.nD Cert.ReferenceoutIdeal.τ).loc Cert.ReferenceoutIdeal.main_arg0)
          ∧ r.2.mem ((c.tc : Thread Cert.ReferenceoutIdeal.nD Cert.ReferenceoutIdeal.τ).loc Cert.ReferenceoutIdeal.main_arg1) = m' ((c.tc : Thread Cert.ReferenceoutIdeal.nD Cert.ReferenceoutIdeal.τ).loc Cert.ReferenceoutIdeal.main_arg1))

def preserves_Kernelfwd_KernelfwdIdeal : Prop :=
  True

def algebraic_KernelfwdIdeal_ReferencefwdIdeal [hKernelfwdIdeal : Cert.KernelfwdIdeal.Facts] [hReferencefwdIdeal : Cert.ReferencefwdIdeal.Facts] : Prop :=
  ∀ (m : (ℓ : Loc Cert.KernelfwdIdeal.nD Cert.KernelfwdIdeal.τ Cert.KernelfwdIdeal.sig) → Buf (Elt Ideal) ℓ) (g : Dev Cert.KernelfwdIdeal.nD → PrngReg)
    (m' : (ℓ : Loc Cert.ReferencefwdIdeal.nD Cert.ReferencefwdIdeal.τ Cert.ReferencefwdIdeal.sig) → Buf (Elt Ideal) ℓ) (g' : Dev Cert.ReferencefwdIdeal.nD → PrngReg), Pre_KernelfwdIdeal m →
    (∀ c : Dev Cert.KernelfwdIdeal.nD,
      m' ((c.tc : Thread Cert.ReferencefwdIdeal.nD Cert.ReferencefwdIdeal.τ).loc Cert.ReferencefwdIdeal.main_arg0) = m ((c.tc : Thread Cert.KernelfwdIdeal.nD Cert.KernelfwdIdeal.τ).loc Cert.KernelfwdIdeal.main_arg0)
      ∧ m' ((c.tc : Thread Cert.ReferencefwdIdeal.nD Cert.ReferencefwdIdeal.τ).loc Cert.ReferencefwdIdeal.main_arg1) = m ((c.tc : Thread Cert.KernelfwdIdeal.nD Cert.KernelfwdIdeal.τ).loc Cert.KernelfwdIdeal.main_arg1)
      ∧ m' ((c.tc : Thread Cert.ReferencefwdIdeal.nD Cert.ReferencefwdIdeal.τ).loc Cert.ReferencefwdIdeal.main_arg2) = m ((c.tc : Thread Cert.KernelfwdIdeal.nD Cert.KernelfwdIdeal.τ).loc Cert.KernelfwdIdeal.main_arg2)
      ∧ m' ((c.tc : Thread Cert.ReferencefwdIdeal.nD Cert.ReferencefwdIdeal.τ).loc Cert.ReferencefwdIdeal.main_arg3) = m ((c.tc : Thread Cert.KernelfwdIdeal.nD Cert.KernelfwdIdeal.τ).loc Cert.KernelfwdIdeal.main_arg3)
      ∧ m' ((c.tc : Thread Cert.ReferencefwdIdeal.nD Cert.ReferencefwdIdeal.τ).loc Cert.ReferencefwdIdeal.main_arg4) = m ((c.tc : Thread Cert.KernelfwdIdeal.nD Cert.KernelfwdIdeal.τ).loc Cert.KernelfwdIdeal.main_arg4)
      ∧ m' ((c.tc : Thread Cert.ReferencefwdIdeal.nD Cert.ReferencefwdIdeal.τ).loc Cert.ReferencefwdIdeal.main_arg5) = m ((c.tc : Thread Cert.KernelfwdIdeal.nD Cert.KernelfwdIdeal.τ).loc Cert.KernelfwdIdeal.main_arg5)
      ∧ m' ((c.tc : Thread Cert.ReferencefwdIdeal.nD Cert.ReferencefwdIdeal.τ).loc Cert.ReferencefwdIdeal.main_arg6) = m ((c.tc : Thread Cert.KernelfwdIdeal.nD Cert.KernelfwdIdeal.τ).loc Cert.KernelfwdIdeal.main_arg6)) →
    ∃ (v0 : (c : Dev Cert.KernelfwdIdeal.nD) → Buf (Elt Ideal) ((c.tc : Thread Cert.KernelfwdIdeal.nD Cert.KernelfwdIdeal.τ).loc Cert.KernelfwdIdeal.main_v10_0)) (v1 : (c : Dev Cert.KernelfwdIdeal.nD) → Buf (Elt Ideal) ((c.tc : Thread Cert.KernelfwdIdeal.nD Cert.KernelfwdIdeal.τ).loc Cert.KernelfwdIdeal.main_v10_1)) (v2 : (c : Dev Cert.KernelfwdIdeal.nD) → Buf (Elt Ideal) ((c.tc : Thread Cert.KernelfwdIdeal.nD Cert.KernelfwdIdeal.τ).loc Cert.KernelfwdIdeal.main_v10_2)) (v3 : (c : Dev Cert.KernelfwdIdeal.nD) → Buf (Elt Ideal) ((c.tc : Thread Cert.KernelfwdIdeal.nD Cert.KernelfwdIdeal.τ).loc Cert.KernelfwdIdeal.main_v10_3)) (v4 : (c : Dev Cert.KernelfwdIdeal.nD) → Buf (Elt Ideal) ((c.tc : Thread Cert.KernelfwdIdeal.nD Cert.KernelfwdIdeal.τ).loc Cert.KernelfwdIdeal.main_v10_4)),
      θ_run (Cert.KernelfwdIdeal.defs (F := Ideal)) (onTc (τ := Cert.KernelfwdIdeal.τ) (Cert.KernelfwdIdeal.main (F := Ideal))) ⟨m, fun _ => 0, g⟩ (fun r => ∀ c : Dev Cert.KernelfwdIdeal.nD,
          r.2.mem ((c.tc : Thread Cert.KernelfwdIdeal.nD Cert.KernelfwdIdeal.τ).loc Cert.KernelfwdIdeal.main_v10_0) = v0 c
          ∧ r.2.mem ((c.tc : Thread Cert.KernelfwdIdeal.nD Cert.KernelfwdIdeal.τ).loc Cert.KernelfwdIdeal.main_v10_1) = v1 c
          ∧ r.2.mem ((c.tc : Thread Cert.KernelfwdIdeal.nD Cert.KernelfwdIdeal.τ).loc Cert.KernelfwdIdeal.main_v10_2) = v2 c
          ∧ r.2.mem ((c.tc : Thread Cert.KernelfwdIdeal.nD Cert.KernelfwdIdeal.τ).loc Cert.KernelfwdIdeal.main_v10_3) = v3 c
          ∧ r.2.mem ((c.tc : Thread Cert.KernelfwdIdeal.nD Cert.KernelfwdIdeal.τ).loc Cert.KernelfwdIdeal.main_v10_4) = v4 c
          ∧ r.2.mem ((c.tc : Thread Cert.KernelfwdIdeal.nD Cert.KernelfwdIdeal.τ).loc Cert.KernelfwdIdeal.main_arg0) = m ((c.tc : Thread Cert.KernelfwdIdeal.nD Cert.KernelfwdIdeal.τ).loc Cert.KernelfwdIdeal.main_arg0)
          ∧ r.2.mem ((c.tc : Thread Cert.KernelfwdIdeal.nD Cert.KernelfwdIdeal.τ).loc Cert.KernelfwdIdeal.main_arg1) = m ((c.tc : Thread Cert.KernelfwdIdeal.nD Cert.KernelfwdIdeal.τ).loc Cert.KernelfwdIdeal.main_arg1)
          ∧ r.2.mem ((c.tc : Thread Cert.KernelfwdIdeal.nD Cert.KernelfwdIdeal.τ).loc Cert.KernelfwdIdeal.main_arg2) = m ((c.tc : Thread Cert.KernelfwdIdeal.nD Cert.KernelfwdIdeal.τ).loc Cert.KernelfwdIdeal.main_arg2)
          ∧ r.2.mem ((c.tc : Thread Cert.KernelfwdIdeal.nD Cert.KernelfwdIdeal.τ).loc Cert.KernelfwdIdeal.main_arg3) = m ((c.tc : Thread Cert.KernelfwdIdeal.nD Cert.KernelfwdIdeal.τ).loc Cert.KernelfwdIdeal.main_arg3)
          ∧ r.2.mem ((c.tc : Thread Cert.KernelfwdIdeal.nD Cert.KernelfwdIdeal.τ).loc Cert.KernelfwdIdeal.main_arg4) = m ((c.tc : Thread Cert.KernelfwdIdeal.nD Cert.KernelfwdIdeal.τ).loc Cert.KernelfwdIdeal.main_arg4)
          ∧ r.2.mem ((c.tc : Thread Cert.KernelfwdIdeal.nD Cert.KernelfwdIdeal.τ).loc Cert.KernelfwdIdeal.main_arg5) = m ((c.tc : Thread Cert.KernelfwdIdeal.nD Cert.KernelfwdIdeal.τ).loc Cert.KernelfwdIdeal.main_arg5)
          ∧ r.2.mem ((c.tc : Thread Cert.KernelfwdIdeal.nD Cert.KernelfwdIdeal.τ).loc Cert.KernelfwdIdeal.main_arg6) = m ((c.tc : Thread Cert.KernelfwdIdeal.nD Cert.KernelfwdIdeal.τ).loc Cert.KernelfwdIdeal.main_arg6))
      ∧ θ_run (Cert.ReferencefwdIdeal.defs (F := Ideal)) (onTc (τ := Cert.ReferencefwdIdeal.τ) (Cert.ReferencefwdIdeal.main (F := Ideal))) ⟨m', fun _ => 0, g'⟩ (fun r => ∀ c : Dev Cert.ReferencefwdIdeal.nD,
          r.2.mem ((c.tc : Thread Cert.ReferencefwdIdeal.nD Cert.ReferencefwdIdeal.τ).loc Cert.ReferencefwdIdeal.main_v32) = v0 c
          ∧ r.2.mem ((c.tc : Thread Cert.ReferencefwdIdeal.nD Cert.ReferencefwdIdeal.τ).loc Cert.ReferencefwdIdeal.main_v33) = v1 c
          ∧ r.2.mem ((c.tc : Thread Cert.ReferencefwdIdeal.nD Cert.ReferencefwdIdeal.τ).loc Cert.ReferencefwdIdeal.main_v37) = v2 c
          ∧ r.2.mem ((c.tc : Thread Cert.ReferencefwdIdeal.nD Cert.ReferencefwdIdeal.τ).loc Cert.ReferencefwdIdeal.main_v38) = v3 c
          ∧ r.2.mem ((c.tc : Thread Cert.ReferencefwdIdeal.nD Cert.ReferencefwdIdeal.τ).loc Cert.ReferencefwdIdeal.main_v39) = v4 c
          ∧ r.2.mem ((c.tc : Thread Cert.ReferencefwdIdeal.nD Cert.ReferencefwdIdeal.τ).loc Cert.ReferencefwdIdeal.main_arg0) = m' ((c.tc : Thread Cert.ReferencefwdIdeal.nD Cert.ReferencefwdIdeal.τ).loc Cert.ReferencefwdIdeal.main_arg0)
          ∧ r.2.mem ((c.tc : Thread Cert.ReferencefwdIdeal.nD Cert.ReferencefwdIdeal.τ).loc Cert.ReferencefwdIdeal.main_arg1) = m' ((c.tc : Thread Cert.ReferencefwdIdeal.nD Cert.ReferencefwdIdeal.τ).loc Cert.ReferencefwdIdeal.main_arg1)
          ∧ r.2.mem ((c.tc : Thread Cert.ReferencefwdIdeal.nD Cert.ReferencefwdIdeal.τ).loc Cert.ReferencefwdIdeal.main_arg2) = m' ((c.tc : Thread Cert.ReferencefwdIdeal.nD Cert.ReferencefwdIdeal.τ).loc Cert.ReferencefwdIdeal.main_arg2)
          ∧ r.2.mem ((c.tc : Thread Cert.ReferencefwdIdeal.nD Cert.ReferencefwdIdeal.τ).loc Cert.ReferencefwdIdeal.main_arg3) = m' ((c.tc : Thread Cert.ReferencefwdIdeal.nD Cert.ReferencefwdIdeal.τ).loc Cert.ReferencefwdIdeal.main_arg3)
          ∧ r.2.mem ((c.tc : Thread Cert.ReferencefwdIdeal.nD Cert.ReferencefwdIdeal.τ).loc Cert.ReferencefwdIdeal.main_arg4) = m' ((c.tc : Thread Cert.ReferencefwdIdeal.nD Cert.ReferencefwdIdeal.τ).loc Cert.ReferencefwdIdeal.main_arg4)
          ∧ r.2.mem ((c.tc : Thread Cert.ReferencefwdIdeal.nD Cert.ReferencefwdIdeal.τ).loc Cert.ReferencefwdIdeal.main_arg5) = m' ((c.tc : Thread Cert.ReferencefwdIdeal.nD Cert.ReferencefwdIdeal.τ).loc Cert.ReferencefwdIdeal.main_arg5)
          ∧ r.2.mem ((c.tc : Thread Cert.ReferencefwdIdeal.nD Cert.ReferencefwdIdeal.τ).loc Cert.ReferencefwdIdeal.main_arg6) = m' ((c.tc : Thread Cert.ReferencefwdIdeal.nD Cert.ReferencefwdIdeal.τ).loc Cert.ReferencefwdIdeal.main_arg6))

def preserves_Kernellast_KernellastIdeal : Prop :=
  True

def algebraic_KernellastIdeal_ReferencelastIdeal_pre_finite_last [hKernellastIdeal : Cert.KernellastIdeal.Facts] [hReferencelastIdeal : Cert.ReferencelastIdeal.Facts] [hPre_finite_last : Cert.Pre_finite_last.Facts] : Prop :=
  ∀ (m : (ℓ : Loc Cert.KernellastIdeal.nD Cert.KernellastIdeal.τ Cert.KernellastIdeal.sig) → Buf (Elt Ideal) ℓ) (g : Dev Cert.KernellastIdeal.nD → PrngReg)
    (m' : (ℓ : Loc Cert.ReferencelastIdeal.nD Cert.ReferencelastIdeal.τ Cert.ReferencelastIdeal.sig) → Buf (Elt Ideal) ℓ) (g' : Dev Cert.ReferencelastIdeal.nD → PrngReg), Pre_KernellastIdeal_finite_last m →
    (∀ c : Dev Cert.KernellastIdeal.nD,
      m' ((c.tc : Thread Cert.ReferencelastIdeal.nD Cert.ReferencelastIdeal.τ).loc Cert.ReferencelastIdeal.main_arg0) = m ((c.tc : Thread Cert.KernellastIdeal.nD Cert.KernellastIdeal.τ).loc Cert.KernellastIdeal.main_arg0)
      ∧ m' ((c.tc : Thread Cert.ReferencelastIdeal.nD Cert.ReferencelastIdeal.τ).loc Cert.ReferencelastIdeal.main_arg1) = m ((c.tc : Thread Cert.KernellastIdeal.nD Cert.KernellastIdeal.τ).loc Cert.KernellastIdeal.main_arg1)
      ∧ m' ((c.tc : Thread Cert.ReferencelastIdeal.nD Cert.ReferencelastIdeal.τ).loc Cert.ReferencelastIdeal.main_arg2) = m ((c.tc : Thread Cert.KernellastIdeal.nD Cert.KernellastIdeal.τ).loc Cert.KernellastIdeal.main_arg2)
      ∧ m' ((c.tc : Thread Cert.ReferencelastIdeal.nD Cert.ReferencelastIdeal.τ).loc Cert.ReferencelastIdeal.main_arg3) = m ((c.tc : Thread Cert.KernellastIdeal.nD Cert.KernellastIdeal.τ).loc Cert.KernellastIdeal.main_arg3)
      ∧ m' ((c.tc : Thread Cert.ReferencelastIdeal.nD Cert.ReferencelastIdeal.τ).loc Cert.ReferencelastIdeal.main_arg4) = m ((c.tc : Thread Cert.KernellastIdeal.nD Cert.KernellastIdeal.τ).loc Cert.KernellastIdeal.main_arg4)
      ∧ m' ((c.tc : Thread Cert.ReferencelastIdeal.nD Cert.ReferencelastIdeal.τ).loc Cert.ReferencelastIdeal.main_arg5) = m ((c.tc : Thread Cert.KernellastIdeal.nD Cert.KernellastIdeal.τ).loc Cert.KernellastIdeal.main_arg5)
      ∧ m' ((c.tc : Thread Cert.ReferencelastIdeal.nD Cert.ReferencelastIdeal.τ).loc Cert.ReferencelastIdeal.main_arg6) = m ((c.tc : Thread Cert.KernellastIdeal.nD Cert.KernellastIdeal.τ).loc Cert.KernellastIdeal.main_arg6)
      ∧ m' ((c.tc : Thread Cert.ReferencelastIdeal.nD Cert.ReferencelastIdeal.τ).loc Cert.ReferencelastIdeal.main_arg7) = m ((c.tc : Thread Cert.KernellastIdeal.nD Cert.KernellastIdeal.τ).loc Cert.KernellastIdeal.main_arg7)
      ∧ m' ((c.tc : Thread Cert.ReferencelastIdeal.nD Cert.ReferencelastIdeal.τ).loc Cert.ReferencelastIdeal.main_arg8) = m ((c.tc : Thread Cert.KernellastIdeal.nD Cert.KernellastIdeal.τ).loc Cert.KernellastIdeal.main_arg8)) →
    ∃ (v0 : (c : Dev Cert.KernellastIdeal.nD) → Buf (Elt Ideal) ((c.tc : Thread Cert.KernellastIdeal.nD Cert.KernellastIdeal.τ).loc Cert.KernellastIdeal.main_v13_0)) (v1 : (c : Dev Cert.KernellastIdeal.nD) → Buf (Elt Ideal) ((c.tc : Thread Cert.KernellastIdeal.nD Cert.KernellastIdeal.τ).loc Cert.KernellastIdeal.main_v13_1)) (v2 : (c : Dev Cert.KernellastIdeal.nD) → Buf (Elt Ideal) ((c.tc : Thread Cert.KernellastIdeal.nD Cert.KernellastIdeal.τ).loc Cert.KernellastIdeal.main_v13_2)) (v3 : (c : Dev Cert.KernellastIdeal.nD) → Buf (Elt Ideal) ((c.tc : Thread Cert.KernellastIdeal.nD Cert.KernellastIdeal.τ).loc Cert.KernellastIdeal.main_v13_3)) (v4 : (c : Dev Cert.KernellastIdeal.nD) → Buf (Elt Ideal) ((c.tc : Thread Cert.KernellastIdeal.nD Cert.KernellastIdeal.τ).loc Cert.KernellastIdeal.main_v13_4)) (v5 : (c : Dev Cert.KernellastIdeal.nD) → Buf (Elt Ideal) ((c.tc : Thread Cert.KernellastIdeal.nD Cert.KernellastIdeal.τ).loc Cert.KernellastIdeal.main_v13_5)) (v6 : (c : Dev Cert.KernellastIdeal.nD) → Buf (Elt Ideal) ((c.tc : Thread Cert.KernellastIdeal.nD Cert.KernellastIdeal.τ).loc Cert.KernellastIdeal.main_v13_6)),
      θ_run (Cert.KernellastIdeal.defs (F := Ideal)) (onTc (τ := Cert.KernellastIdeal.τ) (Cert.KernellastIdeal.main (F := Ideal))) ⟨m, fun _ => 0, g⟩ (fun r => ∀ c : Dev Cert.KernellastIdeal.nD,
          r.2.mem ((c.tc : Thread Cert.KernellastIdeal.nD Cert.KernellastIdeal.τ).loc Cert.KernellastIdeal.main_v13_0) = v0 c
          ∧ r.2.mem ((c.tc : Thread Cert.KernellastIdeal.nD Cert.KernellastIdeal.τ).loc Cert.KernellastIdeal.main_v13_1) = v1 c
          ∧ r.2.mem ((c.tc : Thread Cert.KernellastIdeal.nD Cert.KernellastIdeal.τ).loc Cert.KernellastIdeal.main_v13_2) = v2 c
          ∧ r.2.mem ((c.tc : Thread Cert.KernellastIdeal.nD Cert.KernellastIdeal.τ).loc Cert.KernellastIdeal.main_v13_3) = v3 c
          ∧ r.2.mem ((c.tc : Thread Cert.KernellastIdeal.nD Cert.KernellastIdeal.τ).loc Cert.KernellastIdeal.main_v13_4) = v4 c
          ∧ r.2.mem ((c.tc : Thread Cert.KernellastIdeal.nD Cert.KernellastIdeal.τ).loc Cert.KernellastIdeal.main_v13_5) = v5 c
          ∧ r.2.mem ((c.tc : Thread Cert.KernellastIdeal.nD Cert.KernellastIdeal.τ).loc Cert.KernellastIdeal.main_v13_6) = v6 c
          ∧ r.2.mem ((c.tc : Thread Cert.KernellastIdeal.nD Cert.KernellastIdeal.τ).loc Cert.KernellastIdeal.main_arg0) = m ((c.tc : Thread Cert.KernellastIdeal.nD Cert.KernellastIdeal.τ).loc Cert.KernellastIdeal.main_arg0)
          ∧ r.2.mem ((c.tc : Thread Cert.KernellastIdeal.nD Cert.KernellastIdeal.τ).loc Cert.KernellastIdeal.main_arg1) = m ((c.tc : Thread Cert.KernellastIdeal.nD Cert.KernellastIdeal.τ).loc Cert.KernellastIdeal.main_arg1)
          ∧ r.2.mem ((c.tc : Thread Cert.KernellastIdeal.nD Cert.KernellastIdeal.τ).loc Cert.KernellastIdeal.main_arg2) = m ((c.tc : Thread Cert.KernellastIdeal.nD Cert.KernellastIdeal.τ).loc Cert.KernellastIdeal.main_arg2)
          ∧ r.2.mem ((c.tc : Thread Cert.KernellastIdeal.nD Cert.KernellastIdeal.τ).loc Cert.KernellastIdeal.main_arg3) = m ((c.tc : Thread Cert.KernellastIdeal.nD Cert.KernellastIdeal.τ).loc Cert.KernellastIdeal.main_arg3)
          ∧ r.2.mem ((c.tc : Thread Cert.KernellastIdeal.nD Cert.KernellastIdeal.τ).loc Cert.KernellastIdeal.main_arg4) = m ((c.tc : Thread Cert.KernellastIdeal.nD Cert.KernellastIdeal.τ).loc Cert.KernellastIdeal.main_arg4)
          ∧ r.2.mem ((c.tc : Thread Cert.KernellastIdeal.nD Cert.KernellastIdeal.τ).loc Cert.KernellastIdeal.main_arg5) = m ((c.tc : Thread Cert.KernellastIdeal.nD Cert.KernellastIdeal.τ).loc Cert.KernellastIdeal.main_arg5)
          ∧ r.2.mem ((c.tc : Thread Cert.KernellastIdeal.nD Cert.KernellastIdeal.τ).loc Cert.KernellastIdeal.main_arg6) = m ((c.tc : Thread Cert.KernellastIdeal.nD Cert.KernellastIdeal.τ).loc Cert.KernellastIdeal.main_arg6)
          ∧ r.2.mem ((c.tc : Thread Cert.KernellastIdeal.nD Cert.KernellastIdeal.τ).loc Cert.KernellastIdeal.main_arg7) = m ((c.tc : Thread Cert.KernellastIdeal.nD Cert.KernellastIdeal.τ).loc Cert.KernellastIdeal.main_arg7)
          ∧ r.2.mem ((c.tc : Thread Cert.KernellastIdeal.nD Cert.KernellastIdeal.τ).loc Cert.KernellastIdeal.main_arg8) = m ((c.tc : Thread Cert.KernellastIdeal.nD Cert.KernellastIdeal.τ).loc Cert.KernellastIdeal.main_arg8))
      ∧ θ_run (Cert.ReferencelastIdeal.defs (F := Ideal)) (onTc (τ := Cert.ReferencelastIdeal.τ) (Cert.ReferencelastIdeal.main (F := Ideal))) ⟨m', fun _ => 0, g'⟩ (fun r => ∀ c : Dev Cert.ReferencelastIdeal.nD,
          r.2.mem ((c.tc : Thread Cert.ReferencelastIdeal.nD Cert.ReferencelastIdeal.τ).loc Cert.ReferencelastIdeal.main_v90) = v0 c
          ∧ r.2.mem ((c.tc : Thread Cert.ReferencelastIdeal.nD Cert.ReferencelastIdeal.τ).loc Cert.ReferencelastIdeal.main_v33) = v1 c
          ∧ r.2.mem ((c.tc : Thread Cert.ReferencelastIdeal.nD Cert.ReferencelastIdeal.τ).loc Cert.ReferencelastIdeal.main_v37) = v2 c
          ∧ r.2.mem ((c.tc : Thread Cert.ReferencelastIdeal.nD Cert.ReferencelastIdeal.τ).loc Cert.ReferencelastIdeal.main_v38) = v3 c
          ∧ r.2.mem ((c.tc : Thread Cert.ReferencelastIdeal.nD Cert.ReferencelastIdeal.τ).loc Cert.ReferencelastIdeal.main_v39) = v4 c
          ∧ r.2.mem ((c.tc : Thread Cert.ReferencelastIdeal.nD Cert.ReferencelastIdeal.τ).loc Cert.ReferencelastIdeal.main_v91) = v5 c
          ∧ r.2.mem ((c.tc : Thread Cert.ReferencelastIdeal.nD Cert.ReferencelastIdeal.τ).loc Cert.ReferencelastIdeal.main_v94) = v6 c
          ∧ r.2.mem ((c.tc : Thread Cert.ReferencelastIdeal.nD Cert.ReferencelastIdeal.τ).loc Cert.ReferencelastIdeal.main_arg0) = m' ((c.tc : Thread Cert.ReferencelastIdeal.nD Cert.ReferencelastIdeal.τ).loc Cert.ReferencelastIdeal.main_arg0)
          ∧ r.2.mem ((c.tc : Thread Cert.ReferencelastIdeal.nD Cert.ReferencelastIdeal.τ).loc Cert.ReferencelastIdeal.main_arg1) = m' ((c.tc : Thread Cert.ReferencelastIdeal.nD Cert.ReferencelastIdeal.τ).loc Cert.ReferencelastIdeal.main_arg1)
          ∧ r.2.mem ((c.tc : Thread Cert.ReferencelastIdeal.nD Cert.ReferencelastIdeal.τ).loc Cert.ReferencelastIdeal.main_arg2) = m' ((c.tc : Thread Cert.ReferencelastIdeal.nD Cert.ReferencelastIdeal.τ).loc Cert.ReferencelastIdeal.main_arg2)
          ∧ r.2.mem ((c.tc : Thread Cert.ReferencelastIdeal.nD Cert.ReferencelastIdeal.τ).loc Cert.ReferencelastIdeal.main_arg3) = m' ((c.tc : Thread Cert.ReferencelastIdeal.nD Cert.ReferencelastIdeal.τ).loc Cert.ReferencelastIdeal.main_arg3)
          ∧ r.2.mem ((c.tc : Thread Cert.ReferencelastIdeal.nD Cert.ReferencelastIdeal.τ).loc Cert.ReferencelastIdeal.main_arg4) = m' ((c.tc : Thread Cert.ReferencelastIdeal.nD Cert.ReferencelastIdeal.τ).loc Cert.ReferencelastIdeal.main_arg4)
          ∧ r.2.mem ((c.tc : Thread Cert.ReferencelastIdeal.nD Cert.ReferencelastIdeal.τ).loc Cert.ReferencelastIdeal.main_arg5) = m' ((c.tc : Thread Cert.ReferencelastIdeal.nD Cert.ReferencelastIdeal.τ).loc Cert.ReferencelastIdeal.main_arg5)
          ∧ r.2.mem ((c.tc : Thread Cert.ReferencelastIdeal.nD Cert.ReferencelastIdeal.τ).loc Cert.ReferencelastIdeal.main_arg6) = m' ((c.tc : Thread Cert.ReferencelastIdeal.nD Cert.ReferencelastIdeal.τ).loc Cert.ReferencelastIdeal.main_arg6)
          ∧ r.2.mem ((c.tc : Thread Cert.ReferencelastIdeal.nD Cert.ReferencelastIdeal.τ).loc Cert.ReferencelastIdeal.main_arg7) = m' ((c.tc : Thread Cert.ReferencelastIdeal.nD Cert.ReferencelastIdeal.τ).loc Cert.ReferencelastIdeal.main_arg7)
          ∧ r.2.mem ((c.tc : Thread Cert.ReferencelastIdeal.nD Cert.ReferencelastIdeal.τ).loc Cert.ReferencelastIdeal.main_arg8) = m' ((c.tc : Thread Cert.ReferencelastIdeal.nD Cert.ReferencelastIdeal.τ).loc Cert.ReferencelastIdeal.main_arg8))

def preserves_Kernelpool_KernelpoolIdeal : Prop :=
  True

def algebraic_KernelpoolIdeal_ReferencepoolIdeal [hKernelpoolIdeal : Cert.KernelpoolIdeal.Facts] [hReferencepoolIdeal : Cert.ReferencepoolIdeal.Facts] : Prop :=
  ∀ (m : (ℓ : Loc Cert.KernelpoolIdeal.nD Cert.KernelpoolIdeal.τ Cert.KernelpoolIdeal.sig) → Buf (Elt Ideal) ℓ) (g : Dev Cert.KernelpoolIdeal.nD → PrngReg)
    (m' : (ℓ : Loc Cert.ReferencepoolIdeal.nD Cert.ReferencepoolIdeal.τ Cert.ReferencepoolIdeal.sig) → Buf (Elt Ideal) ℓ) (g' : Dev Cert.ReferencepoolIdeal.nD → PrngReg), Pre_KernelpoolIdeal m →
    (∀ c : Dev Cert.KernelpoolIdeal.nD,
      m' ((c.tc : Thread Cert.ReferencepoolIdeal.nD Cert.ReferencepoolIdeal.τ).loc Cert.ReferencepoolIdeal.main_arg0) = m ((c.tc : Thread Cert.KernelpoolIdeal.nD Cert.KernelpoolIdeal.τ).loc Cert.KernelpoolIdeal.main_arg0)
      ∧ m' ((c.tc : Thread Cert.ReferencepoolIdeal.nD Cert.ReferencepoolIdeal.τ).loc Cert.ReferencepoolIdeal.main_arg1) = m ((c.tc : Thread Cert.KernelpoolIdeal.nD Cert.KernelpoolIdeal.τ).loc Cert.KernelpoolIdeal.main_arg1)
      ∧ m' ((c.tc : Thread Cert.ReferencepoolIdeal.nD Cert.ReferencepoolIdeal.τ).loc Cert.ReferencepoolIdeal.main_arg2) = m ((c.tc : Thread Cert.KernelpoolIdeal.nD Cert.KernelpoolIdeal.τ).loc Cert.KernelpoolIdeal.main_arg2)
      ∧ m' ((c.tc : Thread Cert.ReferencepoolIdeal.nD Cert.ReferencepoolIdeal.τ).loc Cert.ReferencepoolIdeal.main_arg3) = m ((c.tc : Thread Cert.KernelpoolIdeal.nD Cert.KernelpoolIdeal.τ).loc Cert.KernelpoolIdeal.main_arg3)) →
    ∃ (v0 : (c : Dev Cert.KernelpoolIdeal.nD) → Buf (Elt Ideal) ((c.tc : Thread Cert.KernelpoolIdeal.nD Cert.KernelpoolIdeal.τ).loc Cert.KernelpoolIdeal.main_v50_0)) (v1 : (c : Dev Cert.KernelpoolIdeal.nD) → Buf (Elt Ideal) ((c.tc : Thread Cert.KernelpoolIdeal.nD Cert.KernelpoolIdeal.τ).loc Cert.KernelpoolIdeal.main_v50_1)) (v2 : (c : Dev Cert.KernelpoolIdeal.nD) → Buf (Elt Ideal) ((c.tc : Thread Cert.KernelpoolIdeal.nD Cert.KernelpoolIdeal.τ).loc Cert.KernelpoolIdeal.main_v50_2)),
      θ_run (Cert.KernelpoolIdeal.defs (F := Ideal)) (onTc (τ := Cert.KernelpoolIdeal.τ) (Cert.KernelpoolIdeal.main (F := Ideal))) ⟨m, fun _ => 0, g⟩ (fun r => ∀ c : Dev Cert.KernelpoolIdeal.nD,
          r.2.mem ((c.tc : Thread Cert.KernelpoolIdeal.nD Cert.KernelpoolIdeal.τ).loc Cert.KernelpoolIdeal.main_v50_0) = v0 c
          ∧ r.2.mem ((c.tc : Thread Cert.KernelpoolIdeal.nD Cert.KernelpoolIdeal.τ).loc Cert.KernelpoolIdeal.main_v50_1) = v1 c
          ∧ r.2.mem ((c.tc : Thread Cert.KernelpoolIdeal.nD Cert.KernelpoolIdeal.τ).loc Cert.KernelpoolIdeal.main_v50_2) = v2 c
          ∧ r.2.mem ((c.tc : Thread Cert.KernelpoolIdeal.nD Cert.KernelpoolIdeal.τ).loc Cert.KernelpoolIdeal.main_arg0) = m ((c.tc : Thread Cert.KernelpoolIdeal.nD Cert.KernelpoolIdeal.τ).loc Cert.KernelpoolIdeal.main_arg0)
          ∧ r.2.mem ((c.tc : Thread Cert.KernelpoolIdeal.nD Cert.KernelpoolIdeal.τ).loc Cert.KernelpoolIdeal.main_arg1) = m ((c.tc : Thread Cert.KernelpoolIdeal.nD Cert.KernelpoolIdeal.τ).loc Cert.KernelpoolIdeal.main_arg1)
          ∧ r.2.mem ((c.tc : Thread Cert.KernelpoolIdeal.nD Cert.KernelpoolIdeal.τ).loc Cert.KernelpoolIdeal.main_arg2) = m ((c.tc : Thread Cert.KernelpoolIdeal.nD Cert.KernelpoolIdeal.τ).loc Cert.KernelpoolIdeal.main_arg2)
          ∧ r.2.mem ((c.tc : Thread Cert.KernelpoolIdeal.nD Cert.KernelpoolIdeal.τ).loc Cert.KernelpoolIdeal.main_arg3) = m ((c.tc : Thread Cert.KernelpoolIdeal.nD Cert.KernelpoolIdeal.τ).loc Cert.KernelpoolIdeal.main_arg3))
      ∧ θ_run (Cert.ReferencepoolIdeal.defs (F := Ideal)) (onTc (τ := Cert.ReferencepoolIdeal.τ) (Cert.ReferencepoolIdeal.main (F := Ideal))) ⟨m', fun _ => 0, g'⟩ (fun r => ∀ c : Dev Cert.ReferencepoolIdeal.nD,
          r.2.mem ((c.tc : Thread Cert.ReferencepoolIdeal.nD Cert.ReferencepoolIdeal.τ).loc Cert.ReferencepoolIdeal.main_v69) = v0 c
          ∧ r.2.mem ((c.tc : Thread Cert.ReferencepoolIdeal.nD Cert.ReferencepoolIdeal.τ).loc Cert.ReferencepoolIdeal.main_v54) = v1 c
          ∧ r.2.mem ((c.tc : Thread Cert.ReferencepoolIdeal.nD Cert.ReferencepoolIdeal.τ).loc Cert.ReferencepoolIdeal.main_v72) = v2 c
          ∧ r.2.mem ((c.tc : Thread Cert.ReferencepoolIdeal.nD Cert.ReferencepoolIdeal.τ).loc Cert.ReferencepoolIdeal.main_arg0) = m' ((c.tc : Thread Cert.ReferencepoolIdeal.nD Cert.ReferencepoolIdeal.τ).loc Cert.ReferencepoolIdeal.main_arg0)
          ∧ r.2.mem ((c.tc : Thread Cert.ReferencepoolIdeal.nD Cert.ReferencepoolIdeal.τ).loc Cert.ReferencepoolIdeal.main_arg1) = m' ((c.tc : Thread Cert.ReferencepoolIdeal.nD Cert.ReferencepoolIdeal.τ).loc Cert.ReferencepoolIdeal.main_arg1)
          ∧ r.2.mem ((c.tc : Thread Cert.ReferencepoolIdeal.nD Cert.ReferencepoolIdeal.τ).loc Cert.ReferencepoolIdeal.main_arg2) = m' ((c.tc : Thread Cert.ReferencepoolIdeal.nD Cert.ReferencepoolIdeal.τ).loc Cert.ReferencepoolIdeal.main_arg2)
          ∧ r.2.mem ((c.tc : Thread Cert.ReferencepoolIdeal.nD Cert.ReferencepoolIdeal.τ).loc Cert.ReferencepoolIdeal.main_arg3) = m' ((c.tc : Thread Cert.ReferencepoolIdeal.nD Cert.ReferencepoolIdeal.τ).loc Cert.ReferencepoolIdeal.main_arg3))

def preserves_Kernelada_KerneladaIdeal : Prop :=
  True

def algebraic_KerneladaIdeal_ReferenceadaIdeal [hKerneladaIdeal : Cert.KerneladaIdeal.Facts] [hReferenceadaIdeal : Cert.ReferenceadaIdeal.Facts] : Prop :=
  ∀ (m : (ℓ : Loc Cert.KerneladaIdeal.nD Cert.KerneladaIdeal.τ Cert.KerneladaIdeal.sig) → Buf (Elt Ideal) ℓ) (g : Dev Cert.KerneladaIdeal.nD → PrngReg)
    (m' : (ℓ : Loc Cert.ReferenceadaIdeal.nD Cert.ReferenceadaIdeal.τ Cert.ReferenceadaIdeal.sig) → Buf (Elt Ideal) ℓ) (g' : Dev Cert.ReferenceadaIdeal.nD → PrngReg), Pre_KerneladaIdeal m →
    (∀ c : Dev Cert.KerneladaIdeal.nD,
      m' ((c.tc : Thread Cert.ReferenceadaIdeal.nD Cert.ReferenceadaIdeal.τ).loc Cert.ReferenceadaIdeal.main_arg0) = m ((c.tc : Thread Cert.KerneladaIdeal.nD Cert.KerneladaIdeal.τ).loc Cert.KerneladaIdeal.main_arg0)
      ∧ m' ((c.tc : Thread Cert.ReferenceadaIdeal.nD Cert.ReferenceadaIdeal.τ).loc Cert.ReferenceadaIdeal.main_arg1) = m ((c.tc : Thread Cert.KerneladaIdeal.nD Cert.KerneladaIdeal.τ).loc Cert.KerneladaIdeal.main_arg1)
      ∧ m' ((c.tc : Thread Cert.ReferenceadaIdeal.nD Cert.ReferenceadaIdeal.τ).loc Cert.ReferenceadaIdeal.main_arg2) = m ((c.tc : Thread Cert.KerneladaIdeal.nD Cert.KerneladaIdeal.τ).loc Cert.KerneladaIdeal.main_arg2)
      ∧ m' ((c.tc : Thread Cert.ReferenceadaIdeal.nD Cert.ReferenceadaIdeal.τ).loc Cert.ReferenceadaIdeal.main_arg3) = m ((c.tc : Thread Cert.KerneladaIdeal.nD Cert.KerneladaIdeal.τ).loc Cert.KerneladaIdeal.main_arg3)
      ∧ m' ((c.tc : Thread Cert.ReferenceadaIdeal.nD Cert.ReferenceadaIdeal.τ).loc Cert.ReferenceadaIdeal.main_arg4) = m ((c.tc : Thread Cert.KerneladaIdeal.nD Cert.KerneladaIdeal.τ).loc Cert.KerneladaIdeal.main_arg4)) →
    ∃ (v0 : (c : Dev Cert.KerneladaIdeal.nD) → Buf (Elt Ideal) ((c.tc : Thread Cert.KerneladaIdeal.nD Cert.KerneladaIdeal.τ).loc Cert.KerneladaIdeal.main_v2_0)) (v1 : (c : Dev Cert.KerneladaIdeal.nD) → Buf (Elt Ideal) ((c.tc : Thread Cert.KerneladaIdeal.nD Cert.KerneladaIdeal.τ).loc Cert.KerneladaIdeal.main_v2_1)) (v2 : (c : Dev Cert.KerneladaIdeal.nD) → Buf (Elt Ideal) ((c.tc : Thread Cert.KerneladaIdeal.nD Cert.KerneladaIdeal.τ).loc Cert.KerneladaIdeal.main_v2_2)) (v3 : (c : Dev Cert.KerneladaIdeal.nD) → Buf (Elt Ideal) ((c.tc : Thread Cert.KerneladaIdeal.nD Cert.KerneladaIdeal.τ).loc Cert.KerneladaIdeal.main_v2_3)),
      θ_run (Cert.KerneladaIdeal.defs (F := Ideal)) (onTc (τ := Cert.KerneladaIdeal.τ) (Cert.KerneladaIdeal.main (F := Ideal))) ⟨m, fun _ => 0, g⟩ (fun r => ∀ c : Dev Cert.KerneladaIdeal.nD,
          r.2.mem ((c.tc : Thread Cert.KerneladaIdeal.nD Cert.KerneladaIdeal.τ).loc Cert.KerneladaIdeal.main_v2_0) = v0 c
          ∧ r.2.mem ((c.tc : Thread Cert.KerneladaIdeal.nD Cert.KerneladaIdeal.τ).loc Cert.KerneladaIdeal.main_v2_1) = v1 c
          ∧ r.2.mem ((c.tc : Thread Cert.KerneladaIdeal.nD Cert.KerneladaIdeal.τ).loc Cert.KerneladaIdeal.main_v2_2) = v2 c
          ∧ r.2.mem ((c.tc : Thread Cert.KerneladaIdeal.nD Cert.KerneladaIdeal.τ).loc Cert.KerneladaIdeal.main_v2_3) = v3 c
          ∧ r.2.mem ((c.tc : Thread Cert.KerneladaIdeal.nD Cert.KerneladaIdeal.τ).loc Cert.KerneladaIdeal.main_arg0) = m ((c.tc : Thread Cert.KerneladaIdeal.nD Cert.KerneladaIdeal.τ).loc Cert.KerneladaIdeal.main_arg0)
          ∧ r.2.mem ((c.tc : Thread Cert.KerneladaIdeal.nD Cert.KerneladaIdeal.τ).loc Cert.KerneladaIdeal.main_arg1) = m ((c.tc : Thread Cert.KerneladaIdeal.nD Cert.KerneladaIdeal.τ).loc Cert.KerneladaIdeal.main_arg1)
          ∧ r.2.mem ((c.tc : Thread Cert.KerneladaIdeal.nD Cert.KerneladaIdeal.τ).loc Cert.KerneladaIdeal.main_arg2) = m ((c.tc : Thread Cert.KerneladaIdeal.nD Cert.KerneladaIdeal.τ).loc Cert.KerneladaIdeal.main_arg2)
          ∧ r.2.mem ((c.tc : Thread Cert.KerneladaIdeal.nD Cert.KerneladaIdeal.τ).loc Cert.KerneladaIdeal.main_arg3) = m ((c.tc : Thread Cert.KerneladaIdeal.nD Cert.KerneladaIdeal.τ).loc Cert.KerneladaIdeal.main_arg3)
          ∧ r.2.mem ((c.tc : Thread Cert.KerneladaIdeal.nD Cert.KerneladaIdeal.τ).loc Cert.KerneladaIdeal.main_arg4) = m ((c.tc : Thread Cert.KerneladaIdeal.nD Cert.KerneladaIdeal.τ).loc Cert.KerneladaIdeal.main_arg4))
      ∧ θ_run (Cert.ReferenceadaIdeal.defs (F := Ideal)) (onTc (τ := Cert.ReferenceadaIdeal.τ) (Cert.ReferenceadaIdeal.main (F := Ideal))) ⟨m', fun _ => 0, g'⟩ (fun r => ∀ c : Dev Cert.ReferenceadaIdeal.nD,
          r.2.mem ((c.tc : Thread Cert.ReferenceadaIdeal.nD Cert.ReferenceadaIdeal.τ).loc Cert.ReferenceadaIdeal.main_v3) = v0 c
          ∧ r.2.mem ((c.tc : Thread Cert.ReferenceadaIdeal.nD Cert.ReferenceadaIdeal.τ).loc Cert.ReferenceadaIdeal.main_v27) = v1 c
          ∧ r.2.mem ((c.tc : Thread Cert.ReferenceadaIdeal.nD Cert.ReferenceadaIdeal.τ).loc Cert.ReferenceadaIdeal.main_v8) = v2 c
          ∧ r.2.mem ((c.tc : Thread Cert.ReferenceadaIdeal.nD Cert.ReferenceadaIdeal.τ).loc Cert.ReferenceadaIdeal.main_v14) = v3 c
          ∧ r.2.mem ((c.tc : Thread Cert.ReferenceadaIdeal.nD Cert.ReferenceadaIdeal.τ).loc Cert.ReferenceadaIdeal.main_arg0) = m' ((c.tc : Thread Cert.ReferenceadaIdeal.nD Cert.ReferenceadaIdeal.τ).loc Cert.ReferenceadaIdeal.main_arg0)
          ∧ r.2.mem ((c.tc : Thread Cert.ReferenceadaIdeal.nD Cert.ReferenceadaIdeal.τ).loc Cert.ReferenceadaIdeal.main_arg1) = m' ((c.tc : Thread Cert.ReferenceadaIdeal.nD Cert.ReferenceadaIdeal.τ).loc Cert.ReferenceadaIdeal.main_arg1)
          ∧ r.2.mem ((c.tc : Thread Cert.ReferenceadaIdeal.nD Cert.ReferenceadaIdeal.τ).loc Cert.ReferenceadaIdeal.main_arg2) = m' ((c.tc : Thread Cert.ReferenceadaIdeal.nD Cert.ReferenceadaIdeal.τ).loc Cert.ReferenceadaIdeal.main_arg2)
          ∧ r.2.mem ((c.tc : Thread Cert.ReferenceadaIdeal.nD Cert.ReferenceadaIdeal.τ).loc Cert.ReferenceadaIdeal.main_arg3) = m' ((c.tc : Thread Cert.ReferenceadaIdeal.nD Cert.ReferenceadaIdeal.τ).loc Cert.ReferenceadaIdeal.main_arg3)
          ∧ r.2.mem ((c.tc : Thread Cert.ReferenceadaIdeal.nD Cert.ReferenceadaIdeal.τ).loc Cert.ReferenceadaIdeal.main_arg4) = m' ((c.tc : Thread Cert.ReferenceadaIdeal.nD Cert.ReferenceadaIdeal.τ).loc Cert.ReferenceadaIdeal.main_arg4))

def preserves_Kernelslots_KernelslotsIdeal : Prop :=
  True

def algebraic_KernelslotsIdeal_ReferenceslotsIdeal [hKernelslotsIdeal : Cert.KernelslotsIdeal.Facts] [hReferenceslotsIdeal : Cert.ReferenceslotsIdeal.Facts] : Prop :=
  ∀ (m : (ℓ : Loc Cert.KernelslotsIdeal.nD Cert.KernelslotsIdeal.τ Cert.KernelslotsIdeal.sig) → Buf (Elt Ideal) ℓ) (g : Dev Cert.KernelslotsIdeal.nD → PrngReg)
    (m' : (ℓ : Loc Cert.ReferenceslotsIdeal.nD Cert.ReferenceslotsIdeal.τ Cert.ReferenceslotsIdeal.sig) → Buf (Elt Ideal) ℓ) (g' : Dev Cert.ReferenceslotsIdeal.nD → PrngReg), Pre_KernelslotsIdeal m →
    (∀ c : Dev Cert.KernelslotsIdeal.nD,
      m' ((c.tc : Thread Cert.ReferenceslotsIdeal.nD Cert.ReferenceslotsIdeal.τ).loc Cert.ReferenceslotsIdeal.main_arg0) = m ((c.tc : Thread Cert.KernelslotsIdeal.nD Cert.KernelslotsIdeal.τ).loc Cert.KernelslotsIdeal.main_arg0)) →
    ∃ (v0 : (c : Dev Cert.KernelslotsIdeal.nD) → Buf (Elt Ideal) ((c.tc : Thread Cert.KernelslotsIdeal.nD Cert.KernelslotsIdeal.τ).loc Cert.KernelslotsIdeal.main_v0)),
      θ_run (Cert.KernelslotsIdeal.defs (F := Ideal)) (onTc (τ := Cert.KernelslotsIdeal.τ) (Cert.KernelslotsIdeal.main (F := Ideal))) ⟨m, fun _ => 0, g⟩ (fun r => ∀ c : Dev Cert.KernelslotsIdeal.nD,
          r.2.mem ((c.tc : Thread Cert.KernelslotsIdeal.nD Cert.KernelslotsIdeal.τ).loc Cert.KernelslotsIdeal.main_v0) = v0 c
          ∧ r.2.mem ((c.tc : Thread Cert.KernelslotsIdeal.nD Cert.KernelslotsIdeal.τ).loc Cert.KernelslotsIdeal.main_arg0) = m ((c.tc : Thread Cert.KernelslotsIdeal.nD Cert.KernelslotsIdeal.τ).loc Cert.KernelslotsIdeal.main_arg0))
      ∧ θ_run (Cert.ReferenceslotsIdeal.defs (F := Ideal)) (onTc (τ := Cert.ReferenceslotsIdeal.τ) (Cert.ReferenceslotsIdeal.main (F := Ideal))) ⟨m', fun _ => 0, g'⟩ (fun r => ∀ c : Dev Cert.ReferenceslotsIdeal.nD,
          r.2.mem ((c.tc : Thread Cert.ReferenceslotsIdeal.nD Cert.ReferenceslotsIdeal.τ).loc Cert.ReferenceslotsIdeal.main_v0) = v0 c
          ∧ r.2.mem ((c.tc : Thread Cert.ReferenceslotsIdeal.nD Cert.ReferenceslotsIdeal.τ).loc Cert.ReferenceslotsIdeal.main_arg0) = m' ((c.tc : Thread Cert.ReferenceslotsIdeal.nD Cert.ReferenceslotsIdeal.τ).loc Cert.ReferenceslotsIdeal.main_arg0))

def preserves_Kernelmod_KernelmodIdeal : Prop :=
  True

def algebraic_KernelmodIdeal_ReferencemodIdeal [hKernelmodIdeal : Cert.KernelmodIdeal.Facts] [hReferencemodIdeal : Cert.ReferencemodIdeal.Facts] : Prop :=
  ∀ (m : (ℓ : Loc Cert.KernelmodIdeal.nD Cert.KernelmodIdeal.τ Cert.KernelmodIdeal.sig) → Buf (Elt Ideal) ℓ) (g : Dev Cert.KernelmodIdeal.nD → PrngReg)
    (m' : (ℓ : Loc Cert.ReferencemodIdeal.nD Cert.ReferencemodIdeal.τ Cert.ReferencemodIdeal.sig) → Buf (Elt Ideal) ℓ) (g' : Dev Cert.ReferencemodIdeal.nD → PrngReg), Pre_KernelmodIdeal m →
    (∀ c : Dev Cert.KernelmodIdeal.nD,
      m' ((c.tc : Thread Cert.ReferencemodIdeal.nD Cert.ReferencemodIdeal.τ).loc Cert.ReferencemodIdeal.main_arg0) = m ((c.tc : Thread Cert.KernelmodIdeal.nD Cert.KernelmodIdeal.τ).loc Cert.KernelmodIdeal.main_arg0)
      ∧ m' ((c.tc : Thread Cert.ReferencemodIdeal.nD Cert.ReferencemodIdeal.τ).loc Cert.ReferencemodIdeal.main_arg1) = m ((c.tc : Thread Cert.KernelmodIdeal.nD Cert.KernelmodIdeal.τ).loc Cert.KernelmodIdeal.main_arg1)
      ∧ m' ((c.tc : Thread Cert.ReferencemodIdeal.nD Cert.ReferencemodIdeal.τ).loc Cert.ReferencemodIdeal.main_arg2) = m ((c.tc : Thread Cert.KernelmodIdeal.nD Cert.KernelmodIdeal.τ).loc Cert.KernelmodIdeal.main_arg2)) →
    ∃ (v0 : (c : Dev Cert.KernelmodIdeal.nD) → Buf (Elt Ideal) ((c.tc : Thread Cert.KernelmodIdeal.nD Cert.KernelmodIdeal.τ).loc Cert.KernelmodIdeal.main_v0_0)) (v1 : (c : Dev Cert.KernelmodIdeal.nD) → Buf (Elt Ideal) ((c.tc : Thread Cert.KernelmodIdeal.nD Cert.KernelmodIdeal.τ).loc Cert.KernelmodIdeal.main_v0_1)),
      θ_run (Cert.KernelmodIdeal.defs (F := Ideal)) (onTc (τ := Cert.KernelmodIdeal.τ) (Cert.KernelmodIdeal.main (F := Ideal))) ⟨m, fun _ => 0, g⟩ (fun r => ∀ c : Dev Cert.KernelmodIdeal.nD,
          r.2.mem ((c.tc : Thread Cert.KernelmodIdeal.nD Cert.KernelmodIdeal.τ).loc Cert.KernelmodIdeal.main_v0_0) = v0 c
          ∧ r.2.mem ((c.tc : Thread Cert.KernelmodIdeal.nD Cert.KernelmodIdeal.τ).loc Cert.KernelmodIdeal.main_v0_1) = v1 c
          ∧ r.2.mem ((c.tc : Thread Cert.KernelmodIdeal.nD Cert.KernelmodIdeal.τ).loc Cert.KernelmodIdeal.main_arg0) = m ((c.tc : Thread Cert.KernelmodIdeal.nD Cert.KernelmodIdeal.τ).loc Cert.KernelmodIdeal.main_arg0)
          ∧ r.2.mem ((c.tc : Thread Cert.KernelmodIdeal.nD Cert.KernelmodIdeal.τ).loc Cert.KernelmodIdeal.main_arg1) = m ((c.tc : Thread Cert.KernelmodIdeal.nD Cert.KernelmodIdeal.τ).loc Cert.KernelmodIdeal.main_arg1)
          ∧ r.2.mem ((c.tc : Thread Cert.KernelmodIdeal.nD Cert.KernelmodIdeal.τ).loc Cert.KernelmodIdeal.main_arg2) = m ((c.tc : Thread Cert.KernelmodIdeal.nD Cert.KernelmodIdeal.τ).loc Cert.KernelmodIdeal.main_arg2))
      ∧ θ_run (Cert.ReferencemodIdeal.defs (F := Ideal)) (onTc (τ := Cert.ReferencemodIdeal.τ) (Cert.ReferencemodIdeal.main (F := Ideal))) ⟨m', fun _ => 0, g'⟩ (fun r => ∀ c : Dev Cert.ReferencemodIdeal.nD,
          r.2.mem ((c.tc : Thread Cert.ReferencemodIdeal.nD Cert.ReferencemodIdeal.τ).loc Cert.ReferencemodIdeal.main_v0) = v0 c
          ∧ r.2.mem ((c.tc : Thread Cert.ReferencemodIdeal.nD Cert.ReferencemodIdeal.τ).loc Cert.ReferencemodIdeal.main_v3) = v1 c
          ∧ r.2.mem ((c.tc : Thread Cert.ReferencemodIdeal.nD Cert.ReferencemodIdeal.τ).loc Cert.ReferencemodIdeal.main_arg0) = m' ((c.tc : Thread Cert.ReferencemodIdeal.nD Cert.ReferencemodIdeal.τ).loc Cert.ReferencemodIdeal.main_arg0)
          ∧ r.2.mem ((c.tc : Thread Cert.ReferencemodIdeal.nD Cert.ReferencemodIdeal.τ).loc Cert.ReferencemodIdeal.main_arg1) = m' ((c.tc : Thread Cert.ReferencemodIdeal.nD Cert.ReferencemodIdeal.τ).loc Cert.ReferencemodIdeal.main_arg1)
          ∧ r.2.mem ((c.tc : Thread Cert.ReferencemodIdeal.nD Cert.ReferencemodIdeal.τ).loc Cert.ReferencemodIdeal.main_arg2) = m' ((c.tc : Thread Cert.ReferencemodIdeal.nD Cert.ReferencemodIdeal.τ).loc Cert.ReferencemodIdeal.main_arg2))

def preserves_Kernelpoolfwd_KernelpoolfwdIdeal : Prop :=
  True

def algebraic_KernelpoolfwdIdeal_ReferencepoolfwdIdeal [hKernelpoolfwdIdeal : Cert.KernelpoolfwdIdeal.Facts] [hReferencepoolfwdIdeal : Cert.ReferencepoolfwdIdeal.Facts] : Prop :=
  ∀ (m : (ℓ : Loc Cert.KernelpoolfwdIdeal.nD Cert.KernelpoolfwdIdeal.τ Cert.KernelpoolfwdIdeal.sig) → Buf (Elt Ideal) ℓ) (g : Dev Cert.KernelpoolfwdIdeal.nD → PrngReg)
    (m' : (ℓ : Loc Cert.ReferencepoolfwdIdeal.nD Cert.ReferencepoolfwdIdeal.τ Cert.ReferencepoolfwdIdeal.sig) → Buf (Elt Ideal) ℓ) (g' : Dev Cert.ReferencepoolfwdIdeal.nD → PrngReg), Pre_KernelpoolfwdIdeal m →
    (∀ c : Dev Cert.KernelpoolfwdIdeal.nD,
      m' ((c.tc : Thread Cert.ReferencepoolfwdIdeal.nD Cert.ReferencepoolfwdIdeal.τ).loc Cert.ReferencepoolfwdIdeal.main_arg0) = m ((c.tc : Thread Cert.KernelpoolfwdIdeal.nD Cert.KernelpoolfwdIdeal.τ).loc Cert.KernelpoolfwdIdeal.main_arg0)
      ∧ m' ((c.tc : Thread Cert.ReferencepoolfwdIdeal.nD Cert.ReferencepoolfwdIdeal.τ).loc Cert.ReferencepoolfwdIdeal.main_arg1) = m ((c.tc : Thread Cert.KernelpoolfwdIdeal.nD Cert.KernelpoolfwdIdeal.τ).loc Cert.KernelpoolfwdIdeal.main_arg1)
      ∧ m' ((c.tc : Thread Cert.ReferencepoolfwdIdeal.nD Cert.ReferencepoolfwdIdeal.τ).loc Cert.ReferencepoolfwdIdeal.main_arg2) = m ((c.tc : Thread Cert.KernelpoolfwdIdeal.nD Cert.KernelpoolfwdIdeal.τ).loc Cert.KernelpoolfwdIdeal.main_arg2)) →
    ∃ (v0 : (c : Dev Cert.KernelpoolfwdIdeal.nD) → Buf (Elt Ideal) ((c.tc : Thread Cert.KernelpoolfwdIdeal.nD Cert.KernelpoolfwdIdeal.τ).loc Cert.KernelpoolfwdIdeal.main_v11_0)) (v1 : (c : Dev Cert.KernelpoolfwdIdeal.nD) → Buf (Elt Ideal) ((c.tc : Thread Cert.KernelpoolfwdIdeal.nD Cert.KernelpoolfwdIdeal.τ).loc Cert.KernelpoolfwdIdeal.main_v11_1)),
      θ_run (Cert.KernelpoolfwdIdeal.defs (F := Ideal)) (onTc (τ := Cert.KernelpoolfwdIdeal.τ) (Cert.KernelpoolfwdIdeal.main (F := Ideal))) ⟨m, fun _ => 0, g⟩ (fun r => ∀ c : Dev Cert.KernelpoolfwdIdeal.nD,
          r.2.mem ((c.tc : Thread Cert.KernelpoolfwdIdeal.nD Cert.KernelpoolfwdIdeal.τ).loc Cert.KernelpoolfwdIdeal.main_v11_0) = v0 c
          ∧ r.2.mem ((c.tc : Thread Cert.KernelpoolfwdIdeal.nD Cert.KernelpoolfwdIdeal.τ).loc Cert.KernelpoolfwdIdeal.main_v11_1) = v1 c
          ∧ r.2.mem ((c.tc : Thread Cert.KernelpoolfwdIdeal.nD Cert.KernelpoolfwdIdeal.τ).loc Cert.KernelpoolfwdIdeal.main_arg0) = m ((c.tc : Thread Cert.KernelpoolfwdIdeal.nD Cert.KernelpoolfwdIdeal.τ).loc Cert.KernelpoolfwdIdeal.main_arg0)
          ∧ r.2.mem ((c.tc : Thread Cert.KernelpoolfwdIdeal.nD Cert.KernelpoolfwdIdeal.τ).loc Cert.KernelpoolfwdIdeal.main_arg1) = m ((c.tc : Thread Cert.KernelpoolfwdIdeal.nD Cert.KernelpoolfwdIdeal.τ).loc Cert.KernelpoolfwdIdeal.main_arg1)
          ∧ r.2.mem ((c.tc : Thread Cert.KernelpoolfwdIdeal.nD Cert.KernelpoolfwdIdeal.τ).loc Cert.KernelpoolfwdIdeal.main_arg2) = m ((c.tc : Thread Cert.KernelpoolfwdIdeal.nD Cert.KernelpoolfwdIdeal.τ).loc Cert.KernelpoolfwdIdeal.main_arg2))
      ∧ θ_run (Cert.ReferencepoolfwdIdeal.defs (F := Ideal)) (onTc (τ := Cert.ReferencepoolfwdIdeal.τ) (Cert.ReferencepoolfwdIdeal.main (F := Ideal))) ⟨m', fun _ => 0, g'⟩ (fun r => ∀ c : Dev Cert.ReferencepoolfwdIdeal.nD,
          r.2.mem ((c.tc : Thread Cert.ReferencepoolfwdIdeal.nD Cert.ReferencepoolfwdIdeal.τ).loc Cert.ReferencepoolfwdIdeal.main_v40) = v0 c
          ∧ r.2.mem ((c.tc : Thread Cert.ReferencepoolfwdIdeal.nD Cert.ReferencepoolfwdIdeal.τ).loc Cert.ReferencepoolfwdIdeal.main_v45) = v1 c
          ∧ r.2.mem ((c.tc : Thread Cert.ReferencepoolfwdIdeal.nD Cert.ReferencepoolfwdIdeal.τ).loc Cert.ReferencepoolfwdIdeal.main_arg0) = m' ((c.tc : Thread Cert.ReferencepoolfwdIdeal.nD Cert.ReferencepoolfwdIdeal.τ).loc Cert.ReferencepoolfwdIdeal.main_arg0)
          ∧ r.2.mem ((c.tc : Thread Cert.ReferencepoolfwdIdeal.nD Cert.ReferencepoolfwdIdeal.τ).loc Cert.ReferencepoolfwdIdeal.main_arg1) = m' ((c.tc : Thread Cert.ReferencepoolfwdIdeal.nD Cert.ReferencepoolfwdIdeal.τ).loc Cert.ReferencepoolfwdIdeal.main_arg1)
          ∧ r.2.mem ((c.tc : Thread Cert.ReferencepoolfwdIdeal.nD Cert.ReferencepoolfwdIdeal.τ).loc Cert.ReferencepoolfwdIdeal.main_arg2) = m' ((c.tc : Thread Cert.ReferencepoolfwdIdeal.nD Cert.ReferencepoolfwdIdeal.τ).loc Cert.ReferencepoolfwdIdeal.main_arg2))

def Claim : Prop :=
  ∃ (hKernel : Cert.Kernel.Facts) (hKernelIdeal : Cert.KernelIdeal.Facts) (hReferenceIdeal : Cert.ReferenceIdeal.Facts) (hKernel2in : Cert.Kernel2in.Facts) (hKernel2inIdeal : Cert.Kernel2inIdeal.Facts) (hReference2inIdeal : Cert.Reference2inIdeal.Facts) (hKernelin : Cert.Kernelin.Facts) (hKernelinIdeal : Cert.KernelinIdeal.Facts) (hReferenceinIdeal : Cert.ReferenceinIdeal.Facts) (hKernelbranch : Cert.Kernelbranch.Facts) (hKernelbranchIdeal : Cert.KernelbranchIdeal.Facts) (hReferencebranchIdeal : Cert.ReferencebranchIdeal.Facts) (hKernel2out : Cert.Kernel2out.Facts) (hKernel2outIdeal : Cert.Kernel2outIdeal.Facts) (hReference2outIdeal : Cert.Reference2outIdeal.Facts) (hKernelout : Cert.Kernelout.Facts) (hKerneloutIdeal : Cert.KerneloutIdeal.Facts) (hReferenceoutIdeal : Cert.ReferenceoutIdeal.Facts) (hKernelfwd : Cert.Kernelfwd.Facts) (hKernelfwdIdeal : Cert.KernelfwdIdeal.Facts) (hReferencefwdIdeal : Cert.ReferencefwdIdeal.Facts) (hKernellast : Cert.Kernellast.Facts) (hKernellastIdeal : Cert.KernellastIdeal.Facts) (hReferencelastIdeal : Cert.ReferencelastIdeal.Facts) (hKernelpool : Cert.Kernelpool.Facts) (hKernelpoolIdeal : Cert.KernelpoolIdeal.Facts) (hReferencepoolIdeal : Cert.ReferencepoolIdeal.Facts) (hKernelada : Cert.Kernelada.Facts) (hKerneladaIdeal : Cert.KerneladaIdeal.Facts) (hReferenceadaIdeal : Cert.ReferenceadaIdeal.Facts) (hKernelslots : Cert.Kernelslots.Facts) (hKernelslotsIdeal : Cert.KernelslotsIdeal.Facts) (hReferenceslotsIdeal : Cert.ReferenceslotsIdeal.Facts) (hKernelmod : Cert.Kernelmod.Facts) (hKernelmodIdeal : Cert.KernelmodIdeal.Facts) (hReferencemodIdeal : Cert.ReferencemodIdeal.Facts) (hKernelpoolfwd : Cert.Kernelpoolfwd.Facts) (hKernelpoolfwdIdeal : Cert.KernelpoolfwdIdeal.Facts) (hReferencepoolfwdIdeal : Cert.ReferencepoolfwdIdeal.Facts) (hPre_finite : Cert.Pre_finite.Facts) (hPre_finite_last : Cert.Pre_finite_last.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2in (hKernel2in := hKernel2in)
    ∧ quiescent_Kernel2inIdeal (hKernel2inIdeal := hKernel2inIdeal)
    ∧ quiescent_Reference2inIdeal (hReference2inIdeal := hReference2inIdeal)
    ∧ quiescent_Kernelin (hKernelin := hKernelin)
    ∧ quiescent_KernelinIdeal (hKernelinIdeal := hKernelinIdeal)
    ∧ quiescent_ReferenceinIdeal (hReferenceinIdeal := hReferenceinIdeal)
    ∧ quiescent_Kernelbranch (hKernelbranch := hKernelbranch)
    ∧ quiescent_KernelbranchIdeal (hKernelbranchIdeal := hKernelbranchIdeal)
    ∧ quiescent_ReferencebranchIdeal (hReferencebranchIdeal := hReferencebranchIdeal)
    ∧ quiescent_Kernel2out (hKernel2out := hKernel2out)
    ∧ quiescent_Kernel2outIdeal (hKernel2outIdeal := hKernel2outIdeal)
    ∧ quiescent_Reference2outIdeal (hReference2outIdeal := hReference2outIdeal)
    ∧ quiescent_Kernelout (hKernelout := hKernelout)
    ∧ quiescent_KerneloutIdeal (hKerneloutIdeal := hKerneloutIdeal)
    ∧ quiescent_ReferenceoutIdeal (hReferenceoutIdeal := hReferenceoutIdeal)
    ∧ quiescent_Kernelfwd (hKernelfwd := hKernelfwd)
    ∧ quiescent_KernelfwdIdeal (hKernelfwdIdeal := hKernelfwdIdeal)
    ∧ quiescent_ReferencefwdIdeal (hReferencefwdIdeal := hReferencefwdIdeal)
    ∧ quiescent_Kernellast (hKernellast := hKernellast)
    ∧ quiescent_KernellastIdeal (hKernellastIdeal := hKernellastIdeal)
    ∧ quiescent_KernellastIdeal_pre_finite_last (hKernellastIdeal := hKernellastIdeal) (hPre_finite_last := hPre_finite_last)
    ∧ quiescent_ReferencelastIdeal (hReferencelastIdeal := hReferencelastIdeal)
    ∧ quiescent_ReferencelastIdeal_pre_finite_last (hReferencelastIdeal := hReferencelastIdeal) (hPre_finite_last := hPre_finite_last)
    ∧ quiescent_Kernelpool (hKernelpool := hKernelpool)
    ∧ quiescent_KernelpoolIdeal (hKernelpoolIdeal := hKernelpoolIdeal)
    ∧ quiescent_ReferencepoolIdeal (hReferencepoolIdeal := hReferencepoolIdeal)
    ∧ quiescent_Kernelada (hKernelada := hKernelada)
    ∧ quiescent_KerneladaIdeal (hKerneladaIdeal := hKerneladaIdeal)
    ∧ quiescent_ReferenceadaIdeal (hReferenceadaIdeal := hReferenceadaIdeal)
    ∧ quiescent_Kernelslots (hKernelslots := hKernelslots)
    ∧ quiescent_KernelslotsIdeal (hKernelslotsIdeal := hKernelslotsIdeal)
    ∧ quiescent_ReferenceslotsIdeal (hReferenceslotsIdeal := hReferenceslotsIdeal)
    ∧ quiescent_Kernelmod (hKernelmod := hKernelmod)
    ∧ quiescent_KernelmodIdeal (hKernelmodIdeal := hKernelmodIdeal)
    ∧ quiescent_ReferencemodIdeal (hReferencemodIdeal := hReferencemodIdeal)
    ∧ quiescent_Kernelpoolfwd (hKernelpoolfwd := hKernelpoolfwd)
    ∧ quiescent_KernelpoolfwdIdeal (hKernelpoolfwdIdeal := hKernelpoolfwdIdeal)
    ∧ quiescent_ReferencepoolfwdIdeal (hReferencepoolfwdIdeal := hReferencepoolfwdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2in_Kernel2inIdeal
    ∧ algebraic_Kernel2inIdeal_Reference2inIdeal (hKernel2inIdeal := hKernel2inIdeal) (hReference2inIdeal := hReference2inIdeal)
    ∧ preserves_Kernelin_KernelinIdeal
    ∧ algebraic_KernelinIdeal_ReferenceinIdeal (hKernelinIdeal := hKernelinIdeal) (hReferenceinIdeal := hReferenceinIdeal)
    ∧ preserves_Kernelbranch_KernelbranchIdeal
    ∧ algebraic_KernelbranchIdeal_ReferencebranchIdeal (hKernelbranchIdeal := hKernelbranchIdeal) (hReferencebranchIdeal := hReferencebranchIdeal)
    ∧ preserves_Kernel2out_Kernel2outIdeal
    ∧ algebraic_Kernel2outIdeal_Reference2outIdeal (hKernel2outIdeal := hKernel2outIdeal) (hReference2outIdeal := hReference2outIdeal)
    ∧ preserves_Kernelout_KerneloutIdeal
    ∧ algebraic_KerneloutIdeal_ReferenceoutIdeal (hKerneloutIdeal := hKerneloutIdeal) (hReferenceoutIdeal := hReferenceoutIdeal)
    ∧ preserves_Kernelfwd_KernelfwdIdeal
    ∧ algebraic_KernelfwdIdeal_ReferencefwdIdeal (hKernelfwdIdeal := hKernelfwdIdeal) (hReferencefwdIdeal := hReferencefwdIdeal)
    ∧ preserves_Kernellast_KernellastIdeal
    ∧ algebraic_KernellastIdeal_ReferencelastIdeal_pre_finite_last (hKernellastIdeal := hKernellastIdeal) (hReferencelastIdeal := hReferencelastIdeal) (hPre_finite_last := hPre_finite_last)
    ∧ preserves_Kernelpool_KernelpoolIdeal
    ∧ algebraic_KernelpoolIdeal_ReferencepoolIdeal (hKernelpoolIdeal := hKernelpoolIdeal) (hReferencepoolIdeal := hReferencepoolIdeal)
    ∧ preserves_Kernelada_KerneladaIdeal
    ∧ algebraic_KerneladaIdeal_ReferenceadaIdeal (hKerneladaIdeal := hKerneladaIdeal) (hReferenceadaIdeal := hReferenceadaIdeal)
    ∧ preserves_Kernelslots_KernelslotsIdeal
    ∧ algebraic_KernelslotsIdeal_ReferenceslotsIdeal (hKernelslotsIdeal := hKernelslotsIdeal) (hReferenceslotsIdeal := hReferenceslotsIdeal)
    ∧ preserves_Kernelmod_KernelmodIdeal
    ∧ algebraic_KernelmodIdeal_ReferencemodIdeal (hKernelmodIdeal := hKernelmodIdeal) (hReferencemodIdeal := hReferencemodIdeal)
    ∧ preserves_Kernelpoolfwd_KernelpoolfwdIdeal
    ∧ algebraic_KernelpoolfwdIdeal_ReferencepoolfwdIdeal (hKernelpoolfwdIdeal := hKernelpoolfwdIdeal) (hReferencepoolfwdIdeal := hReferencepoolfwdIdeal)
-- ==== Pre_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S2816x1024 .f32) (main_v33 : IVec S_ 1) : IVec S_ 1 :=
  let main_v34 : FVec F S2816x1024 .f32 := Host.absf main_arg7
  let main_cst_12 : FVec F S_ .f32 := constant S_ .f32 0x7F800000#32
  let main_v35 : FVec F S2816x1024 .f32 := broadcastInDim S2816x1024 ![] bcast_S_S2816x1024 main_cst_12
  let main_v36 : IVec S2816x1024 1 := cmpf .olt main_v34 main_v35
  let main_c_13 : IVec S_ 1 := constantI S_ 1 1#1
  let main_v37 : IVec S_ 1 := (fun x v => Host.reduce IntOp.andi x v reducesTo_S2816x1024_S_d0_1 h_S_) main_v36 main_c_13
  let main_v38 : IVec S_ 1 := andi main_v33 main_v37
  main_v38

def fn_part1 {F : FTy → Type} [FloatOps F] (main_arg4 : FVec F S1024 .f32) (main_arg5 : FVec F S1024 .f32) (main_arg6 : FVec F S1024x5632 .f32) (main_arg7 : FVec F S2816x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x5632 .f32 := Host.absf main_arg6
  let main_cst_10 : FVec F S_ .f32 := constant S_ .f32 0x7F800000#32
  let main_v30 : FVec F S1024x5632 .f32 := broadcastInDim S1024x5632 ![] bcast_S_S1024x5632 main_cst_10
  let main_v31 : IVec S1024x5632 1 := cmpf .olt main_v29 main_v30
  let main_c_11 : IVec S_ 1 := constantI S_ 1 1#1
  let main_v32 : IVec S_ 1 := (fun x v => Host.reduce IntOp.andi x v reducesTo_S1024x5632_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024 .f32) (main_arg3 : FVec F S1024 .f32) (main_arg4 : FVec F S1024 .f32) (main_arg5 : FVec F S1024 .f32) (main_arg6 : FVec F S1024x5632 .f32) (main_arg7 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Pre_finite_last.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S1024 .f32) (main_arg8 : FVec F S8192x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S8192x1024 .f32 := Host.absf main_arg8
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  main_v43

def fn_part1 {F : FTy → Type} [FloatOps F] (main_arg4 : FVec F S1024 .f32) (main_arg5 : FVec F S1024x5632 .f32) (main_arg6 : FVec F S2816x1024 .f32) (main_arg7 : FVec F S1024 .f32) (main_arg8 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024x5632 .f32) (main_arg6 : FVec F S2816x1024 .f32) (main_arg7 : FVec F S1024 .f32) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S4x1024 : Shape := ⟨2, ![4, 1024]⟩
abbrev S8x1024 : Shape := ⟨2, ![8, 1024]⟩
abbrev S5632x1024 : Shape := ⟨2, ![5632, 1024]⟩
abbrev S2x2816x1024 : Shape := ⟨3, ![2, 2816, 1024]⟩
abbrev S1x8192x2816 : Shape := ⟨3, ![1, 8192, 2816]⟩
abbrev S2x8192x2816 : Shape := ⟨3, ![2, 8192, 2816]⟩
abbrev S256x1024 : Shape := ⟨2, ![256, 1024]⟩
abbrev S2x256x2816 : Shape := ⟨3, ![2, 256, 2816]⟩
abbrev S2 : Shape := ⟨1, ![2]⟩
abbrev S1 : Shape := ⟨1, ![1]⟩
abbrev S256x2816 : Shape := ⟨2, ![256, 2816]⟩
abbrev S1x256x2816 : Shape := ⟨3, ![1, 256, 2816]⟩
abbrev S1x2816x1024 : Shape := ⟨3, ![1, 2816, 1024]⟩
abbrev S256 : Shape := ⟨1, ![256]⟩
abbrev S256x1 : Shape := ⟨2, ![256, 1]⟩

abbrev nBuf : Space → Nat
  | .hbm => 67
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S4x1024, .f32⟩
  | .hbm, ⟨53, _⟩ => ⟨S8x1024, .f32⟩
  | .hbm, ⟨54, _⟩ => ⟨S5632x1024, .f32⟩
  | .hbm, ⟨55, _⟩ => ⟨S5632x1024, .bf16⟩
  | .hbm, ⟨56, _⟩ => ⟨S2x2816x1024, .bf16⟩
  | .hbm, ⟨57, _⟩ => ⟨S8192x1024, .bf16⟩
  | .hbm, ⟨58, _⟩ => ⟨S1x8192x2816, .f32⟩
  | .hbm, ⟨59, _⟩ => ⟨S1x8192x2816, .f32⟩
  | .hbm, ⟨60, _⟩ => ⟨S2x8192x2816, .f32⟩
  | .hbm, ⟨61, _⟩ => ⟨S2x8192x2816, .bf16⟩
  | .hbm, ⟨62, _⟩ => ⟨S2816x1024, .bf16⟩
  | .hbm, ⟨63, _⟩ => ⟨S8192x1024, .f32⟩
  | .hbm, ⟨64, _⟩ => ⟨S2x8192x2816, .bf16⟩
  | .hbm, ⟨65, _⟩ => ⟨S8192x1024, .bf16⟩
  | .hbm, ⟨66, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S2x256x2816, .bf16⟩
  | .local _ .vmem, ⟨7, _⟩ => ⟨S2x256x2816, .bf16⟩
  | .local _ .vmem, ⟨8, _⟩ => ⟨S8x1024, .f32⟩
  | .local _ .vmem, ⟨9, _⟩ => ⟨S256x1024, .f32⟩
  | .local _ .vmem, ⟨10, _⟩ => ⟨S256x1024, .f32⟩
  | .local _ .vmem, ⟨11, _⟩ => ⟨S2x256x2816, .bf16⟩
  | .local _ .vmem, ⟨12, _⟩ => ⟨S2x256x2816, .bf16⟩
  | .local _ .vmem, ⟨13, _⟩ => ⟨S256x1024, .bf16⟩
  | .local _ .vmem, ⟨14, _⟩ => ⟨S256x1024, .bf16⟩
  | .local _ .vmem, ⟨15, _⟩ => ⟨S8x1024, .f32⟩
  | .local _ .vmem, ⟨16, _⟩ => ⟨S2x2816x1024, .bf16⟩
  | .local _ .vmem, ⟨17, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev main_v42_2 : Ref sig .tc := ⟨.hbm, 65, rfl⟩
abbrev main_v42_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S4x1024 : Shape := ⟨2, ![4, 1024]⟩
abbrev S1x8192x2816 : Shape := ⟨3, ![1, 8192, 2816]⟩
abbrev S2x8192x2816 : Shape := ⟨3, ![2, 8192, 2816]⟩
abbrev S8x1024 : Shape := ⟨2, ![8, 1024]⟩

abbrev nBuf : Space → Nat
  | .hbm => 142
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024, .f32⟩
  | 4 => ⟨S1024, .f32⟩
  | 5 => ⟨S1024, .f32⟩
  | 6 => ⟨S1024x5632, .f32⟩
  | 7 => ⟨S2816x1024, .f32⟩
  | 8 => ⟨S_, .f32⟩
  | 9 => ⟨S8192x2816, .f32⟩
  | 10 => ⟨S_, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S1x1024, .f32⟩
  | 30 => ⟨S8192x1024, .f32⟩
  | 31 => ⟨S8192x1024, .f32⟩
  | 32 => ⟨S_, .f32⟩
  | 33 => ⟨S1024, .f32⟩
  | 34 => ⟨S1024, .f32⟩
  | 35 => ⟨S1x1024, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x5632, .f32⟩
  | 42 => ⟨S8192x2816, .f32⟩
  | 43 => ⟨S8192x2816, .f32⟩
  | 44 => ⟨S8192x2816, .f32⟩
  | 45 => ⟨S8192x2816, .f32⟩
  | 46 => ⟨S8192x2816, .f32⟩
  | 47 => ⟨S_, .f32⟩
  | 48 => ⟨S8192x2816, .f32⟩
  | 49 => ⟨S8192x2816, .f32⟩
  | 50 => ⟨S_, .f32⟩
  | 51 => ⟨S8192x2816, .f32⟩
  | 52 => ⟨S8192x2816, .f32⟩
  | 53 => ⟨S_, .f32⟩
  | 54 => ⟨S8192x2816, .f32⟩
  | 55 => ⟨S8192x2816, .f32⟩
  | 56 => ⟨S8192x2816, .f32⟩
  | 57 => ⟨S8192x2816, .f32⟩
  | 58 => ⟨S8192x2816, .f32⟩
  | 59 => ⟨S8192x2816, .f32⟩
  | 60 => ⟨S8192x1024, .f32⟩
  | 61 => ⟨S8192x1024, .f32⟩
  | 62 => ⟨S_, .f32⟩
  | 63 => ⟨S1024, .f32⟩
  | 64 => ⟨S1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S1024, .f32⟩
  | 75 => ⟨S1x1024, .f32⟩
  | 76 => ⟨S_, .f32⟩
  | 77 => ⟨S1024, .f32⟩
  | 78 => ⟨S_, .f32⟩
  | 79 => ⟨S1024, .f32⟩
  | 80 => ⟨S1024, .f32⟩
  | 81 => ⟨S8192x2816, .f32⟩
  | 82 => ⟨S8192x2816, .f32⟩
  | 83 => ⟨S8192x2816, .f32⟩
  | 84 => ⟨S8192x2816, .f32⟩
  | 85 => ⟨S8192x2816, .f32⟩
  | 86 => ⟨S8192x2816, .f32⟩
  | 87 => ⟨S8192x2816, .f32⟩
  | 88 => ⟨S8192x5632, .f32⟩
  | 89 => ⟨S8192x1024, .f32⟩
  | 90 => ⟨S_, .f32⟩
  | 91 => ⟨S1024, .f32⟩
  | 92 => ⟨S1x1024, .f32⟩
  | 93 => ⟨S_, .f32⟩
  | 94 => ⟨S1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S_, .f32⟩
  | 102 => ⟨S1024, .f32⟩
  | 103 => ⟨S8192x1024, .f32⟩
  | 104 => ⟨S_, .f32⟩
  | 105 => ⟨S1024, .f32⟩
  | 106 => ⟨S1x1024, .f32⟩
  | 107 => ⟨S8192x1024, .f32⟩
  | 108 => ⟨S8192x1024, .f32⟩
  | 109 => ⟨S_, .f32⟩
  | 110 => ⟨S1024, .f32⟩
  | 111 => ⟨S8192x1024, .f32⟩
  | 112 => ⟨S_, .f32⟩
  | 113 => ⟨S8192, .f32⟩
  | 114 => ⟨S8192x1, .f32⟩
  | 115 => ⟨S8192x1024, .f32⟩
  | 116 => ⟨S8192x1024, .f32⟩
  | 117 => ⟨S8192x1024, .f32⟩
  | 118 => ⟨S8192x1, .f32⟩
  | 119 => ⟨S_, .f32⟩
  | 120 => ⟨S8192x1, .f32⟩
  | 121 => ⟨S8192x1, .f32⟩
  | 122 => ⟨S_, .f32⟩
  | 123 => ⟨S8192, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S1x1024, .f32⟩
  | 2 => ⟨S1x1024, .f32⟩
  | 3 => ⟨S1x1024, .f32⟩
  | 4 => ⟨S1x1024, .f32⟩
  | 5 => ⟨S4x1024, .f32⟩
  | 6 => ⟨S1x8192x2816, .f32⟩
  | 7 => ⟨S1x8192x2816, .f32⟩
  | 8 => ⟨S2x8192x2816, .f32⟩
  | 9 => ⟨S2x8192x2816, .bf16⟩
  | 10 => ⟨S8192x1024, .bf16⟩
  | 11 => ⟨S_, .f32⟩
  | 12 => ⟨S4x1024, .f32⟩
  | 13 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v30_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v30_1 : Ref sig .tc := ⟨.hbm, 56, rfl⟩
abbrev main_v30_0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_10 : Ref sig .tc := ⟨.hbm, 90, rfl⟩
abbrev main_v56 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_cst_12 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_v65 : Ref sig .tc := ⟨.hbm, 103, rfl⟩
abbrev main_cst_14 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_cst_16 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_17 : Ref sig .tc := ⟨.hbm, 119, rfl⟩
abbrev main_v78 : Ref sig .tc := ⟨.hbm, 120, rfl⟩
abbrev main_v79 : Ref sig .tc := ⟨.hbm, 121, rfl⟩
abbrev main_cst_18 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_19 : Ref sig .tc := ⟨.hbm, 139, rfl⟩
abbrev main_v96 : Ref sig .tc := ⟨.hbm, 140, rfl⟩
abbrev main_v97 : Ref sig .tc := ⟨.hbm, 141, rfl⟩

abbrev nD : Nat := 1
abbrev τ : Topo := Topo.v7x

variable {F : FTy → Type} [FloatOps F]
-- ==== Kernel2in.lean ====
abbrev S8192x1024 : Shape := ⟨2, ![8192, 1024]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S2x2816x1024 : Shape := ⟨3, ![2, 2816, 1024]⟩
abbrev S1x2048x1408 : Shape := ⟨3, ![1, 2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S2048x1408 : Shape := ⟨2, ![2048, 1408]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S1x8192x2816, .f32⟩
  | .hbm, ⟨4, _⟩ => ⟨S1x8192x2816, .f32⟩
  | .hbm, ⟨5, _⟩ => ⟨S2x8192x2816, .f32⟩
  | .hbm, ⟨6, _⟩ => ⟨S2x8192x2816, .bf16⟩
  | .hbm, ⟨7, _⟩ => ⟨S8192x1024, .bf16⟩
  | .hbm, ⟨8, _⟩ => ⟨S2x2816x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2inIdeal.lean ====
abbrev S8192x1024 : Shape := ⟨2, ![8192, 1024]⟩
abbrev S8192x2816 : Shape := ⟨2, ![8192, 2816]⟩
abbrev S_ : Shape := ⟨0, ![]⟩
abbrev S1024x5632 : Shape := ⟨2, ![1024, 5632]⟩
abbrev S8192x5632 : Shape := ⟨2, ![8192, 5632]⟩
abbrev S5632x1024 : Shape := ⟨2, ![5632, 1024]⟩
abbrev S2x2816x1024 : Shape := ⟨3, ![2, 2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S_, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S2x2816x1024, .f32⟩
  | .hbm, ⟨13, _⟩ => ⟨S2x2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernelin.lean ====
abbrev S8192x1024 : Shape := ⟨2, ![8192, 1024]⟩
abbrev S8192x4608 : Shape := ⟨2, ![8192, 4608]⟩
abbrev S4608x1024 : Shape := ⟨2, ![4608, 1024]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4608, .f32⟩
  | .hbm, ⟨2, _⟩ => ⟨S8192x4608, .bf16⟩
  | .hbm, ⟨3, _⟩ => ⟨S8192x1024, .bf16⟩
  | .hbm, ⟨4, _⟩ => ⟨S4608x1024, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceinIdeal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4608, .f32⟩
  | .hbm, ⟨2, _⟩ => ⟨S_, .f32⟩
  | .hbm, ⟨3, _⟩ => ⟨S1024x4608, .f32⟩
  | .hbm, ⟨4, _⟩ => ⟨S8192x4608, .f32⟩
  | .hbm, ⟨5, _⟩ => ⟨S4608x1024, .f32⟩
  | .hbm, ⟨6, _⟩ => ⟨S1024x4608, .f32⟩
  | .hbm, ⟨7, _⟩ => ⟨S4608x1024, .f32⟩
  | .hbm, ⟨8, _⟩ => ⟨S4608x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernelbranch.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== ReferencebranchIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel2out.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference2outIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernelout.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== ReferenceoutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernelfwd.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S5632x1024 : Shape := ⟨2, ![5632, 1024]⟩
abbrev S2x2816x1024 : Shape := ⟨3, ![2, 2816, 1024]⟩
abbrev S2x8192x2816 : Shape := ⟨3, ![2, 8192, 2816]⟩
abbrev S8192x2816 : Shape := ⟨2, ![8192, 2816]⟩
abbrev S256x1024 : Shape := ⟨2, ![256, 1024]⟩
abbrev S2x256x2816 : Shape := ⟨3, ![2, 256, 2816]⟩
abbrev S256x2816 : Shape := ⟨2, ![256, 2816]⟩
abbrev S2 : Shape := ⟨1, ![2]⟩
abbrev S1 : Shape := ⟨1, ![1]⟩
abbrev S256 : Shape := ⟨1, ![256]⟩
abbrev S256x1 : Shape := ⟨2, ![256, 1]⟩
abbrev S1x2816x1024 : Shape := ⟨3, ![1, 2816, 1024]⟩
abbrev S1x256x2816 : Shape := ⟨3, ![1, 256, 2816]⟩

abbrev nBuf : Space → Nat
  | .hbm => 23
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S4x1024, .f32⟩
  | .hbm, ⟨13, _⟩ => ⟨S8x1024, .f32⟩
  | .hbm, ⟨14, _⟩ => ⟨S5632x1024, .f32⟩
  | .hbm, ⟨15, _⟩ => ⟨S5632x1024, .bf16⟩
  | .hbm, ⟨16, _⟩ => ⟨S2x2816x1024, .bf16⟩
  | .hbm, ⟨17, _⟩ => ⟨S2816x1024, .bf16⟩
  | .hbm, ⟨18, _⟩ => ⟨S8192x1024, .f32⟩
  | .hbm, ⟨19, _⟩ => ⟨S8192x1024, .bf16⟩
  | .hbm, ⟨20, _⟩ => ⟨S2x8192x2816, .bf16⟩
  | .hbm, ⟨21, _⟩ => ⟨S8192x2816, .bf16⟩
  | .hbm, ⟨22, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S2x256x2816, .bf16⟩
  | .local _ .vmem, ⟨8, _⟩ => ⟨S2x256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x1024, .bf16⟩
  | .local _ .vmem, ⟨12, _⟩ => ⟨S256x1024, .bf16⟩
  | .local _ .vmem, ⟨13, _⟩ => ⟨S2x2816x1024, .bf16⟩
  | .local _ .vmem, ⟨14, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferencefwdIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x8192x2816, .f32⟩
  | .hbm, ⟨55, _⟩ => ⟨S1x8192x2816, .f32⟩
  | .hbm, ⟨56, _⟩ => ⟨S2x8192x2816, .f32⟩
  | .hbm, ⟨57, _⟩ => ⟨S2x8192x2816, .bf16⟩
  | .hbm, ⟨58, _⟩ => ⟨S8192x2816, .bf16⟩
  | .hbm, ⟨59, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernellast.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S7x1024 : Shape := ⟨2, ![7, 1024]⟩
abbrev S5632x1024 : Shape := ⟨2, ![5632, 1024]⟩
abbrev S2x2816x1024 : Shape := ⟨3, ![2, 2816, 1024]⟩
abbrev S2x8192x2816 : Shape := ⟨3, ![2, 8192, 2816]⟩
abbrev S8192x2816 : Shape := ⟨2, ![8192, 2816]⟩
abbrev S8x128 : Shape := ⟨2, ![8, 128]⟩
abbrev S256x1024 : Shape := ⟨2, ![256, 1024]⟩
abbrev S2x256x2816 : Shape := ⟨3, ![2, 256, 2816]⟩
abbrev S256x2816 : Shape := ⟨2, ![256, 2816]⟩
abbrev S2 : Shape := ⟨1, ![2]⟩
abbrev S1 : Shape := ⟨1, ![1]⟩
abbrev S256 : Shape := ⟨1, ![256]⟩
abbrev S256x1 : Shape := ⟨2, ![256, 1]⟩
abbrev S1x2816x1024 : Shape := ⟨3, ![1, 2816, 1024]⟩
abbrev S1x256x2816 : Shape := ⟨3, ![1, 256, 2816]⟩
abbrev S1x256x1 : Shape := ⟨3, ![1, 256, 1]⟩
abbrev S1x1x1 : Shape := ⟨3, ![1, 1, 1]⟩

abbrev nBuf : Space → Nat
  | .hbm => 31
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S4x1024, .f32⟩
  | .hbm, ⟨15, _⟩ => ⟨S8x1024, .f32⟩
  | .hbm, ⟨16, _⟩ => ⟨S1x1024, .f32⟩
  | .hbm, ⟨17, _⟩ => ⟨S_, .f32⟩
  | .hbm, ⟨18, _⟩ => ⟨S7x1024, .f32⟩
  | .hbm, ⟨19, _⟩ => ⟨S8x1024, .f32⟩
  | .hbm, ⟨20, _⟩ => ⟨S5632x1024, .f32⟩
  | .hbm, ⟨21, _⟩ => ⟨S5632x1024, .bf16⟩
  | .hbm, ⟨22, _⟩ => ⟨S2x2816x1024, .bf16⟩
  | .hbm, ⟨23, _⟩ => ⟨S2816x1024, .bf16⟩
  | .hbm, ⟨24, _⟩ => ⟨S8192x1024, .f32⟩
  | .hbm, ⟨25, _⟩ => ⟨S8192x1024, .bf16⟩
  | .hbm, ⟨26, _⟩ => ⟨S2x8192x2816, .bf16⟩
  | .hbm, ⟨27, _⟩ => ⟨S8192x2816, .bf16⟩
  | .hbm, ⟨28, _⟩ => ⟨S8192x1024, .bf16⟩
  | .hbm, ⟨29, _⟩ => ⟨S8x128, .f32⟩
  | .hbm, ⟨30, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S256x1024, .f32⟩
  | .local _ .vmem, ⟨4, _⟩ => ⟨S256x1024, .f32⟩
  | .local _ .vmem, ⟨5, _⟩ => ⟨S8x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S2x256x2816, .bf16⟩
  | .local _ .vmem, ⟨11, _⟩ => ⟨S2x256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .bf16⟩
  | .local _ .vmem, ⟨15, _⟩ => ⟨S256x1024, .bf16⟩
  | .local _ .vmem, ⟨16, _⟩ => ⟨S8x128, .f32⟩
  | .local _ .vmem, ⟨17, _⟩ => ⟨S8x1024, .f32⟩
  | .local _ .vmem, ⟨18, _⟩ => ⟨S2x2816x1024, .bf16⟩
  | .local _ .vmem, ⟨19, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev main_v13_5 : Ref sig .tc := ⟨.hbm, 29, rfl⟩
abbrev main_v13_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferencelastIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 135
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024x5632, .f32⟩
  | 6 => ⟨S2816x1024, .f32⟩
  | 7 => ⟨S1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S_, .f32⟩
  | 26 => ⟨S1024, .f32⟩
  | 27 => ⟨S1024, .f32⟩
  | 28 => ⟨S1x1024, .f32⟩
  | 29 => ⟨S8192x1024, .f32⟩
  | 30 => ⟨S8192x1024, .f32⟩
  | 31 => ⟨S1x1024, .f32⟩
  | 32 => ⟨S8192x1024, .f32⟩
  | 33 => ⟨S8192x1024, .f32⟩
  | 34 => ⟨S8192x5632, .f32⟩
  | 35 => ⟨S8192x2816, .f32⟩
  | 36 => ⟨S8192x2816, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S8192x2816, .f32⟩
  | 46 => ⟨S8192x2816, .f32⟩
  | 47 => ⟨S8192x1024, .f32⟩
  | 48 => ⟨S_, .f32⟩
  | 49 => ⟨S1024, .f32⟩
  | 50 => ⟨S1024, .f32⟩
  | 51 => ⟨S1x1024, .f32⟩
  | 52 => ⟨S8192x1024, .f32⟩
  | 53 => ⟨S8192x1024, .f32⟩
  | 54 => ⟨S8192x1024, .f32⟩
  | 55 => ⟨S8192x1024, .bf16⟩
  | 56 => ⟨S1x8192x2816, .f32⟩
  | 57 => ⟨S1x8192x2816, .f32⟩
  | 58 => ⟨S2x8192x2816, .f32⟩
  | 59 => ⟨S2x8192x2816, .bf16⟩
  | 60 => ⟨S8192x2816, .bf16⟩
  | 61 => ⟨S8192x1024, .bf16⟩
  | 62 => ⟨S8192x1024, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x1024, .f32⟩
  | 78 => ⟨S8192x1024, .f32⟩
  | 79 => ⟨S1x1024, .f32⟩
  | 80 => ⟨S8192x1024, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192, .f32⟩
  | 89 => ⟨S_, .f32⟩
  | 90 => ⟨S8192, .f32⟩
  | 91 => ⟨S8192, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S8192, .f32⟩
  | 100 => ⟨S_, .f32⟩
  | 101 => ⟨S8192, .f32⟩
  | 102 => ⟨S8192, .f32⟩
  | 103 => ⟨S8192x1024, .f32⟩
  | 104 => ⟨S8192x1024, .f32⟩
  | 105 => ⟨S8192x1024, .f32⟩
  | 106 => ⟨S_, .f32⟩
  | 107 => ⟨S1024, .f32⟩
  | 108 => ⟨S1x1024, .f32⟩
  | 109 => ⟨S8192x1024, .f32⟩
  | 110 => ⟨S8192x1024, .f32⟩
  | 111 => ⟨S_, .f32⟩
  | 112 => ⟨S1024, .f32⟩
  | 113 => ⟨S8192x1024, .f32⟩
  | 114 => ⟨S_, .f32⟩
  | 115 => ⟨S8192, .f32⟩
  | 116 => ⟨S8192x1, .f32⟩
  | 117 => ⟨S8192x1024, .f32⟩
  | 118 => ⟨S8192x1024, .f32⟩
  | 119 => ⟨S8192x1, .f32⟩
  | 120 => ⟨S_, .f32⟩
  | 121 => ⟨S8192x1, .f32⟩
  | 122 => ⟨S8192x1, .f32⟩
  | 123 => ⟨S_, .f32⟩
  | 124 => ⟨S8192, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8x128, .f32⟩
  | 3 => ⟨S1x1024, .f32⟩
  | 4 => ⟨S_, .f32⟩
  | 5 => ⟨S7x1024, .f32⟩
  | 6 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_cst_12 : Ref sig .tc := ⟨.hbm, 94, rfl⟩
abbrev main_v64 : Ref sig .tc := ⟨.hbm, 95, rfl⟩
abbrev main_cst_13 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_cst_15 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_16 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_17 : Ref sig .tc := ⟨.hbm, 111, rfl⟩
abbrev main_v76 : Ref sig .tc := ⟨.hbm, 112, rfl⟩
abbrev main_v77 : Ref sig .tc := ⟨.hbm, 113, rfl⟩
abbrev main_cst_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_19 : Ref sig .tc := ⟨.hbm, 120, rfl⟩
abbrev main_v83 : Ref sig .tc := ⟨.hbm, 121, rfl⟩
abbrev main_v84 : Ref sig .tc := ⟨.hbm, 122, rfl⟩
abbrev main_cst_20 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_21 : Ref sig .tc := ⟨.hbm, 132, rfl⟩
abbrev main_v93 : Ref sig .tc := ⟨.hbm, 133, rfl⟩
abbrev main_v94 : Ref sig .tc := ⟨.hbm, 134, rfl⟩

abbrev nD : Nat := 1
abbrev τ : Topo := Topo.v7x

variable {F : FTy → Type} [FloatOps F]
-- ==== Kernelpool.lean ====
abbrev S8192x256 : Shape := ⟨2, ![8192, 256]⟩
abbrev S4x64x64 : Shape := ⟨3, ![4, 64, 64]⟩
abbrev S256 : Shape := ⟨1, ![256]⟩
abbrev S8192x4x64 : Shape := ⟨3, ![8192, 4, 64]⟩
abbrev S4 : Shape := ⟨1, ![4]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S4x64x8192 : Shape := ⟨3, ![4, 64, 8192]⟩
abbrev S1x4 : Shape := ⟨2, ![1, 4]⟩
abbrev S8192x4 : Shape := ⟨2, ![8192, 4]⟩
abbrev S8192x4x1 : Shape := ⟨3, ![8192, 4, 1]⟩
abbrev S1x64x64 : Shape := ⟨3, ![1, 64, 64]⟩
abbrev S64x64 : Shape := ⟨2, ![64, 64]⟩
abbrev S64x256 : Shape := ⟨2, ![64, 256]⟩
abbrev S256x256 : Shape := ⟨2, ![256, 256]⟩
abbrev S1x256 : Shape := ⟨2, ![1, 256]⟩
abbrev S8x256 : Shape := ⟨2, ![8, 256]⟩
abbrev S1024x256 : Shape := ⟨2, ![1024, 256]⟩
abbrev S16x256 : Shape := ⟨2, ![16, 256]⟩
abbrev S1040x256 : Shape := ⟨2, ![1040, 256]⟩

abbrev nBuf : Space → Nat
  | .hbm => 68
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S4x64x64, .f32⟩
  | .hbm, ⟨3, _⟩ => ⟨S256, .f32⟩
  | .hbm, ⟨4, _⟩ => ⟨S8192x4x64, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S8192, .i32⟩
  | .hbm, ⟨10, _⟩ => ⟨S8192x1, .i32⟩
  | .hbm, ⟨11, _⟩ => ⟨S8192, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i1⟩
  | .hbm, ⟨19, _⟩ => ⟨S4x1x1, .i32⟩
  | .hbm, ⟨20, _⟩ => ⟨S1x8192x8192, .i32⟩
  | .hbm, ⟨21, _⟩ => ⟨S4x8192x8192, .i32⟩
  | .hbm, ⟨22, _⟩ => ⟨S4x8192x8192, .i32⟩
  | .hbm, ⟨23, _⟩ => ⟨S4x8192x8192, .i1⟩
  | .hbm, ⟨24, _⟩ => ⟨S1x8192x8192, .i1⟩
  | .hbm, ⟨25, _⟩ => ⟨S4x8192x8192, .i1⟩
  | .hbm, ⟨26, _⟩ => ⟨S4x8192x8192, .i1⟩
  | .hbm, ⟨27, _⟩ => ⟨S4x8192x8192, .f32⟩
  | .hbm, ⟨28, _⟩ => ⟨S4x64x8192, .f32⟩
  | .hbm, ⟨29, _⟩ => ⟨S8192x4x64, .f32⟩
  | .hbm, ⟨30, _⟩ => ⟨S8192, .i32⟩
  | .hbm, ⟨31, _⟩ => ⟨S8192x1, .i32⟩
  | .hbm, ⟨32, _⟩ => ⟨S_, .i32⟩
  | .hbm, ⟨33, _⟩ => ⟨S8192x1, .i32⟩
  | .hbm, ⟨34, _⟩ => ⟨S8192x1, .i32⟩
  | .hbm, ⟨35, _⟩ => ⟨S1x4, .i32⟩
  | .hbm, ⟨36, _⟩ => ⟨S8192x4, .i32⟩
  | .hbm, ⟨37, _⟩ => ⟨S8192x4, .i32⟩
  | .hbm, ⟨38, _⟩ => ⟨S8192x4, .i32⟩
  | .hbm, ⟨39, _⟩ => ⟨S8192x4x1, .i32⟩
  | .hbm, ⟨40, _⟩ => ⟨S8192x4x1, .f32⟩
  | .hbm, ⟨41, _⟩ => ⟨S8192x4x64, .f32⟩
  | .hbm, ⟨42, _⟩ => ⟨S8192x4x64, .f32⟩
  | .hbm, ⟨43, _⟩ => ⟨S8192x4x64, .f32⟩
  | .hbm, ⟨44, _⟩ => ⟨S8192x256, .f32⟩
  | .hbm, ⟨45, _⟩ => ⟨S8192x256, .bf16⟩
  | .hbm, ⟨46, _⟩ => ⟨S1x64x64, .f32⟩
  | .hbm, ⟨47, _⟩ => ⟨S64x64, .f32⟩
  | .hbm, ⟨48, _⟩ => ⟨S1x64x64, .f32⟩
  | .hbm, ⟨49, _⟩ => ⟨S64x64, .f32⟩
  | .hbm, ⟨50, _⟩ => ⟨S1x64x64, .f32⟩
  | .hbm, ⟨51, _⟩ => ⟨S64x64, .f32⟩
  | .hbm, ⟨52, _⟩ => ⟨S1x64x64, .f32⟩
  | .hbm, ⟨53, _⟩ => ⟨S64x64, .f32⟩
  | .hbm, ⟨54, _⟩ => ⟨S_, .f32⟩
  | .hbm, ⟨55, _⟩ => ⟨S64x256, .f32⟩
  | .hbm, ⟨56, _⟩ => ⟨S_, .f32⟩
  | .hbm, ⟨57, _⟩ => ⟨S64x256, .f32⟩
  | .hbm, ⟨58, _⟩ => ⟨S_, .f32⟩
  | .hbm, ⟨59, _⟩ => ⟨S64x256, .f32⟩
  | .hbm, ⟨60, _⟩ => ⟨S_, .f32⟩
  | .hbm, ⟨61, _⟩ => ⟨S64x256, .f32⟩
  | .hbm, ⟨62, _⟩ => ⟨S256x256, .f32⟩
  | .hbm, ⟨63, _⟩ => ⟨S256x256, .bf16⟩
  | .hbm, ⟨64, _⟩ => ⟨S1x256, .f32⟩
  | .hbm, ⟨65, _⟩ => ⟨S8192x256, .f32⟩
  | .hbm, ⟨66, _⟩ => ⟨S256x256, .f32⟩
  | .hbm, ⟨67, _⟩ => ⟨S8x256, .f32⟩
  | .local _ .vmem, ⟨0, _⟩ => ⟨S1024x256, .f32⟩
  | .local _ .vmem, ⟨1, _⟩ => ⟨S1024x256, .f32⟩
  | .local _ .vmem, ⟨2, _⟩ => ⟨S16x256, .f32⟩
  | .local _ .vmem, ⟨3, _⟩ => ⟨S16x256, .f32⟩
  | .local _ .vmem, ⟨4, _⟩ => ⟨S1024x256, .bf16⟩
  | .local _ .vmem, ⟨5, _⟩ => ⟨S1024x256, .bf16⟩
  | .local _ .vmem, ⟨6, _⟩ => ⟨S256x256, .bf16⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S256x256, .f32⟩
  | .local _ .vmem, ⟨11, _⟩ => ⟨S8x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_call0_cst : Ref sig .tc := ⟨.hbm, 54, rfl⟩
abbrev main_call0_v4 : Ref sig .tc := ⟨.hbm, 55, rfl⟩
abbrev main_call0_cst_0 : Ref sig .tc := ⟨.hbm, 56, rfl⟩
abbrev main_call0_v5 : Ref sig .tc := ⟨.hbm, 57, rfl⟩
abbrev main_call0_cst_1 : Ref sig .tc := ⟨.hbm, 58, rfl⟩
abbrev main_call0_v6 : Ref sig .tc := ⟨.hbm, 59, rfl⟩
abbrev main_call0_cst_2 : Ref sig .tc := ⟨.hbm, 60, rfl⟩
abbrev main_call0_v7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50_0 : Ref sig .tc := ⟨.hbm, 65, rfl⟩
abbrev main_v50_1 : Ref sig .tc := ⟨.hbm, 66, rfl⟩
abbrev main_v50_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferencepoolIdeal.lean ====
abbrev S8192x256 : Shape := ⟨2, ![8192, 256]⟩
abbrev S4x64x64 : Shape := ⟨3, ![4, 64, 64]⟩
abbrev S256 : Shape := ⟨1, ![256]⟩
abbrev S_ : Shape := ⟨0, ![]⟩
abbrev S256x256 : Shape := ⟨2, ![256, 256]⟩
abbrev S8192x4x64 : Shape := ⟨3, ![8192, 4, 64]⟩
abbrev S4 : Shape := ⟨1, ![4]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S4x64x8192 : Shape := ⟨3, ![4, 64, 8192]⟩
abbrev S1x4 : Shape := ⟨2, ![1, 4]⟩
abbrev S8192x4 : Shape := ⟨2, ![8192, 4]⟩
abbrev S8192x4x1 : Shape := ⟨3, ![8192, 4, 1]⟩
abbrev S1x256 : Shape := ⟨2, ![1, 256]⟩
abbrev S4x8192x64 : Shape := ⟨3, ![4, 8192, 64]⟩
abbrev S7x256 : Shape := ⟨2, ![7, 256]⟩
abbrev S8x256 : Shape := ⟨2, ![8, 256]⟩

abbrev nBuf : Space → Nat
  | .hbm => 84
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S4x64x64, .f32⟩
  | .hbm, ⟨3, _⟩ => ⟨S256, .f32⟩
  | .hbm, ⟨4, _⟩ => ⟨S_, .f32⟩
  | .hbm, ⟨5, _⟩ => ⟨S256x256, .f32⟩
  | .hbm, ⟨6, _⟩ => ⟨S8192x4x64, .f32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S8192, .i32⟩
  | .hbm, ⟨12, _⟩ => ⟨S8192x1, .i32⟩
  | .hbm, ⟨13, _⟩ => ⟨S8192, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i1⟩
  | .hbm, ⟨21, _⟩ => ⟨S4x1x1, .i32⟩
  | .hbm, ⟨22, _⟩ => ⟨S1x8192x8192, .i32⟩
  | .hbm, ⟨23, _⟩ => ⟨S4x8192x8192, .i32⟩
  | .hbm, ⟨24, _⟩ => ⟨S4x8192x8192, .i32⟩
  | .hbm, ⟨25, _⟩ => ⟨S4x8192x8192, .i1⟩
  | .hbm, ⟨26, _⟩ => ⟨S1x8192x8192, .i1⟩
  | .hbm, ⟨27, _⟩ => ⟨S4x8192x8192, .i1⟩
  | .hbm, ⟨28, _⟩ => ⟨S4x8192x8192, .i1⟩
  | .hbm, ⟨29, _⟩ => ⟨S4x8192x8192, .f32⟩
  | .hbm, ⟨30, _⟩ => ⟨S4x64x8192, .f32⟩
  | .hbm, ⟨31, _⟩ => ⟨S8192x4x64, .f32⟩
  | .hbm, ⟨32, _⟩ => ⟨S8192, .i32⟩
  | .hbm, ⟨33, _⟩ => ⟨S8192x1, .i32⟩
  | .hbm, ⟨34, _⟩ => ⟨S_, .i32⟩
  | .hbm, ⟨35, _⟩ => ⟨S8192x1, .i32⟩
  | .hbm, ⟨36, _⟩ => ⟨S8192x1, .i32⟩
  | .hbm, ⟨37, _⟩ => ⟨S1x4, .i32⟩
  | .hbm, ⟨38, _⟩ => ⟨S8192x4, .i32⟩
  | .hbm, ⟨39, _⟩ => ⟨S8192x4, .i32⟩
  | .hbm, ⟨40, _⟩ => ⟨S8192x4, .i32⟩
  | .hbm, ⟨41, _⟩ => ⟨S8192x4x1, .i32⟩
  | .hbm, ⟨42, _⟩ => ⟨S8192x4x1, .f32⟩
  | .hbm, ⟨43, _⟩ => ⟨S8192x4x64, .f32⟩
  | .hbm, ⟨44, _⟩ => ⟨S8192x4x64, .f32⟩
  | .hbm, ⟨45, _⟩ => ⟨S8192x4x64, .f32⟩
  | .hbm, ⟨46, _⟩ => ⟨S4x64x8192, .f32⟩
  | .hbm, ⟨47, _⟩ => ⟨S8192x4x64, .f32⟩
  | .hbm, ⟨48, _⟩ => ⟨S8192x256, .f32⟩
  | .hbm, ⟨49, _⟩ => ⟨S8192x256, .f32⟩
  | .hbm, ⟨50, _⟩ => ⟨S8192x256, .f32⟩
  | .hbm, ⟨51, _⟩ => ⟨S8192x256, .f32⟩
  | .hbm, ⟨52, _⟩ => ⟨S1x256, .f32⟩
  | .hbm, ⟨53, _⟩ => ⟨S8192x256, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S256, .f32⟩
  | .hbm, ⟨58, _⟩ => ⟨S1x256, .f32⟩
  | .hbm, ⟨59, _⟩ => ⟨S8192x256, .f32⟩
  | .hbm, ⟨60, _⟩ => ⟨S8192x256, .f32⟩
  | .hbm, ⟨61, _⟩ => ⟨S_, .f32⟩
  | .hbm, ⟨62, _⟩ => ⟨S256, .f32⟩
  | .hbm, ⟨63, _⟩ => ⟨S256x256, .f32⟩
  | .hbm, ⟨64, _⟩ => ⟨S256x256, .f32⟩
  | .hbm, ⟨65, _⟩ => ⟨S8192x256, .f32⟩
  | .hbm, ⟨66, _⟩ => ⟨S8192x4x64, .f32⟩
  | .hbm, ⟨67, _⟩ => ⟨S8192x4x64, .f32⟩
  | .hbm, ⟨68, _⟩ => ⟨S4x64x8192, .f32⟩
  | .hbm, ⟨69, _⟩ => ⟨S4x8192x64, .f32⟩
  | .hbm, ⟨70, _⟩ => ⟨S8192x4x64, .f32⟩
  | .hbm, ⟨71, _⟩ => ⟨S8192x4x64, .f32⟩
  | .hbm, ⟨72, _⟩ => ⟨S8192x4x64, .f32⟩
  | .hbm, ⟨73, _⟩ => ⟨S8192x4x64, .f32⟩
  | .hbm, ⟨74, _⟩ => ⟨S8192x4x64, .f32⟩
  | .hbm, ⟨75, _⟩ => ⟨S4x64x8192, .f32⟩
  | .hbm, ⟨76, _⟩ => ⟨S4x64x8192, .f32⟩
  | .hbm, ⟨77, _⟩ => ⟨S8192x4x64, .f32⟩
  | .hbm, ⟨78, _⟩ => ⟨S8192x4x64, .f32⟩
  | .hbm, ⟨79, _⟩ => ⟨S8192x256, .f32⟩
  | .hbm, ⟨80, _⟩ => ⟨S1x256, .f32⟩
  | .hbm, ⟨81, _⟩ => ⟨S_, .f32⟩
  | .hbm, ⟨82, _⟩ => ⟨S7x256, .f32⟩
  | .hbm, ⟨83, _⟩ => ⟨S8x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_2 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_3 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_4 : Ref sig .tc := ⟨.hbm, 81, rfl⟩
abbrev main_v71 : Ref sig .tc := ⟨.hbm, 82, rfl⟩
abbrev main_v72 : Ref sig .tc := ⟨.hbm, 83, rfl⟩

abbrev nD : Nat := 1
abbrev τ : Topo := Topo.v7x

variable {F : FTy → Type} [FloatOps F]
-- ==== Kernelada.lean ====
abbrev S8x1024 : Shape := ⟨2, ![8, 1024]⟩
abbrev S8x1152 : Shape := ⟨2, ![8, 1152]⟩
abbrev S1024x1152 : Shape := ⟨2, ![1024, 1152]⟩
abbrev S_ : Shape := ⟨0, ![]⟩
abbrev S1024x8 : Shape := ⟨2, ![1024, 8]⟩
abbrev S256x8 : Shape := ⟨2, ![256, 8]⟩
abbrev S256x1152 : Shape := ⟨2, ![256, 1152]⟩
abbrev S256x1 : Shape := ⟨2, ![256, 1]⟩
abbrev S1x1152 : Shape := ⟨2, ![1, 1152]⟩

abbrev nBuf : Space → Nat
  | .hbm => 19
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x8, .f32⟩
  | .hbm, ⟨15, _⟩ => ⟨S1024x1152, .f32⟩
  | .hbm, ⟨16, _⟩ => ⟨S1024x1152, .f32⟩
  | .hbm, ⟨17, _⟩ => ⟨S1024x1152, .f32⟩
  | .hbm, ⟨18, _⟩ => ⟨S1024x1152, .f32⟩
  | .local _ .vmem, ⟨0, _⟩ => ⟨S256x8, .f32⟩
  | .local _ .vmem, ⟨1, _⟩ => ⟨S256x8, .f32⟩
  | .local _ .vmem, ⟨2, _⟩ => ⟨S8x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceadaIdeal.lean ====
abbrev S8x1024 : Shape := ⟨2, ![8, 1024]⟩
abbrev S8x1152 : Shape := ⟨2, ![8, 1152]⟩
abbrev S1024x1152 : Shape := ⟨2, ![1024, 1152]⟩
abbrev S_ : Shape := ⟨0, ![]⟩
abbrev S1152x1024 : Shape := ⟨2, ![1152, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1152, .f32⟩
  | .hbm, ⟨15, _⟩ => ⟨S1152x1024, .f32⟩
  | .hbm, ⟨16, _⟩ => ⟨S1024x1152, .f32⟩
  | .hbm, ⟨17, _⟩ => ⟨S_, .f32⟩
  | .hbm, ⟨18, _⟩ => ⟨S1024x1152, .f32⟩
  | .hbm, ⟨19, _⟩ => ⟨S1024x1152, .f32⟩
  | .hbm, ⟨20, _⟩ => ⟨S_, .f32⟩
  | .hbm, ⟨21, _⟩ => ⟨S1024x1152, .f32⟩
  | .hbm, ⟨22, _⟩ => ⟨S1024x1152, .f32⟩
  | .hbm, ⟨23, _⟩ => ⟨S1024x1152, .f32⟩
  | .hbm, ⟨24, _⟩ => ⟨S_, .f32⟩
  | .hbm, ⟨25, _⟩ => ⟨S1024x1152, .f32⟩
  | .hbm, ⟨26, _⟩ => ⟨S1024x1152, .f32⟩
  | .hbm, ⟨27, _⟩ => ⟨S1024x1152, .f32⟩
  | .hbm, ⟨28, _⟩ => ⟨S_, .f32⟩
  | .hbm, ⟨29, _⟩ => ⟨S1024x1152, .f32⟩
  | .hbm, ⟨30, _⟩ => ⟨S1024x1152, .f32⟩
  | .hbm, ⟨31, _⟩ => ⟨S1024x1152, .f32⟩
  | .hbm, ⟨32, _⟩ => ⟨S_, .f32⟩
  | .hbm, ⟨33, _⟩ => ⟨S1024x1152, .f32⟩
  | .hbm, ⟨34, _⟩ => ⟨S1024x1152, .f32⟩
  | .hbm, ⟨35, _⟩ => ⟨S_, .f32⟩
  | .hbm, ⟨36, _⟩ => ⟨S1024x1152, .f32⟩
  | .hbm, ⟨37, _⟩ => ⟨S1024x1152, .f32⟩
  | .hbm, ⟨38, _⟩ => ⟨S1024x1152, .f32⟩
  | .hbm, ⟨39, _⟩ => ⟨S_, .f32⟩
  | .hbm, ⟨40, _⟩ => ⟨S1024x1152, .f32⟩
  | .hbm, ⟨41, _⟩ => ⟨S1024x1152, .f32⟩
  | .hbm, ⟨42, _⟩ => ⟨S1024x1152, .f32⟩
  | .hbm, ⟨43, _⟩ => ⟨S_, .f32⟩
  | .hbm, ⟨44, _⟩ => ⟨S1024x1152, .f32⟩
  | .hbm, ⟨45, _⟩ => ⟨S1024x1152, .f32⟩
  | .hbm, ⟨46, _⟩ => ⟨S1024x1152, .f32⟩
  | .hbm, ⟨47, _⟩ => ⟨S_, .f32⟩
  | .hbm, ⟨48, _⟩ => ⟨S1024x1152, .f32⟩
  | .hbm, ⟨49, _⟩ => ⟨S1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernelslots.lean ====
abbrev S8x248x128 : Shape := ⟨3, ![8, 248, 128]⟩
abbrev S248x128 : Shape := ⟨2, ![248, 128]⟩
abbrev S1x248x128 : Shape := ⟨3, ![1, 248, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x248x128, .f32⟩
  | .hbm, ⟨1, _⟩ => ⟨S248x128, .f32⟩
  | .local _ .vmem, ⟨0, _⟩ => ⟨S8x248x128, .f32⟩
  | .local _ .vmem, ⟨1, _⟩ => ⟨S248x128, .f32⟩
  | _, _ => ⟨S8x248x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceslotsIdeal.lean ====
abbrev S8x248x128 : Shape := ⟨3, ![8, 248, 128]⟩
abbrev S_ : Shape := ⟨0, ![]⟩
abbrev S248x128 : Shape := ⟨2, ![248, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x248x128, .f32⟩
  | .hbm, ⟨1, _⟩ => ⟨S_, .f32⟩
  | .hbm, ⟨2, _⟩ => ⟨S248x128, .f32⟩
  | _, _ => ⟨S8x248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernelmod.lean ====
abbrev S8x1024 : Shape := ⟨2, ![8, 1024]⟩
abbrev S1024x1152 : Shape := ⟨2, ![1024, 1152]⟩
abbrev S1x1152 : Shape := ⟨2, ![1, 1152]⟩
abbrev S8x1152 : Shape := ⟨2, ![8, 1152]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1x1152, .f32⟩
  | .hbm, ⟨3, _⟩ => ⟨S8x1024, .f32⟩
  | .hbm, ⟨4, _⟩ => ⟨S8x1152, .f32⟩
  | .local _ .vmem, ⟨0, _⟩ => ⟨S8x1024, .f32⟩
  | .local _ .vmem, ⟨1, _⟩ => ⟨S1024x1152, .f32⟩
  | .local _ .vmem, ⟨2, _⟩ => ⟨S1x1152, .f32⟩
  | .local _ .vmem, ⟨3, _⟩ => ⟨S8x1024, .f32⟩
  | .local _ .vmem, ⟨4, _⟩ => ⟨S8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferencemodIdeal.lean ====
abbrev S8x1024 : Shape := ⟨2, ![8, 1024]⟩
abbrev S1024x1152 : Shape := ⟨2, ![1024, 1152]⟩
abbrev S1x1152 : Shape := ⟨2, ![1, 1152]⟩
abbrev S_ : Shape := ⟨0, ![]⟩
abbrev S8x1152 : Shape := ⟨2, ![8, 1152]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1x1152, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1152, .f32⟩
  | .hbm, ⟨13, _⟩ => ⟨S8x1152, .f32⟩
  | .hbm, ⟨14, _⟩ => ⟨S8x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernelpoolfwd.lean ====
abbrev S8192x256 : Shape := ⟨2, ![8192, 256]⟩
abbrev S4x64x64 : Shape := ⟨3, ![4, 64, 64]⟩
abbrev S256 : Shape := ⟨1, ![256]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S1x256 : Shape := ⟨2, ![1, 256]⟩
abbrev S1024x256 : Shape := ⟨2, ![1024, 256]⟩
abbrev S16x256 : Shape := ⟨2, ![16, 256]⟩
abbrev S1040x256 : Shape := ⟨2, ![1040, 256]⟩

abbrev nBuf : Space → Nat
  | .hbm => 24
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S4x64x64, .f32⟩
  | .hbm, ⟨2, _⟩ => ⟨S256, .f32⟩
  | .hbm, ⟨3, _⟩ => ⟨S1x64x64, .f32⟩
  | .hbm, ⟨4, _⟩ => ⟨S64x64, .f32⟩
  | .hbm, ⟨5, _⟩ => ⟨S1x64x64, .f32⟩
  | .hbm, ⟨6, _⟩ => ⟨S64x64, .f32⟩
  | .hbm, ⟨7, _⟩ => ⟨S1x64x64, .f32⟩
  | .hbm, ⟨8, _⟩ => ⟨S64x64, .f32⟩
  | .hbm, ⟨9, _⟩ => ⟨S1x64x64, .f32⟩
  | .hbm, ⟨10, _⟩ => ⟨S64x64, .f32⟩
  | .hbm, ⟨11, _⟩ => ⟨S_, .f32⟩
  | .hbm, ⟨12, _⟩ => ⟨S64x256, .f32⟩
  | .hbm, ⟨13, _⟩ => ⟨S_, .f32⟩
  | .hbm, ⟨14, _⟩ => ⟨S64x256, .f32⟩
  | .hbm, ⟨15, _⟩ => ⟨S_, .f32⟩
  | .hbm, ⟨16, _⟩ => ⟨S64x256, .f32⟩
  | .hbm, ⟨17, _⟩ => ⟨S_, .f32⟩
  | .hbm, ⟨18, _⟩ => ⟨S64x256, .f32⟩
  | .hbm, ⟨19, _⟩ => ⟨S256x256, .f32⟩
  | .hbm, ⟨20, _⟩ => ⟨S256x256, .bf16⟩
  | .hbm, ⟨21, _⟩ => ⟨S1x256, .f32⟩
  | .hbm, ⟨22, _⟩ => ⟨S8192x256, .bf16⟩
  | .hbm, ⟨23, _⟩ => ⟨S8192x256, .bf16⟩
  | .local _ .vmem, ⟨0, _⟩ => ⟨S1024x256, .f32⟩
  | .local _ .vmem, ⟨1, _⟩ => ⟨S1024x256, .f32⟩
  | .local _ .vmem, ⟨2, _⟩ => ⟨S16x256, .f32⟩
  | .local _ .vmem, ⟨3, _⟩ => ⟨S16x256, .f32⟩
  | .local _ .vmem, ⟨4, _⟩ => ⟨S256x256, .bf16⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_cst_1 : Ref sig .tc := ⟨.hbm, 15, rfl⟩
abbrev main_call0_v6 : Ref sig .tc := ⟨.hbm, 16, rfl⟩
abbrev main_call0_cst_2 : Ref sig .tc := ⟨.hbm, 17, rfl⟩
abbrev main_call0_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencepoolfwdIdeal.lean ====
abbrev S8192x256 : Shape := ⟨2, ![8192, 256]⟩
abbrev S4x64x64 : Shape := ⟨3, ![4, 64, 64]⟩
abbrev S256 : Shape := ⟨1, ![256]⟩
abbrev S8192x4x64 : Shape := ⟨3, ![8192, 4, 64]⟩
abbrev S4 : Shape := ⟨1, ![4]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S4x64x8192 : Shape := ⟨3, ![4, 64, 8192]⟩
abbrev S1x4 : Shape := ⟨2, ![1, 4]⟩
abbrev S8192x4 : Shape := ⟨2, ![8192, 4]⟩
abbrev S8192x4x1 : Shape := ⟨3, ![8192, 4, 1]⟩
abbrev S1x256 : Shape := ⟨2, ![1, 256]⟩

abbrev nBuf : Space → Nat
  | .hbm => 52
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4x64x64, .f32⟩
  | .hbm, ⟨2, _⟩ => ⟨S256, .f32⟩
  | .hbm, ⟨3, _⟩ => ⟨S8192x4x64, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S8192, .i32⟩
  | .hbm, ⟨9, _⟩ => ⟨S8192x1, .i32⟩
  | .hbm, ⟨10, _⟩ => ⟨S8192, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i1⟩
  | .hbm, ⟨18, _⟩ => ⟨S4x1x1, .i32⟩
  | .hbm, ⟨19, _⟩ => ⟨S1x8192x8192, .i32⟩
  | .hbm, ⟨20, _⟩ => ⟨S4x8192x8192, .i32⟩
  | .hbm, ⟨21, _⟩ => ⟨S4x8192x8192, .i32⟩
  | .hbm, ⟨22, _⟩ => ⟨S4x8192x8192, .i1⟩
  | .hbm, ⟨23, _⟩ => ⟨S1x8192x8192, .i1⟩
  | .hbm, ⟨24, _⟩ => ⟨S4x8192x8192, .i1⟩
  | .hbm, ⟨25, _⟩ => ⟨S4x8192x8192, .i1⟩
  | .hbm, ⟨26, _⟩ => ⟨S4x8192x8192, .f32⟩
  | .hbm, ⟨27, _⟩ => ⟨S4x64x8192, .f32⟩
  | .hbm, ⟨28, _⟩ => ⟨S8192x4x64, .f32⟩
  | .hbm, ⟨29, _⟩ => ⟨S8192, .i32⟩
  | .hbm, ⟨30, _⟩ => ⟨S8192x1, .i32⟩
  | .hbm, ⟨31, _⟩ => ⟨S_, .i32⟩
  | .hbm, ⟨32, _⟩ => ⟨S8192x1, .i32⟩
  | .hbm, ⟨33, _⟩ => ⟨S8192x1, .i32⟩
  | .hbm, ⟨34, _⟩ => ⟨S1x4, .i32⟩
  | .hbm, ⟨35, _⟩ => ⟨S8192x4, .i32⟩
  | .hbm, ⟨36, _⟩ => ⟨S8192x4, .i32⟩
  | .hbm, ⟨37, _⟩ => ⟨S8192x4, .i32⟩
  | .hbm, ⟨38, _⟩ => ⟨S8192x4x1, .i32⟩
  | .hbm, ⟨39, _⟩ => ⟨S8192x4x1, .f32⟩
  | .hbm, ⟨40, _⟩ => ⟨S8192x4x64, .f32⟩
  | .hbm, ⟨41, _⟩ => ⟨S8192x4x64, .f32⟩
  | .hbm, ⟨42, _⟩ => ⟨S8192x4x64, .f32⟩
  | .hbm, ⟨43, _⟩ => ⟨S4x64x8192, .f32⟩
  | .hbm, ⟨44, _⟩ => ⟨S8192x4x64, .f32⟩
  | .hbm, ⟨45, _⟩ => ⟨S8192x256, .f32⟩
  | .hbm, ⟨46, _⟩ => ⟨S8192x256, .bf16⟩
  | .hbm, ⟨47, _⟩ => ⟨S8192x256, .f32⟩
  | .hbm, ⟨48, _⟩ => ⟨S1x256, .f32⟩
  | .hbm, ⟨49, _⟩ => ⟨S8192x256, .f32⟩
  | .hbm, ⟨50, _⟩ => ⟨S8192x256, .f32⟩
  | .hbm, ⟨51, _⟩ => ⟨S8192x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩

abbrev nD : Nat := 1
abbrev τ : Topo := Topo.v7x

variable {F : FTy → Type} [FloatOps F]
-- ==== Proof.Math.lean ====
/- The mathematics of the feed-forward sublayer's backward step, over the real numbers, and the few facts of the extended
   reals by which a program's values at finite arguments are those real numbers. -/
module

public import Idealize.ShloMosaic.PureOps.Ideal.Laws
public import Idealize.ShloMosaic.Lib.Pointwise

@[expose] public section

noncomputable section

namespace Cert.Ffn

open Idealize.ShloMosaic

/-- The small number added to the mean of squares: the rational that the f32 word of `1e-6` is. -/
def eps : ℝ := 8796093 / 8796093022208

theorem eps_pos : 0 < eps := by unfold eps; norm_num

/-- The arguments, as real arrays: the gradient `dh` of the sublayer's output, its input `h`, the norm's gain `g`, the
    shift `sh`, scale `sc` and gate `gt` of the modulation, and the two weights. -/
structure Args where
  dh : Fin 8192 → Fin 1024 → ℝ
  h : Fin 8192 → Fin 1024 → ℝ
  g : Fin 1024 → ℝ
  sh : Fin 1024 → ℝ
  sc : Fin 1024 → ℝ
  gt : Fin 1024 → ℝ
  w : Fin 1024 → Fin 5632 → ℝ
  v : Fin 2816 → Fin 1024 → ℝ

/-- The first and the second half of the up-projection's columns. -/
def lo (n : Fin 2816) : Fin 5632 := ⟨n.val, by omega⟩
def hi (n : Fin 2816) : Fin 5632 := ⟨2816 + n.val, by omega⟩

namespace Args

variable (A : Args)

/-- Mean of squares of row `t` plus `eps`, and the reciprocal root. -/
def ms (t : Fin 8192) : ℝ := (∑ k, A.h t k * A.h t k) / 1024 + eps
def r (t : Fin 8192) : ℝ := (√(A.ms t))⁻¹
/-- The normalised row, with the gain, and modulated. -/
def xn (t : Fin 8192) (k : Fin 1024) : ℝ := A.h t k * A.r t
def y (t : Fin 8192) (k : Fin 1024) : ℝ := A.xn t k * A.g k
def u (t : Fin 8192) (k : Fin 1024) : ℝ := A.y t k * (1 + A.sc k) + A.sh k
/-- The up-projection, its two halves, the gate's sigmoid, and the block's output. -/
def p (t : Fin 8192) (n : Fin 5632) : ℝ := ∑ k, A.u t k * A.w k n
def a (t : Fin 8192) (n : Fin 2816) : ℝ := A.p t (lo n)
def b (t : Fin 8192) (n : Fin 2816) : ℝ := A.p t (hi n)
def sg (t : Fin 8192) (n : Fin 2816) : ℝ := (1 + Real.exp (-A.a t n))⁻¹
def f (t : Fin 8192) (j : Fin 1024) : ℝ := ∑ n, A.a t n * A.sg t n * A.b t n * A.v n j
/-- The gradients: at the block's output, at the activation, at the two halves, at the modulated row. -/
def df (t : Fin 8192) (j : Fin 1024) : ℝ := 1 / 2 * A.gt j * A.dh t j
def dact (t : Fin 8192) (n : Fin 2816) : ℝ := ∑ j, A.df t j * A.v n j
def da (t : Fin 8192) (n : Fin 2816) : ℝ := A.dact t n * A.b t n * (A.sg t n * (1 + A.a t n * (1 - A.sg t n)))
def db (t : Fin 8192) (n : Fin 2816) : ℝ := A.dact t n * (A.a t n * A.sg t n)
def du (t : Fin 8192) (k : Fin 1024) : ℝ := ∑ n, A.da t n * A.w k (lo n) + ∑ n, A.db t n * A.w k (hi n)
def dy (t : Fin 8192) (k : Fin 1024) : ℝ := A.du t k * (1 + A.sc k)
def dxn (t : Fin 8192) (k : Fin 1024) : ℝ := A.dy t k * A.g k
/-- The gradient at the sublayer's input: through the norm, and the residual. -/
def dx (t : Fin 8192) (k : Fin 1024) : ℝ := A.r t * (A.dxn t k - A.xn t k * ((∑ q, A.dxn t q * A.xn t q) / 1024))
def dhp (t : Fin 8192) (k : Fin 1024) : ℝ := A.dh t k + A.dx t k
/-- The gradients of shift, scale, gate and gain: sums over the rows. -/
def dsh (k : Fin 1024) : ℝ := ∑ t, A.du t k
def dsc (k : Fin 1024) : ℝ := ∑ t, A.du t k * A.y t k
def dgt (k : Fin 1024) : ℝ := ∑ t, 1 / 2 * A.f t k * A.dh t k
def dg (k : Fin 1024) : ℝ := ∑ t, A.dy t k * A.xn t k

/-- Row `i` of the eight rows the four of them are written to. -/
def red (i : Fin 8) (k : Fin 1024) : ℝ :=
  if i.val = 0 then A.dsh k else if i.val = 1 then A.dsc k else if i.val = 2 then A.dgt k else if i.val = 3 then A.dg k else 0

theorem ms_pos (t : Fin 8192) : 0 < A.ms t := by
  unfold ms
  have h : 0 ≤ ∑ k, A.h t k * A.h t k := Finset.sum_nonneg fun k _ => mul_self_nonneg _
  have := eps_pos
  positivity

theorem r_sq (t : Fin 8192) : A.r t / A.ms t = A.r t * (A.r t * A.r t) := by
  have h := A.ms_pos t
  have hs : √(A.ms t) * √(A.ms t) = A.ms t := Real.mul_self_sqrt h.le
  have hr : √(A.ms t) ≠ 0 := (Real.sqrt_pos.mpr h).ne'
  unfold r
  rw [← mul_inv, hs, div_eq_mul_inv]

/-- The gradient through the norm, as differentiating its two factors apart gives it. -/
theorem dhp_eq (t : Fin 8192) (k : Fin 1024) :
    A.dh t k + A.dxn t k * A.r t + A.h t k * ((∑ q, A.h t q * A.dxn t q) * (-(1 / 2) * (A.r t / A.ms t)) / 1024)
      + (∑ q, A.h t q * A.dxn t q) * (-(1 / 2) * (A.r t / A.ms t)) / 1024 * A.h t k = A.dhp t k := by
  have e : ∑ q, A.dxn t q * A.xn t q = (∑ q, A.h t q * A.dxn t q) * A.r t := by
    rw [Finset.sum_mul]
    exact Finset.sum_congr rfl fun q _ => by unfold xn; ring
  unfold dhp dx
  rw [e, A.r_sq]
  unfold xn
  ring

end Args

/-- An array of extended reals with the given real entries: a matrix, a vector. -/
def mat (n0 n1 : ℕ) (f : Fin n0 → Fin n1 → ℝ) : (⟨2, ![n0, n1]⟩ : Shape).Idx → EReal := fun i => ((f (i 0) (i 1) : ℝ) : EReal)
def vec (n0 : ℕ) (f : Fin n0 → ℝ) : (⟨1, ![n0]⟩ : Shape).Idx → EReal := fun i => ((f (i 0) : ℝ) : EReal)

/-! Words and operations at finite values. -/

theorem w1024 : Ideal.ofBits .f32 0x44800000#32 = ((1024 : ℝ) : EReal) := by
  simp [Ideal.ofBits, Ideal.ieee, -EReal.coe_mul]; norm_num
theorem weps : Ideal.ofBits .f32 0x358637BD#32 = ((eps : ℝ) : EReal) := by
  simp [Ideal.ofBits, Ideal.ieee, -EReal.coe_mul, eps]; norm_num
theorem whalf : Ideal.ofBits .f32 0x3F000000#32 = ((1 / 2 : ℝ) : EReal) := by
  simp [Ideal.ofBits, Ideal.ieee, -EReal.coe_mul]; norm_num
theorem wneghalf : Ideal.ofBits .f32 0xBF000000#32 = ((-(1 / 2) : ℝ) : EReal) := by
  simp [Ideal.ofBits, Ideal.ieee, -EReal.coe_mul]; norm_num
theorem wone : Ideal.ofBits .f32 0x3F800000#32 = ((1 : ℝ) : EReal) := by
  simp [Ideal.ofBits, Ideal.ieee, -EReal.coe_mul]; norm_num
theorem wzero : Ideal.ofBits .f32 0x00000000#32 = ((0 : ℝ) : EReal) := by
  simp [Ideal.ofBits, Ideal.ieee, -EReal.coe_mul]

theorem rsqrt_pos {x : ℝ} (h : 0 < x) : Ideal.rsqrt (x : EReal) = (((√x)⁻¹ : ℝ) : EReal) := by
  rw [Ideal.rsqrt_coe, if_neg (not_lt.mpr h.le), if_neg h.ne']

theorem div_pos' (x : ℝ) {y : ℝ} (h : y ≠ 0) : Ideal.div (x : EReal) (y : EReal) = ((x / y : ℝ) : EReal) := by
  rw [Ideal.div_coe h, ← EReal.coe_mul, mul_one_div]

theorem sum_coe {ι : Type*} (s : Finset ι) (f : ι → ℝ) : (∑ i ∈ s, ((f i : ℝ) : EReal)) = ((∑ i ∈ s, f i : ℝ) : EReal) :=
  (map_sum (⟨⟨fun x : ℝ => (x : EReal), rfl⟩, EReal.coe_add⟩ : ℝ →+ EReal) f s).symm

theorem coe_rsqrt_ms (A : Args) (t : Fin 8192) :
    Ideal.rsqrt (Ideal.div (∑ x, ((A.h t x : ℝ) : EReal) * ((A.h t x : ℝ) : EReal)) (Ideal.ofBits .f32 0x44800000#32)
      + Ideal.ofBits .f32 0x358637BD#32) = ((A.r t : ℝ) : EReal) := by
  simp only [w1024, weps, ← EReal.coe_mul, sum_coe]
  rw [div_pos' _ (by norm_num), ← EReal.coe_add]
  exact rsqrt_pos (A.ms_pos t)

/-- The up-projection of the normalised and modulated row, written with the arguments alone. -/
theorem coe_p (A : Args) (t : Fin 8192) (n : Fin 5632) :
    (∑ x, (((A.h t x : ℝ) : EReal) * Ideal.rsqrt (Ideal.div (∑ x, ((A.h t x : ℝ) : EReal) * ((A.h t x : ℝ) : EReal))
        (Ideal.ofBits .f32 0x44800000#32) + Ideal.ofBits .f32 0x358637BD#32) * ((A.g x : ℝ) : EReal) * (1 + ((A.sc x : ℝ) : EReal))
        + ((A.sh x : ℝ) : EReal)) * ((A.w x n : ℝ) : EReal)) = ((A.p t n : ℝ) : EReal) := by
  rw [coe_rsqrt_ms]
  simp only [← EReal.coe_one, ← EReal.coe_mul, ← EReal.coe_add, sum_coe]
  rfl

/-- The gated activation times a weight, from the two halves. -/
theorem coe_act {P Q : EReal} {a b : ℝ} (hP : P = (a : EReal)) (hQ : Q = (b : EReal)) (v : ℝ) :
    P * Ideal.div 1 (1 + Ideal.exp (-P)) * Q * (v : EReal) = ((a * (1 + Real.exp (-a))⁻¹ * b * v : ℝ) : EReal) := by
  subst hP hQ
  rw [← EReal.coe_neg, Ideal.exp_coe, ← EReal.coe_one, ← EReal.coe_add, div_pos' _ (by positivity), one_div,
    ← EReal.coe_mul, ← EReal.coe_mul, ← EReal.coe_mul]

end Cert.Ffn

end
-- ==== Proof.Host.lean ====
/- What the kernel's host code hands to the call, at finite arguments: the forward pass's output and halves, the packed
   vectors, and the two weights, each as real numbers. -/
module

public import proofs.«01_k».proof.Proof.Gen.KernelIdeal.Value
public import proofs.«01_k».proof.Proof.Math
public import Idealize.ShloMosaic.Lib.Claim
public import Idealize.ShloMosaic.Lib.StableHlo.ReadAt
public import Idealize.ShloMosaic.Lib.Tactic.CleanTypes
public import Idealize.ShloMosaic.Lib.Pipeline.ValueKit

@[expose] public section

set_option maxRecDepth 16384

noncomputable section

namespace Cert.Ffn.Host

open Cert.KernelIdeal Cert.KernelIdeal.Gen Idealize.ShloMosaic Idealize.ShloMosaic.TcCoe Idealize.SL.Sem

variable (A : Args) (m : (ℓ : Loc nD τ sig) → Buf (Elt Ideal) ℓ) (c : Dev nD)

/-- The arguments that core `c` is given are the real arrays `A`. -/
structure At : Prop where
  dh : m ((c : Thread nD τ).loc main_arg0) = mat 8192 1024 A.dh
  h : m ((c : Thread nD τ).loc main_arg1) = mat 8192 1024 A.h
  g : m ((c : Thread nD τ).loc main_arg2) = vec 1024 A.g
  sh : m ((c : Thread nD τ).loc main_arg3) = vec 1024 A.sh
  sc : m ((c : Thread nD τ).loc main_arg4) = vec 1024 A.sc
  gt : m ((c : Thread nD τ).loc main_arg5) = vec 1024 A.gt
  w : m ((c : Thread nD τ).loc main_arg6) = mat 1024 5632 A.w
  v : m ((c : Thread nD τ).loc main_arg7) = mat 2816 1024 A.v

variable {A m c} (H : At A m c)
include H

theorem V41 : (V m c main_v41 : S2816x1024.Idx → EReal) = mat 2816 1024 A.v := by
  simp only [V, hostOps0, hostOps0_1, hostOps0_2, List.flatten_cons, List.flatten_nil, List.cons_append, List.nil_append, List.append_nil]
  entry_read
  rw [H.v]
  rfl

theorem V35 : (V m c main_v35 : S2x2816x1024.Idx → EReal) = fun i => ((A.w (i 2) (if (i 0).val = 0 then lo (i 1) else hi (i 1)) : ℝ) : EReal) := by
  simp only [V, hostOps0, hostOps0_1, hostOps0_2, List.flatten_cons, List.flatten_nil, List.cons_append, List.nil_append, List.append_nil]
  entry_read
  rw [H.w]
  funext i
  try simp only [StableHlo.TRef.ofBuf_toBuf]
  try simp -implicitDefEqProofs only [StableHlo.TRef.toBuf, StableHlo.TRef.ofBuf, cast_cast, cast_eq]
  pointwise [mat]
  refine congrArg (fun n => ((A.w (i 2) n : ℝ) : EReal)) ?_
  have h2 : (i 0).val < 2 := (i 0).isLt
  split <;> simp only [lo, hi, Fin.mk.injEq] <;> omega

theorem V32 : (V m c main_v32 : S8x1024.Idx → EReal) = fun i => ((if (i 0).val = 0 then A.g (i 1) else if (i 0).val = 1 then A.sh (i 1) else if (i 0).val = 2 then A.sc (i 1) else if (i 0).val = 3 then A.gt (i 1) else 0 : ℝ) : EReal) := by
  simp only [V, hostOps0, hostOps0_1, hostOps0_2, List.flatten_cons, List.flatten_nil, List.cons_append, List.nil_append, List.append_nil]
  after_reads_simp
  generalize hops : (List.cons _ _ : List (HloOp τ sig (Elt Ideal))) = ops
  have r27 : (StableHlo.upto ops (fun b => m (c, b)) 45 (Proc.tc.devRef main_v27) : S1x1024.Idx → EReal) = fun i => ((A.g (i 1) : ℝ) : EReal) := by
    subst hops
    after_reads_simp
    exact (congrArg (fun x : S1024.Idx → EReal => broadcastInDim S1x1024 ![1] bcast_S1024_S1x1024_1 x) H.g).trans (by funext i; pointwise [vec]; try rfl)
  have r28 : (StableHlo.upto ops (fun b => m (c, b)) 45 (Proc.tc.devRef main_v28) : S1x1024.Idx → EReal) = fun i => ((A.sh (i 1) : ℝ) : EReal) := by
    subst hops
    after_reads_simp
    exact (congrArg (fun x : S1024.Idx → EReal => broadcastInDim S1x1024 ![1] bcast_S1024_S1x1024_1 x) H.sh).trans (by funext i; pointwise [vec]; try rfl)
  have r29 : (StableHlo.upto ops (fun b => m (c, b)) 45 (Proc.tc.devRef main_v29) : S1x1024.Idx → EReal) = fun i => ((A.sc (i 1) : ℝ) : EReal) := by
    subst hops
    after_reads_simp
    exact (congrArg (fun x : S1024.Idx → EReal => broadcastInDim S1x1024 ![1] bcast_S1024_S1x1024_1 x) H.sc).trans (by funext i; pointwise [vec]; try rfl)
  have r30 : (StableHlo.upto ops (fun b => m (c, b)) 45 (Proc.tc.devRef main_v30) : S1x1024.Idx → EReal) = fun i => ((A.gt (i 1) : ℝ) : EReal) := by
    subst hops
    after_reads_simp
    exact (congrArg (fun x : S1024.Idx → EReal => broadcastInDim S1x1024 ![1] bcast_S1024_S1x1024_1 x) H.gt).trans (by funext i; pointwise [vec]; try rfl)
  have r31 : (StableHlo.upto ops (fun b => m (c, b)) 45 (Proc.tc.devRef main_v31) : S4x1024.Idx → EReal) = fun _ => (0 : EReal) := by
    subst hops
    after_reads_simp
    funext i
    pointwise
    try rfl
  clear hops
  change concatenate S8x1024 0 [⟨S1x1024, (StableHlo.upto ops (fun b => m (c, b)) 45 (Proc.tc.devRef main_v27) : S1x1024.Idx → EReal)⟩,
    ⟨S1x1024, (StableHlo.upto ops (fun b => m (c, b)) 45 (Proc.tc.devRef main_v28) : S1x1024.Idx → EReal)⟩,
    ⟨S1x1024, (StableHlo.upto ops (fun b => m (c, b)) 45 (Proc.tc.devRef main_v29) : S1x1024.Idx → EReal)⟩,
    ⟨S1x1024, (StableHlo.upto ops (fun b => m (c, b)) 45 (Proc.tc.devRef main_v30) : S1x1024.Idx → EReal)⟩,
    ⟨S4x1024, (StableHlo.upto ops (fun b => m (c, b)) 45 (Proc.tc.devRef main_v31) : S4x1024.Idx → EReal)⟩] _ = _
  rw [r27, r28, r29, r30, r31]
  funext i
  pointwise
  have h8 : (i 0).val < 8 := (i 0).isLt
  split_ifs <;> first | rfl | omega

theorem V40 : (V m c main_v40 : S2x8192x2816.Idx → EReal) = fun i => ((if (i 0).val = 0 then A.a (i 1) (i 2) else A.b (i 1) (i 2) : ℝ) : EReal) := by
  simp only [V, hostOps0, hostOps0_1, hostOps0_2, List.flatten_cons, List.flatten_nil, List.cons_append, List.nil_append, List.append_nil]
  entry_read
  rw [H.h, H.g, H.sh, H.sc, H.w]
  funext i
  try simp only [StableHlo.TRef.ofBuf_toBuf]
  try simp -implicitDefEqProofs only [StableHlo.TRef.toBuf, StableHlo.TRef.ofBuf, cast_cast, cast_eq]
  pointwise [vec, mat]
  refine (dite_eq_ite ..).trans ?_
  have e : (i 0).val < 1 ↔ (i 0).val = 0 := by omega
  by_cases h : (i 0).val = 0
  · rw [if_pos (e.mpr h), if_pos h]
    exact coe_p A (i 1) (lo (i 2))
  · rw [if_neg (fun q => h (e.mp q)), if_neg h]
    exact coe_p A (i 1) (hi (i 2))

theorem V36 : (V m c main_v36 : S8192x1024.Idx → EReal) = mat 8192 1024 A.f := by
  simp only [V, hostOps0, hostOps0_1, hostOps0_2, List.flatten_cons, List.flatten_nil, List.cons_append, List.nil_append, List.append_nil]
  entry_read
  rw [H.h, H.g, H.sh, H.sc, H.w, H.v]
  funext i
  try simp only [StableHlo.TRef.ofBuf_toBuf]
  try simp -implicitDefEqProofs only [StableHlo.TRef.toBuf, StableHlo.TRef.ofBuf, cast_cast, cast_eq]
  pointwise [vec, mat]
  refine (Finset.sum_congr rfl fun x _ => ?_).trans (sum_coe _ _)
  exact coe_act (coe_p A (i 0) (lo x)) (coe_p A (i 0) (hi x)) (A.v x (i 1))

end Cert.Ffn.Host

end
-- ==== Proof.Tile.lean ====
/- One tile of the call, at finite inputs: each value the body computes from a tile of 256 rows is the real number that
   the mathematics (`Math`) gives for those rows. The rows are named by a map `ρ` from the tile's rows to all rows. -/
module

public import proofs.«01_k».proof.Proof.Gen.KernelIdeal.Skeleton
public import proofs.«01_k».proof.Proof.Math

@[expose] public section

set_option maxRecDepth 16384

noncomputable section

namespace Cert.Ffn.Tile

open Cert.KernelIdeal Cert.KernelIdeal.Gen Idealize.ShloMosaic

variable (A : Args) (ρ : Fin 256 → Fin 8192)

/-- The tile's rows of a matrix with 1024 columns, of one of the two halves, and one row vector. -/
def rows (f : Fin 8192 → Fin 1024 → ℝ) : S256x1024.Idx → EReal := fun i => ((f (ρ (i 0)) (i 1) : ℝ) : EReal)
def wide (f : Fin 8192 → Fin 2816 → ℝ) : S256x2816.Idx → EReal := fun i => ((f (ρ (i 0)) (i 1) : ℝ) : EReal)
def half (f : Fin 8192 → Fin 2816 → ℝ) : S1x256x2816.Idx → EReal := fun i => ((f (ρ (i 1)) (i 2) : ℝ) : EReal)
def row (f : Fin 1024 → ℝ) : S1x1024.Idx → EReal := fun i => ((f (i 1) : ℝ) : EReal)
/-- One half of the up-projection, transposed. -/
def win (n : Fin 2816 → Fin 5632) : S1x2816x1024.Idx → EReal := fun i => ((A.w (i 2) (n (i 1)) : ℝ) : EReal)
/-- The sums over the tile's rows of squares, row by row. -/
def ssq : S256.Idx → EReal := fun i => ((∑ k, A.h (ρ (i 0)) k * A.h (ρ (i 0)) k : ℝ) : EReal)

theorem p5 (f : Fin 1024 → ℝ) : k0_pay5 (F := Ideal) (row f) = row f := by
  funext i
  pointwise [k0_pay5, row]
theorem p6 (f : Fin 1024 → ℝ) : k0_pay6 (F := Ideal) (row f) = row f := by
  funext i
  pointwise [k0_pay6, row]
theorem p26 (f : Fin 1024 → ℝ) : k0_pay26 (F := Ideal) (row f) = row f := by
  funext i
  pointwise [k0_pay26, row]

theorem p7 : k0_pay7 (F := Ideal) (rows ρ A.dh) (rows ρ A.f) = row (fun k => ∑ j, 1 / 2 * A.f (ρ j) k * A.dh (ρ j) k) := by
  funext i
  pointwise [k0_pay7, rows, row]
  simp only [whalf, ← EReal.coe_mul, sum_coe]

theorem p8 : k0_pay8 (F := Ideal) (rows ρ A.dh) (row A.gt) = rows ρ A.df := by
  funext i
  pointwise [k0_pay8, rows, row]
  simp only [whalf, ← EReal.coe_mul]
  rfl

theorem p9 : k0_pay9 (F := Ideal) = fun _ => (0 : EReal) := by
  funext i
  pointwise [k0_pay9]

theorem p10 : k0_pay10 (F := Ideal) (rows ρ A.dh) (row A.gt) (mat 2816 1024 A.v) = wide ρ A.dact := by
  unfold k0_pay10
  rw [p8]
  funext i
  pointwise [rows, wide, mat]
  simp only [← EReal.coe_mul, sum_coe]
  rfl

theorem p11 (f : Fin 8192 → Fin 2816 → ℝ) : k0_pay11 (F := Ideal) (half ρ f) = wide ρ f := by
  funext i
  pointwise [k0_pay11, half, wide]

theorem p12 : k0_pay12 (F := Ideal) (half ρ A.a) = wide ρ A.sg := by
  unfold k0_pay12
  rw [p11]
  funext i
  pointwise [wide]
  exact Ideal.logistic_coe _

theorem p13 : k0_pay13 (F := Ideal) (wide ρ A.dact) (half ρ A.a) (half ρ A.b) = wide ρ A.da := by
  unfold k0_pay13
  rw [p11, p12]
  funext i
  pointwise [wide, half]
  simp only [← EReal.coe_one, ← EReal.coe_mul, ← EReal.coe_add, ← EReal.coe_sub]
  rfl

theorem p14 : k0_pay14 (F := Ideal) (wide ρ A.dact) (half ρ A.a) = wide ρ A.db := by
  unfold k0_pay14
  rw [p11, p12]
  funext i
  pointwise [wide, half]
  simp only [← EReal.coe_one, ← EReal.coe_mul, ← EReal.coe_add, ← EReal.coe_sub]
  rfl

theorem p15 : k0_pay15 (F := Ideal) (wide ρ A.dact) (half ρ A.a) (half ρ A.b) = half ρ A.da := by
  unfold k0_pay15
  rw [p13]
  funext i
  pointwise [wide, half]

theorem p16 : k0_pay16 (F := Ideal) (wide ρ A.dact) (half ρ A.a) = half ρ A.db := by
  unfold k0_pay16
  rw [p14]
  funext i
  pointwise [wide, half]

theorem p17 : k0_pay17 (F := Ideal) k0_pay9 (wide ρ A.dact) (half ρ A.a) (half ρ A.b) (win A lo) (win A hi) = rows ρ A.du := by
  unfold k0_pay17
  rw [p13, p14, p9]
  funext i
  pointwise [wide, win, rows]
  simp only [← EReal.coe_zero, ← EReal.coe_mul, ← EReal.coe_add, sum_coe]
  rfl

theorem p18 : k0_pay18 (F := Ideal) (rows ρ A.h) = ssq A ρ := by
  funext i
  pointwise [k0_pay18, rows, ssq]
  simp only [← EReal.coe_mul, sum_coe]

theorem p19 : k0_pay19 (F := Ideal) (ssq A ρ) = fun i => ((A.r (ρ (i 0)) : ℝ) : EReal) := by
  funext i
  pointwise [k0_pay19, ssq]
  rw [w1024, weps, div_pos' _ (by norm_num), ← EReal.coe_add]
  exact rsqrt_pos (A.ms_pos _)

theorem p20 : k0_pay20 (F := Ideal) (rows ρ A.h) (ssq A ρ) = rows ρ A.xn := by
  unfold k0_pay20
  rw [p19]
  funext i
  pointwise [rows]
  exact (EReal.coe_mul _ _).symm

theorem p21 : k0_pay21 (F := Ideal) (rows ρ A.h) (row A.g) (rows ρ A.du) (ssq A ρ) = row (fun k => ∑ j, A.du (ρ j) k * A.y (ρ j) k) := by
  unfold k0_pay21
  rw [p20]
  funext i
  pointwise [rows, row]
  simp only [← EReal.coe_mul, sum_coe]
  rfl

theorem p22 : k0_pay22 (F := Ideal) (row A.sc) (rows ρ A.du) = rows ρ A.dy := by
  funext i
  pointwise [k0_pay22, rows, row]
  simp only [← EReal.coe_one, ← EReal.coe_mul, ← EReal.coe_add]
  rfl

theorem p23 : k0_pay23 (F := Ideal) (rows ρ A.h) (row A.sc) (rows ρ A.du) (ssq A ρ) = row (fun k => ∑ j, A.dy (ρ j) k * A.xn (ρ j) k) := by
  unfold k0_pay23
  rw [p20, p22]
  funext i
  pointwise [rows, row]
  simp only [← EReal.coe_mul, sum_coe]

theorem p24 : k0_pay24 (F := Ideal) (rows ρ A.dh) (rows ρ A.h) (row A.g) (row A.sc) (rows ρ A.du) (ssq A ρ) = rows ρ A.dhp := by
  unfold k0_pay24
  rw [p19, p20, p22]
  funext i
  pointwise [rows, row]
  simp only [← EReal.coe_mul, sum_coe, w1024]
  rw [div_pos' _ (by norm_num)]
  simp only [← EReal.coe_mul, ← EReal.coe_sub, ← EReal.coe_add]
  rfl

theorem p25 (f : Fin 1024 → ℝ) : k0_pay25 (F := Ideal) (rows ρ A.du) (row f) = row (fun k => f k + ∑ j, A.du (ρ j) k) := by
  funext i
  pointwise [k0_pay25, rows, row]
  simp only [← EReal.coe_add, sum_coe]

theorem p1 (f f' : Fin 1024 → ℝ) : k0_pay1 (F := Ideal) (row f) (row f') = row (fun k => f' k + f k) := by
  funext i
  pointwise [k0_pay1, row]
  exact (EReal.coe_add _ _).symm
theorem p2 (f f' : Fin 1024 → ℝ) : k0_pay2 (F := Ideal) (row f) (row f') = row (fun k => f' k + f k) := by
  funext i
  pointwise [k0_pay2, row]
  exact (EReal.coe_add _ _).symm
theorem p3 (f f' : Fin 1024 → ℝ) : k0_pay3 (F := Ideal) (row f) (row f') = row (fun k => f' k + f k) := by
  funext i
  pointwise [k0_pay3, row]
  exact (EReal.coe_add _ _).symm

end Cert.Ffn.Tile

end
-- ==== Proof.Block.lean ====
/- The blocks that the body reads at grid point `t`, at finite arguments, as rows of the real arrays. -/
module

public import proofs.«01_k».proof.Proof.Host
public import proofs.«01_k».proof.Proof.Tile
public import Idealize.ShloMosaic.Lib.Pipeline.ReadBack

@[expose] public section

set_option maxRecDepth 16384

noncomputable section

namespace Cert.Ffn.Block

open Cert.KernelIdeal Cert.KernelIdeal.Gen Idealize.ShloMosaic Idealize.ShloMosaic.TcCoe Idealize.SL.Sem
open Cert.Ffn.Host Cert.Ffn.Tile

/-- Where each window's block lies at point `t`. -/
theorem e0 : ∀ t : Fin cfg0.N, win0_0.index t = ![t.val, 0] := by decide +kernel
theorem e1 : ∀ t : Fin cfg0.N, win0_1.index t = ![t.val, 0] := by decide +kernel
theorem e2 : ∀ t : Fin cfg0.N, win0_2.index t = ![t.val, 0] := by decide +kernel
theorem e3 : ∀ t : Fin cfg0.N, win0_3.index t = ![0, t.val, 0] := by decide +kernel
theorem e4 : ∀ t : Fin cfg0.N, win0_4.index t = ![0, 0] := by decide +kernel
theorem e5 : ∀ t : Fin cfg0.N, win0_5.index t = ![t.val, 0] := by decide +kernel
theorem e6 : ∀ t : Fin cfg0.N, win0_6.index t = ![0, t.val, 0] := by decide +kernel
theorem e7 : ∀ t : Fin cfg0.N, win0_7.index t = ![t.val, 0] := by decide +kernel
theorem e8 : ∀ t : Fin cfg0.N, win0_8.index t = ![0, 0] := by decide +kernel

variable {A : Args} {m : (ℓ : Loc nD τ sig) → Buf (Elt Ideal) ℓ} {c : Dev nD} (H : At A m c)

/-- Row `j` of tile `t`. -/
def at' (t : Fin cfg0.N) (j : Fin 256) : Fin 8192 := ⟨256 * t.val + j.val, by have : t.val < 32 := t.isLt; omega⟩

include H

theorem blk0 (t : Fin cfg0.N) : iblk m c 0 t = rows (at' t) A.dh := by
  funext y
  blk_simp [iblk]
  refine (congrFun ((V_main_arg0 m c).trans H.dh) _).trans ?_
  refine congrArg₂ (fun p q => ((A.dh p q : ℝ) : EReal)) (Fin.ext ?_) (Fin.ext ?_)
  · blk_simp [e0]
    simp only [at']
    omega
  · blk_simp [e0]

theorem blk1 (t : Fin cfg0.N) : iblk m c 1 t = rows (at' t) A.h := by
  funext y
  blk_simp [iblk]
  refine (congrFun ((V_main_arg1 m c).trans H.h) _).trans ?_
  refine congrArg₂ (fun p q => ((A.h p q : ℝ) : EReal)) (Fin.ext ?_) (Fin.ext ?_)
  · blk_simp [e1]
    simp only [at']
    omega
  · blk_simp [e1]

theorem blk2 (t : Fin cfg0.N) : iblk m c 2 t = rows (at' t) A.f := by
  funext y
  blk_simp [iblk]
  refine (congrFun (V36 H) _).trans ?_
  refine congrArg₂ (fun p q => ((A.f p q : ℝ) : EReal)) (Fin.ext ?_) (Fin.ext ?_)
  · blk_simp [e2]
    simp only [at']
    omega
  · blk_simp [e2]

theorem blk3 (t : Fin cfg0.N) : iblk m c 3 t = fun y : S2x256x2816.Idx =>
    ((if (y 0).val = 0 then A.a (at' t (y 1)) (y 2) else A.b (at' t (y 1)) (y 2) : ℝ) : EReal) := by
  funext y
  blk_simp [iblk]
  refine (congrFun (V40 H) _).trans ?_
  have h0 : (((win0_3.blk t).view.emb y 0).val = 0) = ((y 0).val = 0) := by blk_simp [e3]
  have h1 : ((win0_3.blk t).view.emb y 1 : Fin 8192) = at' t (y 1) := by
    refine Fin.ext ?_
    blk_simp [e3]
    simp only [at']
    omega
  have h2 : ((win0_3.blk t).view.emb y 2 : Fin 2816) = y 2 := by
    refine Fin.ext ?_
    blk_simp [e3]
  refine congrArg (fun x : ℝ => (x : EReal)) ?_
  exact if_congr (iff_of_eq h0) (congrArg₂ A.a h1 h2) (congrArg₂ A.b h1 h2)

theorem blk4 (t : Fin cfg0.N) : iblk m c 4 t = fun y : S8x1024.Idx =>
    ((if (y 0).val = 0 then A.g (y 1) else if (y 0).val = 1 then A.sh (y 1) else if (y 0).val = 2 then A.sc (y 1) else if (y 0).val = 3 then A.gt (y 1) else 0 : ℝ) : EReal) := by
  funext y
  blk_simp [iblk]
  refine (congrFun (V32 H) _).trans ?_
  have h0 : ((win0_4.blk t).view.emb y 0 : Fin 8) = y 0 := by refine Fin.ext ?_; blk_simp [e4]
  have h1 : ((win0_4.blk t).view.emb y 1 : Fin 1024) = y 1 := by refine Fin.ext ?_; blk_simp [e4]
  exact congrArg₂ (fun (p : Fin 8) (q : Fin 1024) => ((if p.val = 0 then A.g q else if p.val = 1 then A.sh q else if p.val = 2 then A.sc q else if p.val = 3 then A.gt q else 0 : ℝ) : EReal)) h0 h1

theorem blk3a (t : Fin cfg0.N) : View.ld (iblk m c 3 t) (Rect.unit ![0, 0, 0] ![1, 256, 2816] inb_S2x256x2816_S1x256x2816_0_0_0) = half (at' t) A.a := by
  rw [blk3 H]
  funext y
  pointwise [half]

theorem blk3b (t : Fin cfg0.N) : View.ld (iblk m c 3 t) (Rect.unit ![1, 0, 0] ![1, 256, 2816] inb_S2x256x2816_S1x256x2816_1_0_0) = half (at' t) A.b := by
  rw [blk3 H]
  funext y
  pointwise [half]

theorem blk4g (t : Fin cfg0.N) : View.ld (iblk m c 4 t) (Rect.unit ![0, 0] ![1, 1024] inb_S8x1024_S1x1024_0_0) = row A.g := by
  rw [blk4 H]
  funext y
  pointwise [row]

theorem blk4sh (t : Fin cfg0.N) : View.ld (iblk m c 4 t) (Rect.unit ![1, 0] ![1, 1024] inb_S8x1024_S1x1024_1_0) = row A.sh := by
  rw [blk4 H]
  funext y
  pointwise [row]

theorem blk4sc (t : Fin cfg0.N) : View.ld (iblk m c 4 t) (Rect.unit ![2, 0] ![1, 1024] inb_S8x1024_S1x1024_2_0) = row A.sc := by
  rw [blk4 H]
  funext y
  pointwise [row]

theorem blk4gt (t : Fin cfg0.N) : View.ld (iblk m c 4 t) (Rect.unit ![3, 0] ![1, 1024] inb_S8x1024_S1x1024_3_0) = row A.gt := by
  rw [blk4 H]
  funext y
  pointwise [row]

end Cert.Ffn.Block

end
-- ==== Proof.Point.lean ====
/- What the body leaves in its buffers after grid point `t`, at finite arguments. -/
module

public import proofs.«01_k».proof.Proof.Block
public import Idealize.ShloMosaic.Lib.WritesUnit

@[expose] public section

set_option maxRecDepth 16384

noncomputable section

namespace Cert.Ffn.Point

open Cert.KernelIdeal Cert.KernelIdeal.Gen Idealize.ShloMosaic Idealize.ShloMosaic.TcCoe Idealize.SL.Sem
open Cert.Ffn.Host Cert.Ffn.Tile Cert.Ffn.Block

variable {A : Args} {m : (ℓ : Loc nD τ sig) → Buf (Elt Ideal) ℓ} {c : Dev nD}

/-- A load of any box after a fill of the whole buffer reads the fill there. -/
theorem readCov_whole {sig : RefSig} {κ : Kind} {sp : Space} {s : Shape} {e : EltTy} (v : View sig κ sp s e) (Z : s.Idx → Elt Ideal e)
    {off : Fin s.rank → ℕ} {size : Fin s.rank → ℕ} (inb : ∀ a, off a + size a ≤ s.size a) :
    v.readCov [(⟨Rect.whole s, Z⟩ : View.Piece (Elt Ideal) s e)] (Rect.unit off size inb).toLoadRect = View.ld Z (Rect.unit off size inb) :=
  View.readCov_fill v (off := fun _ => 0) (fun a => by simp) Z [] _ fun _ => rfl

theorem canon_whole {s : Shape} {e : EltTy} (Z : s.Idx → Elt Ideal e) (y : s.Idx) : View.canon [(⟨Rect.whole s, Z⟩ : View.Piece (Elt Ideal) s e)] y = Z y := by
  have h := View.canon_cons_emb (Val := Elt Ideal) (Rect.whole s) Z [] y
  rwa [Rect.emb_whole_apply] at h

/-- Both weight buffers hold the whole weights from the first point on. -/
theorem scratch (n : ℕ) (hn : n < cfg0.N) : (outsAt0 m c n hn).2.2.2.2.1 = V m c main_v35 ∧ (outsAt0 m c n hn).2.2.2.2.2 = V m c main_v41 := by
  induction n with
  | zero =>
    constructor
    · rw [outsAt0_A m c ⟨0, hn⟩ rfl rfl]
      frame_out
      funext y
      exact canon_whole _ y
    · rw [outsAt0_A m c ⟨0, hn⟩ rfl rfl]
      frame_out
      funext y
      exact canon_whole _ y
  | succ n ih =>
    have hN : n + 1 < 32 := hn
    have h : ¬ (n + 1) % 32 = 0 := by omega
    have := ih (by omega)
    constructor
    · rw [outsAt0_B m c ⟨n + 1, hn⟩ h h]
      exact this.1
    · rw [outsAt0_B m c ⟨n + 1, hn⟩ h h]
      exact this.2

variable (H : At A m c)
include H

theorem o7A (t : Fin cfg0.N) (h0 : t.val % 32 = 0) : (outsAt0 m c t.val t.isLt).2.2.1 = rows (at' t) A.df := by
  rw [outsAt0_A m c t h0 h0]
  frame_out
  rw [blk0 H, blk4gt H, p8]
theorem o7B (t : Fin cfg0.N) (h0 : ¬ t.val % 32 = 0) : (outsAt0 m c t.val t.isLt).2.2.1 = rows (at' t) A.df := by
  rw [outsAt0_B m c t h0 h0]
  frame_out
  rw [blk0 H, blk4gt H, p8]
theorem ldIn0 : View.ld (V m c main_v35 : S2x2816x1024.Idx → EReal) (Rect.unit ![0, 0, 0] ![1, 2816, 1024] inb_S2x2816x1024_S1x2816x1024_0_0_0) = win A lo := by
  rw [V35 H]
  funext y
  pointwise [win]
theorem ldIn1 : View.ld (V m c main_v35 : S2x2816x1024.Idx → EReal) (Rect.unit ![1, 0, 0] ![1, 2816, 1024] inb_S2x2816x1024_S1x2816x1024_1_0_0) = win A hi := by
  rw [V35 H]
  funext y
  pointwise [win]
theorem ldOut : View.ld (V m c main_v41 : S2816x1024.Idx → EReal) (Rect.unit ![0, 0] ![2816, 1024] inb_S2816x1024_S2816x1024_0_0) = mat 2816 1024 A.v := by
  rw [V41 H]
  funext y
  pointwise [mat]

omit H in
/-- The gradient at the modulated rows, and what is computed from it, from equations for what the body loads. -/
theorem duEq {ρ : Fin 256 → Fin 8192} {x0 : S256x1024.Idx → EReal} {gt : S1x1024.Idx → EReal} {wo : S2816x1024.Idx → EReal}
    {xa xb : S1x256x2816.Idx → EReal} {w0 w1 : S1x2816x1024.Idx → EReal} (h0 : x0 = rows ρ A.dh) (hgt : gt = row A.gt)
    (hwo : wo = mat 2816 1024 A.v) (ha : xa = half ρ A.a) (hb : xb = half ρ A.b) (hw0 : w0 = win A lo) (hw1 : w1 = win A hi) :
    k0_pay17 (F := Ideal) k0_pay9 (k0_pay10 x0 gt wo) xa xb w0 w1 = rows ρ A.du := by
  subst h0 hgt hwo ha hb hw0 hw1
  rw [p10, p17]

omit H in
theorem dhpEq {ρ : Fin 256 → Fin 8192} {x0 x1 du : S256x1024.Idx → EReal} {g sc : S1x1024.Idx → EReal} (h0 : x0 = rows ρ A.dh)
    (h1 : x1 = rows ρ A.h) (hg : g = row A.g) (hsc : sc = row A.sc) (hdu : du = rows ρ A.du) :
    k0_pay24 (F := Ideal) x0 x1 (k0_pay5 g) (k0_pay6 sc) du (k0_pay18 x1) = rows ρ A.dhp := by
  subst h0 h1 hg hsc hdu
  rw [p5, p6, p18, p24]

theorem o5A (t : Fin cfg0.N) (h0 : t.val % 32 = 0) : (outsAt0 m c t.val t.isLt).1 = rows (at' t) A.dhp := by
  rw [outsAt0_A m c t h0 h0]
  frame_out
  refine dhpEq (blk0 H t) (blk1 H t) (blk4g H t) (blk4sc H t) (duEq (blk0 H t) (blk4gt H t) ?_ (blk3a H t) (blk3b H t) ?_ ?_)
  · exact (readCov_whole _ _ _).trans (ldOut H)
  · exact (readCov_whole _ _ _).trans (ldIn0 H)
  · exact (readCov_whole _ _ _).trans (ldIn1 H)
theorem o5B (t : Fin cfg0.N) (h0 : ¬ t.val % 32 = 0) : (outsAt0 m c t.val t.isLt).1 = rows (at' t) A.dhp := by
  rw [outsAt0_B m c t h0 h0]
  frame_out
  simp only [read_unread_whole, (scratch _ _).1, (scratch _ _).2]
  exact dhpEq (blk0 H t) (blk1 H t) (blk4g H t) (blk4sc H t) (duEq (blk0 H t) (blk4gt H t) (V41 H) (blk3a H t) (blk3b H t) (ldIn0 H) (ldIn1 H))

omit H in
/-- The two halves' gradients, stored one after the other. -/
theorem dabEq {ρ : Fin 256 → Fin 8192} {x0 : S256x1024.Idx → EReal} {gt : S1x1024.Idx → EReal} {wo : S2816x1024.Idx → EReal}
    {xa xb : S1x256x2816.Idx → EReal} (h0 : x0 = rows ρ A.dh) (hgt : gt = row A.gt)
    (hwo : wo = mat 2816 1024 A.v) (ha : xa = half ρ A.a) (hb : xb = half ρ A.b) :
    View.canon (Val := Elt Ideal) (s := S2x256x2816) (e := .bf16)
      [⟨Rect.unit ![1, 0, 0] ![1, 256, 2816] inb_S2x256x2816_S1x256x2816_1_0_0, k0_pay16 (F := Ideal) (k0_pay10 x0 gt wo) xa⟩,
        ⟨Rect.unit ![0, 0, 0] ![1, 256, 2816] inb_S2x256x2816_S1x256x2816_0_0_0, k0_pay15 (F := Ideal) (k0_pay10 x0 gt wo) xa xb⟩] =
      fun y : S2x256x2816.Idx => ((if (y 0).val = 0 then A.da (ρ (y 1)) (y 2) else A.db (ρ (y 1)) (y 2) : ℝ) : EReal) := by
  subst h0 hgt hwo ha hb
  rw [p10, p15, p16]
  funext y
  refine View.canon_apply_of_pieces (Val := Elt Ideal) (S := S2x256x2816) (e := .bf16)
    (fun y : S2x256x2816.Idx => ((if (y 0).val = 0 then A.da (ρ (y 1)) (y 2) else A.db (ρ (y 1)) (y 2) : ℝ) : EReal)) _ ?_ y ?_
  · intro q hq x
    rcases List.mem_cons.mp hq with rfl | hq
    · show ((A.db (ρ (x 1)) (x 2) : ℝ) : EReal) = _
      refine congrArg (fun z : ℝ => (z : EReal)) ((if_neg ?_).trans (congrArg₂ A.db (congrArg ρ (Fin.ext ?_)) (Fin.ext ?_))).symm
      · show ¬ 1 + 1 * (x 0).val = 0
        omega
      · exact (Nat.zero_add _).trans (Nat.one_mul _)
      · exact (Nat.zero_add _).trans (Nat.one_mul _)
    · rw [List.mem_singleton] at hq
      subst hq
      show ((A.da (ρ (x 1)) (x 2) : ℝ) : EReal) = _
      have hx : (x 0).val < 1 := (x 0).isLt
      refine congrArg (fun z : ℝ => (z : EReal)) ((if_pos ?_).trans (congrArg₂ A.da (congrArg ρ (Fin.ext ?_)) (Fin.ext ?_))).symm
      · show 0 + 1 * (x 0).val = 0
        omega
      · exact (Nat.zero_add _).trans (Nat.one_mul _)
      · exact (Nat.zero_add _).trans (Nat.one_mul _)
  · have h0 : (y 0).val < 2 := (y 0).isLt
    have h1 : (y 1).val < 256 := (y 1).isLt
    have h2 : (y 2).val < 2816 := (y 2).isLt
    by_cases h : (y 0).val = 0
    · refine ⟨_, List.mem_cons_of_mem _ List.mem_cons_self, (Rect.mem_set_unit (inb := inb_S2x256x2816_S1x256x2816_0_0_0)).mpr fun a => ?_⟩
      match a with
      | 0 => exact ⟨Nat.zero_le _, show (y 0).val < 0 + 1 by omega⟩
      | 1 => exact ⟨Nat.zero_le _, show (y 1).val < 0 + 256 by omega⟩
      | 2 => exact ⟨Nat.zero_le _, show (y 2).val < 0 + 2816 by omega⟩
    · refine ⟨_, List.mem_cons_self, (Rect.mem_set_unit (inb := inb_S2x256x2816_S1x256x2816_1_0_0)).mpr fun a => ?_⟩
      match a with
      | 0 => exact ⟨show 1 ≤ (y 0).val by omega, show (y 0).val < 1 + 1 by omega⟩
      | 1 => exact ⟨Nat.zero_le _, show (y 1).val < 0 + 256 by omega⟩
      | 2 => exact ⟨Nat.zero_le _, show (y 2).val < 0 + 2816 by omega⟩

theorem o6A (t : Fin cfg0.N) (h0 : t.val % 32 = 0) : (outsAt0 m c t.val t.isLt).2.1 = fun y : S2x256x2816.Idx =>
    ((if (y 0).val = 0 then A.da (at' t (y 1)) (y 2) else A.db (at' t (y 1)) (y 2) : ℝ) : EReal) := by
  rw [outsAt0_A m c t h0 h0]
  frame_out
  exact dabEq (blk0 H t) (blk4gt H t) ((readCov_whole _ _ _).trans (ldOut H)) (blk3a H t) (blk3b H t)
theorem o6B (t : Fin cfg0.N) (h0 : ¬ t.val % 32 = 0) : (outsAt0 m c t.val t.isLt).2.1 = fun y : S2x256x2816.Idx =>
    ((if (y 0).val = 0 then A.da (at' t (y 1)) (y 2) else A.db (at' t (y 1)) (y 2) : ℝ) : EReal) := by
  rw [outsAt0_B m c t h0 h0]
  frame_out
  simp only [read_unread_whole, (scratch _ _).1, (scratch _ _).2]
  exact dabEq (blk0 H t) (blk4gt H t) (V41 H) (blk3a H t) (blk3b H t)

/-- Eight rows of which the first four are given and the others are zero. -/
def eight (f0 f1 f2 f3 : Fin 1024 → ℝ) : S8x1024.Idx → EReal := fun y =>
  ((if (y 0).val = 0 then f0 (y 1) else if (y 0).val = 1 then f1 (y 1) else if (y 0).val = 2 then f2 (y 1) else if (y 0).val = 3 then f3 (y 1) else 0 : ℝ) : EReal)

omit H in
/-- The four stored rows over contents that are zero from the fifth row on. -/
theorem eightEq {sig : RefSig} {κ : Kind} {sp : Space} (v : View sig κ sp S8x1024 .f32) (f : v.ty.Contents (Elt Ideal)) (L : List (View.Piece (Elt Ideal) S8x1024 .f32))
    {w0 w1 w2 w3 : S1x1024.Idx → EReal} {f0 f1 f2 f3 : Fin 1024 → ℝ} (h0 : w0 = row f0) (h1 : w1 = row f1) (h2 : w2 = row f2) (h3 : w3 = row f3)
    (hL : ∀ y : S8x1024.Idx, 4 ≤ (y 0).val → v.read (Elt Ideal) (v.writes (Elt Ideal) f L) y = (0 : EReal)) :
    v.read (Elt Ideal) (v.writes (Elt Ideal) f
      (⟨Rect.unit ![3, 0] ![1, 1024] inb_S8x1024_S1x1024_3_0, w3⟩ :: ⟨Rect.unit ![2, 0] ![1, 1024] inb_S8x1024_S1x1024_2_0, w2⟩ ::
        ⟨Rect.unit ![1, 0] ![1, 1024] inb_S8x1024_S1x1024_1_0, w1⟩ :: ⟨Rect.unit ![0, 0] ![1, 1024] inb_S8x1024_S1x1024_0_0, w0⟩ :: L)) = eight f0 f1 f2 f3 := by
  subst h0 h1 h2 h3
  funext y
  rw [View.read_writes_cons_rows (d := ![8, 1024]) (off := ![3, 0]) (size := ![1, 1024]) (o := 3) (W := 1) v f inb_S8x1024_S1x1024_3_0 (row f3) _ y rfl rfl rfl,
    View.read_writes_cons_rows (d := ![8, 1024]) (off := ![2, 0]) (size := ![1, 1024]) (o := 2) (W := 1) v f inb_S8x1024_S1x1024_2_0 (row f2) _ y rfl rfl rfl,
    View.read_writes_cons_rows (d := ![8, 1024]) (off := ![1, 0]) (size := ![1, 1024]) (o := 1) (W := 1) v f inb_S8x1024_S1x1024_1_0 (row f1) _ y rfl rfl rfl,
    View.read_writes_cons_rows (d := ![8, 1024]) (off := ![0, 0]) (size := ![1, 1024]) (o := 0) (W := 1) v f inb_S8x1024_S1x1024_0_0 (row f0) _ y rfl rfl rfl]
  unfold eight
  split_ifs <;> first
    | omega
    | exact congrArg (fun z => ((f0 z : ℝ) : EReal)) (Fin.ext (Nat.sub_zero _))
    | exact congrArg (fun z => ((f1 z : ℝ) : EReal)) (Fin.ext (Nat.sub_zero _))
    | exact congrArg (fun z => ((f2 z : ℝ) : EReal)) (Fin.ext (Nat.sub_zero _))
    | exact congrArg (fun z => ((f3 z : ℝ) : EReal)) (Fin.ext (Nat.sub_zero _))
    | exact (hL y (by omega)).trans EReal.coe_zero.symm

omit H in
/-- One step of the four running rows. -/
theorem stepEq {sig : RefSig} {κ : Kind} {sp : Space} (v : View sig κ sp S8x1024 .f32) (f : v.ty.Contents (Elt Ideal)) (L : List (View.Piece (Elt Ideal) S8x1024 .f32))
    {ρ : Fin 256 → Fin 8192} {x0 x1 x2 du : S256x1024.Idx → EReal} {g sc r0 r1 r2 r3 : S1x1024.Idx → EReal} {f0 f1 f2 f3 : Fin 1024 → ℝ}
    (h0 : x0 = rows ρ A.dh) (h1 : x1 = rows ρ A.h) (h2 : x2 = rows ρ A.f) (hg : g = row A.g) (hsc : sc = row A.sc) (hdu : du = rows ρ A.du)
    (e0 : r0 = row f0) (e1 : r1 = row f1) (e2 : r2 = row f2) (e3 : r3 = row f3)
    (hL : ∀ y : S8x1024.Idx, 4 ≤ (y 0).val → v.read (Elt Ideal) (v.writes (Elt Ideal) f L) y = (0 : EReal)) :
    v.read (Elt Ideal) (v.writes (Elt Ideal) f
      (⟨Rect.unit ![3, 0] ![1, 1024] inb_S8x1024_S1x1024_3_0, k0_pay3 (F := Ideal) (k0_pay23 x1 (k0_pay6 sc) du (k0_pay18 x1)) r3⟩
        :: ⟨Rect.unit ![2, 0] ![1, 1024] inb_S8x1024_S1x1024_2_0, k0_pay2 (F := Ideal) (k0_pay7 x0 x2) r2⟩
        :: ⟨Rect.unit ![1, 0] ![1, 1024] inb_S8x1024_S1x1024_1_0, k0_pay1 (F := Ideal) (k0_pay21 x1 (k0_pay5 g) du (k0_pay18 x1)) (k0_pay26 r1)⟩
        :: ⟨Rect.unit ![0, 0] ![1, 1024] inb_S8x1024_S1x1024_0_0, k0_pay25 (F := Ideal) du r0⟩ :: L)) =
    eight (fun k => f0 k + ∑ j, A.du (ρ j) k) (fun k => f1 k + ∑ j, A.du (ρ j) k * A.y (ρ j) k)
      (fun k => f2 k + ∑ j, 1 / 2 * A.f (ρ j) k * A.dh (ρ j) k) (fun k => f3 k + ∑ j, A.dy (ρ j) k * A.xn (ρ j) k) := by
  subst h0 h1 h2 hg hsc hdu e0 e1 e2 e3
  refine eightEq v f L ?_ ?_ ?_ ?_ hL
  · rw [p25]
  · rw [p5, p18, p21, p26, p1]
  · rw [p7, p2]
  · rw [p6, p18, p23, p3]

theorem o8A (t : Fin cfg0.N) (h0 : t.val % 32 = 0) : (outsAt0 m c t.val t.isLt).2.2.2.1 =
    eight (fun k => 0 + ∑ j, A.du (at' t j) k) (fun k => 0 + ∑ j, A.du (at' t j) k * A.y (at' t j) k)
      (fun k => 0 + ∑ j, 1 / 2 * A.f (at' t j) k * A.dh (at' t j) k) (fun k => 0 + ∑ j, A.dy (at' t j) k * A.xn (at' t j) k) := by
  rw [outsAt0_A m c t h0 h0]
  frame_open
  simp (disch := decide) only [↓ View.readCov_skip, ↓ View.readCov_cons_toLoadRect, ↓ View.readCov_fill]
  frame_out
  have z (o : ℕ) (h : ∀ a : Fin 2, ![o, 0] a + ![1, 1024] a ≤ S8x1024.size a) :
      (View.ld (Val := Elt Ideal) (e' := .f32) (k0_pay4 (F := Ideal)) (Rect.unit (s := S8x1024) ![o, 0] ![1, 1024] h) : S1x1024.Idx → EReal) = row fun _ => 0 := by
    funext y
    pointwise [k0_pay4, row]
    rfl
  rw [← View.read_writes_junk_eq_canon (ms0_8 t).view]
  refine stepEq (ms0_8 t).view _ _ (blk0 H t) (blk1 H t) (blk2 H t) (blk4g H t) (blk4sc H t) (duEq (blk0 H t) (blk4gt H t) ?_ (blk3a H t) (blk3b H t) ?_ ?_)
    (z 0 _) (z 1 _) (z 2 _) (z 3 _) ?_
  · exact (readCov_whole _ _ _).trans (ldOut H)
  · exact (readCov_whole _ _ _).trans (ldIn0 H)
  · exact (readCov_whole _ _ _).trans (ldIn1 H)
  · intro y _
    rw [View.read_writes_junk_eq_canon, View.canon_cons_unit_lit _ _ _ (by decide)]
    pointwise [k0_pay4]

theorem o8B (t : Fin cfg0.N) (h0 : ¬ t.val % 32 = 0) {f0 f1 f2 f3 : Fin 1024 → ℝ}
    (ih : (outsAt0 m c (t.val - 1) (by omega)).2.2.2.1 = eight f0 f1 f2 f3) : (outsAt0 m c t.val t.isLt).2.2.2.1 =
    eight (fun k => f0 k + ∑ j, A.du (at' t j) k) (fun k => f1 k + ∑ j, A.du (at' t j) k * A.y (at' t j) k)
      (fun k => f2 k + ∑ j, 1 / 2 * A.f (at' t j) k * A.dh (at' t j) k) (fun k => f3 k + ∑ j, A.dy (at' t j) k * A.xn (at' t j) k) := by
  rw [outsAt0_B m c t h0 h0]
  frame_out
  simp only [read_unread_whole, (scratch _ _).1, (scratch _ _).2]
  refine stepEq (ms0_8 t).view _ [] (blk0 H t) (blk1 H t) (blk2 H t) (blk4g H t) (blk4sc H t) (duEq (blk0 H t) (blk4gt H t) (V41 H) (blk3a H t) (blk3b H t) (ldIn0 H) (ldIn1 H))
    ?_ ?_ ?_ ?_ ?_
  · rw [ih]
    funext y
    pointwise [eight, row]
  · rw [ih]
    funext y
    pointwise [eight, row]
  · rw [ih]
    funext y
    pointwise [eight, row]
  · rw [ih]
    funext y
    pointwise [eight, row]
  · intro y hy
    rw [View.writes_nil, Memref.IsWhole.read_unread, ih]
    show ((_ : ℝ) : EReal) = 0
    rw [if_neg (by omega), if_neg (by omega), if_neg (by omega), if_neg (by omega), EReal.coe_zero]

end Cert.Ffn.Point

end
-- ==== Proof.Arr.lean ====
/- The four arrays after the call, at finite arguments. -/
module

public import proofs.«01_k».proof.Proof.Point

@[expose] public section

set_option maxRecDepth 16384

noncomputable section

namespace Cert.Ffn.Arr

open Cert.KernelIdeal Cert.KernelIdeal.Gen Idealize.ShloMosaic Idealize.ShloMosaic.TcCoe Idealize.SL.Sem
open Cert.Ffn.Host Cert.Ffn.Tile Cert.Ffn.Block Cert.Ffn.Point

variable {A : Args} {m : (ℓ : Loc nD τ sig) → Buf (Elt Ideal) ℓ} {c : Dev nD} (H : At A m c)

include H

theorem o5 (t : Fin cfg0.N) : (outsAt0 m c t.val t.isLt).1 = rows (at' t) A.dhp := by
  by_cases h : t.val % 32 = 0
  · exact o5A H t h
  · exact o5B H t h

theorem o6 (t : Fin cfg0.N) : (outsAt0 m c t.val t.isLt).2.1 = fun y : S2x256x2816.Idx =>
    ((if (y 0).val = 0 then A.da (at' t (y 1)) (y 2) else A.db (at' t (y 1)) (y 2) : ℝ) : EReal) := by
  by_cases h : t.val % 32 = 0
  · exact o6A H t h
  · exact o6B H t h

theorem o7 (t : Fin cfg0.N) : (outsAt0 m c t.val t.isLt).2.2.1 = rows (at' t) A.df := by
  by_cases h : t.val % 32 = 0
  · exact o7A H t h
  · exact o7B H t h

omit H in
theorem one (f : Fin (0 + 1) → ℝ) : ∑ t, f t = 0 + f 0 := (Fin.sum_univ_one _).trans (zero_add _).symm

/-- The accumulated rows after point `n`: the sums over the tiles up to it. -/
theorem o8 (n : ℕ) (hn : n < cfg0.N) : (outsAt0 m c n hn).2.2.2.1 =
    eight (fun k => ∑ t : Fin (n + 1), ∑ j, A.du (at' ⟨t.val, Nat.lt_of_lt_of_le t.isLt hn⟩ j) k)
      (fun k => ∑ t : Fin (n + 1), ∑ j, A.du (at' ⟨t.val, Nat.lt_of_lt_of_le t.isLt hn⟩ j) k * A.y (at' ⟨t.val, Nat.lt_of_lt_of_le t.isLt hn⟩ j) k)
      (fun k => ∑ t : Fin (n + 1), ∑ j, 1 / 2 * A.f (at' ⟨t.val, Nat.lt_of_lt_of_le t.isLt hn⟩ j) k * A.dh (at' ⟨t.val, Nat.lt_of_lt_of_le t.isLt hn⟩ j) k)
      (fun k => ∑ t : Fin (n + 1), ∑ j, A.dy (at' ⟨t.val, Nat.lt_of_lt_of_le t.isLt hn⟩ j) k * A.xn (at' ⟨t.val, Nat.lt_of_lt_of_le t.isLt hn⟩ j) k) := by
  induction n with
  | zero =>
    refine (o8A H ⟨0, hn⟩ rfl).trans ?_
    congr 1 <;> · funext k; refine Eq.symm ((one _).trans ?_); rfl
  | succ n ih =>
    have hN : n + 1 < 32 := hn
    refine (o8B H ⟨n + 1, hn⟩ (by show ¬ (n + 1) % 32 = 0; omega) (ih (Nat.lt_of_succ_lt hn))).trans ?_
    congr 1 <;> · funext k; rw [Fin.sum_univ_castSucc (n := n + 1)]; rfl

omit H in
/-- The sum over the tiles of the sums over a tile's rows is the sum over all rows. -/
theorem tiles (f : Fin 8192 → ℝ) : ∑ t : Fin cfg0.N, ∑ j, f (at' t j) = ∑ i, f i := by
  rw [← Fintype.sum_prod_type']
  refine Fintype.sum_equiv (finProdFinEquiv (m := 32) (n := 256)) _ _ fun x => congrArg f (Fin.ext ?_)
  simp only [at', finProdFinEquiv_apply_val]
  omega

theorem arr5 : (dats m 0 c).arrAt 5 cfg0.N = mat 8192 1024 A.dhp := by
  refine (dats m 0 c).arrAt_eq_of_covers 5 _ (by decide +kernel) fun t hf y => ?_
  blk_simp
  show (outsAt0 m c t.val t.isLt).1 _ = _
  rw [o5 H t]
  refine congrArg₂ (fun p q => ((A.dhp p q : ℝ) : EReal)) (Fin.ext ?_) (Fin.ext ?_)
  · blk_simp [e5]
    simp only [at']
    omega
  · blk_simp [e5]

theorem arr7 : (dats m 0 c).arrAt 7 cfg0.N = mat 8192 1024 A.df := by
  refine (dats m 0 c).arrAt_eq_of_covers 7 _ (by decide +kernel) fun t hf y => ?_
  blk_simp
  show (outsAt0 m c t.val t.isLt).2.2.1 _ = _
  rw [o7 H t]
  refine congrArg₂ (fun p q => ((A.df p q : ℝ) : EReal)) (Fin.ext ?_) (Fin.ext ?_)
  · blk_simp [e7]
    simp only [at']
    omega
  · blk_simp [e7]

theorem arr6 : (dats m 0 c).arrAt 6 cfg0.N = fun i : S2x8192x2816.Idx =>
    ((if (i 0).val = 0 then A.da (i 1) (i 2) else A.db (i 1) (i 2) : ℝ) : EReal) := by
  refine (dats m 0 c).arrAt_eq_of_covers 6 _ (by decide +kernel) fun t hf y => ?_
  refine (congrFun (o6 H t) _).trans ?_
  have h0 : ((y 0).val = 0) = (((win0_6.blk t).view.emb y 0).val = 0) := by blk_simp [e6]
  have h1 : at' t (y 1) = ((win0_6.blk t).view.emb y 1 : Fin 8192) := by
    refine Fin.ext ?_
    blk_simp [e6]
    simp only [at']
    omega
  have h2 : y 2 = ((win0_6.blk t).view.emb y 2 : Fin 2816) := by
    refine Fin.ext ?_
    blk_simp [e6]
  refine congrArg (fun x : ℝ => (x : EReal)) ?_
  exact if_congr (iff_of_eq h0) (congrArg₂ A.da h1 h2) (congrArg₂ A.db h1 h2)

omit H in
theorem tiles' (f : Fin 8192 → Fin 1024 → ℝ) :
    (fun k => ∑ t : Fin (31 + 1), ∑ j, f (at' ⟨t.val, Nat.lt_of_lt_of_le t.isLt (show 32 ≤ 32 from Nat.le_refl _)⟩ j) k) = fun k => ∑ i, f i k :=
  funext fun k => tiles fun i => f i k

/-- After the last point the accumulated rows are the sums over all rows. -/
theorem o8_last (h : 31 < cfg0.N) : (outsAt0 m c 31 h).2.2.2.1 = eight A.dsh A.dsc A.dgt A.dg := by
  refine (o8 H 31 h).trans ?_
  exact congr (congr (congr (congrArg eight (tiles' A.du)) (tiles' fun i k => A.du i k * A.y i k))
    (tiles' fun i k => 1 / 2 * A.f i k * A.dh i k)) (tiles' fun i k => A.dy i k * A.xn i k)

theorem o8_at (t : Fin cfg0.N) (ht : t.val = 31) : (outsAt0 m c t.val t.isLt).2.2.2.1 = eight A.dsh A.dsc A.dgt A.dg := by
  obtain ⟨n, hn⟩ := t
  subst ht
  exact o8_last H hn

omit H in
theorem flush8 : ∀ t : Fin cfg0.N, (cfg0.win 8).flush t = true → t.val = 31 := by decide +kernel

theorem arr8 : (dats m 0 c).arrAt 8 cfg0.N = mat 8 1024 A.red := by
  refine (dats m 0 c).arrAt_eq_of_covers 8 _ (by decide +kernel) fun t hf y => ?_
  refine (congrFun (o8_at H t (flush8 t hf)) _).trans ?_
  refine congrArg₂ (fun p q => ((A.red p q : ℝ) : EReal)) (Fin.ext ?_) (Fin.ext ?_)
  · blk_simp [e8]
  · blk_simp [e8]

end Cert.Ffn.Arr

end
-- ==== Proof.Ref.lean ====
/- The reference, one stage after another: at finite arguments each of its values is the real number that the
   feed-forward backward step's mathematics (`Math`) gives it. -/
module

public import proofs.«01_k».proof.Proof.Gen.ReferenceIdeal.Read
public import proofs.«01_k».proof.Proof.Math

@[expose] public section

set_option maxRecDepth 16384

noncomputable section

namespace Cert.Ffn.Ref

open Cert.ReferenceIdeal Cert.ReferenceIdeal.Read Idealize.ShloMosaic

variable (A : Args)

theorem v8 : val_main_v8 (F := Ideal) (mat 8192 1024 A.h) = fun i => ((A.ms (i 0) : ℝ) : EReal) := by
  simp only [val_main_v8, val_main_v6, val_main_v7, val_main_v4, val_main_v5, val_main_cst_3, val_main_v3, val_main_cst_2, val_main_v2, val_main_cst_1]
  funext i
  pointwise [mat, vec]
  rw [w1024, weps]
  simp only [← EReal.coe_mul, sum_coe]
  rw [div_pos' _ (by norm_num), ← EReal.coe_add]
  rfl

theorem v9 : val_main_v9 (F := Ideal) (mat 8192 1024 A.h) = fun i => ((A.r (i 0) : ℝ) : EReal) := by
  simp only [val_main_v9, v8 A]
  funext i
  pointwise [mat, vec]
  exact rsqrt_pos (A.ms_pos (i 0))

theorem v12 : val_main_v12 (F := Ideal) (mat 8192 1024 A.h) = fun i => ((-(1 / 2) * (A.r (i 0) / A.ms (i 0)) : ℝ) : EReal) := by
  simp only [val_main_v12, val_main_v11, val_main_v10, val_main_cst_4, v9 A, v8 A]
  funext i
  pointwise [mat, vec]
  exact (congrArg₂ (· * ·) wneghalf (div_pos' _ (A.ms_pos (i 0)).ne')).trans (EReal.coe_mul _ _).symm

theorem v14 : val_main_v14 (F := Ideal) (mat 8192 1024 A.h) = fun i => ((A.xn (i 0) (i 1) : ℝ) : EReal) := by
  simp only [val_main_v14, val_main_v13, v9 A]
  funext i
  pointwise [mat, vec]
  rw [← EReal.coe_mul]
  rfl

theorem v17 : val_main_v17 (F := Ideal) (mat 8192 1024 A.h) (vec 1024 A.g) = fun i => ((A.y (i 0) (i 1) : ℝ) : EReal) := by
  simp only [val_main_v17, val_main_v16, val_main_v15, v14 A]
  funext i
  pointwise [mat, vec]
  exact (EReal.coe_mul _ _).symm

theorem v25 : val_main_v25 (F := Ideal) (mat 8192 1024 A.h) (vec 1024 A.g) (vec 1024 A.sh) (vec 1024 A.sc) = fun i => ((A.u (i 0) (i 1) : ℝ) : EReal) := by
  simp only [val_main_v25, val_main_v22, val_main_v24, val_main_v21, val_main_v23, val_main_v20, val_main_v19, val_main_v18, val_main_cst_5, v17 A]
  funext i
  pointwise [mat, vec]
  rw [← EReal.coe_one, ← EReal.coe_add, ← EReal.coe_mul, ← EReal.coe_add]
  rfl

theorem v26 : val_main_v26 (F := Ideal) (mat 8192 1024 A.h) (vec 1024 A.g) (vec 1024 A.sh) (vec 1024 A.sc) (mat 1024 5632 A.w) = fun i => ((A.p (i 0) (i 1) : ℝ) : EReal) := by
  simp only [val_main_v26, v25 A]
  funext i
  pointwise [mat, vec]
  simp only [← EReal.coe_mul, sum_coe]
  rfl

theorem v29 : val_main_v29 (F := Ideal) (mat 8192 1024 A.h) (vec 1024 A.g) (vec 1024 A.sh) (vec 1024 A.sc) (mat 1024 5632 A.w) = fun i => ((A.a (i 0) (i 1) : ℝ) : EReal) := by
  simp only [val_main_v29, val_main_v27, val_main_v0, val_main_cst, v26 A]
  funext i
  pointwise [mat, vec]
  rfl

theorem v31 : val_main_v31 (F := Ideal) (mat 8192 1024 A.h) (vec 1024 A.g) (vec 1024 A.sh) (vec 1024 A.sc) (mat 1024 5632 A.w) = fun i => ((A.b (i 0) (i 1) : ℝ) : EReal) := by
  simp only [val_main_v31, val_main_v28, val_main_v0, val_main_cst, v26 A]
  funext i
  pointwise [mat, vec]
  rfl

theorem v30_2 : val_main_v30_2 (F := Ideal) (mat 8192 1024 A.h) (vec 1024 A.g) (vec 1024 A.sh) (vec 1024 A.sc) (mat 1024 5632 A.w) = fun i => ((A.sg (i 0) (i 1) : ℝ) : EReal) := by
  simp only [val_main_v30_2, val_main_call0_v4, val_main_call0_v3, val_main_call0_cst_0, val_main_call0_v2, val_main_call0_v1, val_main_call0_cst, val_main_call0_v0, v29 A]
  funext i
  pointwise [mat, vec]
  rw [← EReal.coe_neg, Ideal.exp_coe, ← EReal.coe_one, ← EReal.coe_add, div_pos' _ (by positivity), one_div]
  rfl

theorem v30_1 : val_main_v30_1 (F := Ideal) (mat 8192 1024 A.h) (vec 1024 A.g) (vec 1024 A.sh) (vec 1024 A.sc) (mat 1024 5632 A.w) = fun i => ((A.sg (i 0) (i 1) * (1 - A.sg (i 0) (i 1)) : ℝ) : EReal) := by
  simp only [val_main_v30_1, val_main_call0_v7, val_main_call0_v6, val_main_call0_cst_1, v30_2 A]
  funext i
  pointwise [mat, vec]
  rw [← EReal.coe_one, ← EReal.coe_sub, ← EReal.coe_mul]

theorem v30_0 : val_main_v30_0 (F := Ideal) (mat 8192 1024 A.h) (vec 1024 A.g) (vec 1024 A.sh) (vec 1024 A.sc) (mat 1024 5632 A.w) = fun i => ((A.a (i 0) (i 1) * A.sg (i 0) (i 1) : ℝ) : EReal) := by
  simp only [val_main_v30_0, v29 A, v30_2 A]
  funext i
  pointwise [mat, vec]
  rw [← EReal.coe_mul]

theorem v34 : val_main_v34 (F := Ideal) (mat 8192 1024 A.h) (vec 1024 A.g) (vec 1024 A.sh) (vec 1024 A.sc) (mat 1024 5632 A.w) (mat 2816 1024 A.v) = fun i => ((A.f (i 0) (i 1) : ℝ) : EReal) := by
  simp only [val_main_v34, val_main_v33, val_main_v1, val_main_v32, val_main_cst_0, v30_0 A, v31 A]
  funext i
  pointwise [mat, vec]
  simp only [← EReal.coe_mul, ← EReal.coe_add, ← EReal.coe_sub, ← EReal.coe_neg, sum_coe]
  rfl

theorem v43 : val_main_v43 (F := Ideal) (mat 8192 1024 A.dh) (vec 1024 A.gt) = fun i => ((A.df (i 0) (i 1) : ℝ) : EReal) := by
  simp only [val_main_v43, val_main_v42, val_main_v41, val_main_v37, val_main_v36, val_main_v35, val_main_cst_6]
  funext i
  pointwise [mat, vec]
  simp only [whalf, ← EReal.coe_mul, ← EReal.coe_add, ← EReal.coe_sub, ← EReal.coe_neg, sum_coe]
  rfl

theorem v50 : val_main_v50 (F := Ideal) (mat 8192 1024 A.dh) (vec 1024 A.gt) (mat 2816 1024 A.v) = fun i => ((A.dact (i 0) (i 1) : ℝ) : EReal) := by
  simp only [val_main_v50, v43 A]
  funext i
  pointwise [mat, vec]
  simp only [← EReal.coe_mul, ← EReal.coe_add, ← EReal.coe_sub, ← EReal.coe_neg, sum_coe]
  rfl

theorem v51 : val_main_v51 (F := Ideal) (mat 8192 1024 A.dh) (mat 8192 1024 A.h) (vec 1024 A.g) (vec 1024 A.sh) (vec 1024 A.sc) (vec 1024 A.gt) (mat 1024 5632 A.w) (mat 2816 1024 A.v) = fun i => ((A.db (i 0) (i 1) : ℝ) : EReal) := by
  simp only [val_main_v51, v30_0 A, v50 A]
  funext i
  pointwise [mat, vec]
  simp only [← EReal.coe_mul, ← EReal.coe_add, ← EReal.coe_sub, ← EReal.coe_neg, sum_coe]
  exact congrArg _ (mul_comm _ _)

theorem v53 : val_main_v53 (F := Ideal) (mat 8192 1024 A.dh) (mat 8192 1024 A.h) (vec 1024 A.g) (vec 1024 A.sh) (vec 1024 A.sc) (vec 1024 A.gt) (mat 1024 5632 A.w) (mat 2816 1024 A.v) = fun i => ((A.da (i 0) (i 1) : ℝ) : EReal) := by
  simp only [val_main_v53, val_main_call1_v1, val_main_call1_v2, val_main_v52, val_main_call1_v0, v30_2 A, v30_1 A, v50 A, v31 A, v29 A]
  funext i
  pointwise [mat, vec]
  simp only [← EReal.coe_mul, ← EReal.coe_add, ← EReal.coe_sub, ← EReal.coe_neg, sum_coe]
  congr 1
  unfold Args.da
  ring

theorem v55 : val_main_v55 (F := Ideal) (mat 8192 1024 A.dh) (mat 8192 1024 A.h) (vec 1024 A.g) (vec 1024 A.sh) (vec 1024 A.sc) (vec 1024 A.gt) (mat 1024 5632 A.w) (mat 2816 1024 A.v) = fun i => ((A.du (i 0) (i 1) : ℝ) : EReal) := by
  simp only [val_main_v55, val_main_v54, v53 A, v51 A]
  funext i
  pointwise [mat, vec]
  simp only [v51 A, v53 A, ← EReal.coe_mul, ← EReal.coe_add, ← EReal.coe_sub, ← EReal.coe_neg, sum_coe]
  rfl

theorem v58 : val_main_v58 (F := Ideal) (mat 8192 1024 A.dh) (mat 8192 1024 A.h) (vec 1024 A.g) (vec 1024 A.sh) (vec 1024 A.sc) (vec 1024 A.gt) (mat 1024 5632 A.w) (mat 2816 1024 A.v) = fun i => ((A.dsh (i 0) : ℝ) : EReal) := by
  simp only [val_main_v58, val_main_v57, val_main_cst_11, val_main_v56, val_main_cst_10, v55 A]
  funext i
  pointwise [mat, vec]
  simp only [Finset.univ_unique, Finset.sum_singleton, ← EReal.coe_mul, ← EReal.coe_add, ← EReal.coe_sub, ← EReal.coe_neg, sum_coe]
  rfl

theorem v64 : val_main_v64 (F := Ideal) (mat 8192 1024 A.dh) (mat 8192 1024 A.h) (vec 1024 A.g) (vec 1024 A.sh) (vec 1024 A.sc) (vec 1024 A.gt) (mat 1024 5632 A.w) (mat 2816 1024 A.v) = fun i => ((A.dsc (i 0) : ℝ) : EReal) := by
  simp only [val_main_v64, val_main_v61, val_main_cst_13, val_main_v60, val_main_v59, val_main_cst_12, v17 A, v55 A]
  funext i
  pointwise [mat, vec]
  simp only [Finset.univ_unique, Finset.sum_singleton, ← EReal.coe_mul, ← EReal.coe_add, ← EReal.coe_sub, ← EReal.coe_neg, sum_coe]
  exact congrArg _ (Finset.sum_congr rfl fun t _ => mul_comm _ _)

theorem v49 : val_main_v49 (F := Ideal) (mat 8192 1024 A.dh) (mat 8192 1024 A.h) (vec 1024 A.g) (vec 1024 A.sh) (vec 1024 A.sc) (mat 1024 5632 A.w) (mat 2816 1024 A.v) = fun i => ((A.dgt (i 0) : ℝ) : EReal) := by
  simp only [val_main_v49, val_main_v48, val_main_v47, val_main_cst_9, val_main_v46, val_main_cst_8, val_main_v45, val_main_v44, val_main_cst_7, val_main_v41, v34 A]
  funext i
  pointwise [mat, vec]
  simp only [Finset.univ_unique, Finset.sum_singleton, whalf, ← EReal.coe_mul, ← EReal.coe_add, ← EReal.coe_sub, ← EReal.coe_neg, sum_coe]
  rw [Finset.mul_sum]
  exact congrArg _ (Finset.sum_congr rfl fun t _ => by ring)

theorem v63 : val_main_v63 (F := Ideal) (mat 8192 1024 A.dh) (mat 8192 1024 A.h) (vec 1024 A.g) (vec 1024 A.sh) (vec 1024 A.sc) (vec 1024 A.gt) (mat 1024 5632 A.w) (mat 2816 1024 A.v) = fun i => ((A.dy (i 0) (i 1) : ℝ) : EReal) := by
  simp only [val_main_v63, val_main_v62, val_main_v20, val_main_v19, val_main_v18, val_main_cst_5, v55 A]
  funext i
  pointwise [mat, vec]
  rw [← EReal.coe_one, ← EReal.coe_add, ← EReal.coe_mul]
  rfl

theorem v70 : val_main_v70 (F := Ideal) (mat 8192 1024 A.dh) (mat 8192 1024 A.h) (vec 1024 A.g) (vec 1024 A.sh) (vec 1024 A.sc) (vec 1024 A.gt) (mat 1024 5632 A.w) (mat 2816 1024 A.v) = fun i => ((A.dg (i 0) : ℝ) : EReal) := by
  simp only [val_main_v70, val_main_v67, val_main_cst_15, val_main_v66, val_main_v65, val_main_cst_14, v14 A, v63 A]
  funext i
  pointwise [mat, vec]
  simp only [Finset.univ_unique, Finset.sum_singleton, ← EReal.coe_mul, ← EReal.coe_add, ← EReal.coe_sub, ← EReal.coe_neg, sum_coe]
  exact congrArg _ (Finset.sum_congr rfl fun t _ => mul_comm _ _)

theorem v69 : val_main_v69 (F := Ideal) (mat 8192 1024 A.dh) (mat 8192 1024 A.h) (vec 1024 A.g) (vec 1024 A.sh) (vec 1024 A.sc) (vec 1024 A.gt) (mat 1024 5632 A.w) (mat 2816 1024 A.v) = fun i => ((A.dxn (i 0) (i 1) : ℝ) : EReal) := by
  simp only [val_main_v69, val_main_v68, val_main_v15, v63 A]
  funext i
  pointwise [mat, vec]
  rw [← EReal.coe_mul]
  rfl

theorem v72 : val_main_v72 (F := Ideal) (mat 8192 1024 A.dh) (mat 8192 1024 A.h) (vec 1024 A.g) (vec 1024 A.sh) (vec 1024 A.sc) (vec 1024 A.gt) (mat 1024 5632 A.w) (mat 2816 1024 A.v) = fun i => ((∑ k, A.h (i 0) k * A.dxn (i 0) k : ℝ) : EReal) := by
  simp only [val_main_v72, val_main_v71, val_main_cst_16, v69 A]
  funext i
  pointwise [mat, vec]
  simp only [← EReal.coe_mul, ← EReal.coe_add, ← EReal.coe_sub, ← EReal.coe_neg, sum_coe]

theorem v85 : val_main_v85 (F := Ideal) (mat 8192 1024 A.dh) (mat 8192 1024 A.h) (vec 1024 A.g) (vec 1024 A.sh) (vec 1024 A.sc) (vec 1024 A.gt) (mat 1024 5632 A.w) (mat 2816 1024 A.v) = fun i => ((A.dhp (i 0) (i 1) : ℝ) : EReal) := by
  simp only [val_main_v85, val_main_v83, val_main_v84, val_main_v76, val_main_v82, val_main_v81, val_main_v75, val_main_v80, val_main_v74, val_main_v79, val_main_cst_18, val_main_v77, val_main_v78, val_main_v73, val_main_cst_17, v69 A, v9 A, v12 A, v72 A]
  funext i
  pointwise [mat, vec]
  simp only [Finset.univ_unique, Finset.sum_singleton, w1024, ← EReal.coe_mul, ← EReal.coe_add, ← EReal.coe_sub, ← EReal.coe_neg, sum_coe]
  simp only [div_pos' _ (show (1024 : ℝ) ≠ 0 by norm_num), ← EReal.coe_mul, ← EReal.coe_add, ← EReal.coe_sub, ← EReal.coe_neg, sum_coe]
  exact congrArg _ (A.dhp_eq (i 0) (i 1))

theorem v94 : val_main_v94 (F := Ideal) (mat 8192 1024 A.dh) (mat 8192 1024 A.h) (vec 1024 A.g) (vec 1024 A.sh) (vec 1024 A.sc) (vec 1024 A.gt) (mat 1024 5632 A.w) (mat 2816 1024 A.v) = fun i => ((if (i 0).val = 0 then A.da (i 1) (i 2) else A.db (i 1) (i 2) : ℝ) : EReal) := by
  simp only [val_main_v94, val_main_v93, val_main_v91, val_main_v92, v53 A, v51 A]
  funext i
  pointwise [mat, vec]
  simp only [v51 A, v53 A, Nat.lt_one_iff]
  split <;> rfl

theorem v95 : val_main_v95 (F := Ideal) (mat 8192 1024 A.dh) (vec 1024 A.gt) = fun i => ((A.df (i 0) (i 1) : ℝ) : EReal) := by
  simp only [val_main_v95, v43 A]
  funext i
  pointwise [mat, vec]
  skip

theorem v97 : val_main_v97 (F := Ideal) (mat 8192 1024 A.dh) (mat 8192 1024 A.h) (vec 1024 A.g) (vec 1024 A.sh) (vec 1024 A.sc) (vec 1024 A.gt) (mat 1024 5632 A.w) (mat 2816 1024 A.v) = fun i => ((A.red (i 0) (i 1) : ℝ) : EReal) := by
  simp only [val_main_v97, val_main_v90, val_main_v96, val_main_v86, val_main_v87, val_main_v88, val_main_v89, val_main_cst_19, v58 A, v64 A, v49 A, v70 A]
  funext i
  pointwise [mat, vec]
  simp only [v58 A, v64 A, v49 A, v70 A]
  unfold Args.red
  have := (i 0).isLt
  split_ifs <;> first | rfl | omega

end Cert.Ffn.Ref

end
-- ==== Proof.Finite.lean ====
/- The precondition: every argument's elements are real numbers. -/
module

public import proofs.«01_k».proof.Defs
public import proofs.«01_k».proof.Proof.Gen.Pre_finite
public import proofs.«01_k».proof.Proof.Math
public import Idealize.ShloMosaic.Lib.ReduceAll
public import Idealize.ShloMosaic.Lib.Pointwise

@[expose] public section

noncomputable section

namespace Cert.Ffn.Finite

open Idealize.ShloMosaic Cert.Pre_finite

theorem wtop : Ideal.ofBits .f32 0x7F800000#32 = (⊤ : EReal) := by
  simp [Ideal.ofBits, Ideal.ieee]

/-- An extended real whose magnitude is below the greatest is real. -/
theorem coe_of_lt {x : EReal} (h : Ideal.cmp .olt (max x (-x)) ⊤ = 1#1) : ((x.toReal : ℝ) : EReal) = x := by
  have h' : max x (-x) < ⊤ := by
    by_contra hn
    simp [Ideal.cmp, hn] at h
  refine EReal.coe_toReal ?_ ?_
  · rintro rfl
    simp at h'
  · rintro rfl
    simp at h'

variable [Cert.Pre_finite.Facts]

theorem split {a b : IVec S_ 1} {j : S_.Idx} (h : andi a b j = 1#1) : a j = 1#1 ∧ b j = 1#1 := by
  have h' : a j &&& b j = 1#1 := h
  generalize a j = p at h'
  generalize b j = q at h'
  revert p q
  decide

instance : Subsingleton S_.Idx := ⟨fun a b => funext fun i => i.elim0⟩

/-- The conjunct of one argument, at every index. -/
theorem all {s : Shape} {axes : List (Fin s.rank)} (x : FVec Ideal s .f32) (hb : S_.BroadcastsInDim s (![] : Fin 0 → Fin s.rank)) (hr : s.ReducesTo axes S_)
    (h : Host.reduce IntOp.andi (cmpf .olt (Host.absf x) (broadcastInDim s ![] hb (constant S_ .f32 0x7F800000#32))) (constantI S_ 1 1#1) hr Facts.h_S_
      (fun i => i.elim0) = 1#1) (i : s.Idx) : (((x i : EReal).toReal : ℝ) : EReal) = x i := by
  have h1 := Host.reduce_andi_all _ _ _ _ _ h i
  refine coe_of_lt ?_
  rw [← wtop]
  exact h1

/-- A matrix index from its row and column. -/
def ix {n0 n1 : ℕ} (p : Fin n0) (q : Fin n1) : (⟨2, ![n0, n1]⟩ : Shape).Idx := Fin.cons p (Fin.cons q fun i => i.elim0)

theorem isMat {n0 n1 : ℕ} (x : (⟨2, ![n0, n1]⟩ : Shape).Idx → EReal) (h : ∀ i, (((x i).toReal : ℝ) : EReal) = x i) :
    x = mat n0 n1 fun p q => (x (ix p q)).toReal := by
  funext i
  have e : i = ix (i 0) (i 1) := by
    funext a
    match a with
    | ⟨0, _⟩ => rfl
    | ⟨1, _⟩ => rfl
  rw [← h i]
  exact congrArg (fun j => (((x j).toReal : ℝ) : EReal)) e

def ix1 {n0 : ℕ} (p : Fin n0) : (⟨1, ![n0]⟩ : Shape).Idx := Fin.cons p fun i => i.elim0

theorem isVec {n0 : ℕ} (x : (⟨1, ![n0]⟩ : Shape).Idx → EReal) (h : ∀ i, (((x i).toReal : ℝ) : EReal) = x i) :
    x = vec n0 fun p => (x (ix1 p)).toReal := by
  funext i
  rw [← h i]
  refine congrArg (fun j => (((x j).toReal : ℝ) : EReal)) (funext fun a => ?_)
  match a with
  | ⟨0, _⟩ => rfl

theorem finite (x0 x1 : FVec Ideal S8192x1024 .f32) (x2 x3 x4 x5 : FVec Ideal S1024 .f32) (x6 : FVec Ideal S1024x5632 .f32) (x7 : FVec Ideal S2816x1024 .f32)
    (h : Cert.Pre_finite.fn (F := Ideal) x0 x1 x2 x3 x4 x5 x6 x7 = fun _ => 1#1) :
    ∃ A : Args, x0 = mat 8192 1024 A.dh ∧ x1 = mat 8192 1024 A.h ∧ x2 = vec 1024 A.g ∧ x3 = vec 1024 A.sh ∧ x4 = vec 1024 A.sc ∧ x5 = vec 1024 A.gt
      ∧ x6 = mat 1024 5632 A.w ∧ x7 = mat 2816 1024 A.v := by
  have hj := congrFun h (fun i => i.elim0)
  unfold fn fn_part1 fn_part2 at hj
  obtain ⟨hj, h7⟩ := split hj
  obtain ⟨hj, h6⟩ := split hj
  obtain ⟨hj, h5⟩ := split hj
  obtain ⟨hj, h4⟩ := split hj
  obtain ⟨hj, h3⟩ := split hj
  obtain ⟨hj, h2⟩ := split hj
  obtain ⟨h0, h1⟩ := split hj
  exact ⟨⟨fun p q => (x0 (ix p q) : EReal).toReal, fun p q => (x1 (ix p q) : EReal).toReal, fun p => (x2 (ix1 p) : EReal).toReal,
      fun p => (x3 (ix1 p) : EReal).toReal, fun p => (x4 (ix1 p) : EReal).toReal, fun p => (x5 (ix1 p) : EReal).toReal,
      fun p q => (x6 (ix p q) : EReal).toReal, fun p q => (x7 (ix p q) : EReal).toReal⟩,
    isMat _ (all x0 _ _ h0), isMat _ (all x1 _ _ h1), isVec _ (all x2 _ _ h2), isVec _ (all x3 _ _ h3), isVec _ (all x4 _ _ h4), isVec _ (all x5 _ _ h5),
    isMat _ (all x6 _ _ h6), isMat _ (all x7 _ _ h7)⟩

end Cert.Ffn.Finite

end
-- ==== Proof.Wsum.lean ====
/- Sums over the rows of a matrix, taken tile by tile: arrays read at natural numbers, and the partial sums. -/
module

public import proofs.«01_k».proof.Proof.Math
public import Idealize.ShloMosaic.Lib.Claim
public import Idealize.ShloMosaic.Lib.Pipeline.ValueKit

@[expose] public section

noncomputable section

namespace Cert.Wsum

open Idealize.ShloMosaic

/-- A matrix read at two natural numbers, zero outside. -/
def at2 {m n : ℕ} (f : (⟨2, ![m, n]⟩ : Shape).Idx → EReal) (a b : ℕ) : EReal :=
  if h : a < m ∧ b < n then f (fun x => match x with | ⟨0, _⟩ => ⟨a, h.1⟩ | ⟨1, _⟩ => ⟨b, h.2⟩) else 0

theorem at2_apply {m n : ℕ} (f : (⟨2, ![m, n]⟩ : Shape).Idx → EReal) (i : (⟨2, ![m, n]⟩ : Shape).Idx) :
    f i = at2 f (i 0).val (i 1).val := by
  have h : (i 0).val < m ∧ (i 1).val < n := ⟨(i 0).isLt, (i 1).isLt⟩
  unfold at2
  rw [dif_pos h]
  refine congrArg f (funext fun x => ?_)
  match x with
  | ⟨0, _⟩ => rfl
  | ⟨1, _⟩ => rfl

/-- The sum over the first `k + 1` tiles of 2048 rows. -/
def part (T : ℕ → EReal) (k : ℕ) : EReal := ∑ i ∈ Finset.range (2048 * (k + 1)), T i

theorem part_zero (T : ℕ → EReal) : 0 + ∑ j : Fin 2048, T (2048 * 0 + j.val) = part T 0 := by
  unfold part
  rw [zero_add, Finset.sum_range]
  exact Finset.sum_congr rfl fun j _ => congrArg T (by omega)

theorem part_succ (T : ℕ → EReal) (k : ℕ) : part T k + ∑ j : Fin 2048, T (2048 * (k + 1) + j.val) = part T (k + 1) := by
  unfold part
  rw [show 2048 * (k + 1 + 1) = 2048 * (k + 1) + 2048 by omega, Finset.sum_range_add, ← Finset.sum_range (fun j => T (2048 * (k + 1) + j))]

theorem part_three (T : ℕ → EReal) : part T 3 = ∑ i : Fin 8192, T i.val := by
  unfold part
  exact Finset.sum_range T

end Cert.Wsum

end
-- ==== Proof.W2in.lean ====
/- The weight gradient of the second SwiGLU's up-projection: the array after the call is the sum over all rows. -/
module

public import proofs.«01_k».proof.Defs
public import proofs.«01_k».proof.Proof.Gen.Kernel2inIdeal.Value
public import proofs.«01_k».proof.Proof.Gen.Reference2inIdeal.Read
public import proofs.«01_k».proof.Proof.Wsum
public import Idealize.ShloMosaic.Lib.StableHlo.ReadAt
public import Idealize.ShloMosaic.Lib.Tactic.CleanTypes
public import Idealize.ShloMosaic.Lib.Pipeline.ReadBack
public import Idealize.ShloMosaic.Lib.WritesUnit

@[expose] public section

set_option maxRecDepth 16384

noncomputable section

namespace Cert.W2in

open Cert Cert.Kernel2inIdeal Cert.Kernel2inIdeal.Gen Idealize.ShloMosaic Idealize.ShloMosaic.TcCoe Idealize.SL.Sem
open Cert.Wsum

variable (m : (ℓ : Loc nD τ sig) → Buf (Elt Ideal) ℓ) (c : Dev nD)

/-- The three arguments as extended reals: the rows, and the gradients at the two halves of the projection's output. -/
def u : S8192x1024.Idx → EReal := m ((c : Thread nD τ).loc main_arg0)
def da : S8192x2816.Idx → EReal := m ((c : Thread nD τ).loc main_arg1)
def db : S8192x2816.Idx → EReal := m ((c : Thread nD τ).loc main_arg2)
/-- The half's gradients. -/
def d (n : ℕ) : S8192x2816.Idx → EReal := if n = 0 then da m c else db m c

theorem V3 : (V m c main_v3 : S2x8192x2816.Idx → EReal) = fun i => at2 (d m c (i 0).val) (i 1).val (i 2).val := by
  simp only [V, hostOps0]
  entry_read
  funext i
  try simp only [StableHlo.TRef.ofBuf_toBuf]
  try simp -implicitDefEqProofs only [StableHlo.TRef.toBuf, StableHlo.TRef.ofBuf, cast_cast, cast_eq]
  pointwise []
  have h2 : (i 0).val < 2 := (i 0).isLt
  unfold d
  split
  · rw [if_pos (by omega)]
    exact at2_apply (da m c) _
  · rw [if_neg (by omega)]
    exact at2_apply (db m c) _
theorem V4 : (V m c main_v4 : S8192x1024.Idx → EReal) = u m c := by
  simp only [V, hostOps0]
  entry_read
  rfl

/-- Where each window's block lies at point `t`. -/
theorem e0 : ∀ t : Fin cfg0.N, win0_0.index t = ![t.val / 8, t.val % 4, t.val / 4 % 2] := by decide +kernel
theorem e1 : ∀ t : Fin cfg0.N, win0_1.index t = ![t.val % 4, 0] := by decide +kernel
theorem e2 : ∀ t : Fin cfg0.N, win0_2.index t = ![t.val / 8, t.val / 4 % 2, 0] := by decide +kernel

theorem blk0 (t : Fin cfg0.N) : iblk m c 0 t = fun y : S1x2048x1408.Idx => at2 (d m c (t.val / 8)) (2048 * (t.val % 4) + (y 1).val) (1408 * (t.val / 4 % 2) + (y 2).val) := by
  funext y
  blk_simp [iblk]
  refine (congrFun (V3 m c) _).trans ?_
  have hy : (y 0).val < 1 := (y 0).isLt
  refine (congrArg (fun n => at2 (d m c n) _ _) ?_).trans (congrArg₂ (at2 (d m c (t.val / 8))) ?_ ?_) <;> blk_simp [e0] <;> omega

theorem blk1 (t : Fin cfg0.N) : iblk m c 1 t = fun y : S2048x1024.Idx => at2 (u m c) (2048 * (t.val % 4) + (y 0).val) (y 1).val := by
  funext y
  blk_simp [iblk]
  refine ((congrFun (V4 m c) _).trans (at2_apply _ _)).trans ?_
  refine congrArg₂ (at2 (u m c)) ?_ ?_ <;> blk_simp [e1] <;> omega

/-- The entry of a matrix under an entry of the block with a leading axis of one. -/
def ix (y : S1x1408x1024.Idx) : S1408x1024.Idx := fun x => match x with | ⟨0, _⟩ => y 1 | ⟨1, _⟩ => y 2

theorem p1 : k0_pay1 (F := Ideal) = fun _ => (0 : EReal) := by
  funext i
  pointwise [k0_pay1]
theorem p3 (f : S1408x1024.Idx → EReal) : k0_pay3 (F := Ideal) f = fun y : S1x1408x1024.Idx => f (ix y) := by
  funext i
  pointwise [k0_pay3]
  refine congrArg f (funext fun x => ?_)
  match x with
  | ⟨0, _⟩ => rfl
  | ⟨1, _⟩ => rfl
theorem p2 (v : S1408x1024.Idx → EReal) (a : ℕ → ℕ → EReal) (b : ℕ → ℕ → EReal) (k l : ℕ) :
    k0_pay2 (F := Ideal) v (fun y : S1x2048x1408.Idx => a (2048 * k + (y 1).val) (l + (y 2).val)) (fun y : S2048x1024.Idx => b (2048 * k + (y 0).val) (y 1).val)
      = fun i : S1408x1024.Idx => v i + ∑ j : Fin 2048, a (2048 * k + j.val) (l + (i 0).val) * b (2048 * k + j.val) (i 1).val := by
  funext i
  pointwise [k0_pay2]

/-- The product that row `i` contributes at an entry of the column block `q`: half `q / 2`, columns from `1408 (q mod 2)`. -/
def T (q : ℕ) (y : S1408x1024.Idx) (i : ℕ) : EReal := at2 (d m c (q / 2)) i (1408 * (q % 2) + (y 0).val) * at2 (u m c) i (y 1).val

/-- Half of the block's column. -/
theorem q8 (n : ℕ) : n / 8 = n / 4 / 2 := (Nat.div_div_eq_div_mul n 4 2).symm

/-- The scratch after a point, from an equation for what it held. -/
theorem stepA (t : Fin cfg0.N) (h0 : t.val % 4 = 0) (h1 : ¬ t.val % 4 = 3) :
    (outsAt0 m c t.val t.isLt).2 = fun y => part (T m c (t.val / 4) y) 0 := by
  rw [outsAt0_A m c t h0 h1]
  frame_out
  try simp only [read_unread_whole]
  rw [blk0, blk1, q8, p1, p2, h0]
  funext y
  exact part_zero (T m c (t.val / 4) y)

theorem stepB (t : Fin cfg0.N) (h0 : ¬ t.val % 4 = 0) (h1 : ¬ t.val % 4 = 3) {f : S1408x1024.Idx → EReal}
    (ih : (outsAt0 m c (t.val - 1) (by omega)).2 = f) :
    (outsAt0 m c t.val t.isLt).2 = fun y => f y + ∑ j : Fin 2048, T m c (t.val / 4) y (2048 * (t.val % 4) + j.val) := by
  rw [outsAt0_B m c t h0 h1]
  frame_out
  simp only [read_unread_whole]
  rw [blk0, blk1, q8, ih, p2]
  rfl

theorem stepC (t : Fin cfg0.N) (h0 : ¬ t.val % 4 = 0) (h1 : t.val % 4 = 3) {f : S1408x1024.Idx → EReal}
    (ih : (outsAt0 m c (t.val - 1) (by omega)).2 = f) :
    (outsAt0 m c t.val t.isLt).1 = fun y => f (ix y) + ∑ j : Fin 2048, T m c (t.val / 4) (ix y) (2048 * (t.val % 4) + j.val) := by
  rw [outsAt0_C m c t h0 h1]
  frame_out
  simp only [read_unread_whole]
  rw [blk0, blk1, q8, ih, p2, p3]
  rfl

/-- The scratch after point `n`, before a column block's last tile: the sums over the tiles so far. -/
theorem scratch (n : ℕ) (hn : n < cfg0.N) (h3 : ¬ n % 4 = 3) : (outsAt0 m c n hn).2 = fun y => part (T m c (n / 4) y) (n % 4) := by
  induction n with
  | zero => exact stepA m c ⟨0, hn⟩ rfl h3
  | succ n ih =>
    by_cases h0 : (n + 1) % 4 = 0
    · refine (stepA m c ⟨n + 1, hn⟩ h0 h3).trans ?_
      rw [h0]
    · refine (stepB m c ⟨n + 1, hn⟩ h0 h3 (ih (Nat.lt_of_succ_lt hn) (by omega))).trans ?_
      funext y
      show part (T m c (n / 4) y) (n % 4) + ∑ j : Fin 2048, T m c ((n + 1) / 4) y (2048 * ((n + 1) % 4) + j.val) = _
      rw [show (n + 1) / 4 = n / 4 by omega, show (n + 1) % 4 = n % 4 + 1 by omega]
      exact part_succ _ _

/-- The block written back after a column block's last tile: the sums over all rows. -/
theorem out3 (t : Fin cfg0.N) (h3 : t.val % 4 = 3) : (outsAt0 m c t.val t.isLt).1 = fun y => ∑ i : Fin 8192, T m c (t.val / 4) (ix y) i.val := by
  refine (stepC m c t (by omega) h3 (scratch m c (t.val - 1) (by omega) (by omega))).trans ?_
  funext y
  rw [show (t.val - 1) / 4 = t.val / 4 by omega, show (t.val - 1) % 4 = 2 by omega, h3]
  exact (part_succ _ 2).trans (part_three _)

theorem flush2 : ∀ t : Fin cfg0.N, (cfg0.win 2).flush t = true → t.val % 4 = 3 := by decide +kernel

/-- The weight gradient: `i 0` is the half, `i 1` a column of that half's gradients, `i 2` one of the rows. -/
def dw : S2x2816x1024.Idx → EReal := fun i => ∑ r : Fin 8192, at2 (d m c (i 0).val) r.val (i 1).val * at2 (u m c) r.val (i 2).val

theorem arr2 : (dats m 0 c).arrAt 2 cfg0.N = dw m c := by
  refine (dats m 0 c).arrAt_eq_of_covers 2 _ (by decide +kernel) fun t hf y => ?_
  have h3 := flush2 t hf
  blk_simp
  show (outsAt0 m c t.val t.isLt).1 _ = _
  rw [out3 m c t h3]
  have hy : (y 0).val < 1 := (y 0).isLt
  refine Finset.sum_congr rfl fun r _ => ?_
  refine congrArg₂ (fun x y : EReal => x * y) ((congrArg (fun n => at2 (d m c n) r.val _) ?_).trans (congrArg (fun p => at2 (d m c _) r.val p) ?_)) (congrArg (fun p => at2 (u m c) r.val p) ?_)
  · blk_simp [e2]
    omega
  · simp only [ix]
    blk_simp [e2]
    omega
  · simp only [ix]
    blk_simp [e2]

/-- Two matrices side by side, read at a column: the half is the quotient by the width. -/
theorem concat (i : Cert.Reference2inIdeal.S8192x5632.Idx) : Cert.Reference2inIdeal.Read.val_main_v4 (F := Ideal) (da m c) (db m c) i
    = at2 (d m c ((i 1).val / 2816)) (i 0).val ((i 1).val % 2816) := by
  have h1 : (i 1).val < 5632 := (i 1).isLt
  pointwise [Cert.Reference2inIdeal.Read.val_main_v4]
  unfold d
  split
  · rw [if_pos (by omega)]
    refine (at2_apply (da m c) _).trans (congrArg (at2 (da m c) _) ?_)
    show (i 1).val = _
    omega
  · rename_i h
    have h' : ¬ (i 1).val < 2816 := h
    refine (at2_apply (db m c) _).trans ((congrArg (at2 (db m c) _) ?_).trans (congrArg (fun f => at2 f _ _) (if_neg ?_).symm))
    · show (i 1).val - 2816 = _
      omega
    · omega

/-- The reference's value is the same sum. -/
theorem ref : Cert.Reference2inIdeal.Read.val_main_v9 (F := Ideal) (u m c) (da m c) (db m c) = dw m c := by
  funext i
  refine (Cert.Reference2inIdeal.Read.val_main_v9_apply _ _ _ _).trans ?_
  refine (Cert.Reference2inIdeal.Read.val_main_v8_apply _ _ _ _).trans ?_
  refine (Cert.Reference2inIdeal.Read.val_main_v7_apply _ _ _ _).trans ?_
  refine (Cert.Reference2inIdeal.Read.val_main_v6_apply _ _ _ _).trans ?_
  refine (Cert.Reference2inIdeal.Read.val_main_v5_apply _ _ _ _).trans ?_
  have h0 : (i 0).val < 2 := (i 0).isLt
  have h1 : (i 1).val < 2816 := (i 1).isLt
  have h2 : (i 2).val < 1024 := (i 2).isLt
  refine Finset.sum_congr rfl fun r _ => congrArg₂ (fun p q : EReal => p * q) ?_ ((at2_apply _ _).trans (congrArg (fun p => at2 (u m c) r.val p) ?_))
  · refine (concat m c _).trans ?_
    refine (congrArg (fun n => at2 (d m c n) _ _) ?_).trans (congrArg (fun p => at2 (d m c (i 0).val) r.val p) ?_)
    · show (((i 0).val * 2816 + (i 1).val) * 1024 + (i 2).val) / 1024 / 2816 = (i 0).val
      omega
    · show (((i 0).val * 2816 + (i 1).val) * 1024 + (i 2).val) / 1024 % 2816 = (i 1).val
      omega
  · show (((i 0).val * 2816 + (i 1).val) * 1024 + (i 2).val) % 1024 = (i 2).val
    omega

theorem algebraic : algebraic_Kernel2inIdeal_Reference2inIdeal := by
  pair_intro
  · run_from Cert.Kernel2inIdeal.Value.run_blocks m g
  · refine θ_run_mono (Cert.Reference2inIdeal.Value.run m' g') fun r hr c => ?_
    obtain ⟨r0, a⟩ := hr c
    refine ⟨(r0.trans (Cert.Reference2inIdeal.Read.val_main_v9_eq _ _ _)).trans ?_, a⟩
    rw [(hagree c).1, (hagree c).2.1, (hagree c).2.2]
    exact (ref m c).trans (arr2 m c).symm

/-- The reference's run leaves the arguments and the counters as they were. -/
theorem frame_ref : quiescent_Reference2inIdeal := fun m g _ =>
  θ_run_mono (Cert.Reference2inIdeal.Value.run m g) fun r hr => ⟨fun c => (hr c).2, sem_eq_zero_of_no_sems (by decide) r.2⟩

end Cert.W2in

end
-- ==== Proof.Win.lean ====
/- The weight gradient of the mixer's input projection: the array after the call is the sum over all rows. -/
module

public import proofs.«01_k».proof.Defs
public import proofs.«01_k».proof.Proof.Gen.KernelinIdeal.Value
public import proofs.«01_k».proof.Proof.Gen.ReferenceinIdeal.Read
public import proofs.«01_k».proof.Proof.Wsum
public import Idealize.ShloMosaic.Lib.StableHlo.ReadAt
public import Idealize.ShloMosaic.Lib.Tactic.CleanTypes
public import Idealize.ShloMosaic.Lib.Pipeline.ReadBack
public import Idealize.ShloMosaic.Lib.WritesUnit

@[expose] public section

set_option maxRecDepth 16384

noncomputable section

namespace Cert.Win

open Cert Cert.KernelinIdeal Cert.KernelinIdeal.Gen Idealize.ShloMosaic Idealize.ShloMosaic.TcCoe Idealize.SL.Sem
open Cert.Wsum

variable (m : (ℓ : Loc nD τ sig) → Buf (Elt Ideal) ℓ) (c : Dev nD)

/-- The two arguments as extended reals: the rows and the gradients at the projection's output. -/
def u : S8192x1024.Idx → EReal := m ((c : Thread nD τ).loc main_arg0)
def d : S8192x4608.Idx → EReal := m ((c : Thread nD τ).loc main_arg1)

theorem V0 : (V m c main_v0 : S8192x4608.Idx → EReal) = d m c := by
  simp only [V, hostOps0]
  entry_read
  rfl
theorem V1 : (V m c main_v1 : S8192x1024.Idx → EReal) = u m c := by
  simp only [V, hostOps0]
  entry_read
  rfl

/-- Where each window's block lies at point `t`. -/
theorem e0 : ∀ t : Fin cfg0.N, win0_0.index t = ![t.val % 4, t.val / 4] := by decide +kernel
theorem e1 : ∀ t : Fin cfg0.N, win0_1.index t = ![t.val % 4, 0] := by decide +kernel
theorem e2 : ∀ t : Fin cfg0.N, win0_2.index t = ![t.val / 4, 0] := by decide +kernel

theorem blk0 (t : Fin cfg0.N) : iblk m c 0 t = fun y : S2048x1152.Idx => at2 (d m c) (2048 * (t.val % 4) + (y 0).val) (1152 * (t.val / 4) + (y 1).val) := by
  funext y
  blk_simp [iblk]
  refine ((congrFun (V0 m c) _).trans (at2_apply _ _)).trans ?_
  refine congrArg₂ (at2 (d m c)) ?_ ?_ <;> blk_simp [e0] <;> omega

theorem blk1 (t : Fin cfg0.N) : iblk m c 1 t = fun y : S2048x1024.Idx => at2 (u m c) (2048 * (t.val % 4) + (y 0).val) (y 1).val := by
  funext y
  blk_simp [iblk]
  refine ((congrFun (V1 m c) _).trans (at2_apply _ _)).trans ?_
  refine congrArg₂ (at2 (u m c)) ?_ ?_ <;> blk_simp [e1] <;> omega

theorem p1 : k0_pay1 (F := Ideal) = fun _ => (0 : EReal) := by
  funext i
  pointwise [k0_pay1]
theorem p3 (f : S1152x1024.Idx → EReal) : k0_pay3 (F := Ideal) f = f := by
  funext i
  pointwise [k0_pay3]
theorem p2 (v : S1152x1024.Idx → EReal) (a : ℕ → ℕ → EReal) (b : ℕ → ℕ → EReal) (k l : ℕ) :
    k0_pay2 (F := Ideal) v (fun y : S2048x1152.Idx => a (2048 * k + (y 0).val) (l + (y 1).val)) (fun y : S2048x1024.Idx => b (2048 * k + (y 0).val) (y 1).val)
      = fun i : S1152x1024.Idx => v i + ∑ j : Fin 2048, a (2048 * k + j.val) (l + (i 0).val) * b (2048 * k + j.val) (i 1).val := by
  funext i
  pointwise [k0_pay2]

/-- The product that row `i` contributes at an entry of the column block `q`. -/
def T (q : ℕ) (y : S1152x1024.Idx) (i : ℕ) : EReal := at2 (d m c) i (1152 * q + (y 0).val) * at2 (u m c) i (y 1).val

/-- The scratch after a point, from an equation for what it held. -/
theorem stepA (t : Fin cfg0.N) (h0 : t.val % 4 = 0) (h1 : ¬ t.val % 4 = 3) :
    (outsAt0 m c t.val t.isLt).2 = fun y => part (T m c (t.val / 4) y) 0 := by
  rw [outsAt0_A m c t h0 h1]
  frame_out
  try simp only [read_unread_whole]
  rw [blk0, blk1, p1, p2, h0]
  funext y
  exact part_zero (T m c (t.val / 4) y)

theorem stepB (t : Fin cfg0.N) (h0 : ¬ t.val % 4 = 0) (h1 : ¬ t.val % 4 = 3) {f : S1152x1024.Idx → EReal}
    (ih : (outsAt0 m c (t.val - 1) (by omega)).2 = f) :
    (outsAt0 m c t.val t.isLt).2 = fun y => f y + ∑ j : Fin 2048, T m c (t.val / 4) y (2048 * (t.val % 4) + j.val) := by
  rw [outsAt0_B m c t h0 h1]
  frame_out
  simp only [read_unread_whole]
  rw [blk0, blk1, ih, p2]
  rfl

theorem stepC (t : Fin cfg0.N) (h0 : ¬ t.val % 4 = 0) (h1 : t.val % 4 = 3) {f : S1152x1024.Idx → EReal}
    (ih : (outsAt0 m c (t.val - 1) (by omega)).2 = f) :
    (outsAt0 m c t.val t.isLt).1 = fun y => f y + ∑ j : Fin 2048, T m c (t.val / 4) y (2048 * (t.val % 4) + j.val) := by
  rw [outsAt0_C m c t h0 h1]
  frame_out
  simp only [read_unread_whole]
  rw [blk0, blk1, ih, p2, p3]
  rfl

/-- The scratch after point `n`, before a column block's last tile: the sums over the tiles so far. -/
theorem scratch (n : ℕ) (hn : n < cfg0.N) (h3 : ¬ n % 4 = 3) : (outsAt0 m c n hn).2 = fun y => part (T m c (n / 4) y) (n % 4) := by
  induction n with
  | zero => exact stepA m c ⟨0, hn⟩ rfl h3
  | succ n ih =>
    by_cases h0 : (n + 1) % 4 = 0
    · refine (stepA m c ⟨n + 1, hn⟩ h0 h3).trans ?_
      rw [h0]
    · refine (stepB m c ⟨n + 1, hn⟩ h0 h3 (ih (Nat.lt_of_succ_lt hn) (by omega))).trans ?_
      funext y
      show part (T m c (n / 4) y) (n % 4) + ∑ j : Fin 2048, T m c ((n + 1) / 4) y (2048 * ((n + 1) % 4) + j.val) = _
      rw [show (n + 1) / 4 = n / 4 by omega, show (n + 1) % 4 = n % 4 + 1 by omega]
      exact part_succ _ _

/-- The block written back after a column block's last tile: the sums over all rows. -/
theorem out3 (t : Fin cfg0.N) (h3 : t.val % 4 = 3) : (outsAt0 m c t.val t.isLt).1 = fun y => ∑ i : Fin 8192, T m c (t.val / 4) y i.val := by
  refine (stepC m c t (by omega) h3 (scratch m c (t.val - 1) (by omega) (by omega))).trans ?_
  funext y
  rw [show (t.val - 1) / 4 = t.val / 4 by omega, show (t.val - 1) % 4 = 2 by omega, h3]
  exact (part_succ _ 2).trans (part_three _)

theorem flush2 : ∀ t : Fin cfg0.N, (cfg0.win 2).flush t = true → t.val % 4 = 3 := by decide +kernel

/-- The weight gradient: row `i 0` is a column of the gradients at the output, column `i 1` one of the rows. -/
def dw : S4608x1024.Idx → EReal := fun i => ∑ r : Fin 8192, at2 (d m c) r.val (i 0).val * at2 (u m c) r.val (i 1).val

theorem arr2 : (dats m 0 c).arrAt 2 cfg0.N = dw m c := by
  refine (dats m 0 c).arrAt_eq_of_covers 2 _ (by decide +kernel) fun t hf y => ?_
  have h3 := flush2 t hf
  blk_simp
  show (outsAt0 m c t.val t.isLt).1 _ = _
  rw [out3 m c t h3]
  refine Finset.sum_congr rfl fun r _ => congrArg₂ (fun p q => at2 (d m c) r.val p * at2 (u m c) r.val q) ?_ ?_
  · blk_simp [e2]
    omega
  · blk_simp [e2]

/-- The reference's value is the same sum. -/
theorem ref : Cert.ReferenceinIdeal.Read.val_main_v5 (F := Ideal) (u m c) (d m c) = dw m c := by
  funext i
  refine (Cert.ReferenceinIdeal.Read.val_main_v5_apply _ _ _).trans ?_
  refine (Cert.ReferenceinIdeal.Read.val_main_v4_apply _ _ _).trans ?_
  refine (Cert.ReferenceinIdeal.Read.val_main_v3_apply _ _ _).trans ?_
  refine (Cert.ReferenceinIdeal.Read.val_main_v2_apply _ _ _).trans ?_
  refine Finset.sum_congr rfl fun r _ => ?_
  exact congrArg₂ (fun p q : EReal => p * q) (at2_apply _ _) (at2_apply _ _)

theorem algebraic : algebraic_KernelinIdeal_ReferenceinIdeal := by
  pair_intro
  · run_from Cert.KernelinIdeal.Value.run_blocks m g
  · refine θ_run_mono (Cert.ReferenceinIdeal.Value.run m' g') fun r hr c => ?_
    obtain ⟨r0, a⟩ := hr c
    refine ⟨(r0.trans (Cert.ReferenceinIdeal.Read.val_main_v5_eq _ _)).trans ?_, a⟩
    rw [(hagree c).1, (hagree c).2]
    exact (ref m c).trans (arr2 m c).symm

/-- The reference's run leaves the arguments and the counters as they were. -/
theorem frame_ref : quiescent_ReferenceinIdeal := fun m g _ =>
  θ_run_mono (Cert.ReferenceinIdeal.Value.run m g) fun r hr => ⟨fun c => (hr c).2, sem_eq_zero_of_no_sems (by decide) r.2⟩

end Cert.Win

end
-- ==== Proof.Wbranch.lean ====
/- The weight gradient of the mixer's two branch projections: the array after the call is the sum over all rows. -/
module

public import proofs.«01_k».proof.Defs
public import proofs.«01_k».proof.Proof.Gen.KernelbranchIdeal.Value
public import proofs.«01_k».proof.Proof.Gen.ReferencebranchIdeal.Read
public import proofs.«01_k».proof.Proof.Wsum
public import Idealize.ShloMosaic.Lib.StableHlo.ReadAt
public import Idealize.ShloMosaic.Lib.Tactic.CleanTypes
public import Idealize.ShloMosaic.Lib.Pipeline.ReadBack
public import Idealize.ShloMosaic.Lib.WritesUnit

@[expose] public section

set_option maxRecDepth 16384

noncomputable section

namespace Cert.Wbranch

open Cert Cert.KernelbranchIdeal Cert.KernelbranchIdeal.Gen Idealize.ShloMosaic Idealize.ShloMosaic.TcCoe Idealize.SL.Sem
open Cert.Wsum

variable (m : (ℓ : Loc nD τ sig) → Buf (Elt Ideal) ℓ) (c : Dev nD)

/-- The two arguments as extended reals: the gradients at the branch's output and the branch's rows. -/
def u : S8192x1024.Idx → EReal := m ((c : Thread nD τ).loc main_arg1)
def d : S8192x256.Idx → EReal := m ((c : Thread nD τ).loc main_arg0)

theorem V0 : (V m c main_v0 : S8192x256.Idx → EReal) = d m c := by
  simp only [V, hostOps0]
  entry_read
  rfl
theorem V1 : (V m c main_v1 : S8192x1024.Idx → EReal) = u m c := by
  simp only [V, hostOps0]
  entry_read
  rfl

/-- Where each window's block lies at point `t`. -/
theorem e0 : ∀ t : Fin cfg0.N, win0_0.index t = ![t.val % 4, t.val / 4] := by decide +kernel
theorem e1 : ∀ t : Fin cfg0.N, win0_1.index t = ![t.val % 4, 0] := by decide +kernel
theorem e2 : ∀ t : Fin cfg0.N, win0_2.index t = ![t.val / 4, 0] := by decide +kernel

theorem blk0 (t : Fin cfg0.N) : iblk m c 0 t = fun y : S2048x256.Idx => at2 (d m c) (2048 * (t.val % 4) + (y 0).val) (256 * (t.val / 4) + (y 1).val) := by
  funext y
  blk_simp [iblk]
  refine ((congrFun (V0 m c) _).trans (at2_apply _ _)).trans ?_
  refine congrArg₂ (at2 (d m c)) ?_ ?_ <;> blk_simp [e0] <;> omega

theorem blk1 (t : Fin cfg0.N) : iblk m c 1 t = fun y : S2048x1024.Idx => at2 (u m c) (2048 * (t.val % 4) + (y 0).val) (y 1).val := by
  funext y
  blk_simp [iblk]
  refine ((congrFun (V1 m c) _).trans (at2_apply _ _)).trans ?_
  refine congrArg₂ (at2 (u m c)) ?_ ?_ <;> blk_simp [e1] <;> omega

theorem p1 : k0_pay1 (F := Ideal) = fun _ => (0 : EReal) := by
  funext i
  pointwise [k0_pay1]
theorem p3 (f : S256x1024.Idx → EReal) : k0_pay3 (F := Ideal) f = f := by
  funext i
  pointwise [k0_pay3]
theorem p2 (v : S256x1024.Idx → EReal) (a : ℕ → ℕ → EReal) (b : ℕ → ℕ → EReal) (k l : ℕ) :
    k0_pay2 (F := Ideal) v (fun y : S2048x256.Idx => a (2048 * k + (y 0).val) (l + (y 1).val)) (fun y : S2048x1024.Idx => b (2048 * k + (y 0).val) (y 1).val)
      = fun i : S256x1024.Idx => v i + ∑ j : Fin 2048, a (2048 * k + j.val) (l + (i 0).val) * b (2048 * k + j.val) (i 1).val := by
  funext i
  pointwise [k0_pay2]

/-- The product that row `i` contributes at an entry of the column block `q`. -/
def T (q : ℕ) (y : S256x1024.Idx) (i : ℕ) : EReal := at2 (d m c) i (256 * q + (y 0).val) * at2 (u m c) i (y 1).val

/-- The scratch after a point, from an equation for what it held. -/
theorem stepA (t : Fin cfg0.N) (h0 : t.val % 4 = 0) (h1 : ¬ t.val % 4 = 3) :
    (outsAt0 m c t.val t.isLt).2 = fun y => part (T m c (t.val / 4) y) 0 := by
  rw [outsAt0_A m c t h0 h1]
  frame_out
  try simp only [read_unread_whole]
  rw [blk0, blk1, p1, p2, h0]
  funext y
  exact part_zero (T m c (t.val / 4) y)

theorem stepB (t : Fin cfg0.N) (h0 : ¬ t.val % 4 = 0) (h1 : ¬ t.val % 4 = 3) {f : S256x1024.Idx → EReal}
    (ih : (outsAt0 m c (t.val - 1) (by omega)).2 = f) :
    (outsAt0 m c t.val t.isLt).2 = fun y => f y + ∑ j : Fin 2048, T m c (t.val / 4) y (2048 * (t.val % 4) + j.val) := by
  rw [outsAt0_B m c t h0 h1]
  frame_out
  simp only [read_unread_whole]
  rw [blk0, blk1, ih, p2]
  rfl

theorem stepC (t : Fin cfg0.N) (h0 : ¬ t.val % 4 = 0) (h1 : t.val % 4 = 3) {f : S256x1024.Idx → EReal}
    (ih : (outsAt0 m c (t.val - 1) (by omega)).2 = f) :
    (outsAt0 m c t.val t.isLt).1 = fun y => f y + ∑ j : Fin 2048, T m c (t.val / 4) y (2048 * (t.val % 4) + j.val) := by
  rw [outsAt0_C m c t h0 h1]
  frame_out
  simp only [read_unread_whole]
  rw [blk0, blk1, ih, p2, p3]
  rfl

/-- The scratch after point `n`, before a column block's last tile: the sums over the tiles so far. -/
theorem scratch (n : ℕ) (hn : n < cfg0.N) (h3 : ¬ n % 4 = 3) : (outsAt0 m c n hn).2 = fun y => part (T m c (n / 4) y) (n % 4) := by
  induction n with
  | zero => exact stepA m c ⟨0, hn⟩ rfl h3
  | succ n ih =>
    by_cases h0 : (n + 1) % 4 = 0
    · refine (stepA m c ⟨n + 1, hn⟩ h0 h3).trans ?_
      rw [h0]
    · refine (stepB m c ⟨n + 1, hn⟩ h0 h3 (ih (Nat.lt_of_succ_lt hn) (by omega))).trans ?_
      funext y
      show part (T m c (n / 4) y) (n % 4) + ∑ j : Fin 2048, T m c ((n + 1) / 4) y (2048 * ((n + 1) % 4) + j.val) = _
      rw [show (n + 1) / 4 = n / 4 by omega, show (n + 1) % 4 = n % 4 + 1 by omega]
      exact part_succ _ _

/-- The block written back after a column block's last tile: the sums over all rows. -/
theorem out3 (t : Fin cfg0.N) (h3 : t.val % 4 = 3) : (outsAt0 m c t.val t.isLt).1 = fun y => ∑ i : Fin 8192, T m c (t.val / 4) y i.val := by
  refine (stepC m c t (by omega) h3 (scratch m c (t.val - 1) (by omega) (by omega))).trans ?_
  funext y
  rw [show (t.val - 1) / 4 = t.val / 4 by omega, show (t.val - 1) % 4 = 2 by omega, h3]
  exact (part_succ _ 2).trans (part_three _)

theorem flush2 : ∀ t : Fin cfg0.N, (cfg0.win 2).flush t = true → t.val % 4 = 3 := by decide +kernel

/-- The weight gradient: row `i 0` is a column of the branch's rows, column `i 1` one of the gradients at its output. -/
def dw : S256x1024.Idx → EReal := fun i => ∑ r : Fin 8192, at2 (d m c) r.val (i 0).val * at2 (u m c) r.val (i 1).val

theorem arr2 : (dats m 0 c).arrAt 2 cfg0.N = dw m c := by
  refine (dats m 0 c).arrAt_eq_of_covers 2 _ (by decide +kernel) fun t hf y => ?_
  have h3 := flush2 t hf
  blk_simp
  show (outsAt0 m c t.val t.isLt).1 _ = _
  rw [out3 m c t h3]
  refine Finset.sum_congr rfl fun r _ => congrArg₂ (fun p q => at2 (d m c) r.val p * at2 (u m c) r.val q) ?_ ?_
  · blk_simp [e2]
    omega
  · blk_simp [e2]

/-- The reference's value is the same sum. -/
theorem ref : Cert.ReferencebranchIdeal.Read.val_main_v4 (F := Ideal) (d m c) (u m c) = dw m c := by
  funext i
  refine (Cert.ReferencebranchIdeal.Read.val_main_v4_apply _ _ _).trans ?_
  refine (Cert.ReferencebranchIdeal.Read.val_main_v3_apply _ _ _).trans ?_
  refine (Cert.ReferencebranchIdeal.Read.val_main_v2_apply _ _ _).trans ?_
  refine Finset.sum_congr rfl fun r _ => ?_
  exact (mul_comm _ _).trans (congrArg₂ (fun p q : EReal => p * q) (at2_apply _ _) (at2_apply _ _))

theorem algebraic : algebraic_KernelbranchIdeal_ReferencebranchIdeal := by
  pair_intro
  · run_from Cert.KernelbranchIdeal.Value.run_blocks m g
  · refine θ_run_mono (Cert.ReferencebranchIdeal.Value.run m' g') fun r hr c => ?_
    obtain ⟨r0, a⟩ := hr c
    refine ⟨(r0.trans (Cert.ReferencebranchIdeal.Read.val_main_v4_eq _ _)).trans ?_, a⟩
    rw [(hagree c).1, (hagree c).2]
    exact (ref m c).trans (arr2 m c).symm

/-- The reference's run leaves the arguments and the counters as they were. -/
theorem frame_ref : quiescent_ReferencebranchIdeal := fun m g _ =>
  θ_run_mono (Cert.ReferencebranchIdeal.Value.run m g) fun r hr => ⟨fun c => (hr c).2, sem_eq_zero_of_no_sems (by decide) r.2⟩

end Cert.Wbranch

end
-- ==== Proof.Fwd.lean ====
/- The feed-forward block's forward call: the mathematics over the extended reals, and the five arrays after the call.
   The call and the mathematics associate their products alike, so nothing is asked of the arguments. -/
module

public import proofs.«01_k».proof.Defs
public import proofs.«01_k».proof.Proof.Gen.KernelfwdIdeal.Value
public import Idealize.ShloMosaic.Lib.Claim
public import Idealize.ShloMosaic.Lib.StableHlo.ReadAt
public import Idealize.ShloMosaic.Lib.Tactic.CleanTypes
public import Idealize.ShloMosaic.Lib.Pipeline.ValueKit
public import Idealize.ShloMosaic.Lib.Pipeline.ReadBack
public import Idealize.ShloMosaic.Lib.WritesUnit
public import Idealize.ShloMosaic.PureOps.Ideal.Laws
public import Idealize.ShloMosaic.Lib.Pointwise

@[expose] public section

set_option maxRecDepth 16384

noncomputable section

namespace Cert.Fwd

open Cert Cert.KernelfwdIdeal Cert.KernelfwdIdeal.Gen Idealize.ShloMosaic Idealize.ShloMosaic.TcCoe Idealize.SL.Sem

/-- The arguments: the rows `h`, the gain `g`, shift `sh`, scale `sc`, gate `gt`, and the two weights. -/
structure Args where
  h : Fin 8192 → Fin 1024 → EReal
  g : Fin 1024 → EReal
  sh : Fin 1024 → EReal
  sc : Fin 1024 → EReal
  gt : Fin 1024 → EReal
  w : Fin 1024 → Fin 5632 → EReal
  v : Fin 2816 → Fin 1024 → EReal

/-- The first and the second half of the up-projection's columns. -/
def lo (n : Fin 2816) : Fin 5632 := ⟨n.val, by omega⟩
def hi (n : Fin 2816) : Fin 5632 := ⟨2816 + n.val, by omega⟩

namespace Args

variable (A : Args)

/-- The reciprocal root of the mean of squares plus a small number, and the row normalised and modulated. -/
def r (t : Fin 8192) : EReal :=
  Ideal.rsqrt (Ideal.div (∑ k, A.h t k * A.h t k) (Ideal.ofBits .f32 1149239296#32) + Ideal.ofBits .f32 897988541#32)
def u (t : Fin 8192) (k : Fin 1024) : EReal := A.h t k * A.r t * A.g k * (1 + A.sc k) + A.sh k
/-- The two halves of the up-projection, the gated activation, the block's output, and the stream after it. -/
def a (t : Fin 8192) (n : Fin 2816) : EReal := ∑ k, A.u t k * A.w k (lo n)
def b (t : Fin 8192) (n : Fin 2816) : EReal := ∑ k, A.u t k * A.w k (hi n)
def act (t : Fin 8192) (n : Fin 2816) : EReal := A.a t n * Ideal.logistic (A.a t n) * A.b t n
def f (t : Fin 8192) (j : Fin 1024) : EReal := ∑ n, A.act t n * A.v n j
def hn (t : Fin 8192) (j : Fin 1024) : EReal := A.h t j + Ideal.ofBits .f32 1056964608#32 * A.gt j * A.f t j

end Args

/-- An array with two axes from a function of two indices, and the two halves on one leading axis. -/
def mat (a b : ℕ) (f : Fin a → Fin b → EReal) : (⟨2, ![a, b]⟩ : Shape).Idx → EReal := fun i => f (i 0) (i 1)
def vec (a : ℕ) (f : Fin a → EReal) : (⟨1, ![a]⟩ : Shape).Idx → EReal := fun i => f (i 0)
def two (a b : ℕ) (f g : Fin a → Fin b → EReal) : (⟨3, ![2, a, b]⟩ : Shape).Idx → EReal := fun i =>
  if (i 0).val = 0 then f (i 1) (i 2) else g (i 1) (i 2)

theorem mat_eta {a b : ℕ} (F : (⟨2, ![a, b]⟩ : Shape).Idx → EReal) : F = mat a b fun p q => F (ix2 p q) := by
  funext i
  refine congrArg F (funext fun x => ?_)
  match x with
  | ⟨0, _⟩ => rfl
  | ⟨1, _⟩ => rfl
theorem vec_eta {a : ℕ} (F : (⟨1, ![a]⟩ : Shape).Idx → EReal) : F = vec a fun p => F (ix1 p) := by
  funext i
  refine congrArg F (funext fun x => ?_)
  match x with
  | ⟨0, _⟩ => rfl

variable (m : (ℓ : Loc nD τ sig) → Buf (Elt Ideal) ℓ) (c : Dev nD)

/-- The arguments that core `c` is given. -/
def args : Args where
  h := fun p q => (m ((c : Thread nD τ).loc main_arg0) : S8192x1024.Idx → EReal) (ix2 p q)
  g := fun p => (m ((c : Thread nD τ).loc main_arg1) : S1024.Idx → EReal) (ix1 p)
  sh := fun p => (m ((c : Thread nD τ).loc main_arg2) : S1024.Idx → EReal) (ix1 p)
  sc := fun p => (m ((c : Thread nD τ).loc main_arg3) : S1024.Idx → EReal) (ix1 p)
  gt := fun p => (m ((c : Thread nD τ).loc main_arg4) : S1024.Idx → EReal) (ix1 p)
  w := fun p q => (m ((c : Thread nD τ).loc main_arg5) : S1024x5632.Idx → EReal) (ix2 p q)
  v := fun p q => (m ((c : Thread nD τ).loc main_arg6) : S2816x1024.Idx → EReal) (ix2 p q)

theorem a0 : m ((c : Thread nD τ).loc main_arg0) = mat 8192 1024 (args m c).h := mat_eta _
theorem a1 : m ((c : Thread nD τ).loc main_arg1) = vec 1024 (args m c).g := vec_eta _
theorem a2 : m ((c : Thread nD τ).loc main_arg2) = vec 1024 (args m c).sh := vec_eta _
theorem a3 : m ((c : Thread nD τ).loc main_arg3) = vec 1024 (args m c).sc := vec_eta _
theorem a4 : m ((c : Thread nD τ).loc main_arg4) = vec 1024 (args m c).gt := vec_eta _
theorem a5 : m ((c : Thread nD τ).loc main_arg5) = mat 1024 5632 (args m c).w := mat_eta _
theorem a6 : m ((c : Thread nD τ).loc main_arg6) = mat 2816 1024 (args m c).v := mat_eta _

theorem V9 : (V m c main_v9 : S2816x1024.Idx → EReal) = mat 2816 1024 (args m c).v := by
  simp only [V, hostOps0]
  entry_read
  rw [a6 m c]
  rfl

theorem V8 : (V m c main_v8 : S2x2816x1024.Idx → EReal) = fun i => (args m c).w (i 2) (if (i 0).val = 0 then lo (i 1) else hi (i 1)) := by
  simp only [V, hostOps0]
  entry_read
  rw [a5 m c]
  funext i
  try simp only [StableHlo.TRef.ofBuf_toBuf]
  try simp -implicitDefEqProofs only [StableHlo.TRef.toBuf, StableHlo.TRef.ofBuf, cast_cast, cast_eq]
  pointwise [mat]
  refine congrArg (fun n => (args m c).w (i 2 : Fin 1024) n) ?_
  have h2 : (i 0).val < 2 := (i 0).isLt
  split <;> simp only [lo, hi, Fin.mk.injEq] <;> omega

theorem V5 : (V m c main_v5 : S8x1024.Idx → EReal) = fun i => if (i 0).val = 0 then (args m c).g (i 1) else if (i 0).val = 1 then (args m c).sh (i 1) else if (i 0).val = 2 then (args m c).sc (i 1) else if (i 0).val = 3 then (args m c).gt (i 1) else 0 := by
  simp only [V, hostOps0]
  after_reads_simp
  generalize hops : (List.cons _ _ : List (HloOp τ sig (Elt Ideal))) = ops
  have r0 : (StableHlo.upto ops (fun b => m (c, b)) 6 (Proc.tc.devRef main_v0) : S1x1024.Idx → EReal) = fun i => (args m c).g (i 1) := by
    subst hops
    after_reads_simp
    exact (congrArg (fun x : S1024.Idx → EReal => broadcastInDim S1x1024 ![1] bcast_S1024_S1x1024_1 x) (a1 m c)).trans (by funext i; pointwise [vec]; try rfl)
  have r1 : (StableHlo.upto ops (fun b => m (c, b)) 6 (Proc.tc.devRef main_v1) : S1x1024.Idx → EReal) = fun i => (args m c).sh (i 1) := by
    subst hops
    after_reads_simp
    exact (congrArg (fun x : S1024.Idx → EReal => broadcastInDim S1x1024 ![1] bcast_S1024_S1x1024_1 x) (a2 m c)).trans (by funext i; pointwise [vec]; try rfl)
  have r2 : (StableHlo.upto ops (fun b => m (c, b)) 6 (Proc.tc.devRef main_v2) : S1x1024.Idx → EReal) = fun i => (args m c).sc (i 1) := by
    subst hops
    after_reads_simp
    exact (congrArg (fun x : S1024.Idx → EReal => broadcastInDim S1x1024 ![1] bcast_S1024_S1x1024_1 x) (a3 m c)).trans (by funext i; pointwise [vec]; try rfl)
  have r3 : (StableHlo.upto ops (fun b => m (c, b)) 6 (Proc.tc.devRef main_v3) : S1x1024.Idx → EReal) = fun i => (args m c).gt (i 1) := by
    subst hops
    after_reads_simp
    exact (congrArg (fun x : S1024.Idx → EReal => broadcastInDim S1x1024 ![1] bcast_S1024_S1x1024_1 x) (a4 m c)).trans (by funext i; pointwise [vec]; try rfl)
  have r4 : (StableHlo.upto ops (fun b => m (c, b)) 6 (Proc.tc.devRef main_v4) : S4x1024.Idx → EReal) = fun _ => (0 : EReal) := by
    subst hops
    after_reads_simp
    funext i
    pointwise
    try rfl
  clear hops
  change concatenate S8x1024 0 [⟨S1x1024, (StableHlo.upto ops (fun b => m (c, b)) 6 (Proc.tc.devRef main_v0) : S1x1024.Idx → EReal)⟩,
    ⟨S1x1024, (StableHlo.upto ops (fun b => m (c, b)) 6 (Proc.tc.devRef main_v1) : S1x1024.Idx → EReal)⟩,
    ⟨S1x1024, (StableHlo.upto ops (fun b => m (c, b)) 6 (Proc.tc.devRef main_v2) : S1x1024.Idx → EReal)⟩,
    ⟨S1x1024, (StableHlo.upto ops (fun b => m (c, b)) 6 (Proc.tc.devRef main_v3) : S1x1024.Idx → EReal)⟩,
    ⟨S4x1024, (StableHlo.upto ops (fun b => m (c, b)) 6 (Proc.tc.devRef main_v4) : S4x1024.Idx → EReal)⟩] _ = _
  rw [r0, r1, r2, r3, r4]
  funext i
  pointwise
  have h8 : (i 0).val < 8 := (i 0).isLt
  split_ifs <;> first | rfl | omega

/-- Where each window's block lies at point `t`. -/
theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![0, t.val, 0] := by decide +kernel
theorem e5 : ∀ t : Fin cfg0.N, win0_5.index t = ![t.val, 0] := by decide +kernel
theorem e6 : ∀ t : Fin cfg0.N, win0_6.index t = ![t.val, 0] := by decide +kernel

/-- Row `j` of tile `t`. -/
def at' (t : Fin cfg0.N) (j : Fin 256) : Fin 8192 := ⟨256 * t.val + j.val, by have : t.val < 32 := t.isLt; omega⟩

/-- A tile's rows of a matrix, one row vector, and one half of the up-projection, transposed. -/
def rows (ρ : Fin 256 → Fin 8192) (f : Fin 8192 → Fin 1024 → EReal) : S256x1024.Idx → EReal := fun i => f (ρ (i 0)) (i 1)
def wide (ρ : Fin 256 → Fin 8192) (f : Fin 8192 → Fin 2816 → EReal) : S256x2816.Idx → EReal := fun i => f (ρ (i 0)) (i 1)
def half (ρ : Fin 256 → Fin 8192) (f : Fin 8192 → Fin 2816 → EReal) : S1x256x2816.Idx → EReal := fun i => f (ρ (i 1)) (i 2)
def row (f : Fin 1024 → EReal) : S1x1024.Idx → EReal := fun i => f (i 1)
def win (A : Args) (n : Fin 2816 → Fin 5632) : S1x2816x1024.Idx → EReal := fun i => A.w (i 2) (n (i 1))

theorem blk0 (t : Fin cfg0.N) : iblk m c 0 t = rows (at' t) (args m c).h := by
  funext y
  blk_simp [iblk]
  refine (congrFun ((V_main_arg0 m c).trans (a0 m c)) _).trans ?_
  refine congrArg₂ (args m c).h (Fin.ext ?_) (Fin.ext ?_)
  · blk_simp [e0]
    simp only [at']
    omega
  · blk_simp [e0]

theorem blk1 (t : Fin cfg0.N) : iblk m c 1 t = fun y : S8x1024.Idx =>
    if (y 0).val = 0 then (args m c).g (y 1) else if (y 0).val = 1 then (args m c).sh (y 1) else if (y 0).val = 2 then (args m c).sc (y 1) else if (y 0).val = 3 then (args m c).gt (y 1) else 0 := by
  funext y
  blk_simp [iblk]
  refine (congrFun (V5 m c) _).trans ?_
  have h0 : ((win0_1.blk t).view.emb y 0 : Fin 8) = y 0 := by refine Fin.ext ?_; blk_simp [e1]
  have h1 : ((win0_1.blk t).view.emb y 1 : Fin 1024) = y 1 := by refine Fin.ext ?_; blk_simp [e1]
  exact congrArg₂ (fun (p : Fin 8) (q : Fin 1024) => if p.val = 0 then (args m c).g q else if p.val = 1 then (args m c).sh q else if p.val = 2 then (args m c).sc q else if p.val = 3 then (args m c).gt q else 0) h0 h1

theorem blk1g (t : Fin cfg0.N) : View.ld (iblk m c 1 t) (Rect.unit ![0, 0] ![1, 1024] inb_S8x1024_S1x1024_0_0) = row (args m c).g := by
  rw [blk1]
  funext y
  pointwise [row]
theorem blk1sh (t : Fin cfg0.N) : View.ld (iblk m c 1 t) (Rect.unit ![1, 0] ![1, 1024] inb_S8x1024_S1x1024_1_0) = row (args m c).sh := by
  rw [blk1]
  funext y
  pointwise [row]
theorem blk1sc (t : Fin cfg0.N) : View.ld (iblk m c 1 t) (Rect.unit ![2, 0] ![1, 1024] inb_S8x1024_S1x1024_2_0) = row (args m c).sc := by
  rw [blk1]
  funext y
  pointwise [row]
theorem blk1gt (t : Fin cfg0.N) : View.ld (iblk m c 1 t) (Rect.unit ![3, 0] ![1, 1024] inb_S8x1024_S1x1024_3_0) = row (args m c).gt := by
  rw [blk1]
  funext y
  pointwise [row]
theorem ldIn0 : View.ld (V m c main_v8 : S2x2816x1024.Idx → EReal) (Rect.unit ![0, 0, 0] ![1, 2816, 1024] inb_S2x2816x1024_S1x2816x1024_0_0_0) = win (args m c) lo := by
  rw [V8]
  funext y
  pointwise [win]
theorem ldIn1 : View.ld (V m c main_v8 : S2x2816x1024.Idx → EReal) (Rect.unit ![1, 0, 0] ![1, 2816, 1024] inb_S2x2816x1024_S1x2816x1024_1_0_0) = win (args m c) hi := by
  rw [V8]
  funext y
  pointwise [win]
theorem ldOut : View.ld (V m c main_v9 : S2816x1024.Idx → EReal) (Rect.unit ![0, 0] ![2816, 1024] inb_S2816x1024_S2816x1024_0_0) = mat 2816 1024 (args m c).v := by
  rw [V9]
  funext y
  pointwise [mat]

/-! The values of one tile. -/

variable {A : Args} {ρ : Fin 256 → Fin 8192}

theorem p9 (f : Fin 1024 → EReal) : k0_pay9 (F := Ideal) (row f) = row f := by
  funext i
  pointwise [k0_pay9, row]
theorem p10 : k0_pay10 (F := Ideal) (rows ρ A.h) (row A.g) (row A.sh) (row A.sc) = rows ρ A.u := by
  funext i
  pointwise [k0_pay10, rows, row]
  rfl
theorem p11 : k0_pay11 (F := Ideal) = fun _ => (0 : EReal) := by
  funext i
  pointwise [k0_pay11]
theorem p12 : k0_pay12 (F := Ideal) (win A lo) = fun i : S2816x1024.Idx => A.w (i 1) (lo (i 0)) := by
  funext i
  pointwise [k0_pay12, win]
theorem p1 : k0_pay1 (F := Ideal) (rows ρ A.u) (k0_pay12 (F := Ideal) (win A lo)) = wide ρ A.a := by
  rw [p12]
  funext i
  pointwise [k0_pay1, rows, wide]
  rfl
theorem p2 : k0_pay2 (F := Ideal) (rows ρ A.u) (win A hi) = wide ρ A.b := by
  funext i
  pointwise [k0_pay2, rows, wide, win]
  rfl
theorem p3 : k0_pay3 (F := Ideal) (rows ρ A.u) (k0_pay12 (F := Ideal) (win A lo)) (win A hi) = wide ρ A.act := by
  unfold k0_pay3
  rw [p1, p2]
  funext i
  pointwise [wide]
  rfl
theorem p4 : k0_pay4 (F := Ideal) (rows ρ A.u) (k0_pay12 (F := Ideal) (win A lo)) = half ρ A.a := by
  unfold k0_pay4
  rw [p1]
  funext i
  pointwise [wide, half]
theorem p5 : k0_pay5 (F := Ideal) (rows ρ A.u) (win A hi) = half ρ A.b := by
  unfold k0_pay5
  rw [p2]
  funext i
  pointwise [wide, half]
theorem p6 : k0_pay6 (F := Ideal) (rows ρ A.u) k0_pay11 (k0_pay12 (F := Ideal) (win A lo)) (win A hi) (mat 2816 1024 A.v) = rows ρ A.f := by
  unfold k0_pay6
  rw [p3, p11]
  funext i
  pointwise [wide, rows, mat]
  rfl
theorem p7 : k0_pay7 (F := Ideal) (rows ρ A.u) k0_pay11 (k0_pay12 (F := Ideal) (win A lo)) (win A hi) (mat 2816 1024 A.v) = rows ρ A.f := by
  unfold k0_pay7
  rw [p6]
  funext i
  pointwise [rows]
theorem p8 : k0_pay8 (F := Ideal) (rows ρ A.h) (row A.gt) (rows ρ A.u) k0_pay11 (k0_pay12 (F := Ideal) (win A lo)) (win A hi) (mat 2816 1024 A.v) = rows ρ A.hn := by
  unfold k0_pay8
  rw [p6]
  funext i
  pointwise [rows, row]
  rfl

end Cert.Fwd

end
-- ==== Proof.FwdRef.lean ====
/- The reference of the feed-forward block's forward pass, one stage after another: each value is the mathematics' own. -/
module

public import proofs.«01_k».proof.Proof.Gen.ReferencefwdIdeal.Read
public import proofs.«01_k».proof.Proof.Fwd

@[expose] public section

set_option maxRecDepth 16384

noncomputable section

namespace Cert.Fwd.Ref

open Cert.ReferencefwdIdeal Cert.ReferencefwdIdeal.Read Idealize.ShloMosaic

variable (A : Args)

theorem v20 : val_main_v20 (F := Ideal) (mat 8192 1024 A.h) (vec 1024 A.g) (vec 1024 A.sh) (vec 1024 A.sc) = mat 8192 1024 A.u := by
  simp only [val_main_v20, val_main_v19, val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  funext i
  pointwise [mat, vec]
  rfl

theorem v22 : val_main_v22 (F := Ideal) (mat 8192 1024 A.h) (vec 1024 A.g) (vec 1024 A.sh) (vec 1024 A.sc) (mat 1024 5632 A.w) = mat 8192 2816 A.a := by
  simp only [val_main_v22, val_main_v21, v20]
  funext i
  pointwise [mat, vec]
  refine Finset.sum_congr rfl fun k _ => congrArg (fun n => A.u (i 0) k * A.w k n) (Fin.ext ?_)
  simp only [lo]

theorem v23 : val_main_v23 (F := Ideal) (mat 8192 1024 A.h) (vec 1024 A.g) (vec 1024 A.sh) (vec 1024 A.sc) (mat 1024 5632 A.w) = mat 8192 2816 A.b := by
  simp only [val_main_v23, val_main_v21, v20]
  funext i
  pointwise [mat, vec]
  refine Finset.sum_congr rfl fun k _ => congrArg (fun n => A.u (i 0) k * A.w k n) (Fin.ext ?_)
  simp only [hi]

theorem v25 : val_main_v25 (F := Ideal) (mat 8192 1024 A.h) (vec 1024 A.g) (vec 1024 A.sh) (vec 1024 A.sc) (mat 1024 5632 A.w) = mat 8192 2816 A.act := by
  simp only [val_main_v25, val_main_v24, val_main_call0_v5, val_main_call0_v4, val_main_call0_v3, val_main_call0_v2, val_main_call0_v1, val_main_call0_v0, val_main_call0_cst, val_main_call0_cst_0, v22, v23]
  funext i
  pointwise [mat, vec]
  rfl

theorem v26 : val_main_v26 (F := Ideal) (mat 8192 1024 A.h) (vec 1024 A.g) (vec 1024 A.sh) (vec 1024 A.sc) (mat 1024 5632 A.w) (mat 2816 1024 A.v) = mat 8192 1024 A.f := by
  simp only [val_main_v26, v25]
  funext i
  pointwise [mat, vec]
  rfl

theorem v32 : val_main_v32 (F := Ideal) (mat 8192 1024 A.h) (vec 1024 A.g) (vec 1024 A.sh) (vec 1024 A.sc) (vec 1024 A.gt) (mat 1024 5632 A.w) (mat 2816 1024 A.v) = mat 8192 1024 A.hn := by
  simp only [val_main_v32, val_main_v31, val_main_v30, val_main_v29, val_main_v28, val_main_v27, val_main_cst_3, v26]
  funext i
  pointwise [mat, vec]
  rfl

theorem v33 : val_main_v33 (F := Ideal) (mat 8192 1024 A.h) (vec 1024 A.g) (vec 1024 A.sh) (vec 1024 A.sc) = mat 8192 1024 A.u := by
  simp only [val_main_v33, v20]
  funext i
  pointwise [mat, vec]

theorem v37 : val_main_v37 (F := Ideal) (mat 8192 1024 A.h) (vec 1024 A.g) (vec 1024 A.sh) (vec 1024 A.sc) (mat 1024 5632 A.w) = two 8192 2816 A.a A.b := by
  simp only [val_main_v37, val_main_v36, val_main_v35, val_main_v34]
  funext i
  pointwise [mat, vec, two]
  refine (dite_eq_ite ..).trans ?_
  have e : (i 0).val < 1 ↔ (i 0).val = 0 := by omega
  exact if_congr e (congrFun (v22 A) _) (congrFun (v23 A) _)

theorem v38 : val_main_v38 (F := Ideal) (mat 8192 1024 A.h) (vec 1024 A.g) (vec 1024 A.sh) (vec 1024 A.sc) (mat 1024 5632 A.w) = mat 8192 2816 A.act := by
  simp only [val_main_v38, v25]
  funext i
  pointwise [mat, vec]

theorem v39 : val_main_v39 (F := Ideal) (mat 8192 1024 A.h) (vec 1024 A.g) (vec 1024 A.sh) (vec 1024 A.sc) (mat 1024 5632 A.w) (mat 2816 1024 A.v) = mat 8192 1024 A.f := by
  simp only [val_main_v39, v26]
  funext i
  pointwise [mat, vec]

end Cert.Fwd.Ref

end
-- ==== Proof.FwdArr.lean ====
/- What the call leaves in its buffers after each tile, the five arrays after it, and the claim. -/
module

public import proofs.«01_k».proof.Proof.FwdRef

@[expose] public section

set_option maxRecDepth 16384

noncomputable section

namespace Cert.Fwd

open Cert Cert.KernelfwdIdeal Cert.KernelfwdIdeal.Gen Idealize.ShloMosaic Idealize.ShloMosaic.TcCoe Idealize.SL.Sem

variable (m : (ℓ : Loc nD τ sig) → Buf (Elt Ideal) ℓ) (c : Dev nD)

/-- A load of any box after a fill of the whole buffer reads the fill there. -/
theorem readCov_whole {sig : RefSig} {κ : Kind} {sp : Space} {s : Shape} {e : EltTy} (v : View sig κ sp s e) (Z : s.Idx → Elt Ideal e)
    {off : Fin s.rank → ℕ} {size : Fin s.rank → ℕ} (inb : ∀ a, off a + size a ≤ s.size a) :
    v.readCov [(⟨Rect.whole s, Z⟩ : View.Piece (Elt Ideal) s e)] (Rect.unit off size inb).toLoadRect = View.ld Z (Rect.unit off size inb) :=
  View.readCov_fill v (off := fun _ => 0) (fun a => by simp) Z [] _ fun _ => rfl

theorem canon_whole {s : Shape} {e : EltTy} (Z : s.Idx → Elt Ideal e) (y : s.Idx) : View.canon [(⟨Rect.whole s, Z⟩ : View.Piece (Elt Ideal) s e)] y = Z y := by
  have h := View.canon_cons_emb (Val := Elt Ideal) (Rect.whole s) Z [] y
  rwa [Rect.emb_whole_apply] at h

/-- Both weight buffers hold the whole weights from the first point on. -/
theorem scratch (n : ℕ) (hn : n < cfg0.N) : (outsAt0 m c n hn).2.2.2.2.2.1 = V m c main_v8 ∧ (outsAt0 m c n hn).2.2.2.2.2.2 = V m c main_v9 := by
  induction n with
  | zero =>
    constructor
    · rw [outsAt0_A m c ⟨0, hn⟩ rfl]
      frame_out
      funext y
      exact canon_whole _ y
    · rw [outsAt0_A m c ⟨0, hn⟩ rfl]
      frame_out
      funext y
      exact canon_whole _ y
  | succ n ih =>
    have hN : n + 1 < 32 := hn
    have h : ¬ (n + 1) % 32 = 0 := by omega
    have := ih (by omega)
    constructor
    · rw [outsAt0_B m c ⟨n + 1, hn⟩ h]
      exact this.1
    · rw [outsAt0_B m c ⟨n + 1, hn⟩ h]
      exact this.2

variable {A : Args} {ρ : Fin 256 → Fin 8192}

/-- What the body computes, from equations for what it loads. -/
theorem uEq {x : S256x1024.Idx → EReal} {g sh sc : S1x1024.Idx → EReal} (hx : x = rows ρ A.h) (hg : g = row A.g) (hsh : sh = row A.sh) (hsc : sc = row A.sc) :
    k0_pay10 (F := Ideal) x g sh sc = rows ρ A.u := by
  subst hx hg hsh hsc
  exact p10
theorem actEq {u : S256x1024.Idx → EReal} {w0 w1 : S1x2816x1024.Idx → EReal} (hu : u = rows ρ A.u) (h0 : w0 = win A lo) (h1 : w1 = win A hi) :
    k0_pay3 (F := Ideal) u (k0_pay12 (F := Ideal) w0) w1 = wide ρ A.act := by
  subst hu h0 h1
  exact p3
theorem fEq {u : S256x1024.Idx → EReal} {w0 w1 : S1x2816x1024.Idx → EReal} {v : S2816x1024.Idx → EReal} (hu : u = rows ρ A.u) (h0 : w0 = win A lo) (h1 : w1 = win A hi)
    (hv : v = mat 2816 1024 A.v) :
    k0_pay7 (F := Ideal) u k0_pay11 (k0_pay12 (F := Ideal) w0) w1 v = rows ρ A.f := by
  subst hu h0 h1 hv
  exact p7
theorem hnEq {x u : S256x1024.Idx → EReal} {gt : S1x1024.Idx → EReal} {w0 w1 : S1x2816x1024.Idx → EReal} {v : S2816x1024.Idx → EReal} (hx : x = rows ρ A.h) (hgt : gt = row A.gt)
    (hu : u = rows ρ A.u) (h0 : w0 = win A lo) (h1 : w1 = win A hi) (hv : v = mat 2816 1024 A.v) :
    k0_pay8 (F := Ideal) x (k0_pay9 (F := Ideal) gt) u k0_pay11 (k0_pay12 (F := Ideal) w0) w1 v = rows ρ A.hn := by
  subst hx hgt hu h0 h1 hv
  rw [p9]
  exact p8

/-- The two halves of the up-projection, stored one after the other. -/
theorem abEq {u : S256x1024.Idx → EReal} {w0 w1 : S1x2816x1024.Idx → EReal} (hu : u = rows ρ A.u) (h0 : w0 = win A lo) (h1 : w1 = win A hi) :
    View.canon (Val := Elt Ideal) (s := S2x256x2816) (e := .bf16)
      [⟨Rect.unit ![1, 0, 0] ![1, 256, 2816] inb_S2x256x2816_S1x256x2816_1_0_0, k0_pay5 (F := Ideal) u w1⟩,
        ⟨Rect.unit ![0, 0, 0] ![1, 256, 2816] inb_S2x256x2816_S1x256x2816_0_0_0, k0_pay4 (F := Ideal) u (k0_pay12 (F := Ideal) w0)⟩] =
      fun y : S2x256x2816.Idx => if (y 0).val = 0 then A.a (ρ (y 1)) (y 2) else A.b (ρ (y 1)) (y 2) := by
  subst hu h0 h1
  rw [p4, p5]
  funext y
  refine View.canon_apply_of_pieces (Val := Elt Ideal) (S := S2x256x2816) (e := .bf16)
    (fun y : S2x256x2816.Idx => if (y 0).val = 0 then A.a (ρ (y 1)) (y 2) else A.b (ρ (y 1)) (y 2)) _ ?_ y ?_
  · intro q hq x
    rcases List.mem_cons.mp hq with rfl | hq
    · show A.b (ρ (x 1)) (x 2) = _
      refine ((if_neg ?_).trans (congrArg₂ A.b (congrArg ρ (Fin.ext ?_)) (Fin.ext ?_))).symm
      · show ¬ 1 + 1 * (x 0).val = 0
        omega
      · exact (Nat.zero_add _).trans (Nat.one_mul _)
      · exact (Nat.zero_add _).trans (Nat.one_mul _)
    · rw [List.mem_singleton] at hq
      subst hq
      show A.a (ρ (x 1)) (x 2) = _
      have hx : (x 0).val < 1 := (x 0).isLt
      refine ((if_pos ?_).trans (congrArg₂ A.a (congrArg ρ (Fin.ext ?_)) (Fin.ext ?_))).symm
      · show 0 + 1 * (x 0).val = 0
        omega
      · exact (Nat.zero_add _).trans (Nat.one_mul _)
      · exact (Nat.zero_add _).trans (Nat.one_mul _)
  · have h0 : (y 0).val < 2 := (y 0).isLt
    have h1 : (y 1).val < 256 := (y 1).isLt
    have h2 : (y 2).val < 2816 := (y 2).isLt
    by_cases h : (y 0).val = 0
    · refine ⟨_, List.mem_cons_of_mem _ List.mem_cons_self, (Rect.mem_set_unit (inb := inb_S2x256x2816_S1x256x2816_0_0_0)).mpr fun a => ?_⟩
      match a with
      | 0 => exact ⟨Nat.zero_le _, show (y 0).val < 0 + 1 by omega⟩
      | 1 => exact ⟨Nat.zero_le _, show (y 1).val < 0 + 256 by omega⟩
      | 2 => exact ⟨Nat.zero_le _, show (y 2).val < 0 + 2816 by omega⟩
    · refine ⟨_, List.mem_cons_self, (Rect.mem_set_unit (inb := inb_S2x256x2816_S1x256x2816_1_0_0)).mpr fun a => ?_⟩
      match a with
      | 0 => exact ⟨show 1 ≤ (y 0).val by omega, show (y 0).val < 1 + 1 by omega⟩
      | 1 => exact ⟨Nat.zero_le _, show (y 1).val < 0 + 256 by omega⟩
      | 2 => exact ⟨Nat.zero_le _, show (y 2).val < 0 + 2816 by omega⟩

/-- The modulated rows of tile `t`, as the body computes them from its blocks. -/
theorem uAt (t : Fin cfg0.N) : k0_pay10 (F := Ideal) (iblk m c 0 t) (View.ld (iblk m c 1 t) (Rect.unit ![0, 0] ![1, 1024] inb_S8x1024_S1x1024_0_0))
    (View.ld (iblk m c 1 t) (Rect.unit ![1, 0] ![1, 1024] inb_S8x1024_S1x1024_1_0)) (View.ld (iblk m c 1 t) (Rect.unit ![2, 0] ![1, 1024] inb_S8x1024_S1x1024_2_0)) =
    rows (at' t) (args m c).u :=
  uEq (blk0 m c t) (blk1g m c t) (blk1sh m c t) (blk1sc m c t)

theorem o3A (t : Fin cfg0.N) (h0 : t.val % 32 = 0) : (outsAt0 m c t.val t.isLt).2.1 = rows (at' t) (args m c).u := by
  rw [outsAt0_A m c t h0]
  frame_out
  exact uAt m c t
theorem o3B (t : Fin cfg0.N) (h0 : ¬ t.val % 32 = 0) : (outsAt0 m c t.val t.isLt).2.1 = rows (at' t) (args m c).u := by
  rw [outsAt0_B m c t h0]
  frame_out
  exact uAt m c t
theorem o3 (t : Fin cfg0.N) : (outsAt0 m c t.val t.isLt).2.1 = rows (at' t) (args m c).u := by
  by_cases h : t.val % 32 = 0
  · exact o3A m c t h
  · exact o3B m c t h

theorem o4A (t : Fin cfg0.N) (h0 : t.val % 32 = 0) : (outsAt0 m c t.val t.isLt).2.2.1 = fun y : S2x256x2816.Idx =>
    if (y 0).val = 0 then (args m c).a (at' t (y 1)) (y 2) else (args m c).b (at' t (y 1)) (y 2) := by
  rw [outsAt0_A m c t h0]
  frame_out
  exact abEq (uAt m c t) ((readCov_whole _ _ _).trans (ldIn0 m c)) ((readCov_whole _ _ _).trans (ldIn1 m c))
theorem o4B (t : Fin cfg0.N) (h0 : ¬ t.val % 32 = 0) : (outsAt0 m c t.val t.isLt).2.2.1 = fun y : S2x256x2816.Idx =>
    if (y 0).val = 0 then (args m c).a (at' t (y 1)) (y 2) else (args m c).b (at' t (y 1)) (y 2) := by
  rw [outsAt0_B m c t h0]
  frame_out
  simp only [read_unread_whole, (scratch _ _ _ _).1, (scratch _ _ _ _).2]
  exact abEq (uAt m c t) (ldIn0 m c) (ldIn1 m c)
theorem o4 (t : Fin cfg0.N) : (outsAt0 m c t.val t.isLt).2.2.1 = fun y : S2x256x2816.Idx =>
    if (y 0).val = 0 then (args m c).a (at' t (y 1)) (y 2) else (args m c).b (at' t (y 1)) (y 2) := by
  by_cases h : t.val % 32 = 0
  · exact o4A m c t h
  · exact o4B m c t h

theorem o5A (t : Fin cfg0.N) (h0 : t.val % 32 = 0) : (outsAt0 m c t.val t.isLt).2.2.2.1 = wide (at' t) (args m c).act := by
  rw [outsAt0_A m c t h0]
  frame_out
  exact actEq (uAt m c t) ((readCov_whole _ _ _).trans (ldIn0 m c)) ((readCov_whole _ _ _).trans (ldIn1 m c))
theorem o5B (t : Fin cfg0.N) (h0 : ¬ t.val % 32 = 0) : (outsAt0 m c t.val t.isLt).2.2.2.1 = wide (at' t) (args m c).act := by
  rw [outsAt0_B m c t h0]
  frame_out
  simp only [read_unread_whole, (scratch _ _ _ _).1, (scratch _ _ _ _).2]
  exact actEq (uAt m c t) (ldIn0 m c) (ldIn1 m c)
theorem o5 (t : Fin cfg0.N) : (outsAt0 m c t.val t.isLt).2.2.2.1 = wide (at' t) (args m c).act := by
  by_cases h : t.val % 32 = 0
  · exact o5A m c t h
  · exact o5B m c t h

theorem o6A (t : Fin cfg0.N) (h0 : t.val % 32 = 0) : (outsAt0 m c t.val t.isLt).2.2.2.2.1 = rows (at' t) (args m c).f := by
  rw [outsAt0_A m c t h0]
  frame_out
  exact fEq (uAt m c t) ((readCov_whole _ _ _).trans (ldIn0 m c)) ((readCov_whole _ _ _).trans (ldIn1 m c)) ((readCov_whole _ _ _).trans (ldOut m c))
theorem o6B (t : Fin cfg0.N) (h0 : ¬ t.val % 32 = 0) : (outsAt0 m c t.val t.isLt).2.2.2.2.1 = rows (at' t) (args m c).f := by
  rw [outsAt0_B m c t h0]
  frame_out
  simp only [read_unread_whole, (scratch _ _ _ _).1, (scratch _ _ _ _).2]
  exact fEq (uAt m c t) (ldIn0 m c) (ldIn1 m c) (V9 m c)
theorem o6 (t : Fin cfg0.N) : (outsAt0 m c t.val t.isLt).2.2.2.2.1 = rows (at' t) (args m c).f := by
  by_cases h : t.val % 32 = 0
  · exact o6A m c t h
  · exact o6B m c t h

theorem o2A (t : Fin cfg0.N) (h0 : t.val % 32 = 0) : (outsAt0 m c t.val t.isLt).1 = rows (at' t) (args m c).hn := by
  rw [outsAt0_A m c t h0]
  frame_out
  exact hnEq (blk0 m c t) (blk1gt m c t) (uAt m c t) ((readCov_whole _ _ _).trans (ldIn0 m c)) ((readCov_whole _ _ _).trans (ldIn1 m c)) ((readCov_whole _ _ _).trans (ldOut m c))
theorem o2B (t : Fin cfg0.N) (h0 : ¬ t.val % 32 = 0) : (outsAt0 m c t.val t.isLt).1 = rows (at' t) (args m c).hn := by
  rw [outsAt0_B m c t h0]
  frame_out
  simp only [read_unread_whole, (scratch _ _ _ _).1, (scratch _ _ _ _).2]
  exact hnEq (blk0 m c t) (blk1gt m c t) (uAt m c t) (ldIn0 m c) (ldIn1 m c) (V9 m c)
theorem o2 (t : Fin cfg0.N) : (outsAt0 m c t.val t.isLt).1 = rows (at' t) (args m c).hn := by
  by_cases h : t.val % 32 = 0
  · exact o2A m c t h
  · exact o2B m c t h

theorem arr2 : (dats m 0 c).arrAt 2 cfg0.N = mat 8192 1024 (args m c).hn := by
  refine (dats m 0 c).arrAt_eq_of_covers 2 _ (by decide +kernel) fun t hf y => ?_
  blk_simp
  show (outsAt0 m c t.val t.isLt).1 _ = _
  rw [o2 m c t]
  refine congrArg₂ (args m c).hn (Fin.ext ?_) (Fin.ext ?_)
  · blk_simp [e2]
    simp only [at']
    omega
  · blk_simp [e2]

theorem arr3 : (dats m 0 c).arrAt 3 cfg0.N = mat 8192 1024 (args m c).u := by
  refine (dats m 0 c).arrAt_eq_of_covers 3 _ (by decide +kernel) fun t hf y => ?_
  blk_simp
  show (outsAt0 m c t.val t.isLt).2.1 _ = _
  rw [o3 m c t]
  refine congrArg₂ (args m c).u (Fin.ext ?_) (Fin.ext ?_)
  · blk_simp [e3]
    simp only [at']
    omega
  · blk_simp [e3]

theorem arr5 : (dats m 0 c).arrAt 5 cfg0.N = mat 8192 2816 (args m c).act := by
  refine (dats m 0 c).arrAt_eq_of_covers 5 _ (by decide +kernel) fun t hf y => ?_
  blk_simp
  show (outsAt0 m c t.val t.isLt).2.2.2.1 _ = _
  rw [o5 m c t]
  refine congrArg₂ (args m c).act (Fin.ext ?_) (Fin.ext ?_)
  · blk_simp [e5]
    simp only [at']
    omega
  · blk_simp [e5]

theorem arr6 : (dats m 0 c).arrAt 6 cfg0.N = mat 8192 1024 (args m c).f := by
  refine (dats m 0 c).arrAt_eq_of_covers 6 _ (by decide +kernel) fun t hf y => ?_
  blk_simp
  show (outsAt0 m c t.val t.isLt).2.2.2.2.1 _ = _
  rw [o6 m c t]
  refine congrArg₂ (args m c).f (Fin.ext ?_) (Fin.ext ?_)
  · blk_simp [e6]
    simp only [at']
    omega
  · blk_simp [e6]

theorem arr4 : (dats m 0 c).arrAt 4 cfg0.N = two 8192 2816 (args m c).a (args m c).b := by
  refine (dats m 0 c).arrAt_eq_of_covers 4 _ (by decide +kernel) fun t hf y => ?_
  refine (congrFun (o4 m c t) _).trans ?_
  have h0 : ((y 0).val = 0) = (((win0_4.blk t).view.emb y 0).val = 0) := by blk_simp [e4]
  have h1 : at' t (y 1) = ((win0_4.blk t).view.emb y 1 : Fin 8192) := by
    refine Fin.ext ?_
    blk_simp [e4]
    simp only [at']
    omega
  have h2 : y 2 = ((win0_4.blk t).view.emb y 2 : Fin 2816) := by
    refine Fin.ext ?_
    blk_simp [e4]
  exact if_congr (iff_of_eq h0) (congrArg₂ (args m c).a h1 h2) (congrArg₂ (args m c).b h1 h2)

theorem algebraic : algebraic_KernelfwdIdeal_ReferencefwdIdeal := by
  pair_intro
  · run_from Cert.KernelfwdIdeal.Value.run_blocks m g
  · refine θ_run_mono (Cert.ReferencefwdIdeal.Value.run m' g') fun r hr c => ?_
    obtain ⟨r0, r1, r2, r3, r4, a⟩ := hr c
    obtain ⟨g0, g1, g2, g3, g4, g5, g6⟩ := hagree c
    refine ⟨(r0.trans (Cert.ReferencefwdIdeal.Read.val_main_v32_eq _ _)).trans ?_, (r1.trans (Cert.ReferencefwdIdeal.Read.val_main_v33_eq _ _ _ _)).trans ?_,
      (r2.trans (Cert.ReferencefwdIdeal.Read.val_main_v37_eq _ _ _ _ _)).trans ?_, (r3.trans (Cert.ReferencefwdIdeal.Read.val_main_v38_eq _ _)).trans ?_,
      (r4.trans (Cert.ReferencefwdIdeal.Read.val_main_v39_eq _ _)).trans ?_, a⟩
    · rw [g0, g1, g2, g3, g4, g5, g6, a0 m c, a1 m c, a2 m c, a3 m c, a4 m c, a5 m c, a6 m c]
      exact (Ref.v32 (args m c)).trans (arr2 m c).symm
    · rw [g0, g1, g2, g3, a0 m c, a1 m c, a2 m c, a3 m c]
      exact (Ref.v33 (args m c)).trans (arr3 m c).symm
    · rw [g0, g1, g2, g3, g5, a0 m c, a1 m c, a2 m c, a3 m c, a5 m c]
      exact (Ref.v37 (args m c)).trans (arr4 m c).symm
    · rw [g0, g1, g2, g3, g5, a0 m c, a1 m c, a2 m c, a3 m c, a5 m c]
      exact (Ref.v38 (args m c)).trans (arr5 m c).symm
    · rw [g0, g1, g2, g3, g5, g6, a0 m c, a1 m c, a2 m c, a3 m c, a5 m c, a6 m c]
      exact (Ref.v39 (args m c)).trans (arr6 m c).symm

/-- The reference's run leaves the arguments and the counters as they were. -/
theorem frame_ref : quiescent_ReferencefwdIdeal := fun m g _ =>
  θ_run_mono (Cert.ReferencefwdIdeal.Value.run m g) fun r hr => ⟨fun c => (hr c).2.2.2.2.2, sem_eq_zero_of_no_sems (by decide) r.2⟩

end Cert.Fwd

end
-- ==== Proof.LastMath.lean ====
/- The last call's mathematics: the loss of the normalised rows against a target and its gradient, over the real numbers;
   and that the feed-forward block's output is real at real arguments. -/
module

public import proofs.«01_k».proof.Proof.Math
public import proofs.«01_k».proof.Proof.Fwd

@[expose] public section

noncomputable section

namespace Cert.Last

open Idealize.ShloMosaic Cert.Ffn

/-- The rows `x` that are normalised, the last norm's gain `g`, and the target `tg`. -/
structure Head where
  x : Fin 8192 → Fin 1024 → ℝ
  g : Fin 1024 → ℝ
  tg : Fin 8192 → Fin 1024 → ℝ

namespace Head

variable (H : Head)

/-- Mean of squares of row `t` plus a small number, its reciprocal root, and the normalised row. -/
def ms (t : Fin 8192) : ℝ := (∑ k, H.x t k * H.x t k) / 1024 + eps
def r (t : Fin 8192) : ℝ := (√(H.ms t))⁻¹
def xn (t : Fin 8192) (k : Fin 1024) : ℝ := H.x t k * H.r t
/-- The difference from the target, its mean square in row `t`, and half the sum of these over the rows: the loss. -/
def err (t : Fin 8192) (k : Fin 1024) : ℝ := H.xn t k * H.g k - H.tg t k
def sq (t : Fin 8192) : ℝ := (∑ k, H.err t k * H.err t k) / 1024
def loss : ℝ := 1 / 2 * ∑ t, H.sq t
/-- The loss's gradient: at the normalised row with its gain, at the gain, at the normalised row, at the row. -/
def dy (t : Fin 8192) (k : Fin 1024) : ℝ := H.err t k * (1 / 1024)
def dg (k : Fin 1024) : ℝ := ∑ t, H.dy t k * H.xn t k
def dxn (t : Fin 8192) (k : Fin 1024) : ℝ := H.dy t k * H.g k
def dx (t : Fin 8192) (k : Fin 1024) : ℝ := H.r t * (H.dxn t k - H.xn t k * ((∑ q, H.dxn t q * H.xn t q) / 1024))

theorem ms_pos (t : Fin 8192) : 0 < H.ms t := by
  unfold ms
  have h : 0 ≤ ∑ k, H.x t k * H.x t k := Finset.sum_nonneg fun k _ => mul_self_nonneg _
  have := eps_pos
  positivity

theorem r_sq (t : Fin 8192) : H.r t / H.ms t = H.r t * (H.r t * H.r t) := by
  have h := H.ms_pos t
  have hs : √(H.ms t) * √(H.ms t) = H.ms t := Real.mul_self_sqrt h.le
  unfold r
  rw [← mul_inv, hs, div_eq_mul_inv]

/-- The gradient at the row, as differentiating the row and its reciprocal root apart gives it. -/
theorem dx_eq (t : Fin 8192) (k : Fin 1024) :
    H.dxn t k * H.r t + H.x t k * ((∑ q, H.x t q * H.dxn t q) * (-(1 / 2) * (H.r t / H.ms t)) / 1024)
      + (∑ q, H.x t q * H.dxn t q) * (-(1 / 2) * (H.r t / H.ms t)) / 1024 * H.x t k = H.dx t k := by
  have e : ∑ q, H.dxn t q * H.xn t q = (∑ q, H.x t q * H.dxn t q) * H.r t := by
    rw [Finset.sum_mul]
    exact Finset.sum_congr rfl fun q _ => by unfold xn; ring
  unfold dx
  rw [e, H.r_sq]
  unfold xn
  ring

end Head

/-- Real arrays among the extended reals. -/
def co1 {a : ℕ} (f : Fin a → ℝ) : Fin a → EReal := fun k => ((f k : ℝ) : EReal)
def co2 {a b : ℕ} (f : Fin a → Fin b → ℝ) : Fin a → Fin b → EReal := fun t k => ((f t k : ℝ) : EReal)

theorem wtwo : Ideal.ofBits .f32 0x40000000#32 = ((2 : ℝ) : EReal) := by
  simp [Ideal.ofBits, Ideal.ieee, -EReal.coe_mul]; norm_num
theorem winv : Ideal.ofBits .f32 0x3A800000#32 = ((1 / 1024 : ℝ) : EReal) := by
  simp [Ideal.ofBits, Ideal.ieee, -EReal.coe_mul]; norm_num

/-- To be a real number. -/
def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, (EReal.coe_add a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.sum {ι : Type} [Fintype ι] {f : ι → EReal} (h : ∀ i, IsR (f i)) : IsR (∑ i, f i) := by
  choose g hg using h
  exact ⟨∑ i, g i, (Finset.sum_congr rfl fun i _ => hg i).trans (sum_coe _ _)⟩
theorem IsR.logistic {x : EReal} (hx : IsR x) : IsR (Ideal.logistic x) := by
  obtain ⟨a, rfl⟩ := hx
  exact ⟨_, Ideal.logistic_coe a⟩

variable {A : Fwd.Args}

theorem r_real (h : ∀ t k, IsR (A.h t k)) (t : Fin 8192) : IsR (A.r t) := by
  choose x hx using h
  refine ⟨(√((∑ k, x t k * x t k) / 1024 + eps))⁻¹, ?_⟩
  unfold Fwd.Args.r
  simp only [hx]
  exact coe_rsqrt_ms ⟨x, x, fun _ => 0, fun _ => 0, fun _ => 0, fun _ => 0, fun _ _ => 0, fun _ _ => 0⟩ t

/-- At real arguments the stream after the block is real. -/
theorem hn_real (h : ∀ t k, IsR (A.h t k)) (g : ∀ k, IsR (A.g k)) (sh : ∀ k, IsR (A.sh k)) (sc : ∀ k, IsR (A.sc k)) (gt : ∀ k, IsR (A.gt k))
    (w : ∀ k n, IsR (A.w k n)) (v : ∀ n k, IsR (A.v n k)) (t : Fin 8192) (j : Fin 1024) : IsR (A.hn t j) := by
  have one : IsR 1 := ⟨1, EReal.coe_one.symm⟩
  have u (k) : IsR (A.u t k) := ((((h t k).mul (r_real h t)).mul (g k)).mul (one.add (sc k))).add (sh k)
  have a (n) : IsR (A.a t n) := IsR.sum fun k => (u k).mul (w k _)
  have b (n) : IsR (A.b t n) := IsR.sum fun k => (u k).mul (w k _)
  have f : IsR (A.f t j) := IsR.sum fun n => (((a n).mul (a n).logistic).mul (b n)).mul (v n j)
  exact (h t j).add ((IsR.mul ⟨_, whalf⟩ (gt j)).mul f)

end Cert.Last

end
-- ==== Proof.Last.lean ====
/- The last call, which also computes the loss: what the host hands it, its blocks, and the values of one tile. -/
module

public import proofs.«01_k».proof.Proof.LastMath
public import proofs.«01_k».proof.Proof.Gen.KernellastIdeal.Value

@[expose] public section

set_option maxRecDepth 16384

noncomputable section

namespace Cert.Last

open Cert Cert.KernellastIdeal Cert.KernellastIdeal.Gen Idealize.ShloMosaic Idealize.ShloMosaic.TcCoe Idealize.SL.Sem
open Cert.Fwd (Args lo hi mat vec two mat_eta vec_eta rows wide half row win)

variable (m : (ℓ : Loc nD τ sig) → Buf (Elt Ideal) ℓ) (c : Dev nD)

/-- The block's arguments that core `c` is given. -/
def args : Args where
  h := fun p q => (m ((c : Thread nD τ).loc main_arg0) : S8192x1024.Idx → EReal) (ix2 p q)
  g := fun p => (m ((c : Thread nD τ).loc main_arg1) : S1024.Idx → EReal) (ix1 p)
  sh := fun p => (m ((c : Thread nD τ).loc main_arg2) : S1024.Idx → EReal) (ix1 p)
  sc := fun p => (m ((c : Thread nD τ).loc main_arg3) : S1024.Idx → EReal) (ix1 p)
  gt := fun p => (m ((c : Thread nD τ).loc main_arg4) : S1024.Idx → EReal) (ix1 p)
  w := fun p q => (m ((c : Thread nD τ).loc main_arg5) : S1024x5632.Idx → EReal) (ix2 p q)
  v := fun p q => (m ((c : Thread nD τ).loc main_arg6) : S2816x1024.Idx → EReal) (ix2 p q)

theorem a0 : m ((c : Thread nD τ).loc main_arg0) = mat 8192 1024 (args m c).h := mat_eta _
theorem a1 : m ((c : Thread nD τ).loc main_arg1) = vec 1024 (args m c).g := vec_eta _
theorem a2 : m ((c : Thread nD τ).loc main_arg2) = vec 1024 (args m c).sh := vec_eta _
theorem a3 : m ((c : Thread nD τ).loc main_arg3) = vec 1024 (args m c).sc := vec_eta _
theorem a4 : m ((c : Thread nD τ).loc main_arg4) = vec 1024 (args m c).gt := vec_eta _
theorem a5 : m ((c : Thread nD τ).loc main_arg5) = mat 1024 5632 (args m c).w := mat_eta _
theorem a6 : m ((c : Thread nD τ).loc main_arg6) = mat 2816 1024 (args m c).v := mat_eta _

/-- The last norm's gain and the target that core `c` is given. -/
def gain (p : Fin 1024) : EReal := (m ((c : Thread nD τ).loc main_arg7) : S1024.Idx → EReal) (ix1 p)
def target (p : Fin 8192) (q : Fin 1024) : EReal := (m ((c : Thread nD τ).loc main_arg8) : S8192x1024.Idx → EReal) (ix2 p q)

theorem a7 : m ((c : Thread nD τ).loc main_arg7) = vec 1024 (gain m c) := vec_eta _
theorem a8 : m ((c : Thread nD τ).loc main_arg8) = mat 8192 1024 (target m c) := mat_eta _

/-- The arguments are real: the rows after the block, the gain and the target are those of `H`. -/
structure At (H : Head) : Prop where
  x : (args m c).hn = co2 H.x
  g : gain m c = co1 H.g
  tg : target m c = co2 H.tg

theorem V8 : (V m c main_v8 : S8x1024.Idx → EReal) = fun i => if (i 0).val = 0 then gain m c (i 1) else 0 := by
  simp only [V, hostOps0]
  entry_read
  rw [a7 m c]
  funext i
  try simp only [StableHlo.TRef.ofBuf_toBuf]
  try simp -implicitDefEqProofs only [StableHlo.TRef.toBuf, StableHlo.TRef.ofBuf, cast_cast, cast_eq]
  pointwise [vec]
  split_ifs <;> first | rfl | omega

theorem V12 : (V m c main_v12 : S2816x1024.Idx → EReal) = mat 2816 1024 (args m c).v := by
  simp only [V, hostOps0]
  entry_read
  rw [a6 m c]
  rfl

theorem V11 : (V m c main_v11 : S2x2816x1024.Idx → EReal) = fun i => (args m c).w (i 2) (if (i 0).val = 0 then lo (i 1) else hi (i 1)) := by
  simp only [V, hostOps0]
  entry_read
  rw [a5 m c]
  funext i
  try simp only [StableHlo.TRef.ofBuf_toBuf]
  try simp -implicitDefEqProofs only [StableHlo.TRef.toBuf, StableHlo.TRef.ofBuf, cast_cast, cast_eq]
  pointwise [mat]
  refine congrArg (fun n => (args m c).w (i 2 : Fin 1024) n) ?_
  have h2 : (i 0).val < 2 := (i 0).isLt
  split <;> simp only [lo, hi, Fin.mk.injEq] <;> omega

theorem V5 : (V m c main_v5 : S8x1024.Idx → EReal) = fun i => if (i 0).val = 0 then (args m c).g (i 1) else if (i 0).val = 1 then (args m c).sh (i 1) else if (i 0).val = 2 then (args m c).sc (i 1) else if (i 0).val = 3 then (args m c).gt (i 1) else 0 := by
  simp only [V, hostOps0]
  after_reads_simp
  generalize hops : (List.cons _ _ : List (HloOp τ sig (Elt Ideal))) = ops
  have r0 : (StableHlo.upto ops (fun b => m (c, b)) 6 (Proc.tc.devRef main_v0) : S1x1024.Idx → EReal) = fun i => (args m c).g (i 1) := by
    subst hops
    after_reads_simp
    exact (congrArg (fun x : S1024.Idx → EReal => broadcastInDim S1x1024 ![1] bcast_S1024_S1x1024_1 x) (a1 m c)).trans (by funext i; pointwise [vec]; try rfl)
  have r1 : (StableHlo.upto ops (fun b => m (c, b)) 6 (Proc.tc.devRef main_v1) : S1x1024.Idx → EReal) = fun i => (args m c).sh (i 1) := by
    subst hops
    after_reads_simp
    exact (congrArg (fun x : S1024.Idx → EReal => broadcastInDim S1x1024 ![1] bcast_S1024_S1x1024_1 x) (a2 m c)).trans (by funext i; pointwise [vec]; try rfl)
  have r2 : (StableHlo.upto ops (fun b => m (c, b)) 6 (Proc.tc.devRef main_v2) : S1x1024.Idx → EReal) = fun i => (args m c).sc (i 1) := by
    subst hops
    after_reads_simp
    exact (congrArg (fun x : S1024.Idx → EReal => broadcastInDim S1x1024 ![1] bcast_S1024_S1x1024_1 x) (a3 m c)).trans (by funext i; pointwise [vec]; try rfl)
  have r3 : (StableHlo.upto ops (fun b => m (c, b)) 6 (Proc.tc.devRef main_v3) : S1x1024.Idx → EReal) = fun i => (args m c).gt (i 1) := by
    subst hops
    after_reads_simp
    exact (congrArg (fun x : S1024.Idx → EReal => broadcastInDim S1x1024 ![1] bcast_S1024_S1x1024_1 x) (a4 m c)).trans (by funext i; pointwise [vec]; try rfl)
  have r4 : (StableHlo.upto ops (fun b => m (c, b)) 6 (Proc.tc.devRef main_v4) : S4x1024.Idx → EReal) = fun _ => (0 : EReal) := by
    subst hops
    after_reads_simp
    funext i
    pointwise
    try rfl
  clear hops
  change concatenate S8x1024 0 [⟨S1x1024, (StableHlo.upto ops (fun b => m (c, b)) 6 (Proc.tc.devRef main_v0) : S1x1024.Idx → EReal)⟩,
    ⟨S1x1024, (StableHlo.upto ops (fun b => m (c, b)) 6 (Proc.tc.devRef main_v1) : S1x1024.Idx → EReal)⟩,
    ⟨S1x1024, (StableHlo.upto ops (fun b => m (c, b)) 6 (Proc.tc.devRef main_v2) : S1x1024.Idx → EReal)⟩,
    ⟨S1x1024, (StableHlo.upto ops (fun b => m (c, b)) 6 (Proc.tc.devRef main_v3) : S1x1024.Idx → EReal)⟩,
    ⟨S4x1024, (StableHlo.upto ops (fun b => m (c, b)) 6 (Proc.tc.devRef main_v4) : S4x1024.Idx → EReal)⟩] _ = _
  rw [r0, r1, r2, r3, r4]
  funext i
  pointwise
  have h8 : (i 0).val < 8 := (i 0).isLt
  split_ifs <;> first | rfl | omega

/-- Where each window's block lies at point `t`. -/
theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![0, 0] := by decide +kernel
theorem e4 : ∀ t : Fin cfg0.N, win0_4.index t = ![t.val, 0] := by decide +kernel
theorem e5 : ∀ t : Fin cfg0.N, win0_5.index t = ![t.val, 0] := by decide +kernel
theorem e6 : ∀ t : Fin cfg0.N, win0_6.index t = ![0, t.val, 0] := by decide +kernel
theorem e7 : ∀ t : Fin cfg0.N, win0_7.index t = ![t.val, 0] := by decide +kernel
theorem e8 : ∀ t : Fin cfg0.N, win0_8.index t = ![t.val, 0] := by decide +kernel
theorem e9 : ∀ t : Fin cfg0.N, win0_9.index t = ![0, 0] := by decide +kernel
theorem e10 : ∀ t : Fin cfg0.N, win0_10.index t = ![0, 0] := by decide +kernel

/-- Row `j` of tile `t`. -/
def at' (t : Fin cfg0.N) (j : Fin 256) : Fin 8192 := ⟨256 * t.val + j.val, by have : t.val < 32 := t.isLt; omega⟩

theorem blk0 (t : Fin cfg0.N) : iblk m c 0 t = rows (at' t) (args m c).h := by
  funext y
  blk_simp [iblk]
  refine (congrFun ((V_main_arg0 m c).trans (a0 m c)) _).trans ?_
  refine congrArg₂ (args m c).h (Fin.ext ?_) (Fin.ext ?_)
  · blk_simp [e0]
    simp only [at']
    omega
  · blk_simp [e0]

theorem blk1 (t : Fin cfg0.N) : iblk m c 1 t = fun y : S8x1024.Idx =>
    if (y 0).val = 0 then (args m c).g (y 1) else if (y 0).val = 1 then (args m c).sh (y 1) else if (y 0).val = 2 then (args m c).sc (y 1) else if (y 0).val = 3 then (args m c).gt (y 1) else 0 := by
  funext y
  blk_simp [iblk]
  refine (congrFun (V5 m c) _).trans ?_
  have h0 : ((win0_1.blk t).view.emb y 0 : Fin 8) = y 0 := by refine Fin.ext ?_; blk_simp [e1]
  have h1 : ((win0_1.blk t).view.emb y 1 : Fin 1024) = y 1 := by refine Fin.ext ?_; blk_simp [e1]
  exact congrArg₂ (fun (p : Fin 8) (q : Fin 1024) => if p.val = 0 then (args m c).g q else if p.val = 1 then (args m c).sh q else if p.val = 2 then (args m c).sc q else if p.val = 3 then (args m c).gt q else 0) h0 h1

theorem blk1g (t : Fin cfg0.N) : View.ld (iblk m c 1 t) (Rect.unit ![0, 0] ![1, 1024] inb_S8x1024_S1x1024_0_0) = row (args m c).g := by
  rw [blk1]
  funext y
  pointwise [row]
theorem blk1sh (t : Fin cfg0.N) : View.ld (iblk m c 1 t) (Rect.unit ![1, 0] ![1, 1024] inb_S8x1024_S1x1024_1_0) = row (args m c).sh := by
  rw [blk1]
  funext y
  pointwise [row]
theorem blk1sc (t : Fin cfg0.N) : View.ld (iblk m c 1 t) (Rect.unit ![2, 0] ![1, 1024] inb_S8x1024_S1x1024_2_0) = row (args m c).sc := by
  rw [blk1]
  funext y
  pointwise [row]
theorem blk1gt (t : Fin cfg0.N) : View.ld (iblk m c 1 t) (Rect.unit ![3, 0] ![1, 1024] inb_S8x1024_S1x1024_3_0) = row (args m c).gt := by
  rw [blk1]
  funext y
  pointwise [row]
theorem ldIn0 : View.ld (V m c main_v11 : S2x2816x1024.Idx → EReal) (Rect.unit ![0, 0, 0] ![1, 2816, 1024] inb_S2x2816x1024_S1x2816x1024_0_0_0) = win (args m c) lo := by
  rw [V11]
  funext y
  pointwise [win]
theorem ldIn1 : View.ld (V m c main_v11 : S2x2816x1024.Idx → EReal) (Rect.unit ![1, 0, 0] ![1, 2816, 1024] inb_S2x2816x1024_S1x2816x1024_1_0_0) = win (args m c) hi := by
  rw [V11]
  funext y
  pointwise [win]
theorem ldOut : View.ld (V m c main_v12 : S2816x1024.Idx → EReal) (Rect.unit ![0, 0] ![2816, 1024] inb_S2816x1024_S2816x1024_0_0) = mat 2816 1024 (args m c).v := by
  rw [V12]
  funext y
  pointwise [mat]

theorem blk2 (t : Fin cfg0.N) : iblk m c 2 t = rows (at' t) (target m c) := by
  funext y
  blk_simp [iblk]
  refine (congrFun ((V_main_arg8 m c).trans (a8 m c)) _).trans ?_
  refine congrArg₂ (target m c) (Fin.ext ?_) (Fin.ext ?_)
  · blk_simp [e2]
    simp only [at']
    omega
  · blk_simp [e2]

theorem blk3 (t : Fin cfg0.N) : iblk m c 3 t = fun y : S8x1024.Idx => if (y 0).val = 0 then gain m c (y 1) else 0 := by
  funext y
  blk_simp [iblk]
  refine (congrFun (V8 m c) _).trans ?_
  have h0 : ((win0_3.blk t).view.emb y 0 : Fin 8) = y 0 := by refine Fin.ext ?_; blk_simp [e3]
  have h1 : ((win0_3.blk t).view.emb y 1 : Fin 1024) = y 1 := by refine Fin.ext ?_; blk_simp [e3]
  exact congrArg₂ (fun (p : Fin 8) (q : Fin 1024) => if p.val = 0 then gain m c q else 0) h0 h1

theorem blk3g (t : Fin cfg0.N) : View.ld (iblk m c 3 t) (Rect.unit ![0, 0] ![1, 1024] inb_S8x1024_S1x1024_0_0) = row (gain m c) := by
  rw [blk3]
  funext y
  pointwise [row]

/-! The values of one tile. -/

variable {A : Args} {ρ : Fin 256 → Fin 8192}

theorem p3 (f : Fin 1024 → EReal) : k0_pay3 (F := Ideal) (row f) = row f := by
  funext i
  pointwise [k0_pay3, row]
theorem p4 : k0_pay4 (F := Ideal) (rows ρ A.h) (row A.g) (row A.sh) (row A.sc) = rows ρ A.u := by
  funext i
  pointwise [k0_pay4, rows, row]
  rfl
theorem p5 : k0_pay5 (F := Ideal) = fun _ => (0 : EReal) := by
  funext i
  pointwise [k0_pay5]
theorem p6 : k0_pay6 (F := Ideal) (win A lo) = fun i : S2816x1024.Idx => A.w (i 1) (lo (i 0)) := by
  funext i
  pointwise [k0_pay6, win]
theorem p7 : k0_pay7 (F := Ideal) (rows ρ A.u) (k0_pay6 (F := Ideal) (win A lo)) = wide ρ A.a := by
  rw [p6]
  funext i
  pointwise [k0_pay7, rows, wide]
  rfl
theorem p8 : k0_pay8 (F := Ideal) (rows ρ A.u) (win A hi) = wide ρ A.b := by
  funext i
  pointwise [k0_pay8, rows, wide, win]
  rfl
theorem p9 : k0_pay9 (F := Ideal) (rows ρ A.u) (k0_pay6 (F := Ideal) (win A lo)) (win A hi) = wide ρ A.act := by
  unfold k0_pay9
  rw [p7, p8]
  funext i
  pointwise [wide]
  rfl
theorem p10 : k0_pay10 (F := Ideal) (rows ρ A.u) (k0_pay6 (F := Ideal) (win A lo)) = half ρ A.a := by
  unfold k0_pay10
  rw [p7]
  funext i
  pointwise [wide, half]
theorem p11 : k0_pay11 (F := Ideal) (rows ρ A.u) (win A hi) = half ρ A.b := by
  unfold k0_pay11
  rw [p8]
  funext i
  pointwise [wide, half]
theorem p12 : k0_pay12 (F := Ideal) (rows ρ A.u) k0_pay5 (k0_pay6 (F := Ideal) (win A lo)) (win A hi) (mat 2816 1024 A.v) = rows ρ A.f := by
  unfold k0_pay12
  rw [p9, p5]
  funext i
  pointwise [wide, rows, mat]
  rfl
theorem p13 : k0_pay13 (F := Ideal) (rows ρ A.u) k0_pay5 (k0_pay6 (F := Ideal) (win A lo)) (win A hi) (mat 2816 1024 A.v) = rows ρ A.f := by
  unfold k0_pay13
  rw [p12]
  funext i
  pointwise [rows]
theorem p14 : k0_pay14 (F := Ideal) (rows ρ A.h) (row A.gt) (rows ρ A.u) k0_pay5 (k0_pay6 (F := Ideal) (win A lo)) (win A hi) (mat 2816 1024 A.v) = rows ρ A.hn := by
  unfold k0_pay14
  rw [p12]
  funext i
  pointwise [rows, row]
  rfl

/-! The loss and its gradient, of one tile of real rows. -/

variable {H : Head}

theorem p17 (f : Fin 1024 → EReal) : k0_pay17 (F := Ideal) (row f) = row f := by
  funext i
  pointwise [k0_pay17, row]
theorem p18 : k0_pay18 (F := Ideal) (rows ρ (co2 H.x)) = fun i => ((H.r (ρ (i 0)) : ℝ) : EReal) := by
  funext i
  pointwise [k0_pay18, rows, co2]
  simp only [Ffn.w1024, Ffn.weps, ← EReal.coe_mul, Ffn.sum_coe]
  rw [Ffn.div_pos' _ (by norm_num), ← EReal.coe_add]
  exact Ffn.rsqrt_pos (H.ms_pos _)
theorem p19 : k0_pay19 (F := Ideal) (rows ρ (co2 H.x)) = rows ρ (co2 H.xn) := by
  unfold k0_pay19
  rw [p18]
  funext i
  pointwise [rows, co2]
  exact (EReal.coe_mul _ _).symm
theorem p20 : k0_pay20 (F := Ideal) (rows ρ (co2 H.x)) (row (co1 H.g)) (rows ρ (co2 H.tg)) = rows ρ (co2 H.err) := by
  unfold k0_pay20
  rw [p19]
  funext i
  pointwise [rows, row, co1, co2]
  rw [← EReal.coe_mul, ← EReal.coe_sub]
  rfl
theorem p21 : k0_pay21 (F := Ideal) (rows ρ (co2 H.x)) (row (co1 H.g)) (rows ρ (co2 H.tg)) = ((1 / 2 * ∑ j, H.sq (ρ j) : ℝ) : EReal) := by
  unfold k0_pay21
  rw [p20]
  pointwise [rows, co2]
  simp only [Finset.univ_unique, Finset.sum_singleton, Ffn.w1024, Ffn.whalf, ← EReal.coe_mul, Ffn.sum_coe, Ffn.div_pos' _ (show (1024 : ℝ) ≠ 0 by norm_num)]
  rfl
theorem p22 : k0_pay22 (F := Ideal) (rows ρ (co2 H.x)) (row (co1 H.g)) (rows ρ (co2 H.tg)) = rows ρ (co2 H.dy) := by
  unfold k0_pay22
  rw [p20]
  funext i
  pointwise [rows, co2]
  rw [winv]
  exact (EReal.coe_mul _ _).symm
theorem p23 : k0_pay23 (F := Ideal) (rows ρ (co2 H.x)) (row (co1 H.g)) (rows ρ (co2 H.tg)) = row (co1 fun k => ∑ j, H.dy (ρ j) k * H.xn (ρ j) k) := by
  unfold k0_pay23
  rw [p22, p19]
  funext i
  pointwise [rows, row, co1, co2]
  simp only [← EReal.coe_mul, Ffn.sum_coe]
theorem p24 : k0_pay24 (F := Ideal) (rows ρ (co2 H.x)) (row (co1 H.g)) (rows ρ (co2 H.tg)) = rows ρ (co2 H.dx) := by
  unfold k0_pay24
  rw [p22, p19, p18]
  funext i
  pointwise [rows, row, co1, co2]
  simp only [Ffn.w1024, ← EReal.coe_mul, Ffn.sum_coe, Ffn.div_pos' _ (show (1024 : ℝ) ≠ 0 by norm_num), ← EReal.coe_sub]
  rfl
theorem p1 (s p : ℝ) : k0_pay1 (F := Ideal) ((s : ℝ) : EReal) (fun _ => ((p : ℝ) : EReal)) = fun _ => ((p + s : ℝ) : EReal) := by
  funext i
  pointwise [k0_pay1]
  exact (EReal.coe_add _ _).symm
theorem p2 (f f' : Fin 1024 → ℝ) : k0_pay2 (F := Ideal) (row (co1 f)) (row (co1 f')) = row (co1 fun k => f' k + f k) := by
  funext i
  pointwise [k0_pay2, row, co1]
  exact (EReal.coe_add _ _).symm

end Cert.Last

end
-- ==== Proof.LastRef.lean ====
/- The reference of the last call, one stage after another: each value is the mathematics' own. -/
module

public import proofs.«01_k».proof.Proof.Gen.ReferencelastIdeal.Read
public import proofs.«01_k».proof.Proof.Last

@[expose] public section

set_option maxRecDepth 16384

noncomputable section

namespace Cert.Last.Ref

open Cert.ReferencelastIdeal Cert.ReferencelastIdeal.Read Idealize.ShloMosaic
open Cert.Fwd (Args lo hi mat vec two)

variable (A : Args)

theorem v20 : val_main_v20 (F := Ideal) (mat 8192 1024 A.h) (vec 1024 A.g) (vec 1024 A.sh) (vec 1024 A.sc) = mat 8192 1024 A.u := by
  simp only [val_main_v20, val_main_v19, val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  funext i
  pointwise [mat, vec]
  rfl

theorem v22 : val_main_v22 (F := Ideal) (mat 8192 1024 A.h) (vec 1024 A.g) (vec 1024 A.sh) (vec 1024 A.sc) (mat 1024 5632 A.w) = mat 8192 2816 A.a := by
  simp only [val_main_v22, val_main_v21, v20]
  funext i
  pointwise [mat, vec]
  refine Finset.sum_congr rfl fun k _ => congrArg (fun n => A.u (i 0) k * A.w k n) (Fin.ext ?_)
  simp only [lo]

theorem v23 : val_main_v23 (F := Ideal) (mat 8192 1024 A.h) (vec 1024 A.g) (vec 1024 A.sh) (vec 1024 A.sc) (mat 1024 5632 A.w) = mat 8192 2816 A.b := by
  simp only [val_main_v23, val_main_v21, v20]
  funext i
  pointwise [mat, vec]
  refine Finset.sum_congr rfl fun k _ => congrArg (fun n => A.u (i 0) k * A.w k n) (Fin.ext ?_)
  simp only [hi]

theorem v25 : val_main_v25 (F := Ideal) (mat 8192 1024 A.h) (vec 1024 A.g) (vec 1024 A.sh) (vec 1024 A.sc) (mat 1024 5632 A.w) = mat 8192 2816 A.act := by
  simp only [val_main_v25, val_main_v24, val_main_call0_v5, val_main_call0_v4, val_main_call0_v3, val_main_call0_v2, val_main_call0_v1, val_main_call0_v0, val_main_call0_cst, val_main_call0_cst_0, v22, v23]
  funext i
  pointwise [mat, vec]
  rfl

theorem v26 : val_main_v26 (F := Ideal) (mat 8192 1024 A.h) (vec 1024 A.g) (vec 1024 A.sh) (vec 1024 A.sc) (mat 1024 5632 A.w) (mat 2816 1024 A.v) = mat 8192 1024 A.f := by
  simp only [val_main_v26, v25]
  funext i
  pointwise [mat, vec]
  rfl

theorem v32 : val_main_v32 (F := Ideal) (mat 8192 1024 A.h) (vec 1024 A.g) (vec 1024 A.sh) (vec 1024 A.sc) (vec 1024 A.gt) (mat 1024 5632 A.w) (mat 2816 1024 A.v) = mat 8192 1024 A.hn := by
  simp only [val_main_v32, val_main_v31, val_main_v30, val_main_v29, val_main_v28, val_main_v27, val_main_cst_3, v26]
  funext i
  pointwise [mat, vec]
  rfl

theorem v33 : val_main_v33 (F := Ideal) (mat 8192 1024 A.h) (vec 1024 A.g) (vec 1024 A.sh) (vec 1024 A.sc) = mat 8192 1024 A.u := by
  simp only [val_main_v33, v20]
  funext i
  pointwise [mat, vec]

theorem v37 : val_main_v37 (F := Ideal) (mat 8192 1024 A.h) (vec 1024 A.g) (vec 1024 A.sh) (vec 1024 A.sc) (mat 1024 5632 A.w) = two 8192 2816 A.a A.b := by
  simp only [val_main_v37, val_main_v36, val_main_v35, val_main_v34]
  funext i
  pointwise [mat, vec, two]
  refine (dite_eq_ite ..).trans ?_
  have e : (i 0).val < 1 ↔ (i 0).val = 0 := by omega
  exact if_congr e (congrFun (v22 A) _) (congrFun (v23 A) _)

theorem v38 : val_main_v38 (F := Ideal) (mat 8192 1024 A.h) (vec 1024 A.g) (vec 1024 A.sh) (vec 1024 A.sc) (mat 1024 5632 A.w) = mat 8192 2816 A.act := by
  simp only [val_main_v38, v25]
  funext i
  pointwise [mat, vec]

theorem v39 : val_main_v39 (F := Ideal) (mat 8192 1024 A.h) (vec 1024 A.g) (vec 1024 A.sh) (vec 1024 A.sc) (mat 1024 5632 A.w) (mat 2816 1024 A.v) = mat 8192 1024 A.f := by
  simp only [val_main_v39, v26]
  funext i
  pointwise [mat, vec]

/-! From the stream after the block on, at real rows, gain and target. -/

variable {A} {H : Head} (hx : A.hn = co2 H.x)
include hx

theorem x32 : val_main_v32 (F := Ideal) (mat 8192 1024 A.h) (vec 1024 A.g) (vec 1024 A.sh) (vec 1024 A.sc) (vec 1024 A.gt) (mat 1024 5632 A.w) (mat 2816 1024 A.v) = mat 8192 1024 (co2 H.x) := by
  rw [← hx]
  exact v32 A

theorem v46 : val_main_v46 (F := Ideal) (mat 8192 1024 A.h) (vec 1024 A.g) (vec 1024 A.sh) (vec 1024 A.sc) (vec 1024 A.gt) (mat 1024 5632 A.w) (mat 2816 1024 A.v) = fun i => ((H.ms (i 0) : ℝ) : EReal) := by
  simp only [val_main_v46, val_main_v45, val_main_cst_6, val_main_v44, val_main_v43, val_main_cst_5, val_main_v42, val_main_v41, val_main_cst_4, val_main_v40, x32 hx]
  funext i
  pointwise [mat, co2]
  rw [Ffn.w1024, Ffn.weps]
  simp only [← EReal.coe_mul, Ffn.sum_coe]
  rw [Ffn.div_pos' _ (by norm_num), ← EReal.coe_add]
  rfl

theorem v47 : val_main_v47 (F := Ideal) (mat 8192 1024 A.h) (vec 1024 A.g) (vec 1024 A.sh) (vec 1024 A.sc) (vec 1024 A.gt) (mat 1024 5632 A.w) (mat 2816 1024 A.v) = fun i => ((H.r (i 0) : ℝ) : EReal) := by
  simp only [val_main_v47, v46 hx]
  funext i
  pointwise
  exact Ffn.rsqrt_pos (H.ms_pos (i 0))

theorem v50 : val_main_v50 (F := Ideal) (mat 8192 1024 A.h) (vec 1024 A.g) (vec 1024 A.sh) (vec 1024 A.sc) (vec 1024 A.gt) (mat 1024 5632 A.w) (mat 2816 1024 A.v) = fun i => ((-(1 / 2) * (H.r (i 0) / H.ms (i 0)) : ℝ) : EReal) := by
  simp only [val_main_v50, val_main_v49, val_main_cst_7, val_main_v48, v47 hx, v46 hx]
  funext i
  pointwise
  exact (congrArg₂ (· * ·) Ffn.wneghalf (Ffn.div_pos' _ (H.ms_pos (i 0)).ne')).trans (EReal.coe_mul _ _).symm

theorem v52 : val_main_v52 (F := Ideal) (mat 8192 1024 A.h) (vec 1024 A.g) (vec 1024 A.sh) (vec 1024 A.sc) (vec 1024 A.gt) (mat 1024 5632 A.w) (mat 2816 1024 A.v) = mat 8192 1024 (co2 H.xn) := by
  simp only [val_main_v52, val_main_v51, x32 hx, v47 hx]
  funext i
  pointwise [mat, co2]
  exact (EReal.coe_mul _ _).symm

theorem v56 : val_main_v56 (F := Ideal) (mat 8192 1024 A.h) (vec 1024 A.g) (vec 1024 A.sh) (vec 1024 A.sc) (vec 1024 A.gt) (mat 1024 5632 A.w) (mat 2816 1024 A.v) (vec 1024 (co1 H.g)) (mat 8192 1024 (co2 H.tg)) = mat 8192 1024 (co2 H.err) := by
  simp only [val_main_v56, val_main_v55, val_main_v54, val_main_v53, v52 hx]
  funext i
  pointwise [mat, vec, co1, co2]
  rw [← EReal.coe_mul, ← EReal.coe_sub]
  rfl

theorem v91 : val_main_v91 (F := Ideal) (mat 8192 1024 A.h) (vec 1024 A.g) (vec 1024 A.sh) (vec 1024 A.sc) (vec 1024 A.gt) (mat 1024 5632 A.w) (mat 2816 1024 A.v) (vec 1024 (co1 H.g)) (mat 8192 1024 (co2 H.tg)) = fun _ => ((H.loss : ℝ) : EReal) := by
  simp only [val_main_v91, val_main_v64, val_main_cst_12, val_main_v63, val_main_cst_11, val_main_v62, val_main_v61, val_main_cst_10, val_main_v60, val_main_cst_9, val_main_v57, v56 hx]
  funext i
  pointwise [mat, co2]
  simp only [Ffn.w1024, Ffn.whalf, ← EReal.coe_mul, Ffn.sum_coe, Ffn.div_pos' _ (show (1024 : ℝ) ≠ 0 by norm_num)]
  rfl

theorem v70 : val_main_v70 (F := Ideal) (mat 8192 1024 A.h) (vec 1024 A.g) (vec 1024 A.sh) (vec 1024 A.sc) (vec 1024 A.gt) (mat 1024 5632 A.w) (mat 2816 1024 A.v) (vec 1024 (co1 H.g)) (mat 8192 1024 (co2 H.tg)) = mat 8192 1024 (co2 H.dy) := by
  simp only [val_main_v70, val_main_v69, val_main_v68, val_main_v67, val_main_cst_15, val_main_v66, val_main_v65, val_main_cst_14, val_main_cst_13, val_main_v59, val_main_v58, val_main_cst_8, v56 hx]
  funext i
  pointwise [mat, co2]
  simp only [Ffn.w1024, Ffn.whalf, Ffn.wone, wtwo, ← EReal.coe_one, ← EReal.coe_mul, Ffn.div_pos' _ (show (1024 : ℝ) ≠ 0 by norm_num)]
  refine congrArg _ ?_
  unfold Head.dy
  ring

theorem v76 : val_main_v76 (F := Ideal) (mat 8192 1024 A.h) (vec 1024 A.g) (vec 1024 A.sh) (vec 1024 A.sc) (vec 1024 A.gt) (mat 1024 5632 A.w) (mat 2816 1024 A.v) (vec 1024 (co1 H.g)) (mat 8192 1024 (co2 H.tg)) = vec 1024 (co1 H.dg) := by
  simp only [val_main_v76, val_main_cst_17, val_main_v73, val_main_v72, val_main_cst_16, val_main_v71, v52 hx, v70 hx]
  funext i
  pointwise [mat, vec, co1, co2]
  simp only [Finset.univ_unique, Finset.sum_singleton, ← EReal.coe_mul, Ffn.sum_coe]
  exact congrArg _ (Finset.sum_congr rfl fun t _ => mul_comm _ _)

theorem v75 : val_main_v75 (F := Ideal) (mat 8192 1024 A.h) (vec 1024 A.g) (vec 1024 A.sh) (vec 1024 A.sc) (vec 1024 A.gt) (mat 1024 5632 A.w) (mat 2816 1024 A.v) (vec 1024 (co1 H.g)) (mat 8192 1024 (co2 H.tg)) = mat 8192 1024 (co2 H.dxn) := by
  simp only [val_main_v75, val_main_v74, val_main_v53, v70 hx]
  funext i
  pointwise [mat, vec, co1, co2]
  exact (EReal.coe_mul _ _).symm

theorem v78 : val_main_v78 (F := Ideal) (mat 8192 1024 A.h) (vec 1024 A.g) (vec 1024 A.sh) (vec 1024 A.sc) (vec 1024 A.gt) (mat 1024 5632 A.w) (mat 2816 1024 A.v) (vec 1024 (co1 H.g)) (mat 8192 1024 (co2 H.tg)) = fun i => ((∑ k, H.x (i 0) k * H.dxn (i 0) k : ℝ) : EReal) := by
  simp only [val_main_v78, val_main_cst_18, val_main_v77, x32 hx, v75 hx]
  funext i
  pointwise [mat, co2]
  simp only [← EReal.coe_mul, Ffn.sum_coe]

theorem v90 : val_main_v90 (F := Ideal) (mat 8192 1024 A.h) (vec 1024 A.g) (vec 1024 A.sh) (vec 1024 A.sc) (vec 1024 A.gt) (mat 1024 5632 A.w) (mat 2816 1024 A.v) (vec 1024 (co1 H.g)) (mat 8192 1024 (co2 H.tg)) = mat 8192 1024 (co2 H.dx) := by
  simp only [val_main_v90, val_main_v89, val_main_v88, val_main_v87, val_main_v86, val_main_v85, val_main_cst_20, val_main_v84, val_main_v83, val_main_cst_19, val_main_v82, val_main_v81, val_main_v80, val_main_v79, x32 hx, v47 hx, v50 hx, v75 hx, v78 hx]
  funext i
  pointwise [mat, co2]
  simp only [Finset.univ_unique, Finset.sum_singleton, Ffn.w1024, ← EReal.coe_mul, ← EReal.coe_add, Ffn.div_pos' _ (show (1024 : ℝ) ≠ 0 by norm_num)]
  exact congrArg _ (H.dx_eq (i 0) (i 1))

theorem v94 : val_main_v94 (F := Ideal) (mat 8192 1024 A.h) (vec 1024 A.g) (vec 1024 A.sh) (vec 1024 A.sc) (vec 1024 A.gt) (mat 1024 5632 A.w) (mat 2816 1024 A.v) (vec 1024 (co1 H.g)) (mat 8192 1024 (co2 H.tg)) = mat 8 1024 (co2 fun i k => if i.val = 0 then H.dg k else 0) := by
  simp only [val_main_v94, val_main_v93, val_main_cst_21, val_main_v92, v76 hx]
  funext i
  pointwise [mat, vec, co1, co2]
  split_ifs <;> first | exact congrFun (v76 hx) _ | exact EReal.coe_zero.symm | omega

end Cert.Last.Ref

end
-- ==== Proof.LastArr.lean ====
/- What the call leaves in its buffers after each tile, the five arrays after it, and the claim. -/
module

public import proofs.«01_k».proof.Proof.FwdArr
public import proofs.«01_k».proof.Proof.LastRef

@[expose] public section

set_option maxRecDepth 16384

noncomputable section

namespace Cert.Last

open Cert Cert.KernellastIdeal Cert.KernellastIdeal.Gen Idealize.ShloMosaic Idealize.ShloMosaic.TcCoe Idealize.SL.Sem
open Cert.Fwd (Args lo hi mat vec two rows wide half row win readCov_whole canon_whole)

variable (m : (ℓ : Loc nD τ sig) → Buf (Elt Ideal) ℓ) (c : Dev nD)

/-- Both weight buffers hold the whole weights from the first point on. -/
theorem scratch (n : ℕ) (hn : n < cfg0.N) : (outsAt0 m c n hn).2.2.2.2.2.2.2.1 = V m c main_v11 ∧ (outsAt0 m c n hn).2.2.2.2.2.2.2.2 = V m c main_v12 := by
  induction n with
  | zero =>
    constructor
    · rw [outsAt0_A m c ⟨0, hn⟩ rfl rfl]
      frame_out
      funext y
      exact canon_whole _ y
    · rw [outsAt0_A m c ⟨0, hn⟩ rfl rfl]
      frame_out
      funext y
      exact canon_whole _ y
  | succ n ih =>
    have hN : n + 1 < 32 := hn
    have h : ¬ (n + 1) % 32 = 0 := by omega
    have := ih (by omega)
    constructor
    · rw [outsAt0_B m c ⟨n + 1, hn⟩ h h]
      exact this.1
    · rw [outsAt0_B m c ⟨n + 1, hn⟩ h h]
      exact this.2

variable {A : Args} {ρ : Fin 256 → Fin 8192}

/-- What the body computes, from equations for what it loads. -/
theorem uEq {x : S256x1024.Idx → EReal} {g sh sc : S1x1024.Idx → EReal} (hx : x = rows ρ A.h) (hg : g = row A.g) (hsh : sh = row A.sh) (hsc : sc = row A.sc) :
    k0_pay4 (F := Ideal) x g sh sc = rows ρ A.u := by
  subst hx hg hsh hsc
  exact p4
theorem actEq {u : S256x1024.Idx → EReal} {w0 w1 : S1x2816x1024.Idx → EReal} (hu : u = rows ρ A.u) (h0 : w0 = win A lo) (h1 : w1 = win A hi) :
    k0_pay9 (F := Ideal) u (k0_pay6 (F := Ideal) w0) w1 = wide ρ A.act := by
  subst hu h0 h1
  exact p9
theorem fEq {u : S256x1024.Idx → EReal} {w0 w1 : S1x2816x1024.Idx → EReal} {v : S2816x1024.Idx → EReal} (hu : u = rows ρ A.u) (h0 : w0 = win A lo) (h1 : w1 = win A hi)
    (hv : v = mat 2816 1024 A.v) :
    k0_pay13 (F := Ideal) u k0_pay5 (k0_pay6 (F := Ideal) w0) w1 v = rows ρ A.f := by
  subst hu h0 h1 hv
  exact p13
theorem hnEq {x u : S256x1024.Idx → EReal} {gt : S1x1024.Idx → EReal} {w0 w1 : S1x2816x1024.Idx → EReal} {v : S2816x1024.Idx → EReal} (hx : x = rows ρ A.h) (hgt : gt = row A.gt)
    (hu : u = rows ρ A.u) (h0 : w0 = win A lo) (h1 : w1 = win A hi) (hv : v = mat 2816 1024 A.v) :
    k0_pay14 (F := Ideal) x (k0_pay3 (F := Ideal) gt) u k0_pay5 (k0_pay6 (F := Ideal) w0) w1 v = rows ρ A.hn := by
  subst hx hgt hu h0 h1 hv
  rw [p3]
  exact p14

/-- The two halves of the up-projection, stored one after the other. -/
theorem abEq {u : S256x1024.Idx → EReal} {w0 w1 : S1x2816x1024.Idx → EReal} (hu : u = rows ρ A.u) (h0 : w0 = win A lo) (h1 : w1 = win A hi) :
    View.canon (Val := Elt Ideal) (s := S2x256x2816) (e := .bf16)
      [⟨Rect.unit ![1, 0, 0] ![1, 256, 2816] inb_S2x256x2816_S1x256x2816_1_0_0, k0_pay11 (F := Ideal) u w1⟩,
        ⟨Rect.unit ![0, 0, 0] ![1, 256, 2816] inb_S2x256x2816_S1x256x2816_0_0_0, k0_pay10 (F := Ideal) u (k0_pay6 (F := Ideal) w0)⟩] =
      fun y : S2x256x2816.Idx => if (y 0).val = 0 then A.a (ρ (y 1)) (y 2) else A.b (ρ (y 1)) (y 2) := by
  subst hu h0 h1
  rw [p10, p11]
  funext y
  refine View.canon_apply_of_pieces (Val := Elt Ideal) (S := S2x256x2816) (e := .bf16)
    (fun y : S2x256x2816.Idx => if (y 0).val = 0 then A.a (ρ (y 1)) (y 2) else A.b (ρ (y 1)) (y 2)) _ ?_ y ?_
  · intro q hq x
    rcases List.mem_cons.mp hq with rfl | hq
    · show A.b (ρ (x 1)) (x 2) = _
      refine ((if_neg ?_).trans (congrArg₂ A.b (congrArg ρ (Fin.ext ?_)) (Fin.ext ?_))).symm
      · show ¬ 1 + 1 * (x 0).val = 0
        omega
      · exact (Nat.zero_add _).trans (Nat.one_mul _)
      · exact (Nat.zero_add _).trans (Nat.one_mul _)
    · rw [List.mem_singleton] at hq
      subst hq
      show A.a (ρ (x 1)) (x 2) = _
      have hx : (x 0).val < 1 := (x 0).isLt
      refine ((if_pos ?_).trans (congrArg₂ A.a (congrArg ρ (Fin.ext ?_)) (Fin.ext ?_))).symm
      · show 0 + 1 * (x 0).val = 0
        omega
      · exact (Nat.zero_add _).trans (Nat.one_mul _)
      · exact (Nat.zero_add _).trans (Nat.one_mul _)
  · have h0 : (y 0).val < 2 := (y 0).isLt
    have h1 : (y 1).val < 256 := (y 1).isLt
    have h2 : (y 2).val < 2816 := (y 2).isLt
    by_cases h : (y 0).val = 0
    · refine ⟨_, List.mem_cons_of_mem _ List.mem_cons_self, (Rect.mem_set_unit (inb := inb_S2x256x2816_S1x256x2816_0_0_0)).mpr fun a => ?_⟩
      match a with
      | 0 => exact ⟨Nat.zero_le _, show (y 0).val < 0 + 1 by omega⟩
      | 1 => exact ⟨Nat.zero_le _, show (y 1).val < 0 + 256 by omega⟩
      | 2 => exact ⟨Nat.zero_le _, show (y 2).val < 0 + 2816 by omega⟩
    · refine ⟨_, List.mem_cons_self, (Rect.mem_set_unit (inb := inb_S2x256x2816_S1x256x2816_1_0_0)).mpr fun a => ?_⟩
      match a with
      | 0 => exact ⟨show 1 ≤ (y 0).val by omega, show (y 0).val < 1 + 1 by omega⟩
      | 1 => exact ⟨Nat.zero_le _, show (y 1).val < 0 + 256 by omega⟩
      | 2 => exact ⟨Nat.zero_le _, show (y 2).val < 0 + 2816 by omega⟩

/-- The modulated rows of tile `t`, as the body computes them from its blocks. -/
theorem uAt (t : Fin cfg0.N) : k0_pay4 (F := Ideal) (iblk m c 0 t) (View.ld (iblk m c 1 t) (Rect.unit ![0, 0] ![1, 1024] inb_S8x1024_S1x1024_0_0))
    (View.ld (iblk m c 1 t) (Rect.unit ![1, 0] ![1, 1024] inb_S8x1024_S1x1024_1_0)) (View.ld (iblk m c 1 t) (Rect.unit ![2, 0] ![1, 1024] inb_S8x1024_S1x1024_2_0)) =
    rows (at' t) (args m c).u :=
  uEq (blk0 m c t) (blk1g m c t) (blk1sh m c t) (blk1sc m c t)

theorem o5A (t : Fin cfg0.N) (h0 : t.val % 32 = 0) : (outsAt0 m c t.val t.isLt).2.1 = rows (at' t) (args m c).u := by
  rw [outsAt0_A m c t h0 h0]
  frame_out
  exact uAt m c t
theorem o5B (t : Fin cfg0.N) (h0 : ¬ t.val % 32 = 0) : (outsAt0 m c t.val t.isLt).2.1 = rows (at' t) (args m c).u := by
  rw [outsAt0_B m c t h0 h0]
  frame_out
  exact uAt m c t
theorem o5 (t : Fin cfg0.N) : (outsAt0 m c t.val t.isLt).2.1 = rows (at' t) (args m c).u := by
  by_cases h : t.val % 32 = 0
  · exact o5A m c t h
  · exact o5B m c t h

theorem o6A (t : Fin cfg0.N) (h0 : t.val % 32 = 0) : (outsAt0 m c t.val t.isLt).2.2.1 = fun y : S2x256x2816.Idx =>
    if (y 0).val = 0 then (args m c).a (at' t (y 1)) (y 2) else (args m c).b (at' t (y 1)) (y 2) := by
  rw [outsAt0_A m c t h0 h0]
  frame_out
  exact abEq (uAt m c t) ((readCov_whole _ _ _).trans (ldIn0 m c)) ((readCov_whole _ _ _).trans (ldIn1 m c))
theorem o6B (t : Fin cfg0.N) (h0 : ¬ t.val % 32 = 0) : (outsAt0 m c t.val t.isLt).2.2.1 = fun y : S2x256x2816.Idx =>
    if (y 0).val = 0 then (args m c).a (at' t (y 1)) (y 2) else (args m c).b (at' t (y 1)) (y 2) := by
  rw [outsAt0_B m c t h0 h0]
  frame_out
  simp only [read_unread_whole, (scratch _ _ _ _).1, (scratch _ _ _ _).2]
  exact abEq (uAt m c t) (ldIn0 m c) (ldIn1 m c)
theorem o6 (t : Fin cfg0.N) : (outsAt0 m c t.val t.isLt).2.2.1 = fun y : S2x256x2816.Idx =>
    if (y 0).val = 0 then (args m c).a (at' t (y 1)) (y 2) else (args m c).b (at' t (y 1)) (y 2) := by
  by_cases h : t.val % 32 = 0
  · exact o6A m c t h
  · exact o6B m c t h

theorem o7A (t : Fin cfg0.N) (h0 : t.val % 32 = 0) : (outsAt0 m c t.val t.isLt).2.2.2.1 = wide (at' t) (args m c).act := by
  rw [outsAt0_A m c t h0 h0]
  frame_out
  exact actEq (uAt m c t) ((readCov_whole _ _ _).trans (ldIn0 m c)) ((readCov_whole _ _ _).trans (ldIn1 m c))
theorem o7B (t : Fin cfg0.N) (h0 : ¬ t.val % 32 = 0) : (outsAt0 m c t.val t.isLt).2.2.2.1 = wide (at' t) (args m c).act := by
  rw [outsAt0_B m c t h0 h0]
  frame_out
  simp only [read_unread_whole, (scratch _ _ _ _).1, (scratch _ _ _ _).2]
  exact actEq (uAt m c t) (ldIn0 m c) (ldIn1 m c)
theorem o7 (t : Fin cfg0.N) : (outsAt0 m c t.val t.isLt).2.2.2.1 = wide (at' t) (args m c).act := by
  by_cases h : t.val % 32 = 0
  · exact o7A m c t h
  · exact o7B m c t h

theorem o8A (t : Fin cfg0.N) (h0 : t.val % 32 = 0) : (outsAt0 m c t.val t.isLt).2.2.2.2.1 = rows (at' t) (args m c).f := by
  rw [outsAt0_A m c t h0 h0]
  frame_out
  exact fEq (uAt m c t) ((readCov_whole _ _ _).trans (ldIn0 m c)) ((readCov_whole _ _ _).trans (ldIn1 m c)) ((readCov_whole _ _ _).trans (ldOut m c))
theorem o8B (t : Fin cfg0.N) (h0 : ¬ t.val % 32 = 0) : (outsAt0 m c t.val t.isLt).2.2.2.2.1 = rows (at' t) (args m c).f := by
  rw [outsAt0_B m c t h0 h0]
  frame_out
  simp only [read_unread_whole, (scratch _ _ _ _).1, (scratch _ _ _ _).2]
  exact fEq (uAt m c t) (ldIn0 m c) (ldIn1 m c) (V12 m c)
theorem o8 (t : Fin cfg0.N) : (outsAt0 m c t.val t.isLt).2.2.2.2.1 = rows (at' t) (args m c).f := by
  by_cases h : t.val % 32 = 0
  · exact o8A m c t h
  · exact o8B m c t h

theorem arr5 : (dats m 0 c).arrAt 5 cfg0.N = mat 8192 1024 (args m c).u := by
  refine (dats m 0 c).arrAt_eq_of_covers 5 _ (by decide +kernel) fun t hf y => ?_
  blk_simp
  show (outsAt0 m c t.val t.isLt).2.1 _ = _
  rw [o5 m c t]
  refine congrArg₂ (args m c).u (Fin.ext ?_) (Fin.ext ?_)
  · blk_simp [e5]
    simp only [at']
    omega
  · blk_simp [e5]

theorem arr7 : (dats m 0 c).arrAt 7 cfg0.N = mat 8192 2816 (args m c).act := by
  refine (dats m 0 c).arrAt_eq_of_covers 7 _ (by decide +kernel) fun t hf y => ?_
  blk_simp
  show (outsAt0 m c t.val t.isLt).2.2.2.1 _ = _
  rw [o7 m c t]
  refine congrArg₂ (args m c).act (Fin.ext ?_) (Fin.ext ?_)
  · blk_simp [e7]
    simp only [at']
    omega
  · blk_simp [e7]

theorem arr8 : (dats m 0 c).arrAt 8 cfg0.N = mat 8192 1024 (args m c).f := by
  refine (dats m 0 c).arrAt_eq_of_covers 8 _ (by decide +kernel) fun t hf y => ?_
  blk_simp
  show (outsAt0 m c t.val t.isLt).2.2.2.2.1 _ = _
  rw [o8 m c t]
  refine congrArg₂ (args m c).f (Fin.ext ?_) (Fin.ext ?_)
  · blk_simp [e8]
    simp only [at']
    omega
  · blk_simp [e8]

theorem arr6 : (dats m 0 c).arrAt 6 cfg0.N = two 8192 2816 (args m c).a (args m c).b := by
  refine (dats m 0 c).arrAt_eq_of_covers 6 _ (by decide +kernel) fun t hf y => ?_
  refine (congrFun (o6 m c t) _).trans ?_
  have h0 : ((y 0).val = 0) = (((win0_6.blk t).view.emb y 0).val = 0) := by blk_simp [e6]
  have h1 : at' t (y 1) = ((win0_6.blk t).view.emb y 1 : Fin 8192) := by
    refine Fin.ext ?_
    blk_simp [e6]
    simp only [at']
    omega
  have h2 : y 2 = ((win0_6.blk t).view.emb y 2 : Fin 2816) := by
    refine Fin.ext ?_
    blk_simp [e6]
  exact if_congr (iff_of_eq h0) (congrArg₂ (args m c).a h1 h2) (congrArg₂ (args m c).b h1 h2)

/-- The stream after the block, of tile `t`, when its rows are real. -/
theorem xEq {H : Head} (hA : A.hn = co2 H.x) {x u : S256x1024.Idx → EReal} {gt : S1x1024.Idx → EReal} {w0 w1 : S1x2816x1024.Idx → EReal} {v : S2816x1024.Idx → EReal}
    (hx : x = rows ρ A.h) (hgt : gt = row A.gt) (hu : u = rows ρ A.u) (h0 : w0 = win A lo) (h1 : w1 = win A hi) (hv : v = mat 2816 1024 A.v) :
    k0_pay14 (F := Ideal) x (k0_pay3 (F := Ideal) gt) u k0_pay5 (k0_pay6 (F := Ideal) w0) w1 v = rows ρ (co2 H.x) := by
  rw [← hA]
  exact hnEq hx hgt hu h0 h1 hv

theorem dxEq {H : Head} {x tg : S256x1024.Idx → EReal} {g : S1x1024.Idx → EReal} (hx : x = rows ρ (co2 H.x)) (hg : g = row (co1 H.g)) (ht : tg = rows ρ (co2 H.tg)) :
    k0_pay24 (F := Ideal) x (k0_pay17 (F := Ideal) g) tg = rows ρ (co2 H.dx) := by
  subst hx hg ht
  rw [p17]
  exact p24
theorem lossEq {H : Head} {x tg : S256x1024.Idx → EReal} {g : S1x1024.Idx → EReal} {l : S8x128.Idx → EReal} {p : ℝ}
    (hx : x = rows ρ (co2 H.x)) (hg : g = row (co1 H.g)) (ht : tg = rows ρ (co2 H.tg)) (hl : l = fun _ => ((p : ℝ) : EReal)) :
    k0_pay1 (F := Ideal) (k0_pay21 (F := Ideal) x (k0_pay17 (F := Ideal) g) tg) l = fun _ => ((p + 1 / 2 * ∑ j, H.sq (ρ j) : ℝ) : EReal) := by
  subst hx hg ht hl
  rw [p17, p21]
  exact p1 _ _
theorem dgEq {H : Head} {x tg : S256x1024.Idx → EReal} {g d : S1x1024.Idx → EReal} {f : Fin 1024 → ℝ}
    (hx : x = rows ρ (co2 H.x)) (hg : g = row (co1 H.g)) (ht : tg = rows ρ (co2 H.tg)) (hd : d = row (co1 f)) :
    k0_pay2 (F := Ideal) (k0_pay23 (F := Ideal) x (k0_pay17 (F := Ideal) g) tg) d = row (co1 fun k => f k + ∑ j, H.dy (ρ j) k * H.xn (ρ j) k) := by
  subst hx hg ht hd
  rw [p17, p23]
  exact p2 _ _

/-- Eight rows of which the first is given and the others are zero. -/
def top (f : Fin 1024 → ℝ) : S8x1024.Idx → EReal := fun y => ((if (y 0).val = 0 then f (y 1) else 0 : ℝ) : EReal)

/-- The first row stored over contents that are zero from the second row on. -/
theorem topEq {sig : RefSig} {κ : Kind} {sp : Space} (v : View sig κ sp S8x1024 .f32) (f : v.ty.Contents (Elt Ideal)) (L : List (View.Piece (Elt Ideal) S8x1024 .f32))
    {w0 : S1x1024.Idx → EReal} {f0 : Fin 1024 → ℝ} (h0 : w0 = row (co1 f0))
    (hL : ∀ y : S8x1024.Idx, 1 ≤ (y 0).val → v.read (Elt Ideal) (v.writes (Elt Ideal) f L) y = (0 : EReal)) :
    v.read (Elt Ideal) (v.writes (Elt Ideal) f (⟨Rect.unit ![0, 0] ![1, 1024] inb_S8x1024_S1x1024_0_0, w0⟩ :: L)) = top f0 := by
  subst h0
  funext y
  rw [View.read_writes_cons_rows (d := ![8, 1024]) (off := ![0, 0]) (size := ![1, 1024]) (o := 0) (W := 1) v f inb_S8x1024_S1x1024_0_0 (row (co1 f0)) _ y rfl rfl rfl]
  unfold top
  split_ifs <;> first
    | omega
    | exact congrArg (fun z => ((f0 z : ℝ) : EReal)) (Fin.ext (Nat.sub_zero _))
    | exact (hL y (by omega)).trans EReal.coe_zero.symm

variable {m} {c} {H : Head} (h : At m c H)
include h

theorem gAt (t : Fin cfg0.N) : View.ld (iblk m c 3 t) (Rect.unit ![0, 0] ![1, 1024] inb_S8x1024_S1x1024_0_0) = row (co1 H.g) :=
  (blk3g m c t).trans (congrArg row h.g)
theorem tgAt (t : Fin cfg0.N) : iblk m c 2 t = rows (at' t) (co2 H.tg) := (blk2 m c t).trans (congrArg (rows (at' t)) h.tg)

theorem o4A (t : Fin cfg0.N) (h0 : t.val % 32 = 0) : (outsAt0 m c t.val t.isLt).1 = rows (at' t) (co2 H.dx) := by
  rw [outsAt0_A m c t h0 h0]
  frame_out
  exact dxEq (xEq h.x (blk0 m c t) (blk1gt m c t) (uAt m c t) ((readCov_whole _ _ _).trans (ldIn0 m c)) ((readCov_whole _ _ _).trans (ldIn1 m c)) ((readCov_whole _ _ _).trans (ldOut m c))) (gAt h t) (tgAt h t)
theorem o4B (t : Fin cfg0.N) (h0 : ¬ t.val % 32 = 0) : (outsAt0 m c t.val t.isLt).1 = rows (at' t) (co2 H.dx) := by
  rw [outsAt0_B m c t h0 h0]
  frame_out
  simp only [read_unread_whole, (scratch _ _ _ _).1, (scratch _ _ _ _).2]
  exact dxEq (xEq h.x (blk0 m c t) (blk1gt m c t) (uAt m c t) (ldIn0 m c) (ldIn1 m c) (V12 m c)) (gAt h t) (tgAt h t)
theorem o4 (t : Fin cfg0.N) : (outsAt0 m c t.val t.isLt).1 = rows (at' t) (co2 H.dx) := by
  by_cases h0 : t.val % 32 = 0
  · exact o4A h t h0
  · exact o4B h t h0

theorem o9A (t : Fin cfg0.N) (h0 : t.val % 32 = 0) : (outsAt0 m c t.val t.isLt).2.2.2.2.2.1 = fun _ => ((0 + 1 / 2 * ∑ j, H.sq (at' t j) : ℝ) : EReal) := by
  rw [outsAt0_A m c t h0 h0]
  frame_out
  refine lossEq (xEq h.x (blk0 m c t) (blk1gt m c t) (uAt m c t) ((readCov_whole _ _ _).trans (ldIn0 m c)) ((readCov_whole _ _ _).trans (ldIn1 m c)) ((readCov_whole _ _ _).trans (ldOut m c))) (gAt h t) (tgAt h t) ?_
  funext y
  pointwise [k0_pay15]
  exact EReal.coe_zero.symm
theorem o9B (t : Fin cfg0.N) (h0 : ¬ t.val % 32 = 0) {p : ℝ}
    (ih : (outsAt0 m c (t.val - 1) (by omega)).2.2.2.2.2.1 = fun _ => ((p : ℝ) : EReal)) : (outsAt0 m c t.val t.isLt).2.2.2.2.2.1 = fun _ => ((p + 1 / 2 * ∑ j, H.sq (at' t j) : ℝ) : EReal) := by
  rw [outsAt0_B m c t h0 h0]
  frame_out
  simp only [read_unread_whole, (scratch _ _ _ _).1, (scratch _ _ _ _).2]
  exact lossEq (xEq h.x (blk0 m c t) (blk1gt m c t) (uAt m c t) (ldIn0 m c) (ldIn1 m c) (V12 m c)) (gAt h t) (tgAt h t) ih

theorem o10A (t : Fin cfg0.N) (h0 : t.val % 32 = 0) : (outsAt0 m c t.val t.isLt).2.2.2.2.2.2.1 = top fun k => 0 + ∑ j, H.dy (at' t j) k * H.xn (at' t j) k := by
  rw [outsAt0_A m c t h0 h0]
  frame_open
  simp (disch := decide) only [↓ View.readCov_skip, ↓ View.readCov_cons_toLoadRect, ↓ View.readCov_fill]
  frame_out
  rw [← View.read_writes_junk_eq_canon (ms0_10 t).view]
  refine topEq (ms0_10 t).view _ _ (dgEq (xEq h.x (blk0 m c t) (blk1gt m c t) (uAt m c t) ((readCov_whole _ _ _).trans (ldIn0 m c)) ((readCov_whole _ _ _).trans (ldIn1 m c)) ((readCov_whole _ _ _).trans (ldOut m c))) (gAt h t) (tgAt h t) ?_) ?_
  · funext y
    pointwise [k0_pay16, row, co1]
    exact EReal.coe_zero.symm
  · intro y _
    rw [View.read_writes_junk_eq_canon, View.canon_cons_unit_lit _ _ _ (by decide)]
    pointwise [k0_pay16]
theorem o10B (t : Fin cfg0.N) (h0 : ¬ t.val % 32 = 0) {f : Fin 1024 → ℝ}
    (ih : (outsAt0 m c (t.val - 1) (by omega)).2.2.2.2.2.2.1 = top f) : (outsAt0 m c t.val t.isLt).2.2.2.2.2.2.1 = top fun k => f k + ∑ j, H.dy (at' t j) k * H.xn (at' t j) k := by
  rw [outsAt0_B m c t h0 h0]
  frame_out
  simp only [read_unread_whole, (scratch _ _ _ _).1, (scratch _ _ _ _).2]
  refine topEq (ms0_10 t).view _ [] (dgEq (xEq h.x (blk0 m c t) (blk1gt m c t) (uAt m c t) (ldIn0 m c) (ldIn1 m c) (V12 m c)) (gAt h t) (tgAt h t) ?_) ?_
  · rw [ih]
    funext y
    pointwise [top, row, co1]
  · intro y hy
    rw [View.writes_nil, Memref.IsWhole.read_unread, ih]
    show ((_ : ℝ) : EReal) = 0
    rw [if_neg (by omega), EReal.coe_zero]

omit h in
theorem one (f : Fin (0 + 1) → ℝ) : ∑ t, f t = 0 + f 0 := (Fin.sum_univ_one _).trans (zero_add _).symm

/-- The accumulated loss and gain gradient after point `n`: the sums over the tiles up to it. -/
theorem o9 (n : ℕ) (hn : n < cfg0.N) : (outsAt0 m c n hn).2.2.2.2.2.1 =
    fun _ => ((∑ t : Fin (n + 1), 1 / 2 * ∑ j, H.sq (at' ⟨t.val, Nat.lt_of_lt_of_le t.isLt hn⟩ j) : ℝ) : EReal) := by
  induction n with
  | zero =>
    refine (o9A h ⟨0, hn⟩ rfl).trans ?_
    rw [one]
    rfl
  | succ n ih =>
    have hN : n + 1 < 32 := hn
    refine (o9B h ⟨n + 1, hn⟩ (by show ¬ (n + 1) % 32 = 0; omega) (ih (Nat.lt_of_succ_lt hn))).trans ?_
    rw [Fin.sum_univ_castSucc (n := n + 1)]
    rfl

theorem o10 (n : ℕ) (hn : n < cfg0.N) : (outsAt0 m c n hn).2.2.2.2.2.2.1 =
    top fun k => ∑ t : Fin (n + 1), ∑ j, H.dy (at' ⟨t.val, Nat.lt_of_lt_of_le t.isLt hn⟩ j) k * H.xn (at' ⟨t.val, Nat.lt_of_lt_of_le t.isLt hn⟩ j) k := by
  induction n with
  | zero =>
    refine (o10A h ⟨0, hn⟩ rfl).trans (congrArg top ?_)
    funext k
    refine Eq.symm ((one _).trans ?_)
    rfl
  | succ n ih =>
    have hN : n + 1 < 32 := hn
    refine (o10B h ⟨n + 1, hn⟩ (by show ¬ (n + 1) % 32 = 0; omega) (ih (Nat.lt_of_succ_lt hn))).trans (congrArg top ?_)
    funext k
    rw [Fin.sum_univ_castSucc (n := n + 1)]
    rfl

omit h in
/-- The sum over the tiles of the sums over a tile's rows is the sum over all rows. -/
theorem tiles (f : Fin 8192 → ℝ) : ∑ t : Fin cfg0.N, ∑ j, f (at' t j) = ∑ i, f i := by
  rw [← Fintype.sum_prod_type']
  refine Fintype.sum_equiv (finProdFinEquiv (m := 32) (n := 256)) _ _ fun x => congrArg f (Fin.ext ?_)
  simp only [at', finProdFinEquiv_apply_val]
  omega

omit h in
theorem tiles1 (f : Fin 8192 → ℝ) {n : ℕ} (hn : n < cfg0.N) (e : n = 31) :
    ∑ t : Fin (n + 1), 1 / 2 * ∑ j, f (at' ⟨t.val, Nat.lt_of_lt_of_le t.isLt hn⟩ j) = 1 / 2 * ∑ i, f i := by
  subst e
  exact (Finset.mul_sum ..).symm.trans (congrArg (1 / 2 * ·) (tiles f))
omit h in
theorem tiles2 (f : Fin 8192 → ℝ) {n : ℕ} (hn : n < cfg0.N) (e : n = 31) :
    ∑ t : Fin (n + 1), ∑ j, f (at' ⟨t.val, Nat.lt_of_lt_of_le t.isLt hn⟩ j) = ∑ i, f i := by
  subst e
  exact tiles f

theorem o9_at (t : Fin cfg0.N) (ht : t.val = 31) : (outsAt0 m c t.val t.isLt).2.2.2.2.2.1 = fun _ => ((H.loss : ℝ) : EReal) := by
  refine (o9 h t.val t.isLt).trans ?_
  exact congrArg (fun (z : ℝ) (_ : S8x128.Idx) => ((z : ℝ) : EReal)) (tiles1 H.sq t.isLt ht)
theorem o10_at (t : Fin cfg0.N) (ht : t.val = 31) : (outsAt0 m c t.val t.isLt).2.2.2.2.2.2.1 = top H.dg := by
  refine (o10 h t.val t.isLt).trans ?_
  exact congrArg top (funext fun k => tiles2 (fun i => H.dy i k * H.xn i k) t.isLt ht)

omit h in
theorem flush9 : ∀ t : Fin cfg0.N, (cfg0.win 9).flush t = true → t.val = 31 := by decide +kernel
omit h in
theorem flush10 : ∀ t : Fin cfg0.N, (cfg0.win 10).flush t = true → t.val = 31 := by decide +kernel

theorem arr4 : (dats m 0 c).arrAt 4 cfg0.N = mat 8192 1024 (co2 H.dx) := by
  refine (dats m 0 c).arrAt_eq_of_covers 4 _ (by decide +kernel) fun t hf y => ?_
  blk_simp
  show (outsAt0 m c t.val t.isLt).1 _ = _
  rw [o4 h t]
  refine congrArg₂ (co2 H.dx) (Fin.ext ?_) (Fin.ext ?_)
  · blk_simp [e4]
    simp only [at']
    omega
  · blk_simp [e4]

theorem arr9 : (dats m 0 c).arrAt 9 cfg0.N = (fun _ => ((H.loss : ℝ) : EReal) : S8x128.Idx → EReal) := by
  refine (dats m 0 c).arrAt_eq_of_covers 9 _ (by decide +kernel) fun t hf y => ?_
  exact congrFun (o9_at h t (flush9 t hf)) _

theorem arr10 : (dats m 0 c).arrAt 10 cfg0.N = mat 8 1024 (co2 fun i k => if i.val = 0 then H.dg k else 0) := by
  refine (dats m 0 c).arrAt_eq_of_covers 10 _ (by decide +kernel) fun t hf y => ?_
  refine (congrFun (o10_at h t (flush10 t hf)) _).trans ?_
  refine congrArg₂ (fun (p : Fin 8) (q : Fin 1024) => ((if p.val = 0 then H.dg q else 0 : ℝ) : EReal)) (Fin.ext ?_) (Fin.ext ?_)
  · blk_simp [e10]
  · blk_simp [e10]

end Cert.Last

end
-- ==== Proof.LastEnd.lean ====
/- The last call's claim: its precondition makes every argument real, and then it computes what the reference does. -/
module

public import proofs.«01_k».proof.Defs
public import proofs.«01_k».proof.Proof.Gen.Pre_finite_last
public import proofs.«01_k».proof.Proof.Finite
public import proofs.«01_k».proof.Proof.LastArr
public import Idealize.ShloMosaic.Lib.Claim
public import proofs.«01_k».proof.Proof.Gen.ReferencelastIdeal.Read

@[expose] public section

set_option maxRecDepth 16384

noncomputable section

namespace Cert.Last

open Cert Idealize.ShloMosaic Idealize.SL.Sem
open Cert.Fwd (mat vec)

attribute [local instance] Cert.Pre_finite.Gen.facts Cert.Pre_finite_last.Gen.facts

theorem IsR.of {s : Shape} {x : s.Idx → EReal} (h : ∀ i, (((x i).toReal : ℝ) : EReal) = x i) (i : s.Idx) : IsR (x i) := ⟨_, (h i).symm⟩

open Cert.Pre_finite_last in
/-- Under the precondition every element of every argument is real. -/
theorem finite (x0 : FVec Ideal S8192x1024 .f32) (x1 x2 x3 x4 : FVec Ideal S1024 .f32) (x5 : FVec Ideal S1024x5632 .f32) (x6 : FVec Ideal S2816x1024 .f32)
    (x7 : FVec Ideal S1024 .f32) (x8 : FVec Ideal S8192x1024 .f32) (h : Cert.Pre_finite_last.fn (F := Ideal) x0 x1 x2 x3 x4 x5 x6 x7 x8 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧ (∀ i, IsR (x6 i)) ∧ (∀ i, IsR (x7 i))
      ∧ ∀ i, IsR (x8 i) := by
  have hj := congrFun h (fun i => i.elim0)
  unfold fn fn_part1 fn_part2 at hj
  obtain ⟨hj, h8⟩ := Ffn.Finite.split hj
  obtain ⟨hj, h7⟩ := Ffn.Finite.split hj
  obtain ⟨hj, h6⟩ := Ffn.Finite.split hj
  obtain ⟨hj, h5⟩ := Ffn.Finite.split hj
  obtain ⟨hj, h4⟩ := Ffn.Finite.split hj
  obtain ⟨hj, h3⟩ := Ffn.Finite.split hj
  obtain ⟨hj, h2⟩ := Ffn.Finite.split hj
  obtain ⟨h0, h1⟩ := Ffn.Finite.split hj
  exact ⟨IsR.of (Ffn.Finite.all x0 _ _ h0), IsR.of (Ffn.Finite.all x1 _ _ h1), IsR.of (Ffn.Finite.all x2 _ _ h2), IsR.of (Ffn.Finite.all x3 _ _ h3),
    IsR.of (Ffn.Finite.all x4 _ _ h4), IsR.of (Ffn.Finite.all x5 _ _ h5), IsR.of (Ffn.Finite.all x6 _ _ h6), IsR.of (Ffn.Finite.all x7 _ _ h7),
    IsR.of (Ffn.Finite.all x8 _ _ h8)⟩

/-- Under the precondition the rows after the block, the gain and the target are real arrays. -/
theorem at_of_pre {m : (ℓ : Loc Cert.KernellastIdeal.nD Cert.KernellastIdeal.τ Cert.KernellastIdeal.sig) → Buf (Elt Ideal) ℓ} (h : Pre_KernellastIdeal_finite_last m)
    (c : Dev Cert.KernellastIdeal.nD) : ∃ H : Head, At m c H := by
  obtain ⟨h0, h1, h2, h3, h4, h5, h6, h7, h8⟩ := finite _ _ _ _ _ _ _ _ _ (h c)
  have hx (t k) : IsR ((args m c).hn t k) :=
    hn_real (fun _ _ => h0 _) (fun _ => h1 _) (fun _ => h2 _) (fun _ => h3 _) (fun _ => h4 _) (fun _ _ => h5 _) (fun _ _ => h6 _) t k
  have hg (k) : IsR (gain m c k) := h7 _
  have ht (t k) : IsR (target m c t k) := h8 _
  choose x hx using hx
  choose g hg using hg
  choose tg ht using ht
  exact ⟨⟨x, g, tg⟩, funext fun t => funext fun k => hx t k, funext hg, funext fun t => funext fun k => ht t k⟩

theorem algebraic : algebraic_KernellastIdeal_ReferencelastIdeal_pre_finite_last := by
  pair_intro
  · run_from Cert.KernellastIdeal.Value.run_blocks m g
  · refine θ_run_mono (Cert.ReferencelastIdeal.Value.run m' g') fun r hr c => ?_
    obtain ⟨r0, r1, r2, r3, r4, r5, r6, a⟩ := hr c
    obtain ⟨g0, g1, g2, g3, g4, g5, g6, g7, g8⟩ := hagree c
    obtain ⟨H, h⟩ := at_of_pre hpre c
    have q7 := (a7 m c).trans (congrArg (vec 1024) h.g)
    have q8 := (a8 m c).trans (congrArg (mat 8192 1024) h.tg)
    have k0 : StableHlo.launchContents m' c (Proc.tc.devRef Cert.ReferencelastIdeal.main_arg0) = _ := g0.trans (a0 m c)
    have k1 : StableHlo.launchContents m' c (Proc.tc.devRef Cert.ReferencelastIdeal.main_arg1) = _ := g1.trans (a1 m c)
    have k2 : StableHlo.launchContents m' c (Proc.tc.devRef Cert.ReferencelastIdeal.main_arg2) = _ := g2.trans (a2 m c)
    have k3 : StableHlo.launchContents m' c (Proc.tc.devRef Cert.ReferencelastIdeal.main_arg3) = _ := g3.trans (a3 m c)
    have k4 : StableHlo.launchContents m' c (Proc.tc.devRef Cert.ReferencelastIdeal.main_arg4) = _ := g4.trans (a4 m c)
    have k5 : StableHlo.launchContents m' c (Proc.tc.devRef Cert.ReferencelastIdeal.main_arg5) = _ := g5.trans (a5 m c)
    have k6 : StableHlo.launchContents m' c (Proc.tc.devRef Cert.ReferencelastIdeal.main_arg6) = _ := g6.trans (a6 m c)
    have k7 : StableHlo.launchContents m' c (Proc.tc.devRef Cert.ReferencelastIdeal.main_arg7) = _ := g7.trans q7
    have k8 : StableHlo.launchContents m' c (Proc.tc.devRef Cert.ReferencelastIdeal.main_arg8) = _ := g8.trans q8
    refine ⟨(r0.trans (Cert.ReferencelastIdeal.Read.val_main_v90_eq _)).trans ?_, (r1.trans (Cert.ReferencelastIdeal.Read.val_main_v33_eq _)).trans ?_,
      (r2.trans (Cert.ReferencelastIdeal.Read.val_main_v37_eq _)).trans ?_, (r3.trans (Cert.ReferencelastIdeal.Read.val_main_v38_eq _)).trans ?_,
      (r4.trans (Cert.ReferencelastIdeal.Read.val_main_v39_eq _)).trans ?_, (r5.trans (Cert.ReferencelastIdeal.Read.val_main_v91_eq _)).trans ?_,
      (r6.trans (Cert.ReferencelastIdeal.Read.val_main_v94_eq _)).trans ?_, a⟩
    · rw [k0, k1, k2, k3, k4, k5, k6, k7, k8]
      exact (Ref.v90 h.x).trans (arr4 h).symm
    · rw [k0, k1, k2, k3]
      exact (Ref.v33 (args m c)).trans (arr5 m c).symm
    · rw [k0, k1, k2, k3, k5]
      exact (Ref.v37 (args m c)).trans (arr6 m c).symm
    · rw [k0, k1, k2, k3, k5]
      exact (Ref.v38 (args m c)).trans (arr7 m c).symm
    · rw [k0, k1, k2, k3, k5, k6]
      exact (Ref.v39 (args m c)).trans (arr8 m c).symm
    · rw [k0, k1, k2, k3, k4, k5, k6, k7, k8]
      exact (Ref.v91 h.x).trans (arr9 h).symm
    · rw [k0, k1, k2, k3, k4, k5, k6, k7, k8]
      exact (Ref.v94 h.x).trans (arr10 h).symm

/-- The reference's run leaves the arguments and the counters as they were. -/
theorem frame_ref : quiescent_ReferencelastIdeal := fun m g _ =>
  θ_run_mono (Cert.ReferencelastIdeal.Value.run m g) fun r hr => ⟨fun c => (hr c).2.2.2.2.2.2.2, sem_eq_zero_of_no_sems (by decide) r.2⟩

end Cert.Last

end
-- ==== Proof.Pool.lean ====
/- The pooling's gradient over the extended reals: windows of 2, 4, 8 and 16 rows, one per quarter of the columns. -/
module

public import proofs.«01_k».proof.Proof.Fwd

@[expose] public section

set_option maxRecDepth 16384

noncomputable section

namespace Cert.Pool

open Idealize.ShloMosaic

/-- An array with three indices, from a function of them. -/
def cube (a b e : ℕ) (f : Fin a → Fin b → Fin e → EReal) : (⟨3, ![a, b, e]⟩ : Shape).Idx → EReal := fun i => f (i 0) (i 1) (i 2)

theorem cube_eta {a b e : ℕ} (F : (⟨3, ![a, b, e]⟩ : Shape).Idx → EReal) : F = cube a b e fun p q r => F (ix3 p q r) := by
  funext i
  refine congrArg F ?_
  funext x
  match x with
  | 0 => rfl
  | 1 => rfl
  | 2 => rfl

/-- The column of quarter `k` at place `c`. -/
def lane (k : Fin 4) (c : Fin 64) : Fin 256 := ⟨64 * k.val + c.val, by omega⟩
/-- The quarter of a column, and its place there. -/
def qu (n : Fin 256) : Fin 4 := ⟨n.val / 64, by omega⟩
def pl (n : Fin 256) : Fin 64 := ⟨n.val % 64, by omega⟩

theorem lane_qu_pl (n : Fin 256) : lane (qu n) (pl n) = n := Fin.ext (by simp only [lane, qu, pl]; omega)

/-- The gradient at the pooling's output, its weights and scales, and the rows less their means. -/
structure Args where
  dy : Fin 8192 → Fin 256 → EReal
  w : Fin 4 → Fin 64 → Fin 64 → EReal
  sc : Fin 256 → EReal
  d : Fin 8192 → Fin 4 → Fin 64 → EReal

namespace Args

variable (A : Args)

/-- The gradient before the scale. -/
def x (t : Fin 8192) (n : Fin 256) : EReal := A.dy t n * A.sc n
/-- The gradient at the rows less their means. -/
def g (t : Fin 8192) (k : Fin 4) (j : Fin 64) : EReal := ∑ c : Fin 64, A.x t (lane k c) * A.w k j c
/-- How many rows a window holds at row `t`. -/
def _root_.Cert.Pool.cnt (t : ℕ) (k : Fin 4) : EReal :=
  FloatOps.sitofp (F := Ideal) .f32 (IntOp.minsi (IntOp.addi (BitVec.ofNat 32 t) 1#32) (BitVec.ofNat 32 (2 ^ (k.val + 1))))
/-- The gradient at a window's sum. -/
def q (t : Fin 8192) (k : Fin 4) (j : Fin 64) : EReal := Ideal.div (A.g t k j) (cnt t.val k)
/-- One where row `s` is in the window that ends at row `t`. -/
def _root_.Cert.Pool.mask (k : Fin 4) (t s : Fin 8192) : EReal := if s.val ≤ t.val ∧ t.val < s.val + 2 ^ (k.val + 1) then 1 else 0
/-- The gradient at the pooling's input. -/
def dp (t : Fin 8192) (k : Fin 4) (j : Fin 64) : EReal := -A.g t k j + ∑ t' : Fin 8192, A.q t' k j * mask k t' t
/-- The pooling's output before the scale. -/
def y (t : Fin 8192) (k : Fin 4) (j : Fin 64) : EReal := ∑ c : Fin 64, A.w k c j * A.d t k c
/-- The gradient at the weights, as one matrix. -/
def off (a b : Fin 256) : EReal := ∑ t : Fin 8192, A.x t b * A.d t (qu a) (pl a)
/-- The gradient at the scales. -/
def ds (n : Fin 256) : EReal := ∑ t : Fin 8192, A.y t (qu n) (pl n) * A.dy t n

end Args

/-- A difference of two row numbers, as a word. -/
theorem sub_toInt (t s : Fin 8192) : (BitVec.ofNat 32 t.val - BitVec.ofNat 32 s.val).toInt = (t.val : ℤ) - s.val := by
  have ht : (BitVec.ofNat 32 t.val).toInt = t.val := by
    rw [_root_.BitVec.toInt_ofNat']
    exact Int.bmod_eq_of_le (by omega) (by omega)
  have hs : (BitVec.ofNat 32 s.val).toInt = s.val := by
    rw [_root_.BitVec.toInt_ofNat']
    exact Int.bmod_eq_of_le (by omega) (by omega)
  rw [BitVec.toInt_sub, ht, hs]
  exact Int.bmod_eq_of_le (by omega) (by omega)

/-- A window's width, as a word. -/
theorem win_word (k : Fin 4) : (2#32 <<< BitVec.ofNat 32 k.val : BitVec 32) = BitVec.ofNat 32 (2 ^ (k.val + 1)) := by
  revert k
  decide

theorem win_toInt (k : Fin 4) : (BitVec.ofNat 32 (2 ^ (k.val + 1))).toInt = ((2 ^ (k.val + 1) : ℕ) : ℤ) := by
  revert k
  decide

/-- Whether a row is in a window, as words decide it. -/
theorem mask_word (k : Fin 4) (t s : Fin 8192) :
    FloatOps.uitofp (F := Ideal) FTy.f32 (IntOp.andi (IntOp.cmpi CmpIPredicate.sge (IntOp.subi (BitVec.ofNat 32 t.val) (BitVec.ofNat 32 s.val)) 0#32)
      (IntOp.cmpi CmpIPredicate.slt (IntOp.subi (BitVec.ofNat 32 t.val) (BitVec.ofNat 32 s.val)) (BitVec.ofNat 32 (2 ^ (k.val + 1))))) = mask k t s := by
  have h1 : (0#32).sle (BitVec.ofNat 32 t.val - BitVec.ofNat 32 s.val) = decide (s.val ≤ t.val) := by
    rw [BitVec.sle_eq_decide, sub_toInt]
    refine decide_eq_decide.mpr ?_
    rw [BitVec.toInt_zero]
    omega
  have h2 : (BitVec.ofNat 32 t.val - BitVec.ofNat 32 s.val).slt (BitVec.ofNat 32 (2 ^ (k.val + 1))) = decide (t.val < s.val + 2 ^ (k.val + 1)) := by
    rw [BitVec.slt_eq_decide, sub_toInt, win_toInt]
    refine decide_eq_decide.mpr ?_
    omega
  simp only [IntOp.cmpi, IntOp.subi, h1, h2, mask]
  by_cases p : s.val ≤ t.val <;> by_cases r : t.val < s.val + 2 ^ (k.val + 1) <;> simp [p, r, IntOp.andi, FloatOps.uitofp]

end Cert.Pool
end
-- ==== Proof.PoolHost.lean ====
/- The pooling's backward call: what the host hands it. -/
module

public import proofs.«01_k».proof.Proof.Pool
public import proofs.«01_k».proof.Proof.Gen.KernelpoolIdeal.Value
public import proofs.«01_k».proof.Proof.Gen.ReferencepoolIdeal.Read

@[expose] public section

set_option maxRecDepth 16384

noncomputable section

namespace Cert.Pool

open Cert Cert.KernelpoolIdeal Cert.KernelpoolIdeal.Gen Idealize.ShloMosaic Idealize.ShloMosaic.TcCoe Idealize.SL.Sem
open Cert.Fwd (mat vec mat_eta vec_eta)

variable (m : (ℓ : Loc nD τ sig) → Buf (Elt Ideal) ℓ) (c : Dev nD)

/-- The arguments that core `c` is given; the rows less their means are the reference's own value of the pooling. -/
def args : Args where
  dy := fun p q => (m ((c : Thread nD τ).loc main_arg0) : S8192x256.Idx → EReal) (ix2 p q)
  w := fun p q r => (m ((c : Thread nD τ).loc main_arg2) : S4x64x64.Idx → EReal) (ix3 p q r)
  sc := fun p => (m ((c : Thread nD τ).loc main_arg3) : S256.Idx → EReal) (ix1 p)
  d := fun p q r => (ReferencepoolIdeal.Read.val_main_v37 (F := Ideal) (m ((c : Thread nD τ).loc main_arg1) : S8192x256.Idx → EReal)) (ix3 p q r)

theorem a0 : m ((c : Thread nD τ).loc main_arg0) = mat 8192 256 (args m c).dy := mat_eta _
theorem a2 : m ((c : Thread nD τ).loc main_arg2) = cube 4 64 64 (args m c).w := cube_eta _
theorem a3 : m ((c : Thread nD τ).loc main_arg3) = vec 256 (args m c).sc := vec_eta _
theorem hd : ReferencepoolIdeal.Read.val_main_v37 (F := Ideal) (m ((c : Thread nD τ).loc main_arg1) : S8192x256.Idx → EReal) = cube 8192 4 64 (args m c).d := cube_eta _

theorem V49 : (V m c main_v49 : S1x256.Idx → EReal) = fun i => (args m c).sc (i 1) := by
  simp only [V, hostOps0, hostOps0_1, hostOps0_2, List.flatten_cons, List.flatten_nil, List.cons_append, List.nil_append, List.append_nil]
  entry_read
  rw [a3 m c]
  funext i
  pointwise [vec]

theorem V38 : (V m c main_v38 : S8192x256.Idx → EReal) = mat 8192 256 fun t n => (args m c).d t (qu n) (pl n) := by
  have h : (V m c main_v38 : S8192x256.Idx → EReal) = shapeCast S8192x256 (ReferencepoolIdeal.Read.val_main_v37 (F := Ideal) (m ((c : Thread nD τ).loc main_arg1) : S8192x256.Idx → EReal)) shapeCasts_S8192x4x64_S8192x256 := by
    simp only [V, hostOps0, hostOps0_1, hostOps0_2, List.flatten_cons, List.flatten_nil, List.cons_append, List.nil_append, List.append_nil]
    entry_read
    rfl
  rw [h, hd m c]
  funext i
  pointwise [mat, cube]
  rfl

/-- Quarter 0 of the weights, in its columns. -/
theorem piece0 (w : Fin 4 → Fin 64 → Fin 64 → EReal) (z : S_.Idx → EReal) (hz : z = fun _ => 0) :
    pad S64x256 ![0, 0] ![0, 192] ![0, 0] (shapeCast S64x64 (extractStridedSlice S1x64x64 ![0, 0, 0] (cube 4 64 64 w) slices_S4x64x64_S1x64x64_0_0_0) shapeCasts_S1x64x64_S64x64) z pads_S64x64_S64x256_000_01920 h_S_
      = fun i => if (qu (i 1)).val = 0 then w 0 (i 0) (pl (i 1)) else 0 := by
  subst hz
  funext i
  pointwise [cube]
  have h1 : (i 1).val < 256 := (i 1).isLt
  have hq : (qu (i 1)).val = (i 1).val / 64 := rfl
  by_cases q : (i 1).val < 64
  · rw [dif_pos q, if_pos (by omega)]
    refine congrArg (w 0 (i 0)) (Fin.ext ?_)
    show (i 1).val = (i 1).val % 64
    omega
  · rw [dif_neg q, if_neg (by omega)]

/-- Quarter 1 of the weights, in its columns. -/
theorem piece1 (w : Fin 4 → Fin 64 → Fin 64 → EReal) (z : S_.Idx → EReal) (hz : z = fun _ => 0) :
    pad S64x256 ![0, 64] ![0, 128] ![0, 0] (shapeCast S64x64 (extractStridedSlice S1x64x64 ![1, 0, 0] (cube 4 64 64 w) slices_S4x64x64_S1x64x64_1_0_0) shapeCasts_S1x64x64_S64x64) z pads_S64x64_S64x256_000_641280 h_S_
      = fun i => if (qu (i 1)).val = 1 then w 1 (i 0) (pl (i 1)) else 0 := by
  subst hz
  funext i
  pointwise [cube]
  have h1 : (i 1).val < 256 := (i 1).isLt
  have hq : (qu (i 1)).val = (i 1).val / 64 := rfl
  by_cases q : 64 ≤ (i 1).val ∧ (i 1).val - 64 < 64
  · rw [dif_pos q, if_pos (by omega)]
    refine congrArg (w 1 (i 0)) (Fin.ext ?_)
    show (i 1).val - 64 = (i 1).val % 64
    omega
  · rw [dif_neg q, if_neg (by omega)]

/-- Quarter 2 of the weights, in its columns. -/
theorem piece2 (w : Fin 4 → Fin 64 → Fin 64 → EReal) (z : S_.Idx → EReal) (hz : z = fun _ => 0) :
    pad S64x256 ![0, 128] ![0, 64] ![0, 0] (shapeCast S64x64 (extractStridedSlice S1x64x64 ![2, 0, 0] (cube 4 64 64 w) slices_S4x64x64_S1x64x64_2_0_0) shapeCasts_S1x64x64_S64x64) z pads_S64x64_S64x256_000_128640 h_S_
      = fun i => if (qu (i 1)).val = 2 then w 2 (i 0) (pl (i 1)) else 0 := by
  subst hz
  funext i
  pointwise [cube]
  have h1 : (i 1).val < 256 := (i 1).isLt
  have hq : (qu (i 1)).val = (i 1).val / 64 := rfl
  by_cases q : 128 ≤ (i 1).val ∧ (i 1).val - 128 < 64
  · rw [dif_pos q, if_pos (by omega)]
    refine congrArg (w 2 (i 0)) (Fin.ext ?_)
    show (i 1).val - 128 = (i 1).val % 64
    omega
  · rw [dif_neg q, if_neg (by omega)]

/-- Quarter 3 of the weights, in its columns. -/
theorem piece3 (w : Fin 4 → Fin 64 → Fin 64 → EReal) (z : S_.Idx → EReal) (hz : z = fun _ => 0) :
    pad S64x256 ![0, 192] ![0, 0] ![0, 0] (shapeCast S64x64 (extractStridedSlice S1x64x64 ![3, 0, 0] (cube 4 64 64 w) slices_S4x64x64_S1x64x64_3_0_0) shapeCasts_S1x64x64_S64x64) z pads_S64x64_S64x256_000_19200 h_S_
      = fun i => if (qu (i 1)).val = 3 then w 3 (i 0) (pl (i 1)) else 0 := by
  subst hz
  funext i
  pointwise [cube]
  have h1 : (i 1).val < 256 := (i 1).isLt
  have hq : (qu (i 1)).val = (i 1).val / 64 := rfl
  by_cases q : 192 ≤ (i 1).val ∧ (i 1).val - 192 < 64
  · rw [dif_pos q, if_pos (by omega)]
    refine congrArg (w 3 (i 0)) (Fin.ext ?_)
    show (i 1).val - 192 = (i 1).val % 64
    omega
  · rw [dif_neg q, if_neg (by omega)]

set_option maxHeartbeats 4000000 in
theorem V48 : (V m c main_v48 : S256x256.Idx → EReal) = mat 256 256 fun a b => if qu a = qu b then (args m c).w (qu a) (pl a) (pl b) else 0 := by
  simp only [V, hostOps0, hostOps0_1, hostOps0_2, List.flatten_cons, List.flatten_nil, List.cons_append, List.nil_append, List.append_nil]
  after_reads_simp
  generalize hops : (List.cons _ _ : List (HloOp τ sig (Elt Ideal))) = ops
  have r0 : (StableHlo.upto ops (fun b => m (c, b)) 58 (Proc.tc.devRef main_call0_v4) : S64x256.Idx → EReal) = fun i => if (qu (i 1)).val = 0 then (args m c).w 0 (i 0) (pl (i 1)) else 0 := by
    subst hops
    after_reads_simp
    refine Eq.trans ?_ (piece0 (args m c).w (constant (F := Ideal) S_ .f32 0#32) (funext fun i => by pointwise))
    rw [← a2 m c]
    rfl
  have r1 : (StableHlo.upto ops (fun b => m (c, b)) 58 (Proc.tc.devRef main_call0_v5) : S64x256.Idx → EReal) = fun i => if (qu (i 1)).val = 1 then (args m c).w 1 (i 0) (pl (i 1)) else 0 := by
    subst hops
    after_reads_simp
    refine Eq.trans ?_ (piece1 (args m c).w (constant (F := Ideal) S_ .f32 0#32) (funext fun i => by pointwise))
    rw [← a2 m c]
    rfl
  have r2 : (StableHlo.upto ops (fun b => m (c, b)) 58 (Proc.tc.devRef main_call0_v6) : S64x256.Idx → EReal) = fun i => if (qu (i 1)).val = 2 then (args m c).w 2 (i 0) (pl (i 1)) else 0 := by
    subst hops
    after_reads_simp
    refine Eq.trans ?_ (piece2 (args m c).w (constant (F := Ideal) S_ .f32 0#32) (funext fun i => by pointwise))
    rw [← a2 m c]
    rfl
  have r3 : (StableHlo.upto ops (fun b => m (c, b)) 58 (Proc.tc.devRef main_call0_v7) : S64x256.Idx → EReal) = fun i => if (qu (i 1)).val = 3 then (args m c).w 3 (i 0) (pl (i 1)) else 0 := by
    subst hops
    after_reads_simp
    refine Eq.trans ?_ (piece3 (args m c).w (constant (F := Ideal) S_ .f32 0#32) (funext fun i => by pointwise))
    rw [← a2 m c]
    rfl
  clear hops
  refine Eq.trans (b := concatenate S256x256 0 [⟨S64x256, (StableHlo.upto ops (fun b => m (c, b)) 58 (Proc.tc.devRef main_call0_v4) : S64x256.Idx → EReal)⟩,
    ⟨S64x256, (StableHlo.upto ops (fun b => m (c, b)) 58 (Proc.tc.devRef main_call0_v5) : S64x256.Idx → EReal)⟩,
    ⟨S64x256, (StableHlo.upto ops (fun b => m (c, b)) 58 (Proc.tc.devRef main_call0_v6) : S64x256.Idx → EReal)⟩,
    ⟨S64x256, (StableHlo.upto ops (fun b => m (c, b)) 58 (Proc.tc.devRef main_call0_v7) : S64x256.Idx → EReal)⟩] concatenates_S64x256_S64x256_S64x256_S64x256_S256x256_d0) rfl ?_
  rw [r0, r1, r2, r3]
  funext i
  pointwise [mat]
  have h1 : (i 0).val < 256 := (i 0).isLt
  have hq (k : Fin 4) (h : (i 0).val / 64 = k.val) : qu (i 0) = k := Fin.ext h
  have hp (r : ℕ) (h : r < 64) (e : (i 0).val % 64 = r) : pl (i 0) = ⟨r, h⟩ := Fin.ext e
  have hc (k : Fin 4) : ((qu (i 1)).val = k.val) ↔ k = qu (i 1) := by rw [Fin.ext_iff, eq_comm]
  by_cases b0 : (i 0).val < 64
  · rw [dif_pos b0, hq 0 (show (i 0).val / 64 = 0 by omega), hp ((i 0).val) (by omega) (by omega)]
    exact if_congr (hc 0) rfl rfl
  rw [dif_neg b0]
  by_cases b1 : (i 0).val - 64 < 64
  · rw [dif_pos b1, hq 1 (show (i 0).val / 64 = 1 by omega), hp ((i 0).val - 64) (by omega) (by omega)]
    exact if_congr (hc 1) rfl rfl
  rw [dif_neg b1]
  by_cases b2 : (i 0).val - 64 - 64 < 64
  · rw [dif_pos b2, hq 2 (show (i 0).val / 64 = 2 by omega), hp ((i 0).val - 64 - 64) (by omega) (by omega)]
    exact if_congr (hc 2) rfl rfl
  rw [dif_neg b2]
  rw [hq 3 (show (i 0).val / 64 = 3 by omega), hp ((i 0).val - 64 - 64 - 64) (by omega) (by omega)]
  exact if_congr (hc 3) rfl rfl

end Cert.Pool
end
-- ==== Proof.PoolTile.lean ====
/- One tile of the pooling's backward call: its rows and the sixteen that follow, and the sums over windows by doubling. -/
module

public import proofs.«01_k».proof.Proof.PoolHost

@[expose] public section

set_option maxRecDepth 16384

noncomputable section

namespace Cert.Pool

open Cert Cert.KernelpoolIdeal Cert.KernelpoolIdeal.Gen Idealize.ShloMosaic Idealize.ShloMosaic.TcCoe Idealize.SL.Sem
open Cert.Fwd (mat vec)

/-- A sum over all columns of terms that are zero outside one quarter. -/
theorem sum_quarter (k : Fin 4) (F : Fin 256 → EReal) (G : Fin 64 → EReal) (hF : ∀ k' e, F (lane k' e) = if k' = k then G e else 0) :
    ∑ n, F n = ∑ e, G e := by
  have h : ∑ x : Fin 4 × Fin 64, F (lane x.1 x.2) = ∑ n, F n :=
    Fintype.sum_equiv (finProdFinEquiv (m := 4) (n := 64)) _ _ fun x => congrArg F (Fin.ext (by simp only [lane, finProdFinEquiv_apply_val]; omega))
  rw [← h, Fintype.sum_prod_type, Finset.sum_eq_single k]
  · exact Finset.sum_congr rfl fun e _ => (hF k e).trans (if_pos rfl)
  · intro k' _ hk
    exact Finset.sum_eq_zero fun e _ => (hF k' e).trans (if_neg hk)
  · intro hk
    exact absurd (Finset.mem_univ k) hk

theorem qu_lane (k : Fin 4) (e : Fin 64) : qu (lane k e) = k := Fin.ext (by simp only [lane, qu]; omega)
theorem pl_lane (k : Fin 4) (e : Fin 64) : pl (lane k e) = e := Fin.ext (by simp only [lane, pl]; omega)

namespace Args

variable (A : Args)

/-- The rows of the gradient, zero beyond the last row. -/
def dyz (s : ℕ) (n : Fin 256) : EReal := if h : s < 8192 then A.dy ⟨s, h⟩ n else 0
def xz (s : ℕ) (n : Fin 256) : EReal := A.dyz s n * A.sc n
def gz (s : ℕ) (n : Fin 256) : EReal := ∑ e : Fin 64, A.xz s (lane (qu n) e) * A.w (qu n) (pl n) e
def qz (s : ℕ) (n : Fin 256) : EReal := Ideal.div (A.gz s n) (cnt s (qu n))
/-- The rows less their means, zero beyond the last row. -/
def dz (s : ℕ) (n : Fin 256) : EReal := if h : s < 8192 then A.d ⟨s, h⟩ (qu n) (pl n) else 0
/-- What one row adds to the gradient at the scales, and to that at the weights. -/
def dsT (n : Fin 256) (s : ℕ) : EReal := A.dyz s n * ∑ e : Fin 64, A.dz s (lane (qu n) e) * A.w (qu n) e (pl n)
def offT (a b : Fin 256) (s : ℕ) : EReal := A.dz s a * A.xz s b
/-- The sum over the `w` rows from `s` on. -/
def win (w s : ℕ) (n : Fin 256) : EReal := ∑ j ∈ Finset.range w, A.qz (s + j) n

theorem xz_of (t : Fin 8192) (n : Fin 256) : A.xz t.val n = A.x t n := by
  unfold xz dyz
  rw [dif_pos t.isLt]
  rfl
theorem gz_of (t : Fin 8192) (n : Fin 256) : A.gz t.val n = A.g t (qu n) (pl n) :=
  Finset.sum_congr rfl fun e _ => by rw [A.xz_of]
theorem gz_zero {s : ℕ} (h : 8192 ≤ s) (n : Fin 256) : A.gz s n = 0 :=
  Finset.sum_eq_zero fun e _ => by rw [xz, dyz, dif_neg (by omega), zero_mul, zero_mul]
theorem qz_of (t : Fin 8192) (n : Fin 256) : A.qz t.val n = A.q t (qu n) (pl n) := by rw [qz, A.gz_of, q]

/-- Twice as wide a window is two windows. -/
theorem win_two (w s : ℕ) (n : Fin 256) : A.win w s n + A.win w (s + w) n = A.win (w + w) s n := by
  unfold win
  rw [Finset.sum_range_add]
  exact congrArg (_ + ·) (Finset.sum_congr rfl fun j _ => by rw [Nat.add_assoc])

end Args

/-- How many rows of a window lie within a run of rows, as words: of row `r` of tile `T`. -/
theorem cnt_word (T : Fin 8) (r : Fin 1040) (k : Fin 4) :
    FloatOps.sitofp (F := Ideal) .f32 (IntOp.minsi (IntOp.addi (IntOp.addi (IntOp.muli (BitVec.ofNat 32 T.val) 1024#32) (BitVec.ofNat 32 r.val)) 1#32) (BitVec.ofNat 32 (2 ^ (k.val + 1))))
      = cnt (1024 * T.val + r.val) k := by
  unfold cnt
  refine congrArg (fun b => FloatOps.sitofp (F := Ideal) .f32 (IntOp.minsi (IntOp.addi b 1#32) (BitVec.ofNat 32 (2 ^ (k.val + 1))))) ?_
  simp only [IntOp.addi, IntOp.muli]
  refine BitVec.eq_of_toNat_eq ?_
  simp only [BitVec.toNat_add, BitVec.toNat_mul, BitVec.toNat_ofNat]
  omega

/-- The count is not zero beyond the last row. -/
theorem div_cnt {s : ℕ} (h : 8192 ≤ s) (h' : s < 16384) (k : Fin 4) : Ideal.div 0 (cnt s k) = 0 := by
  have hs : (BitVec.ofNat 32 s + 1#32).toInt = (s : ℤ) + 1 := by
    have : (BitVec.ofNat 32 s + 1#32) = BitVec.ofNat 32 (s + 1) := by
      rw [BitVec.ofNat_add]
    rw [this, _root_.BitVec.toInt_ofNat']
    exact Int.bmod_eq_of_le (by omega) (by omega)
  have hk := win_toInt k
  have h2 : 2 ^ (k.val + 1) ≤ 16 ∧ 2 ≤ 2 ^ (k.val + 1) := by
    revert k
    decide
  have hc : cnt s k = (((IntOp.minsi (IntOp.addi (BitVec.ofNat 32 s) 1#32) (BitVec.ofNat 32 (2 ^ (k.val + 1)))).toInt : ℝ) : EReal) := rfl
  have hm : (IntOp.minsi (IntOp.addi (BitVec.ofNat 32 s) 1#32) (BitVec.ofNat 32 (2 ^ (k.val + 1)))) = BitVec.ofNat 32 (2 ^ (k.val + 1)) := by
    unfold IntOp.minsi IntOp.addi
    rw [BitVec.slt_eq_decide, hs, hk, if_neg]
    rw [decide_eq_true_eq]
    omega
  rw [hc, hm, hk, Ideal.div_coe, zero_mul]
  exact_mod_cast (by omega : (2 ^ (k.val + 1) : ℕ) ≠ 0)

/-! The values of one tile. -/

variable {A : Args} {T : Fin 8} (i : grid0.Coords) (hi : (i 0).val = T.val)

/-- The rows of tile `T` and the sixteen after it. -/
def ext (T : Fin 8) (f : ℕ → Fin 256 → EReal) : S1040x256.Idx → EReal := fun y => f (1024 * T.val + (y 0).val) (y 1)
/-- The rows of tile `T`. -/
def tile (T : Fin 8) (f : ℕ → Fin 256 → EReal) : S1024x256.Idx → EReal := fun y => f (1024 * T.val + (y 0).val) (y 1)
/-- The weights on the diagonal. -/
def blockDiag (A : Args) : S256x256.Idx → EReal := mat 256 256 fun a b => if qu a = qu b then A.w (qu a) (pl a) (pl b) else 0

include hi in
theorem p7 {halo : S16x256.Idx → EReal} (hh : T.val < 7 → halo = fun y => A.dyz (1024 * (T.val + 1) + (y 0).val) (y 1)) :
    k0_pay7 (F := Ideal) i (tile T A.dyz) halo (fun y : S1x256.Idx => A.sc (y 1)) = ext T A.xz := by
  funext y
  pointwise [k0_pay7, tile, ext, Args.xz]
  have h0 : (y 0).val < 1040 := (y 0).isLt
  refine congrArg (· * A.sc (y 1)) ?_
  by_cases h : (y 0).val < 1024
  · rw [dif_pos h]
  · rw [dif_neg h, hi]
    by_cases hT : T.val < 7
    · have hc : Scalar.cmpi CmpIPredicate.slt (BitVec.ofNat 32 T.val) 7#32 = 1#1 := by
        clear hi hh h
        revert T
        decide
      rw [hc, hh hT]
      show A.dyz (1024 * (T.val + 1) + ((y 0).val - 1024)) (y 1) = _
      rw [show 1024 * (T.val + 1) + ((y 0).val - 1024) = 1024 * T.val + (y 0).val by omega]
    · have hT' : T = 7 := Fin.ext (show T.val = 7 by omega)
      subst hT'
      refine Eq.symm ((dif_neg ?_).trans ?_)
      · show ¬ 1024 * 7 + (y 0).val < 8192
        omega
      · rfl

theorem p8 {i : grid0.Coords} {v3 : S1024x256.Idx → EReal} {v5 : S16x256.Idx → EReal} {v9 : S1x256.Idx → EReal} (h7 : k0_pay7 (F := Ideal) i v3 v5 v9 = ext T A.xz) :
    k0_pay8 (F := Ideal) i v3 v5 v9 (blockDiag A) = ext T A.gz := by
  unfold k0_pay8
  rw [h7]
  funext y
  pointwise [ext, blockDiag, mat]
  refine sum_quarter (qu (y 1)) _ (fun e => A.xz (1024 * T.val + (y 0).val) (lane (qu (y 1)) e) * A.w (qu (y 1)) (pl (y 1)) e) fun k e => ?_
  rw [qu_lane, pl_lane]
  by_cases h : k = qu (y 1)
  · rw [if_pos h, if_pos h.symm, h]
  · rw [if_neg h, if_neg fun q => h q.symm, mul_zero]

/-- The quarter of a column, as words compute it. -/
theorem p11 : k0_pay11 k0_pay9 k0_pay10 = fun y : S1040x256.Idx => BitVec.ofNat 32 (qu (y 1)).val := by
  funext y
  pointwise [k0_pay11, k0_pay9, k0_pay10]
  generalize y 1 = n
  revert n
  decide +kernel

/-- The width of a column's window, as words choose it. -/
theorem width (k : Fin 4) :
    Scalar.select (IntOp.cmpi CmpIPredicate.eq (BitVec.ofNat 32 k.val) 3#32) 16#32
      (Scalar.select (IntOp.cmpi CmpIPredicate.eq (BitVec.ofNat 32 k.val) 2#32) 8#32
        (Scalar.select (IntOp.cmpi CmpIPredicate.eq (BitVec.ofNat 32 k.val) 1#32) 4#32 2#32)) = BitVec.ofNat 32 (2 ^ (k.val + 1)) := by
  revert k
  decide

/-- One of four values by a column's quarter. -/
theorem pick (k : Fin 4) (F : ℕ → EReal) (z : EReal) :
    Scalar.select (IntOp.cmpi CmpIPredicate.eq (BitVec.ofNat 32 k.val) 3#32) (F 16)
      (Scalar.select (IntOp.cmpi CmpIPredicate.eq (BitVec.ofNat 32 k.val) 2#32) (F 8)
        (Scalar.select (IntOp.cmpi CmpIPredicate.eq (BitVec.ofNat 32 k.val) 1#32) (F 4)
          (Scalar.select (IntOp.cmpi CmpIPredicate.eq (BitVec.ofNat 32 k.val) 0#32) (F 2) z))) = F (2 ^ (k.val + 1)) := by
  match k with
  | 0 => rfl
  | 1 => rfl
  | 2 => rfl
  | 3 => rfl

theorem p12 (r : Fin 1040) (n : Fin 256) {s : ℕ} (hs : r.val = s) (hr : s < 1039) :
    k0_pay12 (F := Ideal) (BitVec.ofNat 32 T.val) (ext T A.gz) k0_pay9 k0_pay10 (ix2 r n) = A.win 2 (1024 * T.val + s) n := by
  subst hs
  unfold k0_pay12
  rw [p11]
  pointwise [ext]
  have h1 : (r.val + 1040 - 1039) % 1040 = r.val + 1 := by omega
  rw [h1, width]
  unfold Args.win
  rw [Finset.sum_range_succ, Finset.sum_range_one]
  refine congrArg₂ (· + ·) (congrArg (Ideal.div (A.gz (1024 * T.val + r.val) n)) ?_) (congrArg (Ideal.div (A.gz (1024 * T.val + r.val + 1) n)) ?_)
  · exact cnt_word T r (qu n)
  · exact cnt_word T ⟨r.val + 1, by omega⟩ (qu n)

theorem p13 (r : Fin 1040) (n : Fin 256) {s : ℕ} (hs : r.val = s) (hr : s < 1037) :
    k0_pay13 (F := Ideal) (BitVec.ofNat 32 T.val) (ext T A.gz) k0_pay9 k0_pay10 (ix2 r n) = A.win 4 (1024 * T.val + s) n := by
  subst hs
  pointwise [k0_pay13]
  have h1 : (r.val + 1040 - 1038) % 1040 = r.val + 2 := by omega
  refine (congrArg₂ (· + ·) (p12 r n rfl (by omega)) (p12 _ n h1 (by omega))).trans ?_
  exact A.win_two 2 (1024 * T.val + r.val) n

theorem p14 (r : Fin 1040) (n : Fin 256) {s : ℕ} (hs : r.val = s) (hr : s < 1033) :
    k0_pay14 (F := Ideal) (BitVec.ofNat 32 T.val) (ext T A.gz) k0_pay9 k0_pay10 (ix2 r n) = A.win 8 (1024 * T.val + s) n := by
  subst hs
  pointwise [k0_pay14]
  have h1 : (r.val + 1040 - 1036) % 1040 = r.val + 4 := by omega
  refine (congrArg₂ (· + ·) (p13 r n rfl (by omega)) (p13 _ n h1 (by omega))).trans ?_
  exact A.win_two 4 (1024 * T.val + r.val) n

theorem p16 (r : Fin 1040) (n : Fin 256) {s : ℕ} (hs : r.val = s) (hr : s < 1025) :
    k0_pay16 (F := Ideal) (BitVec.ofNat 32 T.val) (ext T A.gz) k0_pay9 k0_pay10 (ix2 r n) = A.win 8 (1024 * T.val + s + 8) n := by
  subst hs
  pointwise [k0_pay16]
  have h1 : (r.val + 1040 - 1032) % 1040 = r.val + 8 := by omega
  refine (p14 _ n h1 (by omega)).trans ?_
  rfl

/-- The gradient at the pooling's input, of one tile. -/
theorem p1 {arg0 : BitVec 32} (h0 : arg0 = BitVec.ofNat 32 T.val) {v16 : S1040x256.Idx → EReal} (h16 : v16 = ext T A.gz) :
    k0_pay1 (F := Ideal) v16 (k0_pay11 k0_pay9 k0_pay10) (k0_pay14 arg0 v16 k0_pay9 k0_pay10) (k0_pay15 arg0 v16 k0_pay9 k0_pay10) (k0_pay16 arg0 v16 k0_pay9 k0_pay10)
      = tile T fun s n => A.win (2 ^ ((qu n).val + 1)) s n - A.gz s n := by
  subst h0 h16
  unfold k0_pay15
  rw [p11]
  funext y
  pointwise [k0_pay1, ext]
  have hy : (y 0).val < 1024 := (y 0).isLt
  have h12 := p12 (A := A) (T := T) ⟨(y 0).val, by omega⟩ (y 1) (s := (y 0).val) rfl (by omega)
  have h13 := p13 (A := A) (T := T) ⟨(y 0).val, by omega⟩ (y 1) (s := (y 0).val) rfl (by omega)
  have h14 := p14 (A := A) (T := T) ⟨(y 0).val, by omega⟩ (y 1) (s := (y 0).val) rfl (by omega)
  have h16 := p16 (A := A) (T := T) ⟨(y 0).val, by omega⟩ (y 1) (s := (y 0).val) rfl (by omega)
  have h15 := (congrArg₂ (· + ·) h14 h16).trans (A.win_two 8 (1024 * T.val + (y 0).val) (y 1))
  refine congrArg (· - A.gz (1024 * T.val + (y 0).val) (y 1)) ?_
  refine Eq.trans ?_ (pick (qu (y 1)) (fun w => A.win w (1024 * T.val + (y 0).val) (y 1)) 0)
  refine congrArg₂ _ h15 (congrArg₂ _ h14 (congrArg₂ _ h13 (congrArg₂ _ h12 rfl)))

theorem p3 {v : S1x256.Idx → EReal} : k0_pay3 (F := Ideal) (tile T A.dyz) (tile T A.dz) (blockDiag A) v = fun y : S1x256.Idx => v y + ∑ j : Fin 1024, A.dsT (y 1) (1024 * T.val + j.val) := by
  funext y
  pointwise [k0_pay3, k0_pay2, tile, blockDiag, mat]
  refine congrArg (v y + ·) (Finset.sum_congr rfl fun j _ => congrArg (A.dyz (1024 * T.val + j.val) (y 1) * ·) ?_)
  refine sum_quarter (qu (y 1)) _ _ fun k e => ?_
  rw [qu_lane, pl_lane]
  by_cases h : k = qu (y 1)
  · rw [if_pos h, if_pos h, h]
  · rw [if_neg h, if_neg h, mul_zero]
theorem p4 {v : S256x256.Idx → EReal} : k0_pay4 (F := Ideal) (ext T A.xz) (tile T A.dz) v = fun y : S256x256.Idx => v y + ∑ j : Fin 1024, A.offT (y 0) (y 1) (1024 * T.val + j.val) := by
  funext y
  pointwise [k0_pay4, k0_pay2, tile, ext]
  rfl

/-! The sums over all tiles. -/

namespace Args

variable (A : Args)

theorem ds_eq (n : Fin 256) : A.ds n = ∑ t : Fin 8192, A.dsT n t.val := by
  refine Finset.sum_congr rfl fun t _ => ?_
  have h1 : A.dyz t.val n = A.dy t n := dif_pos t.isLt
  have h2 (n : Fin 256) : A.dz t.val n = A.d t (qu n) (pl n) := dif_pos t.isLt
  rw [dsT, h1, mul_comm]
  refine congrArg (A.dy t n * ·) (Finset.sum_congr rfl fun e _ => ?_)
  rw [h2, qu_lane, pl_lane, mul_comm]
theorem off_eq (a b : Fin 256) : A.off a b = ∑ t : Fin 8192, A.offT a b t.val := by
  refine Finset.sum_congr rfl fun t _ => ?_
  have h2 : A.dz t.val a = A.d t (qu a) (pl a) := dif_pos t.isLt
  rw [offT, h2, A.xz_of, mul_comm]

theorem qz_zero {s : ℕ} (h : 8192 ≤ s) (h' : s < 16384) (n : Fin 256) : A.qz s n = 0 := by
  rw [qz, A.gz_zero h, div_cnt h h']

/-- A masked sum over all rows is the sum over a window. -/
theorem masked (t : Fin 8192) (n : Fin 256) : ∑ t' : Fin 8192, A.q t' (qu n) (pl n) * mask (qu n) t' t = A.win (2 ^ ((qu n).val + 1)) t.val n := by
  have hw : 2 ^ ((qu n).val + 1) ≤ 16 := by
    generalize qu n = k
    revert k
    decide
  generalize hW : 2 ^ ((qu n).val + 1) = W at hw
  have h1 : ∑ t' : Fin 8192, A.q t' (qu n) (pl n) * mask (qu n) t' t = ∑ s ∈ Finset.range 8192, A.qz s n * (if t.val ≤ s ∧ s < t.val + W then 1 else 0) := by
    rw [Finset.sum_range]
    refine Finset.sum_congr rfl fun t' _ => ?_
    rw [A.qz_of, mask, hW]
  have h2 : ∑ s ∈ Finset.range 8192, A.qz s n * (if t.val ≤ s ∧ s < t.val + W then 1 else 0) = ∑ s ∈ Finset.range (8192 + W), A.qz s n * (if t.val ≤ s ∧ s < t.val + W then 1 else 0) := by
    refine Finset.sum_subset (fun s hs => ?_) fun s hs hn => ?_
    · rw [Finset.mem_range] at hs ⊢
      omega
    · rw [Finset.mem_range] at hs hn
      rw [A.qz_zero (by omega) (by omega), zero_mul]
  have h3 : ∑ s ∈ Finset.Ico t.val (t.val + W), A.qz s n * (if t.val ≤ s ∧ s < t.val + W then 1 else 0) = ∑ s ∈ Finset.range (8192 + W), A.qz s n * (if t.val ≤ s ∧ s < t.val + W then 1 else 0) := by
    refine Finset.sum_subset (fun s hs => ?_) fun s hs hn => ?_
    · rw [Finset.mem_Ico] at hs
      rw [Finset.mem_range]
      omega
    · rw [Finset.mem_Ico] at hn
      rw [if_neg hn, mul_zero]
  rw [h1, h2, ← h3, Finset.sum_Ico_eq_sum_range, Nat.add_sub_cancel_left]
  refine Finset.sum_congr rfl fun j hj => ?_
  rw [Finset.mem_range] at hj
  rw [if_pos ⟨by omega, by omega⟩, mul_one]

theorem dp_eq (t : Fin 8192) (n : Fin 256) : A.win (2 ^ ((qu n).val + 1)) t.val n - A.gz t.val n = A.dp t (qu n) (pl n) := by
  rw [dp, masked, gz_of, sub_eq_add_neg, add_comm]

end Args

/-- The sum over the first `k + 1` tiles of 1024 rows. -/
def part (f : ℕ → EReal) (k : ℕ) : EReal := ∑ i ∈ Finset.range (1024 * (k + 1)), f i

theorem part_zero (f : ℕ → EReal) : 0 + ∑ j : Fin 1024, f (1024 * 0 + j.val) = part f 0 := by
  unfold part
  rw [zero_add, Finset.sum_range]
  exact Finset.sum_congr rfl fun j _ => congrArg f (by omega)
theorem part_succ (f : ℕ → EReal) (k : ℕ) : part f k + ∑ j : Fin 1024, f (1024 * (k + 1) + j.val) = part f (k + 1) := by
  unfold part
  rw [show 1024 * (k + 1 + 1) = 1024 * (k + 1) + 1024 by omega, Finset.sum_range_add, ← Finset.sum_range (fun j => f (1024 * (k + 1) + j))]
theorem part_last (f : ℕ → EReal) : part f 7 = ∑ i : Fin 8192, f i.val := by
  unfold part
  exact Finset.sum_range f

end Cert.Pool

end
-- ==== Proof.PoolRef.lean ====
/- The reference of the pooling's backward call, one stage after another: each value is the mathematics' own. -/
module

public import proofs.«01_k».proof.Proof.Gen.ReferencepoolIdeal.Read
public import proofs.«01_k».proof.Proof.Pool

@[expose] public section

set_option maxRecDepth 16384

noncomputable section

namespace Cert.Pool.Ref

open Cert.ReferencepoolIdeal Cert.ReferencepoolIdeal.Read Idealize.ShloMosaic
open Cert.Fwd (mat vec)

variable (A : Args)

theorem v51 : val_main_v51 (F := Ideal) (mat 8192 256 A.dy) (vec 256 A.sc) = mat 8192 256 A.x := by
  simp only [val_main_v51, val_main_v50, val_main_v44]
  funext i
  pointwise [mat, vec]
  rfl

theorem v56 : val_main_v56 (F := Ideal) (mat 8192 256 A.dy) (vec 256 A.sc) = fun _ => (0 : EReal) := by
  simp only [val_main_v56, val_main_v55, val_main_v0, val_main_cst, v51]
  funext i
  pointwise [mat]
  exact Finset.sum_eq_zero fun _ _ => mul_zero _

theorem v61 : val_main_v61 (F := Ideal) (mat 8192 256 A.dy) (cube 4 64 64 A.w) (vec 256 A.sc) = cube 8192 4 64 A.g := by
  simp only [val_main_v61, val_main_v60, val_main_v59, val_main_v58, val_main_v57, v56, v51]
  funext i
  pointwise [mat, cube]
  refine Finset.sum_congr rfl fun k _ => congrArg (· * _) (congrArg₂ A.x (Fin.ext ?_) (Fin.ext ?_))
  · rfl
  · show (i 1).val * 64 + k.val = 64 * (i 1).val + k.val
    omega

theorem v34 : val_main_v34 (F := Ideal) = fun i => cnt (i 0).val (i 1) := by
  simp only [val_main_v34, val_main_v33, val_main_v32, val_main_v31, val_main_v30, val_main_v29, val_main_v28, val_main_v27, val_main_v26, val_main_v25, val_main_v4, val_main_v3, val_main_v2, val_main_c, val_main_c_1]
  funext i
  pointwise
  refine congrArg (fun b => FloatOps.sitofp (F := Ideal) .f32 (IntOp.minsi (IntOp.addi (BitVec.ofNat 32 (i 0).val) 1#32) b)) ?_
  have h : ∀ k : Fin 4, IntOp.shli .host 2#32 (BitVec.ofNat 32 k.val) = BitVec.ofNat 32 (2 ^ (k.val + 1)) := by decide
  exact h (i 1)

theorem v64 : val_main_v64 (F := Ideal) (mat 8192 256 A.dy) (cube 4 64 64 A.w) (vec 256 A.sc) = cube 8192 4 64 A.q := by
  simp only [val_main_v64, val_main_v63, v61, v34]
  funext i
  pointwise [cube]
  rfl

theorem v22 : val_main_v22 (F := Ideal) = cube 4 8192 8192 mask := by
  simp only [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_c, val_main_c_0]
  funext i
  pointwise [cube]
  have h : ∀ k : Fin 4, IntOp.shli .host 2#32 (BitVec.ofNat 32 k.val) = BitVec.ofNat 32 (2 ^ (k.val + 1)) := by decide
  refine (congrArg (fun b => FloatOps.uitofp (F := Ideal) FTy.f32 (IntOp.andi (IntOp.cmpi CmpIPredicate.sge (IntOp.subi (BitVec.ofNat 32 (i 1).val) (BitVec.ofNat 32 (i 2).val)) 0#32)
    (IntOp.cmpi CmpIPredicate.slt (IntOp.subi (BitVec.ofNat 32 (i 1).val) (BitVec.ofNat 32 (i 2).val)) b))) (h (i 0))).trans ?_
  exact mask_word (i 0) (i 1) (i 2)

theorem v69 : val_main_v69 (F := Ideal) (mat 8192 256 A.dy) (cube 4 64 64 A.w) (vec 256 A.sc) = mat 8192 256 fun t n => A.dp t (qu n) (pl n) := by
  simp only [val_main_v69, val_main_v68, val_main_v67, val_main_v66, val_main_v65, val_main_v62, v61, v64, v22]
  funext i
  pointwise [mat, cube]
  rfl

variable {A} {x1 : S8192x256.Idx → EReal} (hd : val_main_v37 (F := Ideal) x1 = cube 8192 4 64 A.d)
include hd

theorem v41 : val_main_v41 (F := Ideal) x1 = mat 8192 256 fun t n => A.d t (qu n) (pl n) := by
  simp only [val_main_v41, hd]
  funext i
  pointwise [mat, cube]
  rfl

theorem v43 : val_main_v43 (F := Ideal) x1 (cube 4 64 64 A.w) = mat 8192 256 fun t n => A.y t (qu n) (pl n) := by
  simp only [val_main_v43, val_main_v42, val_main_v40, val_main_v39, val_main_v38, val_main_v0, val_main_cst, hd]
  funext i
  pointwise [mat, cube]
  refine (congrArg₂ (· + ·) rfl (Finset.sum_eq_zero fun _ _ => mul_zero (_ : EReal))).trans ?_
  exact add_zero (_ : EReal)

theorem v54 : val_main_v54 (F := Ideal) (mat 8192 256 A.dy) x1 (vec 256 A.sc) = mat 256 256 A.off := by
  simp only [val_main_v54, val_main_v53, v41 hd, v51]
  funext i
  pointwise [mat]
  rfl

theorem v72 : val_main_v72 (F := Ideal) (mat 8192 256 A.dy) x1 (cube 4 64 64 A.w) = mat 8 256 fun r n => if r.val = 0 then A.ds n else 0 := by
  simp only [val_main_v72, val_main_v71, val_main_v70, val_main_v52, val_main_v49, val_main_v48, val_main_v47, val_main_cst_2, val_main_cst_3, val_main_cst_4, v43 hd]
  funext i
  pointwise [mat]
  refine (dite_eq_ite ..).trans ?_
  have e : (i 0).val < 1 ↔ (i 0).val = 0 := by omega
  refine if_congr e ?_ rfl
  refine (Finset.sum_const _).trans ?_
  rw [Finset.card_univ, Fintype.card_fin, one_smul]
  refine Finset.sum_congr rfl fun t _ => ?_
  exact congrArg (· * _) (congrFun (v43 hd) _)

end Cert.Pool.Ref
end
-- ==== Proof.PoolArr.lean ====
/- What the pooling's backward call leaves in its buffers after each tile, the three arrays after it, and the claim. -/
module

public import proofs.«01_k».proof.Defs
public import proofs.«01_k».proof.Proof.FwdArr
public import proofs.«01_k».proof.Proof.PoolTile
public import proofs.«01_k».proof.Proof.PoolRef
public import Idealize.ShloMosaic.Lib.Claim

@[expose] public section

set_option maxRecDepth 16384

noncomputable section

namespace Cert.Pool

open Cert Cert.KernelpoolIdeal Cert.KernelpoolIdeal.Gen Idealize.ShloMosaic Idealize.ShloMosaic.TcCoe Idealize.SL.Sem
open Cert.Fwd (mat vec readCov_whole canon_whole)

variable (m : (ℓ : Loc nD τ sig) → Buf (Elt Ideal) ℓ) (c : Dev nD)

/-- Where each window's block lies at point `t`. -/
theorem e0 : ∀ t : Fin cfg0.N, win0_0.index t = ![t.val, 0] := by decide +kernel
theorem e1 : ∀ t : Fin cfg0.N, t.val < 7 → win0_1.index t = ![64 * (t.val + 1), 0] := by decide +kernel
theorem e2 : ∀ t : Fin cfg0.N, win0_2.index t = ![t.val, 0] := by decide +kernel
theorem e3 : ∀ t : Fin cfg0.N, win0_3.index t = ![0, 0] := by decide +kernel
theorem e4 : ∀ t : Fin cfg0.N, win0_4.index t = ![0, 0] := by decide +kernel
theorem e5 : ∀ t : Fin cfg0.N, win0_5.index t = ![t.val, 0] := by decide +kernel
theorem e6 : ∀ t : Fin cfg0.N, win0_6.index t = ![0, 0] := by decide +kernel
theorem e7 : ∀ t : Fin cfg0.N, win0_7.index t = ![0, 0] := by decide +kernel

/-- The tile of point `t`. -/
def tl (t : Fin cfg0.N) : Fin 8 := ⟨t.val, t.isLt⟩

theorem coord : ∀ t : Fin cfg0.N, (grid0.coords t 0).val = (tl t).val := by decide +kernel

theorem dyz_eq (A : Args) (p : Fin 8192) (n : Fin 256) {s : ℕ} {n' : Fin 256} (hs : p.val = s) (hn : n = n') : A.dy p n = A.dyz s n' := by
  subst hs hn
  unfold Args.dyz
  rw [dif_pos p.isLt]
theorem dz_eq (A : Args) (p : Fin 8192) (n : Fin 256) {s : ℕ} {n' : Fin 256} (hs : p.val = s) (hn : n = n') : A.d p (qu n) (pl n) = A.dz s n' := by
  subst hs hn
  unfold Args.dz
  rw [dif_pos p.isLt]

theorem blk0 (t : Fin cfg0.N) : iblk m c 0 t = tile (tl t) (args m c).dyz := by
  funext y
  blk_simp [iblk]
  refine (congrFun ((V_main_arg0 m c).trans (a0 m c)) _).trans ?_
  refine dyz_eq (args m c) _ _ ?_ (Fin.ext ?_)
  · blk_simp [e0]
    simp only [tl]
    omega
  · blk_simp [e0]

theorem blk1 (t : Fin cfg0.N) (ht : t.val < 7) : iblk m c 1 t = fun y : S16x256.Idx => (args m c).dyz (1024 * (t.val + 1) + (y 0).val) (y 1) := by
  funext y
  blk_simp [iblk]
  refine (congrFun ((V_main_arg0 m c).trans (a0 m c)) _).trans ?_
  refine dyz_eq (args m c) _ _ ?_ (Fin.ext ?_)
  · blk_simp [e1 t ht]
    omega
  · blk_simp [e1 t ht]

theorem blk2 (t : Fin cfg0.N) : iblk m c 2 t = tile (tl t) (args m c).dz := by
  funext y
  blk_simp [iblk]
  refine (congrFun (V38 m c) _).trans ?_
  refine dz_eq (args m c) _ _ ?_ (Fin.ext ?_)
  · blk_simp [e2]
    simp only [tl]
    omega
  · blk_simp [e2]

theorem blk3 (t : Fin cfg0.N) : iblk m c 3 t = blockDiag (args m c) := by
  funext y
  blk_simp [iblk]
  refine (congrFun (V48 m c) _).trans ?_
  refine congrArg₂ (fun a b => if qu a = qu b then (args m c).w (qu a) (pl a) (pl b) else 0) (Fin.ext ?_) (Fin.ext ?_) <;> blk_simp [e3]

theorem blk4 (t : Fin cfg0.N) : iblk m c 4 t = fun y : S1x256.Idx => (args m c).sc (y 1) := by
  funext y
  blk_simp [iblk]
  refine (congrFun (V49 m c) _).trans ?_
  refine congrArg (args m c).sc (Fin.ext ?_)
  blk_simp [e4]

/-- The rows of tile `t` before the projection, as the body computes them from its blocks. -/
theorem xAt (t : Fin cfg0.N) : k0_pay7 (F := Ideal) (grid0.coords t) (iblk m c 0 t) (iblk m c 1 t) (iblk m c 4 t) = ext (tl t) (args m c).xz := by
  rw [blk0, blk4]
  exact p7 _ (coord t) fun h => blk1 m c t h

theorem gAt (t : Fin cfg0.N) : k0_pay8 (F := Ideal) (grid0.coords t) (iblk m c 0 t) (iblk m c 1 t) (iblk m c 4 t) (iblk m c 3 t) = ext (tl t) (args m c).gz := by
  rw [blk3]
  exact p8 (xAt m c t)

/-- The gradient at the pooling's input, of row `s`. -/
def dpz (A : Args) (s : ℕ) (n : Fin 256) : EReal := A.win (2 ^ ((qu n).val + 1)) s n - A.gz s n

theorem o5A (t : Fin cfg0.N) (h0 : t.val % 8 = 0) : (outsAt0 m c t.val t.isLt).1 = tile (tl t) (dpz (args m c)) := by
  rw [outsAt0_A m c t h0]
  frame_out
  exact p1 (congrArg (BitVec.ofNat 32) (coord t)) (gAt m c t)
theorem o5B (t : Fin cfg0.N) (h0 : ¬ t.val % 8 = 0) : (outsAt0 m c t.val t.isLt).1 = tile (tl t) (dpz (args m c)) := by
  rw [outsAt0_B m c t h0]
  frame_out
  exact p1 (congrArg (BitVec.ofNat 32) (coord t)) (gAt m c t)
theorem o5 (t : Fin cfg0.N) : (outsAt0 m c t.val t.isLt).1 = tile (tl t) (dpz (args m c)) := by
  by_cases h : t.val % 8 = 0
  · exact o5A m c t h
  · exact o5B m c t h

theorem arr5 : (dats m 0 c).arrAt 5 cfg0.N = mat 8192 256 fun t n => (args m c).dp t (qu n) (pl n) := by
  have h : mat 8192 256 (fun t n => (args m c).dp t (qu n) (pl n)) = mat 8192 256 fun t n => dpz (args m c) t.val n :=
    congrArg (mat 8192 256) (funext fun t => funext fun n => ((args m c).dp_eq t n).symm)
  rw [h]
  refine (dats m 0 c).arrAt_eq_of_covers 5 _ (by decide +kernel) fun t hf y => ?_
  blk_simp
  show (outsAt0 m c t.val t.isLt).1 _ = _
  rw [o5 m c t]
  refine congrArg₂ (dpz (args m c)) ?_ (Fin.ext ?_)
  · blk_simp [e5]
    simp only [tl]
    omega
  · blk_simp [e5]

/-- What a tile adds to the gradient at the weights, from equations for what the body loads. -/
theorem offEq {A : Args} {T : Fin 8} {v13 : S1040x256.Idx → EReal} {v89 : S1024x256.Idx → EReal} {v : S256x256.Idx → EReal} {f : S256x256.Idx → EReal}
    (h13 : v13 = ext T A.xz) (h89 : v89 = tile T A.dz) (hv : v = f) :
    k0_pay4 (F := Ideal) v13 v89 v = fun y : S256x256.Idx => f y + ∑ j : Fin 1024, A.offT (y 0) (y 1) (1024 * T.val + j.val) := by
  subst h13 h89 hv
  exact p4
theorem dsEq {A : Args} {T : Fin 8} {v3 v89 : S1024x256.Idx → EReal} {v91 : S256x256.Idx → EReal} {v : S1x256.Idx → EReal} {f : Fin 256 → EReal}
    (h3 : v3 = tile T A.dyz) (h89 : v89 = tile T A.dz) (h91 : v91 = blockDiag A) (hv : v = fun y : S1x256.Idx => f (y 1)) :
    k0_pay3 (F := Ideal) v3 v89 v91 v = fun y : S1x256.Idx => f (y 1) + ∑ j : Fin 1024, A.dsT (y 1) (1024 * T.val + j.val) := by
  subst h3 h89 h91 hv
  exact p3

/-- Eight rows of which the first is given and the others are zero. -/
def top (f : Fin 256 → EReal) : S8x256.Idx → EReal := fun y => if (y 0).val = 0 then f (y 1) else 0

/-- The first row stored over contents that are zero from the second row on. -/
theorem topEq {sig : RefSig} {κ : Kind} {sp : Space} (v : View sig κ sp S8x256 .f32) (f : v.ty.Contents (Elt Ideal)) (L : List (View.Piece (Elt Ideal) S8x256 .f32))
    {w0 : S1x256.Idx → EReal} {f0 : Fin 256 → EReal} (h0 : w0 = fun y : S1x256.Idx => f0 (y 1))
    (hL : ∀ y : S8x256.Idx, 1 ≤ (y 0).val → v.read (Elt Ideal) (v.writes (Elt Ideal) f L) y = (0 : EReal)) :
    v.read (Elt Ideal) (v.writes (Elt Ideal) f (⟨Rect.unit ![0, 0] ![1, 256] inb_S8x256_S1x256_0_0, w0⟩ :: L)) = top f0 := by
  subst h0
  funext y
  rw [View.read_writes_cons_rows (d := ![8, 256]) (off := ![0, 0]) (size := ![1, 256]) (o := 0) (W := 1) v f inb_S8x256_S1x256_0_0 (fun y : S1x256.Idx => f0 (y 1)) _ y rfl rfl rfl]
  unfold top
  split_ifs <;> first
    | omega
    | exact congrArg f0 (Fin.ext (Nat.sub_zero _))
    | exact hL y (by omega)

theorem o6A (t : Fin cfg0.N) (h0 : t.val % 8 = 0) :
    (outsAt0 m c t.val t.isLt).2.1 = fun y : S256x256.Idx => 0 + ∑ j : Fin 1024, (args m c).offT (y 0) (y 1) (1024 * t.val + j.val) := by
  rw [outsAt0_A m c t h0]
  frame_out
  refine offEq (T := tl t) (xAt m c t) (blk2 m c t) (f := fun _ => 0) ?_
  funext y
  pointwise [k0_pay5]
theorem o6B (t : Fin cfg0.N) (h0 : ¬ t.val % 8 = 0) {f : S256x256.Idx → EReal} (ih : (outsAt0 m c (t.val - 1) (by omega)).2.1 = f) :
    (outsAt0 m c t.val t.isLt).2.1 = fun y : S256x256.Idx => f y + ∑ j : Fin 1024, (args m c).offT (y 0) (y 1) (1024 * t.val + j.val) := by
  rw [outsAt0_B m c t h0]
  frame_out
  try simp only [read_unread_whole]
  exact offEq (T := tl t) (xAt m c t) (blk2 m c t) ih

theorem o7A (t : Fin cfg0.N) (h0 : t.val % 8 = 0) :
    (outsAt0 m c t.val t.isLt).2.2 = top fun n => 0 + ∑ j : Fin 1024, (args m c).dsT n (1024 * t.val + j.val) := by
  rw [outsAt0_A m c t h0]
  frame_open
  simp (disch := decide) only [↓ View.readCov_skip, ↓ View.readCov_cons_toLoadRect, ↓ View.readCov_fill]
  frame_out
  rw [← View.read_writes_junk_eq_canon (ms0_7 t).view]
  refine topEq (ms0_7 t).view _ _ (f0 := fun n => 0 + ∑ j : Fin 1024, (args m c).dsT n (1024 * t.val + j.val)) (dsEq (T := tl t) (blk0 m c t) (blk2 m c t) (blk3 m c t) (f := fun _ => 0) ?_) ?_
  · funext y
    pointwise [k0_pay6]
  · intro y _
    rw [View.read_writes_junk_eq_canon, View.canon_cons_unit_lit _ _ _ (by decide)]
    pointwise [k0_pay6]
theorem o7B (t : Fin cfg0.N) (h0 : ¬ t.val % 8 = 0) {f : Fin 256 → EReal} (ih : (outsAt0 m c (t.val - 1) (by omega)).2.2 = top f) :
    (outsAt0 m c t.val t.isLt).2.2 = top fun n => f n + ∑ j : Fin 1024, (args m c).dsT n (1024 * t.val + j.val) := by
  rw [outsAt0_B m c t h0]
  frame_out
  try simp only [read_unread_whole]
  refine topEq (ms0_7 t).view _ [] (f0 := fun n => f n + ∑ j : Fin 1024, (args m c).dsT n (1024 * t.val + j.val)) (dsEq (T := tl t) (blk0 m c t) (blk2 m c t) (blk3 m c t) (f := f) ?_) ?_
  · rw [ih]
    funext y
    pointwise [top]
  · intro y hy
    rw [View.writes_nil, Memref.IsWhole.read_unread, ih]
    exact if_neg (by omega)

/-- The two sums after point `n`. -/
theorem o6 (n : ℕ) (hn : n < cfg0.N) : (outsAt0 m c n hn).2.1 = fun y : S256x256.Idx => part ((args m c).offT (y 0) (y 1)) n := by
  induction n with
  | zero =>
    refine (o6A m c ⟨0, hn⟩ rfl).trans ?_
    funext y
    exact part_zero _
  | succ n ih =>
    have hN : n + 1 < 8 := hn
    refine (o6B m c ⟨n + 1, hn⟩ (by show ¬ (n + 1) % 8 = 0; omega) (ih (Nat.lt_of_succ_lt hn))).trans ?_
    funext y
    exact part_succ _ n
theorem o7 (n : ℕ) (hn : n < cfg0.N) : (outsAt0 m c n hn).2.2 = top fun k => part ((args m c).dsT k) n := by
  induction n with
  | zero =>
    refine (o7A m c ⟨0, hn⟩ rfl).trans (congrArg top ?_)
    funext k
    exact part_zero _
  | succ n ih =>
    have hN : n + 1 < 8 := hn
    refine (o7B m c ⟨n + 1, hn⟩ (by show ¬ (n + 1) % 8 = 0; omega) (ih (Nat.lt_of_succ_lt hn))).trans (congrArg top ?_)
    funext k
    exact part_succ _ n

theorem part_at (f : ℕ → EReal) {n : ℕ} (e : n = 7) : part f n = ∑ i : Fin 8192, f i.val := by
  subst e
  exact part_last f

theorem o6_at (t : Fin cfg0.N) (ht : t.val = 7) : (outsAt0 m c t.val t.isLt).2.1 = mat 256 256 (args m c).off := by
  refine (o6 m c t.val t.isLt).trans ?_
  funext y
  exact (part_at _ ht).trans ((args m c).off_eq _ _).symm
theorem o7_at (t : Fin cfg0.N) (ht : t.val = 7) : (outsAt0 m c t.val t.isLt).2.2 = top (args m c).ds := by
  refine (o7 m c t.val t.isLt).trans (congrArg top ?_)
  funext k
  exact (part_at _ ht).trans ((args m c).ds_eq _).symm

theorem flush6 : ∀ t : Fin cfg0.N, (cfg0.win 6).flush t = true → t.val = 7 := by decide +kernel
theorem flush7 : ∀ t : Fin cfg0.N, (cfg0.win 7).flush t = true → t.val = 7 := by decide +kernel

theorem arr6 : (dats m 0 c).arrAt 6 cfg0.N = mat 256 256 (args m c).off := by
  refine (dats m 0 c).arrAt_eq_of_covers 6 _ (by decide +kernel) fun t hf y => ?_
  refine (congrFun (o6_at m c t (flush6 t hf)) _).trans ?_
  refine congrArg₂ (args m c).off (Fin.ext ?_) (Fin.ext ?_) <;> blk_simp [e6]

theorem arr7 : (dats m 0 c).arrAt 7 cfg0.N = mat 8 256 fun r n => if r.val = 0 then (args m c).ds n else 0 := by
  refine (dats m 0 c).arrAt_eq_of_covers 7 _ (by decide +kernel) fun t hf y => ?_
  refine (congrFun (o7_at m c t (flush7 t hf)) _).trans ?_
  refine congrArg₂ (fun (p : Fin 8) (q : Fin 256) => if p.val = 0 then (args m c).ds q else 0) (Fin.ext ?_) (Fin.ext ?_) <;> blk_simp [e7]

/-- The call computes what the reference does. -/
theorem algebraic : algebraic_KernelpoolIdeal_ReferencepoolIdeal := by
  pair_intro
  · run_from Cert.KernelpoolIdeal.Value.run_blocks m g
  · refine θ_run_mono (Cert.ReferencepoolIdeal.Value.run m' g') fun r hr c => ?_
    obtain ⟨r0, r1, r2, a⟩ := hr c
    obtain ⟨g0, g1, g2, g3⟩ := hagree c
    refine ⟨(r0.trans (Cert.ReferencepoolIdeal.Read.val_main_v69_eq ..)).trans ?_, (r1.trans (Cert.ReferencepoolIdeal.Read.val_main_v54_eq ..)).trans ?_,
      (r2.trans (Cert.ReferencepoolIdeal.Read.val_main_v72_eq ..)).trans ?_, a⟩
    · rw [g0.trans (a0 m c), g2.trans (a2 m c), g3.trans (a3 m c)]
      exact (Ref.v69 (args m c)).trans (arr5 m c).symm
    · rw [g0.trans (a0 m c), g1, g3.trans (a3 m c)]
      exact (Ref.v54 (hd m c)).trans (arr6 m c).symm
    · rw [g0.trans (a0 m c), g1, g2.trans (a2 m c)]
      exact (Ref.v72 (hd m c)).trans (arr7 m c).symm

/-- The reference's run leaves the arguments and the counters as they were. -/
theorem frame_ref : quiescent_ReferencepoolIdeal := fun m g _ =>
  θ_run_mono (Cert.ReferencepoolIdeal.Value.run m g) fun r hr => ⟨fun c => (hr c).2.2.2, sem_eq_zero_of_no_sems (by decide) r.2⟩

end Cert.Pool

end
-- ==== Proof.W2out.lean ====
/- The weight gradient of a SwiGLU's down-projection: the array after the call is the sum over all rows. -/
module

public import proofs.«01_k».proof.Defs
public import proofs.«01_k».proof.Proof.Gen.Kernel2outIdeal.Value
public import proofs.«01_k».proof.Proof.Gen.Reference2outIdeal.Read
public import proofs.«01_k».proof.Proof.Wsum
public import Idealize.ShloMosaic.Lib.StableHlo.ReadAt
public import Idealize.ShloMosaic.Lib.Tactic.CleanTypes
public import Idealize.ShloMosaic.Lib.Pipeline.ReadBack
public import Idealize.ShloMosaic.Lib.WritesUnit

@[expose] public section

set_option maxRecDepth 16384

noncomputable section

namespace Cert.W2out

open Cert Cert.Kernel2outIdeal Cert.Kernel2outIdeal.Gen Idealize.ShloMosaic Idealize.ShloMosaic.TcCoe Idealize.SL.Sem
open Cert.Wsum

variable (m : (ℓ : Loc nD τ sig) → Buf (Elt Ideal) ℓ) (c : Dev nD)

/-- The two arguments as extended reals: the gradients at the projection's output and the projection's rows. -/
def u : S8192x1024.Idx → EReal := m ((c : Thread nD τ).loc main_arg1)
def d : S8192x2816.Idx → EReal := m ((c : Thread nD τ).loc main_arg0)

theorem V0 : (V m c main_v0 : S8192x2816.Idx → EReal) = d m c := by
  simp only [V, hostOps0]
  entry_read
  rfl
theorem V1 : (V m c main_v1 : S8192x1024.Idx → EReal) = u m c := by
  simp only [V, hostOps0]
  entry_read
  rfl

/-- Where each window's block lies at point `t`. -/
theorem e0 : ∀ t : Fin cfg0.N, win0_0.index t = ![t.val % 4, t.val / 4] := by decide +kernel
theorem e1 : ∀ t : Fin cfg0.N, win0_1.index t = ![t.val % 4, 0] := by decide +kernel
theorem e2 : ∀ t : Fin cfg0.N, win0_2.index t = ![t.val / 4, 0] := by decide +kernel

theorem blk0 (t : Fin cfg0.N) : iblk m c 0 t = fun y : S2048x1408.Idx => at2 (d m c) (2048 * (t.val % 4) + (y 0).val) (1408 * (t.val / 4) + (y 1).val) := by
  funext y
  blk_simp [iblk]
  refine ((congrFun (V0 m c) _).trans (at2_apply _ _)).trans ?_
  refine congrArg₂ (at2 (d m c)) ?_ ?_ <;> blk_simp [e0] <;> omega

theorem blk1 (t : Fin cfg0.N) : iblk m c 1 t = fun y : S2048x1024.Idx => at2 (u m c) (2048 * (t.val % 4) + (y 0).val) (y 1).val := by
  funext y
  blk_simp [iblk]
  refine ((congrFun (V1 m c) _).trans (at2_apply _ _)).trans ?_
  refine congrArg₂ (at2 (u m c)) ?_ ?_ <;> blk_simp [e1] <;> omega

theorem p1 : k0_pay1 (F := Ideal) = fun _ => (0 : EReal) := by
  funext i
  pointwise [k0_pay1]
theorem p3 (f : S1408x1024.Idx → EReal) : k0_pay3 (F := Ideal) f = f := by
  funext i
  pointwise [k0_pay3]
theorem p2 (v : S1408x1024.Idx → EReal) (a : ℕ → ℕ → EReal) (b : ℕ → ℕ → EReal) (k l : ℕ) :
    k0_pay2 (F := Ideal) v (fun y : S2048x1408.Idx => a (2048 * k + (y 0).val) (l + (y 1).val)) (fun y : S2048x1024.Idx => b (2048 * k + (y 0).val) (y 1).val)
      = fun i : S1408x1024.Idx => v i + ∑ j : Fin 2048, a (2048 * k + j.val) (l + (i 0).val) * b (2048 * k + j.val) (i 1).val := by
  funext i
  pointwise [k0_pay2]

/-- The product that row `i` contributes at an entry of the column block `q`. -/
def T (q : ℕ) (y : S1408x1024.Idx) (i : ℕ) : EReal := at2 (d m c) i (1408 * q + (y 0).val) * at2 (u m c) i (y 1).val

/-- The scratch after a point, from an equation for what it held. -/
theorem stepA (t : Fin cfg0.N) (h0 : t.val % 4 = 0) (h1 : ¬ t.val % 4 = 3) :
    (outsAt0 m c t.val t.isLt).2 = fun y => part (T m c (t.val / 4) y) 0 := by
  rw [outsAt0_A m c t h0 h1]
  frame_out
  try simp only [read_unread_whole]
  rw [blk0, blk1, p1, p2, h0]
  funext y
  exact part_zero (T m c (t.val / 4) y)

theorem stepB (t : Fin cfg0.N) (h0 : ¬ t.val % 4 = 0) (h1 : ¬ t.val % 4 = 3) {f : S1408x1024.Idx → EReal}
    (ih : (outsAt0 m c (t.val - 1) (by omega)).2 = f) :
    (outsAt0 m c t.val t.isLt).2 = fun y => f y + ∑ j : Fin 2048, T m c (t.val / 4) y (2048 * (t.val % 4) + j.val) := by
  rw [outsAt0_B m c t h0 h1]
  frame_out
  simp only [read_unread_whole]
  rw [blk0, blk1, ih, p2]
  rfl

theorem stepC (t : Fin cfg0.N) (h0 : ¬ t.val % 4 = 0) (h1 : t.val % 4 = 3) {f : S1408x1024.Idx → EReal}
    (ih : (outsAt0 m c (t.val - 1) (by omega)).2 = f) :
    (outsAt0 m c t.val t.isLt).1 = fun y => f y + ∑ j : Fin 2048, T m c (t.val / 4) y (2048 * (t.val % 4) + j.val) := by
  rw [outsAt0_C m c t h0 h1]
  frame_out
  simp only [read_unread_whole]
  rw [blk0, blk1, ih, p2, p3]
  rfl

/-- The scratch after point `n`, before a column block's last tile: the sums over the tiles so far. -/
theorem scratch (n : ℕ) (hn : n < cfg0.N) (h3 : ¬ n % 4 = 3) : (outsAt0 m c n hn).2 = fun y => part (T m c (n / 4) y) (n % 4) := by
  induction n with
  | zero => exact stepA m c ⟨0, hn⟩ rfl h3
  | succ n ih =>
    by_cases h0 : (n + 1) % 4 = 0
    · refine (stepA m c ⟨n + 1, hn⟩ h0 h3).trans ?_
      rw [h0]
    · refine (stepB m c ⟨n + 1, hn⟩ h0 h3 (ih (Nat.lt_of_succ_lt hn) (by omega))).trans ?_
      funext y
      show part (T m c (n / 4) y) (n % 4) + ∑ j : Fin 2048, T m c ((n + 1) / 4) y (2048 * ((n + 1) % 4) + j.val) = _
      rw [show (n + 1) / 4 = n / 4 by omega, show (n + 1) % 4 = n % 4 + 1 by omega]
      exact part_succ _ _

/-- The block written back after a column block's last tile: the sums over all rows. -/
theorem out3 (t : Fin cfg0.N) (h3 : t.val % 4 = 3) : (outsAt0 m c t.val t.isLt).1 = fun y => ∑ i : Fin 8192, T m c (t.val / 4) y i.val := by
  refine (stepC m c t (by omega) h3 (scratch m c (t.val - 1) (by omega) (by omega))).trans ?_
  funext y
  rw [show (t.val - 1) / 4 = t.val / 4 by omega, show (t.val - 1) % 4 = 2 by omega, h3]
  exact (part_succ _ 2).trans (part_three _)

theorem flush2 : ∀ t : Fin cfg0.N, (cfg0.win 2).flush t = true → t.val % 4 = 3 := by decide +kernel

/-- The weight gradient: row `i 0` is a column of the projection's rows, column `i 1` one of the gradients at its output. -/
def dw : S2816x1024.Idx → EReal := fun i => ∑ r : Fin 8192, at2 (d m c) r.val (i 0).val * at2 (u m c) r.val (i 1).val

theorem arr2 : (dats m 0 c).arrAt 2 cfg0.N = dw m c := by
  refine (dats m 0 c).arrAt_eq_of_covers 2 _ (by decide +kernel) fun t hf y => ?_
  have h3 := flush2 t hf
  blk_simp
  show (outsAt0 m c t.val t.isLt).1 _ = _
  rw [out3 m c t h3]
  refine Finset.sum_congr rfl fun r _ => congrArg₂ (fun p q => at2 (d m c) r.val p * at2 (u m c) r.val q) ?_ ?_
  · blk_simp [e2]
    omega
  · blk_simp [e2]

/-- The reference's value is the same sum. -/
theorem ref : Cert.Reference2outIdeal.Read.val_main_v4 (F := Ideal) (d m c) (u m c) = dw m c := by
  funext i
  refine (Cert.Reference2outIdeal.Read.val_main_v4_apply _ _ _).trans ?_
  refine (Cert.Reference2outIdeal.Read.val_main_v3_apply _ _ _).trans ?_
  refine (Cert.Reference2outIdeal.Read.val_main_v2_apply _ _ _).trans ?_
  refine Finset.sum_congr rfl fun r _ => ?_
  exact (mul_comm _ _).trans (congrArg₂ (fun p q : EReal => p * q) (at2_apply _ _) (at2_apply _ _))

theorem algebraic : algebraic_Kernel2outIdeal_Reference2outIdeal := by
  pair_intro
  · run_from Cert.Kernel2outIdeal.Value.run_blocks m g
  · refine θ_run_mono (Cert.Reference2outIdeal.Value.run m' g') fun r hr c => ?_
    obtain ⟨r0, a⟩ := hr c
    refine ⟨(r0.trans (Cert.Reference2outIdeal.Read.val_main_v4_eq _ _)).trans ?_, a⟩
    rw [(hagree c).1, (hagree c).2]
    exact (ref m c).trans (arr2 m c).symm

/-- The reference's run leaves the arguments and the counters as they were. -/
theorem frame_ref : quiescent_Reference2outIdeal := fun m g _ =>
  θ_run_mono (Cert.Reference2outIdeal.Value.run m g) fun r hr => ⟨fun c => (hr c).2, sem_eq_zero_of_no_sems (by decide) r.2⟩

end Cert.W2out

end
-- ==== Proof.Wout.lean ====
/- The weight gradient of the mixer's output projection: the array after the call is the sum over all rows. -/
module

public import proofs.«01_k».proof.Defs
public import proofs.«01_k».proof.Proof.Gen.KerneloutIdeal.Value
public import proofs.«01_k».proof.Proof.Gen.ReferenceoutIdeal.Read
public import proofs.«01_k».proof.Proof.Wsum
public import Idealize.ShloMosaic.Lib.StableHlo.ReadAt
public import Idealize.ShloMosaic.Lib.Tactic.CleanTypes
public import Idealize.ShloMosaic.Lib.Pipeline.ReadBack
public import Idealize.ShloMosaic.Lib.WritesUnit

@[expose] public section

set_option maxRecDepth 16384

noncomputable section

namespace Cert.Wout

open Cert Cert.KerneloutIdeal Cert.KerneloutIdeal.Gen Idealize.ShloMosaic Idealize.ShloMosaic.TcCoe Idealize.SL.Sem
open Cert.Wsum

variable (m : (ℓ : Loc nD τ sig) → Buf (Elt Ideal) ℓ) (c : Dev nD)

/-- The two arguments as extended reals: the gradients at the projection's output and the projection's rows. -/
def u : S8192x1024.Idx → EReal := m ((c : Thread nD τ).loc main_arg1)
def d : S8192x1024.Idx → EReal := m ((c : Thread nD τ).loc main_arg0)

theorem V0 : (V m c main_v0 : S8192x1024.Idx → EReal) = d m c := by
  simp only [V, hostOps0]
  entry_read
  rfl
theorem V1 : (V m c main_v1 : S8192x1024.Idx → EReal) = u m c := by
  simp only [V, hostOps0]
  entry_read
  rfl

/-- Where each window's block lies at point `t`. -/
theorem e0 : ∀ t : Fin cfg0.N, win0_0.index t = ![t.val % 4, t.val / 4] := by decide +kernel
theorem e1 : ∀ t : Fin cfg0.N, win0_1.index t = ![t.val % 4, 0] := by decide +kernel
theorem e2 : ∀ t : Fin cfg0.N, win0_2.index t = ![t.val / 4, 0] := by decide +kernel

theorem blk0 (t : Fin cfg0.N) : iblk m c 0 t = fun y : S2048x1024.Idx => at2 (d m c) (2048 * (t.val % 4) + (y 0).val) (1024 * (t.val / 4) + (y 1).val) := by
  funext y
  blk_simp [iblk]
  refine ((congrFun (V0 m c) _).trans (at2_apply _ _)).trans ?_
  refine congrArg₂ (at2 (d m c)) ?_ ?_ <;> blk_simp [e0] <;> omega

theorem blk1 (t : Fin cfg0.N) : iblk m c 1 t = fun y : S2048x1024.Idx => at2 (u m c) (2048 * (t.val % 4) + (y 0).val) (y 1).val := by
  funext y
  blk_simp [iblk]
  refine ((congrFun (V1 m c) _).trans (at2_apply _ _)).trans ?_
  refine congrArg₂ (at2 (u m c)) ?_ ?_ <;> blk_simp [e1] <;> omega

theorem p1 : k0_pay1 (F := Ideal) = fun _ => (0 : EReal) := by
  funext i
  pointwise [k0_pay1]
theorem p3 (f : S1024x1024.Idx → EReal) : k0_pay3 (F := Ideal) f = f := by
  funext i
  pointwise [k0_pay3]
theorem p2 (v : S1024x1024.Idx → EReal) (a : ℕ → ℕ → EReal) (b : ℕ → ℕ → EReal) (k l : ℕ) :
    k0_pay2 (F := Ideal) v (fun y : S2048x1024.Idx => a (2048 * k + (y 0).val) (l + (y 1).val)) (fun y : S2048x1024.Idx => b (2048 * k + (y 0).val) (y 1).val)
      = fun i : S1024x1024.Idx => v i + ∑ j : Fin 2048, a (2048 * k + j.val) (l + (i 0).val) * b (2048 * k + j.val) (i 1).val := by
  funext i
  pointwise [k0_pay2]

/-- The product that row `i` contributes at an entry of the column block `q`. -/
def T (q : ℕ) (y : S1024x1024.Idx) (i : ℕ) : EReal := at2 (d m c) i (1024 * q + (y 0).val) * at2 (u m c) i (y 1).val

/-- The scratch after a point, from an equation for what it held. -/
theorem stepA (t : Fin cfg0.N) (h0 : t.val % 4 = 0) (h1 : ¬ t.val % 4 = 3) :
    (outsAt0 m c t.val t.isLt).2 = fun y => part (T m c (t.val / 4) y) 0 := by
  rw [outsAt0_A m c t h0 h1]
  frame_out
  try simp only [read_unread_whole]
  rw [blk0, blk1, p1, p2, h0]
  funext y
  exact part_zero (T m c (t.val / 4) y)

theorem stepB (t : Fin cfg0.N) (h0 : ¬ t.val % 4 = 0) (h1 : ¬ t.val % 4 = 3) {f : S1024x1024.Idx → EReal}
    (ih : (outsAt0 m c (t.val - 1) (by omega)).2 = f) :
    (outsAt0 m c t.val t.isLt).2 = fun y => f y + ∑ j : Fin 2048, T m c (t.val / 4) y (2048 * (t.val % 4) + j.val) := by
  rw [outsAt0_B m c t h0 h1]
  frame_out
  simp only [read_unread_whole]
  rw [blk0, blk1, ih, p2]
  rfl

theorem stepC (t : Fin cfg0.N) (h0 : ¬ t.val % 4 = 0) (h1 : t.val % 4 = 3) {f : S1024x1024.Idx → EReal}
    (ih : (outsAt0 m c (t.val - 1) (by omega)).2 = f) :
    (outsAt0 m c t.val t.isLt).1 = fun y => f y + ∑ j : Fin 2048, T m c (t.val / 4) y (2048 * (t.val % 4) + j.val) := by
  rw [outsAt0_C m c t h0 h1]
  frame_out
  simp only [read_unread_whole]
  rw [blk0, blk1, ih, p2, p3]
  rfl

/-- The scratch after point `n`, before a column block's last tile: the sums over the tiles so far. -/
theorem scratch (n : ℕ) (hn : n < cfg0.N) (h3 : ¬ n % 4 = 3) : (outsAt0 m c n hn).2 = fun y => part (T m c (n / 4) y) (n % 4) := by
  induction n with
  | zero => exact stepA m c ⟨0, hn⟩ rfl h3
  | succ n ih =>
    by_cases h0 : (n + 1) % 4 = 0
    · refine (stepA m c ⟨n + 1, hn⟩ h0 h3).trans ?_
      rw [h0]
    · refine (stepB m c ⟨n + 1, hn⟩ h0 h3 (ih (Nat.lt_of_succ_lt hn) (by omega))).trans ?_
      funext y
      show part (T m c (n / 4) y) (n % 4) + ∑ j : Fin 2048, T m c ((n + 1) / 4) y (2048 * ((n + 1) % 4) + j.val) = _
      rw [show (n + 1) / 4 = n / 4 by omega, show (n + 1) % 4 = n % 4 + 1 by omega]
      exact part_succ _ _

/-- The block written back after a column block's last tile: the sums over all rows. -/
theorem out3 (t : Fin cfg0.N) (h3 : t.val % 4 = 3) : (outsAt0 m c t.val t.isLt).1 = fun y => ∑ i : Fin 8192, T m c (t.val / 4) y i.val := by
  refine (stepC m c t (by omega) h3 (scratch m c (t.val - 1) (by omega) (by omega))).trans ?_
  funext y
  rw [show (t.val - 1) / 4 = t.val / 4 by omega, show (t.val - 1) % 4 = 2 by omega, h3]
  exact (part_succ _ 2).trans (part_three _)

theorem flush2 : ∀ t : Fin cfg0.N, (cfg0.win 2).flush t = true → t.val % 4 = 3 := by decide +kernel

/-- The weight gradient: row `i 0` is a column of the projection's rows, column `i 1` one of the gradients at its output. -/
def dw : S1024x1024.Idx → EReal := fun i => ∑ r : Fin 8192, at2 (d m c) r.val (i 0).val * at2 (u m c) r.val (i 1).val

theorem arr2 : (dats m 0 c).arrAt 2 cfg0.N = dw m c := by
  refine (dats m 0 c).arrAt_eq_of_covers 2 _ (by decide +kernel) fun t hf y => ?_
  have h3 := flush2 t hf
  blk_simp
  show (outsAt0 m c t.val t.isLt).1 _ = _
  rw [out3 m c t h3]
  refine Finset.sum_congr rfl fun r _ => congrArg₂ (fun p q => at2 (d m c) r.val p * at2 (u m c) r.val q) ?_ ?_
  · blk_simp [e2]
    omega
  · blk_simp [e2]

/-- The reference's value is the same sum. -/
theorem ref : Cert.ReferenceoutIdeal.Read.val_main_v4 (F := Ideal) (d m c) (u m c) = dw m c := by
  funext i
  refine (Cert.ReferenceoutIdeal.Read.val_main_v4_apply _ _ _).trans ?_
  refine (Cert.ReferenceoutIdeal.Read.val_main_v3_apply _ _ _).trans ?_
  refine (Cert.ReferenceoutIdeal.Read.val_main_v2_apply _ _ _).trans ?_
  refine Finset.sum_congr rfl fun r _ => ?_
  exact (mul_comm _ _).trans (congrArg₂ (fun p q : EReal => p * q) (at2_apply _ _) (at2_apply _ _))

theorem algebraic : algebraic_KerneloutIdeal_ReferenceoutIdeal := by
  pair_intro
  · run_from Cert.KerneloutIdeal.Value.run_blocks m g
  · refine θ_run_mono (Cert.ReferenceoutIdeal.Value.run m' g') fun r hr c => ?_
    obtain ⟨r0, a⟩ := hr c
    refine ⟨(r0.trans (Cert.ReferenceoutIdeal.Read.val_main_v4_eq _ _)).trans ?_, a⟩
    rw [(hagree c).1, (hagree c).2]
    exact (ref m c).trans (arr2 m c).symm

/-- The reference's run leaves the arguments and the counters as they were. -/
theorem frame_ref : quiescent_ReferenceoutIdeal := fun m g _ =>
  θ_run_mono (Cert.ReferenceoutIdeal.Value.run m g) fun r hr => ⟨fun c => (hr c).2, sem_eq_zero_of_no_sems (by decide) r.2⟩

end Cert.Wout

end
-- ==== Proof.Ada.lean ====
/- The modulation weight's gradient and its step of the optimiser: each array after the call is the mathematics' own. -/
module

public import proofs.«01_k».proof.Defs
public import proofs.«01_k».proof.Proof.Gen.KerneladaIdeal.Frame
public import proofs.«01_k».proof.Proof.Gen.ReferenceadaIdeal.Read
public import proofs.«01_k».proof.Proof.Wsum
public import Idealize.ShloMosaic.Lib.StableHlo.ReadAt
public import Idealize.ShloMosaic.Lib.Tactic.CleanTypes
public import Idealize.ShloMosaic.Lib.Pipeline.ReadBack
public import Idealize.ShloMosaic.Lib.Pipeline.Value
public import Idealize.ShloMosaic.Lib.WritesUnit

@[expose] public section

set_option maxRecDepth 16384

noncomputable section

namespace Cert.Ada

open Cert Cert.KerneladaIdeal Cert.KerneladaIdeal.Gen Idealize.ShloMosaic Idealize.ShloMosaic.TcCoe Idealize.SL.Sem
open Cert.Wsum

variable (m : (ℓ : Loc nD τ sig) → Buf (Elt Ideal) ℓ) (c : Dev nD)

/-- The five arguments as extended reals: the conditioning, the gradient at the modulation, the weight and its two moments. -/
def x0 : S8x1024.Idx → EReal := m ((c : Thread nD τ).loc main_arg0)
def x1 : S8x1152.Idx → EReal := m ((c : Thread nD τ).loc main_arg1)
def x2 : S1024x1152.Idx → EReal := m ((c : Thread nD τ).loc main_arg2)
def x3 : S1024x1152.Idx → EReal := m ((c : Thread nD τ).loc main_arg3)
def x4 : S1024x1152.Idx → EReal := m ((c : Thread nD τ).loc main_arg4)

/-- The reference's gradient, and the three results of a step of the optimiser at one element. -/
def grad (a : S8x1024.Idx → EReal) (d : S8x1152.Idx → EReal) : S1024x1152.Idx → EReal :=
  ReferenceadaIdeal.Read.val_main_v3 (F := Ideal) a d
def newM (g q : EReal) : EReal := Ideal.ofBits .f32 0x3F666666#32 * q + Ideal.ofBits .f32 0x3DCCCCCD#32 * g
def newV (g q : EReal) : EReal := Ideal.ofBits .f32 0x3F7FBE77#32 * q + Ideal.ofBits .f32 0x3A83126F#32 * (g * g)
def delta (g w q r : EReal) : EReal :=
  Ideal.ofBits .f32 3129152111#32 *
    (Ideal.div (Ideal.div (newM g q) (Ideal.ofBits .f32 1059503362#32))
        (Ideal.sqrt (Ideal.div (newV g r) (Ideal.ofBits .f32 1008933580#32)) + Ideal.ofBits .f32 841731191#32) +
      Ideal.ofBits .f32 1008981770#32 * w)

theorem grad_apply (a : S8x1024.Idx → EReal) (d : S8x1152.Idx → EReal) (i : S1024x1152.Idx) :
    grad a d i = ∑ b : Fin 8, ReferenceadaIdeal.Read.val_main_v0 (F := Ideal) a (ix2 b (i 0)) * d (ix2 b (i 1)) := by
  unfold grad
  refine (ReferenceadaIdeal.Read.val_main_v3_apply _ _ _).trans ?_
  refine (ReferenceadaIdeal.Read.val_main_v2_apply _ _ _).trans ?_
  refine Finset.sum_congr rfl fun b _ => (mul_comm _ _).trans (congrArg₂ (fun p q => ReferenceadaIdeal.Read.val_main_v0 (F := Ideal) a p * d q) ?_ ?_)
  · funext k
    fin_cases k <;> rfl
  · funext k
    fin_cases k <;> rfl

/-- The host's activation, turned, is what the call's first window reads. -/
theorem V1 : (V m c main_v1 : S1024x8.Idx → EReal) = fun i => ReferenceadaIdeal.Read.val_main_v0 (F := Ideal) (x0 m c) (ix2 (i 1) (i 0)) := by
  simp only [V, hostOps0, hostOps0_1, List.flatten_cons, List.flatten_nil, List.append_nil, List.cons_append, List.nil_append]
  entry_read
  funext i
  pointwise
  rfl

theorem p1 (g v : S256x1152.Idx → EReal) (i : S256x1152.Idx) : k0_pay1 (F := Ideal) g v i = newM (g i) (v i) := by
  pointwise [k0_pay1]
  rfl
theorem p2 (g v : S256x1152.Idx → EReal) (i : S256x1152.Idx) : k0_pay2 (F := Ideal) g v i = newV (g i) (v i) := by
  pointwise [k0_pay2]
  rfl
theorem p3 (g w v r : S256x1152.Idx → EReal) (i : S256x1152.Idx) : k0_pay3 (F := Ideal) g w v r i = delta (g i) (w i) (v i) (r i) := by
  pointwise [k0_pay3, k0_pay1, k0_pay2]
  rfl
theorem p4 (a : S256x8.Idx → EReal) (d : S8x1152.Idx → EReal) (i : S256x1152.Idx) :
    k0_pay4 (F := Ideal) a d i = ∑ b : Fin 8, a (ix2 (i 0) b) * d (ix2 b (i 1)) := by
  pointwise [k0_pay4]
  exact (Fin.sum_univ_eight (fun b : Fin 8 => a (ix2 (i 0) b) * d (ix2 b (i 1)))).symm

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![t.val, 0] := by decide +kernel
theorem e4 : ∀ t : Fin cfg0.N, win0_4.index t = ![t.val, 0] := by decide +kernel
theorem e5 : ∀ t : Fin cfg0.N, win0_5.index t = ![t.val, 0] := by decide +kernel
theorem e6 : ∀ t : Fin cfg0.N, win0_6.index t = ![t.val, 0] := by decide +kernel
theorem e7 : ∀ t : Fin cfg0.N, win0_7.index t = ![t.val, 0] := by decide +kernel
theorem e8 : ∀ t : Fin cfg0.N, win0_8.index t = ![t.val, 0] := by decide +kernel

/-- Where row `y 0` of point `t`'s tile lies in the array. -/
def at_ (t : Fin cfg0.N) (y : S256x1152.Idx) : S1024x1152.Idx :=
  ix2 (⟨256 * t.val + (y 0).val, by
    have h0 : (y 0).val < 256 := (y 0).isLt
    have h1 : t.val < 4 := t.isLt
    show 256 * t.val + (y 0).val < 1024
    omega⟩ : Fin 1024) (y 1)

theorem idx_ext {p q : S1024x1152.Idx} (h0 : (p 0).val = (q 0).val) (h1 : (p 1).val = (q 1).val) : p = q := by
  funext k
  apply Fin.ext
  fin_cases k
  · exact h0
  · exact h1

theorem blk0 (t : Fin cfg0.N) (y : S256x1152.Idx) (b : Fin 8) :
    (iblk m c 0 t : S256x8.Idx → EReal) (ix2 (y 0) b) = ReferenceadaIdeal.Read.val_main_v0 (F := Ideal) (x0 m c) (ix2 b (at_ t y 0)) := by
  blk_simp [iblk]
  refine (congrFun (V1 m c) _).trans ?_
  refine congrArg₂ (fun p q => ReferenceadaIdeal.Read.val_main_v0 (F := Ideal) (x0 m c) (ix2 p q)) (Fin.ext ?_) (Fin.ext ?_)
  · blk_simp [e0]
  · blk_simp [e0]
    show t.val * 256 + (y 0).val = 256 * t.val + (y 0).val
    omega
theorem blk1 (t : Fin cfg0.N) : iblk m c 1 t = x1 m c := by
  funext y
  blk_simp [iblk]
  refine (congrFun (V_main_arg1 m c) _).trans (congrArg (x1 m c) ?_)
  funext k
  apply Fin.ext
  fin_cases k <;> blk_simp [e1]
theorem blk2 (t : Fin cfg0.N) (y : S256x1152.Idx) : (iblk m c 2 t : S256x1152.Idx → EReal) y = x2 m c (at_ t y) := by
  blk_simp [iblk]
  refine (congrFun (V_main_arg2 m c) _).trans (congrArg (x2 m c) (idx_ext ?_ ?_))
  · blk_simp [e2]
    show t.val * 256 + (y 0).val = 256 * t.val + (y 0).val
    omega
  · blk_simp [e2]
    rfl
theorem blk3 (t : Fin cfg0.N) (y : S256x1152.Idx) : (iblk m c 3 t : S256x1152.Idx → EReal) y = x3 m c (at_ t y) := by
  blk_simp [iblk]
  refine (congrFun (V_main_arg3 m c) _).trans (congrArg (x3 m c) (idx_ext ?_ ?_))
  · blk_simp [e3]
    show t.val * 256 + (y 0).val = 256 * t.val + (y 0).val
    omega
  · blk_simp [e3]
    rfl
theorem blk4 (t : Fin cfg0.N) (y : S256x1152.Idx) : (iblk m c 4 t : S256x1152.Idx → EReal) y = x4 m c (at_ t y) := by
  blk_simp [iblk]
  refine (congrFun (V_main_arg4 m c) _).trans (congrArg (x4 m c) (idx_ext ?_ ?_))
  · blk_simp [e4]
    show t.val * 256 + (y 0).val = 256 * t.val + (y 0).val
    omega
  · blk_simp [e4]
    rfl

theorem k5 (t : Fin cfg0.N) (y : S256x1152.Idx) :
    k0_pay5 (F := Ideal) (iblk m c 0 t) (iblk m c 1 t) (iblk m c 2 t) (iblk m c 3 t) (iblk m c 4 t) y = grad (x0 m c) (x1 m c) (at_ t y) := by
  unfold k0_pay5
  have hz : (![0, 0] : Fin 2 → Nat) = fun _ => 0 := funext fun a => by fin_cases a <;> rfl
  rw [View.ld_unit_zero (S := S256x8) hz _ (iblk m c 0 t), View.ld_unit_zero (S := S8x1152) hz _ (iblk m c 1 t)]
  refine (p4 _ _ y).trans ?_
  rw [grad_apply]
  refine Finset.sum_congr rfl fun b _ => congrArg₂ (· * ·) (blk0 m c t y b) ?_
  exact congrFun (blk1 m c t) _

theorem arr5 : (dats m 0 c).arrAt 5 cfg0.N = grad (x0 m c) (x1 m c) := by
  refine (dats m 0 c).arrAt_eq_of_covers 5 _ (by decide +kernel) fun t hf y => ?_
  blk_simp
  have e : at_ t y = ((cfg0.win 5).blk t).view.emb y := by
    refine idx_ext ?_ ?_
    · blk_simp [e5]
      show 256 * t.val + (y 0).val = t.val * 256 + (y 0).val
      omega
    · blk_simp [e5]
      rfl
  refine Eq.trans ?_ (congrArg (grad (x0 m c) (x1 m c)) e)
  rw [after0_5]
  unfold out0_5
  frame_out
  exact k5 m c t y

theorem arr6 : (dats m 0 c).arrAt 6 cfg0.N = fun i => delta (grad (x0 m c) (x1 m c) i) (x2 m c i) (x3 m c i) (x4 m c i) := by
  refine (dats m 0 c).arrAt_eq_of_covers 6 _ (by decide +kernel) fun t hf y => ?_
  blk_simp
  have e : at_ t y = ((cfg0.win 6).blk t).view.emb y := by
    refine idx_ext ?_ ?_
    · blk_simp [e6]
      show 256 * t.val + (y 0).val = t.val * 256 + (y 0).val
      omega
    · blk_simp [e6]
      rfl
  refine Eq.trans ?_ (congrArg (fun i => delta (grad (x0 m c) (x1 m c) i) (x2 m c i) (x3 m c i) (x4 m c i)) e)
  rw [after0_6]
  unfold out0_6
  frame_out
  refine (p3 _ _ _ _ y).trans ?_
  rw [k5, blk2, blk3, blk4]

theorem arr7 : (dats m 0 c).arrAt 7 cfg0.N = fun i => newM (grad (x0 m c) (x1 m c) i) (x3 m c i) := by
  refine (dats m 0 c).arrAt_eq_of_covers 7 _ (by decide +kernel) fun t hf y => ?_
  blk_simp
  have e : at_ t y = ((cfg0.win 7).blk t).view.emb y := by
    refine idx_ext ?_ ?_
    · blk_simp [e7]
      show 256 * t.val + (y 0).val = t.val * 256 + (y 0).val
      omega
    · blk_simp [e7]
      rfl
  refine Eq.trans ?_ (congrArg (fun i => newM (grad (x0 m c) (x1 m c) i) (x3 m c i)) e)
  rw [after0_7]
  unfold out0_7
  frame_out
  refine (p1 _ _ y).trans ?_
  rw [k5, blk3]

theorem arr8 : (dats m 0 c).arrAt 8 cfg0.N = fun i => newV (grad (x0 m c) (x1 m c) i) (x4 m c i) := by
  refine (dats m 0 c).arrAt_eq_of_covers 8 _ (by decide +kernel) fun t hf y => ?_
  blk_simp
  have e : at_ t y = ((cfg0.win 8).blk t).view.emb y := by
    refine idx_ext ?_ ?_
    · blk_simp [e8]
      show 256 * t.val + (y 0).val = t.val * 256 + (y 0).val
      omega
    · blk_simp [e8]
      rfl
  refine Eq.trans ?_ (congrArg (fun i => newV (grad (x0 m c) (x1 m c) i) (x4 m c i)) e)
  rw [after0_8]
  unfold out0_8
  frame_out
  refine (p2 _ _ y).trans ?_
  rw [k5, blk4]

theorem r8 (i : S1024x1152.Idx) : ReferenceadaIdeal.Read.val_main_v8 (F := Ideal) (x0 m c) (x1 m c) (x3 m c) i = newM (grad (x0 m c) (x1 m c) i) (x3 m c i) := by
  pointwise [ReferenceadaIdeal.Read.val_main_v4, ReferenceadaIdeal.Read.val_main_v5, ReferenceadaIdeal.Read.val_main_v6, ReferenceadaIdeal.Read.val_main_v7, ReferenceadaIdeal.Read.val_main_v8, ReferenceadaIdeal.Read.val_main_v9, ReferenceadaIdeal.Read.val_main_v10, ReferenceadaIdeal.Read.val_main_v11, ReferenceadaIdeal.Read.val_main_v12, ReferenceadaIdeal.Read.val_main_v13, ReferenceadaIdeal.Read.val_main_v14, ReferenceadaIdeal.Read.val_main_v15, ReferenceadaIdeal.Read.val_main_v16, ReferenceadaIdeal.Read.val_main_v17, ReferenceadaIdeal.Read.val_main_v18, ReferenceadaIdeal.Read.val_main_v19, ReferenceadaIdeal.Read.val_main_v20, ReferenceadaIdeal.Read.val_main_v21, ReferenceadaIdeal.Read.val_main_v22, ReferenceadaIdeal.Read.val_main_v23, ReferenceadaIdeal.Read.val_main_v24, ReferenceadaIdeal.Read.val_main_v25, ReferenceadaIdeal.Read.val_main_v26, ReferenceadaIdeal.Read.val_main_v27, ReferenceadaIdeal.Read.val_main_cst, ReferenceadaIdeal.Read.val_main_cst_0, ReferenceadaIdeal.Read.val_main_cst_1, ReferenceadaIdeal.Read.val_main_cst_2, ReferenceadaIdeal.Read.val_main_cst_3, ReferenceadaIdeal.Read.val_main_cst_4, ReferenceadaIdeal.Read.val_main_cst_5, ReferenceadaIdeal.Read.val_main_cst_6, ReferenceadaIdeal.Read.val_main_cst_7]
  rfl
theorem r14 (i : S1024x1152.Idx) : ReferenceadaIdeal.Read.val_main_v14 (F := Ideal) (x0 m c) (x1 m c) (x4 m c) i = newV (grad (x0 m c) (x1 m c) i) (x4 m c i) := by
  pointwise [ReferenceadaIdeal.Read.val_main_v4, ReferenceadaIdeal.Read.val_main_v5, ReferenceadaIdeal.Read.val_main_v6, ReferenceadaIdeal.Read.val_main_v7, ReferenceadaIdeal.Read.val_main_v8, ReferenceadaIdeal.Read.val_main_v9, ReferenceadaIdeal.Read.val_main_v10, ReferenceadaIdeal.Read.val_main_v11, ReferenceadaIdeal.Read.val_main_v12, ReferenceadaIdeal.Read.val_main_v13, ReferenceadaIdeal.Read.val_main_v14, ReferenceadaIdeal.Read.val_main_v15, ReferenceadaIdeal.Read.val_main_v16, ReferenceadaIdeal.Read.val_main_v17, ReferenceadaIdeal.Read.val_main_v18, ReferenceadaIdeal.Read.val_main_v19, ReferenceadaIdeal.Read.val_main_v20, ReferenceadaIdeal.Read.val_main_v21, ReferenceadaIdeal.Read.val_main_v22, ReferenceadaIdeal.Read.val_main_v23, ReferenceadaIdeal.Read.val_main_v24, ReferenceadaIdeal.Read.val_main_v25, ReferenceadaIdeal.Read.val_main_v26, ReferenceadaIdeal.Read.val_main_v27, ReferenceadaIdeal.Read.val_main_cst, ReferenceadaIdeal.Read.val_main_cst_0, ReferenceadaIdeal.Read.val_main_cst_1, ReferenceadaIdeal.Read.val_main_cst_2, ReferenceadaIdeal.Read.val_main_cst_3, ReferenceadaIdeal.Read.val_main_cst_4, ReferenceadaIdeal.Read.val_main_cst_5, ReferenceadaIdeal.Read.val_main_cst_6, ReferenceadaIdeal.Read.val_main_cst_7]
  rfl
theorem r27 (i : S1024x1152.Idx) : ReferenceadaIdeal.Read.val_main_v27 (F := Ideal) (x0 m c) (x1 m c) (x2 m c) (x3 m c) (x4 m c) i =
    delta (grad (x0 m c) (x1 m c) i) (x2 m c i) (x3 m c i) (x4 m c i) := by
  pointwise [ReferenceadaIdeal.Read.val_main_v4, ReferenceadaIdeal.Read.val_main_v5, ReferenceadaIdeal.Read.val_main_v6, ReferenceadaIdeal.Read.val_main_v7, ReferenceadaIdeal.Read.val_main_v8, ReferenceadaIdeal.Read.val_main_v9, ReferenceadaIdeal.Read.val_main_v10, ReferenceadaIdeal.Read.val_main_v11, ReferenceadaIdeal.Read.val_main_v12, ReferenceadaIdeal.Read.val_main_v13, ReferenceadaIdeal.Read.val_main_v14, ReferenceadaIdeal.Read.val_main_v15, ReferenceadaIdeal.Read.val_main_v16, ReferenceadaIdeal.Read.val_main_v17, ReferenceadaIdeal.Read.val_main_v18, ReferenceadaIdeal.Read.val_main_v19, ReferenceadaIdeal.Read.val_main_v20, ReferenceadaIdeal.Read.val_main_v21, ReferenceadaIdeal.Read.val_main_v22, ReferenceadaIdeal.Read.val_main_v23, ReferenceadaIdeal.Read.val_main_v24, ReferenceadaIdeal.Read.val_main_v25, ReferenceadaIdeal.Read.val_main_v26, ReferenceadaIdeal.Read.val_main_v27, ReferenceadaIdeal.Read.val_main_cst, ReferenceadaIdeal.Read.val_main_cst_0, ReferenceadaIdeal.Read.val_main_cst_1, ReferenceadaIdeal.Read.val_main_cst_2, ReferenceadaIdeal.Read.val_main_cst_3, ReferenceadaIdeal.Read.val_main_cst_4, ReferenceadaIdeal.Read.val_main_cst_5, ReferenceadaIdeal.Read.val_main_cst_6, ReferenceadaIdeal.Read.val_main_cst_7]
  rfl

/-- The call's run, its frame read at every array: each result at its own array, the arguments unchanged. -/
theorem run_arrays (g : Dev nD → PrngReg) : θ_run defs (onTc (τ := τ) (main (F := Ideal))) ⟨m, fun _ => 0, g⟩ fun r => ∀ c : Dev nD,
    r.2.mem ((c : Thread nD τ).loc main_v2_0) = (dats m 0 c).arrAt 5 cfg0.N
    ∧ r.2.mem ((c : Thread nD τ).loc main_v2_1) = (dats m 0 c).arrAt 6 cfg0.N
    ∧ r.2.mem ((c : Thread nD τ).loc main_v2_2) = (dats m 0 c).arrAt 7 cfg0.N
    ∧ r.2.mem ((c : Thread nD τ).loc main_v2_3) = (dats m 0 c).arrAt 8 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  θ_run_mono (run_main m g) fun r h c =>
    ⟨(h c).1 5, (h c).1 6, (h c).1 7, (h c).1 8,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩

/-- The call computes what the reference does: the gradient and the whole step of the optimiser. -/
theorem algebraic : algebraic_KerneladaIdeal_ReferenceadaIdeal := by
  pair_intro
  · run_from run_arrays m g
  · refine θ_run_mono (Cert.ReferenceadaIdeal.Value.run m' g') fun r hr c => ?_
    obtain ⟨r0, r1, r2, r3, a⟩ := hr c
    obtain ⟨g0, g1, g2, g3, g4⟩ := hagree c
    refine ⟨(r0.trans (Cert.ReferenceadaIdeal.Read.val_main_v3_eq ..)).trans ?_, (r1.trans (Cert.ReferenceadaIdeal.Read.val_main_v27_eq ..)).trans ?_,
      (r2.trans (Cert.ReferenceadaIdeal.Read.val_main_v8_eq ..)).trans ?_, (r3.trans (Cert.ReferenceadaIdeal.Read.val_main_v14_eq ..)).trans ?_, a⟩
    · rw [g0, g1]
      exact (arr5 m c).symm
    · rw [g0, g1, g2, g3, g4]
      exact (funext (r27 m c)).trans (arr6 m c).symm
    · rw [g0, g1, g3]
      exact (funext (r8 m c)).trans (arr7 m c).symm
    · rw [g0, g1, g4]
      exact (funext (r14 m c)).trans (arr8 m c).symm

/-- The reference's run leaves the arguments and the counters as they were. -/
theorem frame_ref : quiescent_ReferenceadaIdeal := fun m g _ =>
  θ_run_mono (Cert.ReferenceadaIdeal.Value.run m g) fun r hr => ⟨fun c => (hr c).2.2.2.2, sem_eq_zero_of_no_sems (by decide) r.2⟩

end Cert.Ada

end
-- ==== Proof.Slots.lean ====
/- The sum over the devices of the loss and the small gradients: the slots added one by one are the sum over the slots. -/
module

public import proofs.«01_k».proof.Defs
public import proofs.«01_k».proof.Proof.Gen.KernelslotsIdeal.Value
public import proofs.«01_k».proof.Proof.Gen.ReferenceslotsIdeal.Read
public import Idealize.ShloMosaic.Lib.Pointwise
public import Idealize.ShloMosaic.Lib.StableHlo.ReadAt
public import Idealize.ShloMosaic.Lib.Tactic.CleanTypes
public import Idealize.ShloMosaic.Lib.Pipeline.ReadBack
public import Idealize.ShloMosaic.Lib.WritesUnit

@[expose] public section

set_option maxRecDepth 16384

noncomputable section

namespace Cert.Slots

open Cert Cert.KernelslotsIdeal Cert.KernelslotsIdeal.Gen Idealize.ShloMosaic Idealize.ShloMosaic.TcCoe Idealize.SL.Sem

variable (m : (ℓ : Loc nD τ sig) → Buf (Elt Ideal) ℓ) (c : Dev nD)

theorem sum_eq (x : S8x248x128.Idx → EReal) :
    (KernelslotsIdeal.Value.G1 (F := Ideal) x : S248x128.Idx → EReal) = ReferenceslotsIdeal.Read.val_main_v0 (F := Ideal) x := by
  funext i
  refine Eq.trans ?_ (ReferenceslotsIdeal.Read.val_main_v0_apply x i).symm
  have e : ∀ k : Fin 8, ReferenceslotsIdeal.Read.idx_main_v0 i k = ix3 k (i 0) (i 1) := fun k => by
    funext a
    fin_cases a <;> rfl
  rw [Fin.sum_univ_eight]
  simp only [e]
  pointwise [KernelslotsIdeal.Value.G1, k0_pay1, ReferenceslotsIdeal.Read.val_main_cst]

/-- The call computes what the reference does. -/
theorem algebraic : algebraic_KernelslotsIdeal_ReferenceslotsIdeal := by
  pair_intro
  · run_from Cert.KernelslotsIdeal.Value.run m g
  · refine θ_run_mono (Cert.ReferenceslotsIdeal.Value.run m' g') fun r hr c => ?_
    obtain ⟨r0, a⟩ := hr c
    have g0 := hagree c
    refine ⟨(r0.trans (Cert.ReferenceslotsIdeal.Read.val_main_v0_eq ..)).trans ?_, a⟩
    rw [g0]
    exact (sum_eq _).symm

/-- The reference's run leaves the arguments and the counters as they were. -/
theorem frame_ref : quiescent_ReferenceslotsIdeal := fun m g _ =>
  θ_run_mono (Cert.ReferenceslotsIdeal.Value.run m g) fun r hr => ⟨fun c => (hr c).2, sem_eq_zero_of_no_sems (by decide) r.2⟩

end Cert.Slots

end
-- ==== Proof.Mod.lean ====
/- The modulation: the activation of the conditioning, and its product with the weight, biased. -/
module

public import proofs.«01_k».proof.Defs
public import proofs.«01_k».proof.Proof.Gen.KernelmodIdeal.Value
public import proofs.«01_k».proof.Proof.Gen.ReferencemodIdeal.Read
public import Idealize.ShloMosaic.Lib.Pointwise
public import Idealize.ShloMosaic.Lib.StableHlo.ReadAt
public import Idealize.ShloMosaic.Lib.Tactic.CleanTypes
public import Idealize.ShloMosaic.Lib.Pipeline.ReadBack
public import Idealize.ShloMosaic.Lib.WritesUnit

@[expose] public section

set_option maxRecDepth 16384

noncomputable section

namespace Cert.Mod

open Cert Cert.KernelmodIdeal Cert.KernelmodIdeal.Gen Idealize.ShloMosaic Idealize.ShloMosaic.TcCoe Idealize.SL.Sem

variable (m : (ℓ : Loc nD τ sig) → Buf (Elt Ideal) ℓ) (c : Dev nD)

theorem act_eq (x : S8x1024.Idx → EReal) (y : S1024x1152.Idx → EReal) (z : S1x1152.Idx → EReal) :
    (KernelmodIdeal.Value.G3 (F := Ideal) x y z : S8x1024.Idx → EReal) = ReferencemodIdeal.Read.val_main_v0 (F := Ideal) x := by
  funext i
  pointwise [KernelmodIdeal.Value.G3, k0_pay1, ReferencemodIdeal.Read.val_main_v0, ReferencemodIdeal.Read.val_main_call0_v0, ReferencemodIdeal.Read.val_main_call0_v1, ReferencemodIdeal.Read.val_main_call0_v2, ReferencemodIdeal.Read.val_main_call0_v3, ReferencemodIdeal.Read.val_main_call0_v4, ReferencemodIdeal.Read.val_main_call0_v5, ReferencemodIdeal.Read.val_main_call0_cst, ReferencemodIdeal.Read.val_main_call0_cst_0]
  rfl

theorem pay2 (x : S8x1024.Idx → EReal) (y : S1024x1152.Idx → EReal) (z : S1x1152.Idx → EReal) (i : S8x1152.Idx) :
    k0_pay2 (F := Ideal) x y z i = (∑ k : Fin 1024, k0_pay1 (F := Ideal) x (ix2 (i 0) k) * y (ix2 k (i 1))) + z (ix2 0 (i 1)) := by
  pointwise [k0_pay2]

theorem mod_eq (x : S8x1024.Idx → EReal) (y : S1024x1152.Idx → EReal) (z : S1x1152.Idx → EReal) :
    (KernelmodIdeal.Value.G4 (F := Ideal) x y z : S8x1152.Idx → EReal) = ReferencemodIdeal.Read.val_main_v3 (F := Ideal) x y z := by
  funext i
  refine Eq.trans ?_ (congrArg₂ (· + ·) (ReferencemodIdeal.Read.val_main_v1_apply x y i) (ReferencemodIdeal.Read.val_main_v2_apply z i)).symm
  refine (pay2 x y z i).trans ?_
  have e : ReferencemodIdeal.Read.idx_main_v2 i = ix2 0 (i 1) := by
    funext a
    fin_cases a <;> rfl
  rw [e]
  refine congrArg (· + z (ix2 0 (i 1))) (Finset.sum_congr rfl fun k _ => ?_)
  have el : ReferencemodIdeal.Read.lidx_main_v1 i k = ix2 (i 0) k := by
    funext a
    fin_cases a <;> rfl
  have er : ReferencemodIdeal.Read.ridx_main_v1 i k = ix2 k (i 1) := by
    funext a
    fin_cases a <;> rfl
  rw [el, er]
  exact congrArg (· * y (ix2 k (i 1))) (congrFun (act_eq x y z) (ix2 (i 0) k))

/-- The call computes what the reference does. -/
theorem algebraic : algebraic_KernelmodIdeal_ReferencemodIdeal := by
  pair_intro
  · run_from Cert.KernelmodIdeal.Value.run m g
  · refine θ_run_mono (Cert.ReferencemodIdeal.Value.run m' g') fun r hr c => ?_
    obtain ⟨r0, r1, a⟩ := hr c
    obtain ⟨g0, g1, g2⟩ := hagree c
    refine ⟨(r0.trans (Cert.ReferencemodIdeal.Read.val_main_v0_eq ..)).trans ?_, (r1.trans (Cert.ReferencemodIdeal.Read.val_main_v3_eq ..)).trans ?_, a⟩
    · rw [g0]
      exact (act_eq _ _ _).symm
    · rw [g0, g1, g2]
      exact (mod_eq _ _ _).symm

/-- The reference's run leaves the arguments and the counters as they were. -/
theorem frame_ref : quiescent_ReferencemodIdeal := fun m g _ =>
  θ_run_mono (Cert.ReferencemodIdeal.Value.run m g) fun r hr => ⟨fun c => (hr c).2.2, sem_eq_zero_of_no_sems (by decide) r.2⟩

end Cert.Mod

end
-- ==== Proof.PoolFwd.lean ====
/- The pooling's forward call: each row less its window's mean, and the projection of that by each quarter's weights. -/
module

public import proofs.«01_k».proof.Defs
public import proofs.«01_k».proof.Proof.FwdArr
public import proofs.«01_k».proof.Proof.PoolTile
public import proofs.«01_k».proof.Proof.Gen.KernelpoolfwdIdeal.Value
public import proofs.«01_k».proof.Proof.Gen.ReferencepoolfwdIdeal.Read
public import Idealize.ShloMosaic.Lib.Claim

@[expose] public section

set_option maxRecDepth 16384

noncomputable section

namespace Cert.PoolFwd

open Cert Cert.KernelpoolfwdIdeal Cert.KernelpoolfwdIdeal.Gen Idealize.ShloMosaic Idealize.ShloMosaic.TcCoe Idealize.SL.Sem
open Cert.Fwd (mat vec mat_eta vec_eta)
open Cert.Pool

variable (m : (ℓ : Loc nD τ sig) → Buf (Elt Ideal) ℓ) (c : Dev nD)

/-- The rows that the call is given, its weights and its scales. -/
structure In where
  p : Fin 8192 → Fin 256 → EReal
  w : Fin 4 → Fin 64 → Fin 64 → EReal
  sc : Fin 256 → EReal

namespace In

variable (A : In)

/-- The rows, counted from sixteen before the first one, zero before it. -/
def pb (u : ℕ) (n : Fin 256) : EReal := if h : 16 ≤ u ∧ u - 16 < 8192 then A.p ⟨u - 16, h.2⟩ n else 0
/-- The sum over the `w` rows that end at row `u`. -/
def win (w u : ℕ) (n : Fin 256) : EReal := ∑ j ∈ Finset.range w, A.pb (u - j) n
/-- A row less its window's mean. -/
def dm (t : ℕ) (n : Fin 256) : EReal := Ideal.div (A.win (2 ^ ((qu n).val + 1)) (t + 16) n) (cnt t (qu n)) - A.pb (t + 16) n
/-- The projection, scaled. -/
def ym (t : ℕ) (n : Fin 256) : EReal := (∑ e : Fin 64, A.dm t (lane (qu n) e) * A.w (qu n) e (pl n)) * A.sc n

/-- Twice as wide a window is two windows. -/
theorem win_two (w u : ℕ) (n : Fin 256) : A.win w u n + A.win w (u - w) n = A.win (w + w) u n := by
  unfold win
  rw [Finset.sum_range_add]
  exact congrArg (_ + ·) (Finset.sum_congr rfl fun j _ => by rw [Nat.sub_sub])

theorem pb_of (t : Fin 8192) (n : Fin 256) : A.pb (t.val + 16) n = A.p t n := by
  unfold pb
  have h : 16 ≤ t.val + 16 ∧ t.val + 16 - 16 < 8192 := by omega
  rw [dif_pos h]
  exact congrArg (A.p · n) (Fin.ext (by show t.val + 16 - 16 = t.val; omega))

/-- A masked sum over all rows is the sum over a window. -/
theorem masked (t : Fin 8192) (n : Fin 256) : ∑ s : Fin 8192, A.p s n * mask (qu n) t s = A.win (2 ^ ((qu n).val + 1)) (t.val + 16) n := by
  have hw : 2 ^ ((qu n).val + 1) ≤ 16 := by
    generalize qu n = k
    revert k
    decide
  unfold mask win
  generalize 2 ^ ((qu n).val + 1) = W at hw
  have h1 : ∑ s : Fin 8192, A.p s n * (if s.val ≤ t.val ∧ t.val < s.val + W then 1 else 0) = ∑ s ∈ Finset.range 8192, A.pb (s + 16) n * (if s ≤ t.val ∧ t.val < s + W then 1 else 0) := by
    rw [Finset.sum_range]
    exact Finset.sum_congr rfl fun s _ => by rw [A.pb_of]
  have h2 : ∑ s ∈ Finset.range 8192, A.pb (s + 16) n * (if s ≤ t.val ∧ t.val < s + W then 1 else 0) = ∑ u ∈ Finset.Ico 16 (16 + 8192), A.pb u n * (if u ≤ t.val + 16 ∧ t.val + 16 < u + W then 1 else 0) := by
    rw [Finset.sum_Ico_eq_sum_range, Nat.add_sub_cancel_left]
    refine Finset.sum_congr rfl fun s _ => ?_
    rw [Nat.add_comm 16 s]
    exact congrArg (A.pb (s + 16) n * ·) (if_congr (by omega) rfl rfl)
  have h3 : ∑ u ∈ Finset.Ico 16 (16 + 8192), A.pb u n * (if u ≤ t.val + 16 ∧ t.val + 16 < u + W then 1 else 0) = ∑ u ∈ Finset.range (16 + 8192), A.pb u n * (if u ≤ t.val + 16 ∧ t.val + 16 < u + W then 1 else 0) := by
    refine Finset.sum_subset (fun u hu => ?_) fun u hu hn => ?_
    · rw [Finset.mem_Ico] at hu
      rw [Finset.mem_range]
      exact hu.2
    · rw [Finset.mem_range] at hu
      rw [Finset.mem_Ico] at hn
      rw [pb, dif_neg (by omega), zero_mul]
  have h4 : ∑ u ∈ Finset.Ico (t.val + 17 - W) (t.val + 17), A.pb u n * (if u ≤ t.val + 16 ∧ t.val + 16 < u + W then 1 else 0) = ∑ u ∈ Finset.range (16 + 8192), A.pb u n * (if u ≤ t.val + 16 ∧ t.val + 16 < u + W then 1 else 0) := by
    refine Finset.sum_subset (fun u hu => ?_) fun u hu hn => ?_
    · rw [Finset.mem_Ico] at hu
      rw [Finset.mem_range]
      omega
    · rw [Finset.mem_Ico] at hn
      rw [if_neg (by omega), mul_zero]
  rw [h1, h2, h3, ← h4, Finset.sum_Ico_eq_sum_range, show t.val + 17 - (t.val + 17 - W) = W by omega,
    ← Finset.sum_range_reflect (fun j => A.pb (t.val + 16 - j) n) W]
  refine Finset.sum_congr rfl fun j hj => ?_
  rw [Finset.mem_range] at hj
  rw [if_pos ⟨by omega, by omega⟩, mul_one]
  exact congrArg (A.pb · n) (by omega)

theorem dm_lane (t : Fin 8192) (k : Fin 4) (e : Fin 64) :
    Ideal.div (∑ s : Fin 8192, A.p s (lane k e) * mask k t s) (cnt t.val k) - A.p t (lane k e) = A.dm t.val (lane k e) := by
  unfold dm
  rw [← A.masked t, A.pb_of t, qu_lane]

end In

/-! One tile: its rows, the sixteen before it, and the sums over windows by doubling. -/

/-- The rows of tile `T`, and the sixteen before it. -/
def back (T : Fin 8) (f : ℕ → Fin 256 → EReal) : S1040x256.Idx → EReal := fun y => f (1024 * T.val + (y 0).val) (y 1)
/-- The rows of tile `T`. -/
def tile (T : Fin 8) (f : ℕ → Fin 256 → EReal) : S1024x256.Idx → EReal := fun y => f (1024 * T.val + (y 0).val) (y 1)

/-- The quarter of a column, as words compute it. -/
theorem t3 : k0_pay3 = fun y : S1040x256.Idx => BitVec.ofNat 32 (qu (y 1)).val := by
  funext y
  pointwise [k0_pay3]
  generalize y 1 = n
  revert n
  decide +kernel

/-- Rows added to the same rows some places further down. -/
def dbl (b : BitVec 32) (s : S1040x256.Idx → EReal) : S1040x256.Idx → EReal :=
  addf (F := Ideal) (φ := .f32) s (dynamicRotate (α := Ideal .f32) 0 b none s rotates_S1040x256_d0)

variable {A : In} {T : Fin 8}

theorem d1 (r : Fin 1040) (n : Fin 256) {s : ℕ} (hs : r.val = s) (hr : 1 ≤ s) : dbl 1#32 (back T A.pb) (ix2 r n) = A.win 2 (1024 * T.val + s) n := by
  subst hs
  pointwise [dbl, back]
  have h1 : (r.val + 1040 - 1) % 1040 = r.val - 1 := by omega
  rw [h1]
  unfold In.win
  rw [Finset.sum_range_succ, Finset.sum_range_one]
  exact congrArg (A.pb (1024 * T.val + r.val) n + ·) (congrArg (A.pb · n) (by omega))
theorem d2 (r : Fin 1040) (n : Fin 256) {s : ℕ} (hs : r.val = s) (hr : 3 ≤ s) : dbl 2#32 (dbl 1#32 (back T A.pb)) (ix2 r n) = A.win 4 (1024 * T.val + s) n := by
  subst hs
  generalize h : dbl 1#32 (back T A.pb) = z
  pointwise [dbl]
  subst h
  have h1 : (r.val + 1040 - 2) % 1040 = r.val - 2 := by omega
  refine (congrArg₂ (· + ·) (d1 r n rfl (by omega)) (d1 (s := r.val - 2) ⟨(r.val + 1040 - 2) % 1040, Nat.mod_lt _ (by decide)⟩ n h1 (by omega))).trans ?_
  rw [show 1024 * T.val + (r.val - 2) = 1024 * T.val + r.val - 2 by omega]
  exact A.win_two 2 (1024 * T.val + r.val) n
theorem d4 (r : Fin 1040) (n : Fin 256) {s : ℕ} (hs : r.val = s) (hr : 7 ≤ s) : dbl 4#32 (dbl 2#32 (dbl 1#32 (back T A.pb))) (ix2 r n) = A.win 8 (1024 * T.val + s) n := by
  subst hs
  generalize h : dbl 2#32 (dbl 1#32 (back T A.pb)) = z
  pointwise [dbl]
  subst h
  have h1 : (r.val + 1040 - 4) % 1040 = r.val - 4 := by omega
  refine (congrArg₂ (· + ·) (d2 r n rfl (by omega)) (d2 (s := r.val - 4) ⟨(r.val + 1040 - 4) % 1040, Nat.mod_lt _ (by decide)⟩ n h1 (by omega))).trans ?_
  rw [show 1024 * T.val + (r.val - 4) = 1024 * T.val + r.val - 4 by omega]
  exact A.win_two 4 (1024 * T.val + r.val) n
theorem d8 (r : Fin 1040) (n : Fin 256) {s : ℕ} (hs : r.val = s) (hr : 15 ≤ s) : dbl 8#32 (dbl 4#32 (dbl 2#32 (dbl 1#32 (back T A.pb)))) (ix2 r n) = A.win 16 (1024 * T.val + s) n := by
  subst hs
  generalize h : dbl 4#32 (dbl 2#32 (dbl 1#32 (back T A.pb))) = z
  pointwise [dbl]
  subst h
  have h1 : (r.val + 1040 - 8) % 1040 = r.val - 8 := by omega
  refine (congrArg₂ (· + ·) (d4 r n rfl (by omega)) (d4 (s := r.val - 8) ⟨(r.val + 1040 - 8) % 1040, Nat.mod_lt _ (by decide)⟩ n h1 (by omega))).trans ?_
  rw [show 1024 * T.val + (r.val - 8) = 1024 * T.val + r.val - 8 by omega]
  exact A.win_two 8 (1024 * T.val + r.val) n

/-- How many rows of a window the sequence holds, of row `r` of tile `T`. -/
theorem cnt_word (T : Fin 8) (r : Fin 1024) (k : Fin 4) :
    FloatOps.sitofp (F := Ideal) .f32 (IntOp.minsi (IntOp.addi (IntOp.addi (IntOp.muli (BitVec.ofNat 32 T.val) 1024#32) (BitVec.ofNat 32 r.val)) 1#32) (BitVec.ofNat 32 (2 ^ (k.val + 1))))
      = cnt (1024 * T.val + r.val) k := by
  unfold cnt
  refine congrArg (fun b => FloatOps.sitofp (F := Ideal) .f32 (IntOp.minsi (IntOp.addi b 1#32) (BitVec.ofNat 32 (2 ^ (k.val + 1))))) ?_
  simp only [IntOp.addi, IntOp.muli]
  refine BitVec.eq_of_toNat_eq ?_
  simp only [BitVec.toNat_add, BitVec.toNat_mul, BitVec.toNat_ofNat]
  omega

/-- The rows less their windows' means. -/
theorem p5 : (k0_pay5 (F := Ideal) (BitVec.ofNat 32 T.val) (tile T fun s => A.pb (s + 16)) (back T A.pb) k0_pay3 k0_pay4 3#32 : S1024x256.Idx → EReal) = tile T A.dm := by
  have h : k0_pay5 (F := Ideal) (BitVec.ofNat 32 T.val) (tile T fun s => A.pb (s + 16)) (back T A.pb) k0_pay3 k0_pay4 3#32 =
    truncf .bf16 (subf (divf (extractStridedSlice S1024x256 ![16, 0]
      (select (cmpi .eq k0_pay3 (broadcast S1040x256 3#32)) (dbl 8#32 (dbl 4#32 (dbl 2#32 (dbl 1#32 (back T A.pb)))))
        (select (cmpi .eq k0_pay3 (broadcast S1040x256 2#32)) (dbl 4#32 (dbl 2#32 (dbl 1#32 (back T A.pb))))
          (select (cmpi .eq k0_pay3 (broadcast S1040x256 1#32)) (dbl 2#32 (dbl 1#32 (back T A.pb)))
            (select (cmpi .eq k0_pay3 (broadcast S1040x256 0#32)) (dbl 1#32 (back T A.pb)) (broadcast S1040x256 (Scalar.ofBits (F := Ideal) .f32 0x00000000#32)))))) slices_S1040x256_o16_0_S1024x256)
      (sitofp .f32 (minsi (addi (addi (broadcast S1024x256 (Scalar.muli (BitVec.ofNat 32 T.val) 1024#32)) (iota .tc S1024x256 32 [0] iota_S1024x256_d0_w32)) (broadcast S1024x256 1#32))
        (extractStridedSlice S1024x256 ![16, 0] (select (cmpi .eq k0_pay3 (broadcast S1040x256 3#32)) (broadcast S1040x256 16#32) k0_pay4) slices_S1040x256_o16_0_S1024x256)))) (tile T fun s => A.pb (s + 16))) bitsLt_bf16_f32 := rfl
  rw [h]
  clear h
  generalize h8 : dbl 8#32 (dbl 4#32 (dbl 2#32 (dbl 1#32 (back T A.pb)))) = e8
  generalize h4 : dbl 4#32 (dbl 2#32 (dbl 1#32 (back T A.pb))) = e4
  generalize h2 : dbl 2#32 (dbl 1#32 (back T A.pb)) = e2
  generalize h1 : dbl 1#32 (back T A.pb) = e1
  unfold k0_pay4
  rw [t3]
  funext y
  pointwise [tile]
  subst h8 h4 h2 h1
  have h0 : (y 0).val < 1024 := (y 0).isLt
  have hy : 16 + (y 0).val < 1040 := by omega
  refine congrArg₂ (· - ·) (congrArg₂ Ideal.div ?_ ?_) rfl
  · rw [d8 (s := 16 + (y 0).val) ⟨16 + (y 0).val, hy⟩ (y 1) rfl (by omega), d4 (s := 16 + (y 0).val) ⟨16 + (y 0).val, hy⟩ (y 1) rfl (by omega), d2 (s := 16 + (y 0).val) ⟨16 + (y 0).val, hy⟩ (y 1) rfl (by omega),
      d1 (s := 16 + (y 0).val) ⟨16 + (y 0).val, hy⟩ (y 1) rfl (by omega)]
    refine (pick (qu (y 1)) (fun w => A.win w (1024 * T.val + (16 + (y 0).val)) (y 1)) 0).trans ?_
    exact congrArg (A.win _ · (y 1)) (by omega)
  · rw [width]
    exact cnt_word T (y 0) (qu (y 1))

/-- The projection of them, scaled. -/
theorem p1 {v : S1024x256.Idx → EReal} (h : v = tile T A.dm) :
    (k0_pay1 (F := Ideal) (matmul (F := Ideal) (φ₁ := .bf16) (φ₂ := .bf16) dot_S1024x256_S256x256_S1024x256_1_0_0_1_n_n none v
      (shapeCast S256x256 (mat 256 256 fun a b => if qu a = qu b then A.w (qu a) (pl a) (pl b) else 0) shapeCasts_S256x256_S256x256) (constant S1024x256 .f32 0x00000000#32))
      (fun y : S1x256.Idx => A.sc (y 1)) : S1024x256.Idx → EReal) = tile T A.ym := by
  subst h
  funext y
  pointwise [k0_pay1, tile, mat]
  refine congrArg (· * A.sc (y 1)) ?_
  refine sum_quarter (qu (y 1)) _ (fun e => A.dm (1024 * T.val + (y 0).val) (lane (qu (y 1)) e) * A.w (qu (y 1)) e (pl (y 1))) fun k e => ?_
  rw [qu_lane, pl_lane]
  by_cases q : k = qu (y 1)
  · rw [if_pos q, if_pos q, q]
  · rw [if_neg q, if_neg q, mul_zero]

/-- The rows of a tile after the sixteen before it, or after sixteen zero rows. -/
theorem p2 (i : grid0.Coords) (hi : (i 0).val = T.val) {halo : S16x256.Idx → EReal} (hh : 0 < T.val → halo = fun y => A.pb (1024 * T.val + (y 0).val) (y 1)) :
    (k0_pay2 (F := Ideal) i (tile T fun s => A.pb (s + 16)) halo : S1040x256.Idx → EReal) = back T A.pb := by
  funext y
  pointwise [k0_pay2, tile, back]
  have h0 : (y 0).val < 1040 := (y 0).isLt
  by_cases h : (y 0).val < 16
  · rw [dif_pos h, hi]
    by_cases hT : 0 < T.val
    · have hc : Scalar.cmpi CmpIPredicate.sgt (BitVec.ofNat 32 T.val) 0#32 = 1#1 := by
        clear hi hh h
        revert T
        decide
      rw [hc, hh hT]
      rfl
    · have hT' : T = 0 := Fin.ext (show T.val = 0 by omega)
      subst hT'
      refine Eq.symm ((dif_neg ?_).trans ?_)
      · show ¬ (16 ≤ 1024 * 0 + (y 0).val ∧ _)
        omega
      · rfl
  · rw [dif_neg h]
    exact congrArg (A.pb · (y 1)) (by omega)

/-! The reference, one stage after another. -/

namespace Ref

open Cert.ReferencepoolfwdIdeal Cert.ReferencepoolfwdIdeal.Read

variable (A : In)

theorem v0 : val_main_v0 (F := Ideal) (mat 8192 256 A.p) = cube 8192 4 64 fun t k e => A.p t (lane k e) := by
  simp only [val_main_v0]
  funext i
  pointwise [mat, cube]
  refine congrArg₂ A.p (Fin.ext ?_) (Fin.ext ?_)
  · rfl
  · show (i 1).val * 64 + (i 2).val = 64 * (i 1).val + (i 2).val
    omega

theorem v34 : val_main_v34 (F := Ideal) = fun i => cnt (i 0).val (i 1) := by
  simp only [val_main_v34, val_main_v33, val_main_v32, val_main_v31, val_main_v30, val_main_v29, val_main_v28, val_main_v27, val_main_v26, val_main_v25, val_main_v24, val_main_v3, val_main_v2, val_main_v1, val_main_c, val_main_c_1]
  funext i
  pointwise
  refine congrArg (fun b => FloatOps.sitofp (F := Ideal) .f32 (IntOp.minsi (IntOp.addi (BitVec.ofNat 32 (i 0).val) 1#32) b)) ?_
  have h : ∀ k : Fin 4, IntOp.shli .host 2#32 (BitVec.ofNat 32 k.val) = BitVec.ofNat 32 (2 ^ (k.val + 1)) := by decide
  exact h (i 1)

theorem v21 : val_main_v21 (F := Ideal) = cube 4 8192 8192 mask := by
  simp only [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_c, val_main_c_0]
  funext i
  pointwise [cube]
  have h : ∀ k : Fin 4, IntOp.shli .host 2#32 (BitVec.ofNat 32 k.val) = BitVec.ofNat 32 (2 ^ (k.val + 1)) := by decide
  refine (congrArg (fun b => FloatOps.uitofp (F := Ideal) FTy.f32 (IntOp.andi (IntOp.cmpi CmpIPredicate.sge (IntOp.subi (BitVec.ofNat 32 (i 1).val) (BitVec.ofNat 32 (i 2).val)) 0#32)
    (IntOp.cmpi CmpIPredicate.slt (IntOp.subi (BitVec.ofNat 32 (i 1).val) (BitVec.ofNat 32 (i 2).val)) b))) (h (i 0))).trans ?_
  exact mask_word (i 0) (i 1) (i 2)

theorem v36 : val_main_v36 (F := Ideal) (mat 8192 256 A.p) = cube 8192 4 64 fun t k e => A.dm t (lane k e) := by
  simp only [val_main_v36, val_main_v35, val_main_v23, val_main_v22, v0, v21, v34]
  funext i
  pointwise [cube]
  exact A.dm_lane (i 0) (i 1) (i 2)

theorem v40 : val_main_v40 (F := Ideal) (mat 8192 256 A.p) = mat 8192 256 fun t n => A.dm t n := by
  simp only [val_main_v40, val_main_v39, v36]
  funext i
  pointwise [mat, cube]
  exact congrArg (A.dm (i 0)) (lane_qu_pl (i 1))

theorem v45 : val_main_v45 (F := Ideal) (mat 8192 256 A.p) (cube 4 64 64 A.w) (vec 256 A.sc) = mat 8192 256 fun t n => A.ym t n := by
  simp only [val_main_v45, val_main_v44, val_main_v43, val_main_v42, val_main_v41, val_main_v38, val_main_v37, v36]
  funext i
  pointwise [mat, cube, vec]
  refine congrArg (· * A.sc (i 1)) (Finset.sum_congr rfl fun e _ => ?_)
  exact mul_comm _ _

end Ref

/-! What the host hands the call. -/

/-- The arguments that core `c` is given. -/
def args : In where
  p := fun p q => (m ((c : Thread nD τ).loc main_arg0) : S8192x256.Idx → EReal) (ix2 p q)
  w := fun p q r => (m ((c : Thread nD τ).loc main_arg1) : S4x64x64.Idx → EReal) (ix3 p q r)
  sc := fun p => (m ((c : Thread nD τ).loc main_arg2) : S256.Idx → EReal) (ix1 p)

theorem a0 : m ((c : Thread nD τ).loc main_arg0) = mat 8192 256 (args m c).p := mat_eta _
theorem a1 : m ((c : Thread nD τ).loc main_arg1) = cube 4 64 64 (args m c).w := cube_eta _
theorem a2 : m ((c : Thread nD τ).loc main_arg2) = vec 256 (args m c).sc := vec_eta _

theorem V10 : (V m c main_v10 : S1x256.Idx → EReal) = fun i => (args m c).sc (i 1) := by
  simp only [V, hostOps0, hostOps0_1, hostOps0_2, List.flatten_cons, List.flatten_nil, List.cons_append, List.nil_append, List.append_nil]
  entry_read
  rw [a2 m c]
  funext i
  pointwise [vec]

set_option maxHeartbeats 4000000 in
theorem V9 : (V m c main_v9 : S256x256.Idx → EReal) = mat 256 256 fun a b => if qu a = qu b then (args m c).w (qu a) (pl a) (pl b) else 0 := by
  simp only [V, hostOps0, hostOps0_1, hostOps0_2, List.flatten_cons, List.flatten_nil, List.cons_append, List.nil_append, List.append_nil]
  after_reads_simp
  generalize hops : (List.cons _ _ : List (HloOp τ sig (Elt Ideal))) = ops
  have r0 : (StableHlo.upto ops (fun b => m (c, b)) 16 (Proc.tc.devRef main_call0_v4) : S64x256.Idx → EReal) = fun i => if (qu (i 1)).val = 0 then (args m c).w 0 (i 0) (pl (i 1)) else 0 := by
    subst hops
    after_reads_simp
    refine Eq.trans ?_ (piece0 (args m c).w (constant (F := Ideal) S_ .f32 0#32) (funext fun i => by pointwise))
    rw [← a1 m c]
    rfl
  have r1 : (StableHlo.upto ops (fun b => m (c, b)) 16 (Proc.tc.devRef main_call0_v5) : S64x256.Idx → EReal) = fun i => if (qu (i 1)).val = 1 then (args m c).w 1 (i 0) (pl (i 1)) else 0 := by
    subst hops
    after_reads_simp
    refine Eq.trans ?_ (piece1 (args m c).w (constant (F := Ideal) S_ .f32 0#32) (funext fun i => by pointwise))
    rw [← a1 m c]
    rfl
  have r2 : (StableHlo.upto ops (fun b => m (c, b)) 16 (Proc.tc.devRef main_call0_v6) : S64x256.Idx → EReal) = fun i => if (qu (i 1)).val = 2 then (args m c).w 2 (i 0) (pl (i 1)) else 0 := by
    subst hops
    after_reads_simp
    refine Eq.trans ?_ (piece2 (args m c).w (constant (F := Ideal) S_ .f32 0#32) (funext fun i => by pointwise))
    rw [← a1 m c]
    rfl
  have r3 : (StableHlo.upto ops (fun b => m (c, b)) 16 (Proc.tc.devRef main_call0_v7) : S64x256.Idx → EReal) = fun i => if (qu (i 1)).val = 3 then (args m c).w 3 (i 0) (pl (i 1)) else 0 := by
    subst hops
    after_reads_simp
    refine Eq.trans ?_ (piece3 (args m c).w (constant (F := Ideal) S_ .f32 0#32) (funext fun i => by pointwise))
    rw [← a1 m c]
    rfl
  clear hops
  refine Eq.trans (b := concatenate S256x256 0 [⟨S64x256, (StableHlo.upto ops (fun b => m (c, b)) 16 (Proc.tc.devRef main_call0_v4) : S64x256.Idx → EReal)⟩,
    ⟨S64x256, (StableHlo.upto ops (fun b => m (c, b)) 16 (Proc.tc.devRef main_call0_v5) : S64x256.Idx → EReal)⟩,
    ⟨S64x256, (StableHlo.upto ops (fun b => m (c, b)) 16 (Proc.tc.devRef main_call0_v6) : S64x256.Idx → EReal)⟩,
    ⟨S64x256, (StableHlo.upto ops (fun b => m (c, b)) 16 (Proc.tc.devRef main_call0_v7) : S64x256.Idx → EReal)⟩] concatenates_S64x256_S64x256_S64x256_S64x256_S256x256_d0) rfl ?_
  rw [r0, r1, r2, r3]
  funext i
  pointwise [mat]
  have h1 : (i 0).val < 256 := (i 0).isLt
  have hq (k : Fin 4) (h : (i 0).val / 64 = k.val) : qu (i 0) = k := Fin.ext h
  have hp (r : ℕ) (h : r < 64) (e : (i 0).val % 64 = r) : pl (i 0) = ⟨r, h⟩ := Fin.ext e
  have hc (k : Fin 4) : ((qu (i 1)).val = k.val) ↔ k = qu (i 1) := by rw [Fin.ext_iff, eq_comm]
  by_cases b0 : (i 0).val < 64
  · rw [dif_pos b0, hq 0 (show (i 0).val / 64 = 0 by omega), hp ((i 0).val) (by omega) (by omega)]
    exact if_congr (hc 0) rfl rfl
  rw [dif_neg b0]
  by_cases b1 : (i 0).val - 64 < 64
  · rw [dif_pos b1, hq 1 (show (i 0).val / 64 = 1 by omega), hp ((i 0).val - 64) (by omega) (by omega)]
    exact if_congr (hc 1) rfl rfl
  rw [dif_neg b1]
  by_cases b2 : (i 0).val - 64 - 64 < 64
  · rw [dif_pos b2, hq 2 (show (i 0).val / 64 = 2 by omega), hp ((i 0).val - 64 - 64) (by omega) (by omega)]
    exact if_congr (hc 2) rfl rfl
  rw [dif_neg b2]
  rw [hq 3 (show (i 0).val / 64 = 3 by omega), hp ((i 0).val - 64 - 64 - 64) (by omega) (by omega)]
  exact if_congr (hc 3) rfl rfl

/-- Where each window's block lies at point `t`. -/
theorem e0 : ∀ t : Fin cfg0.N, win0_0.index t = ![t.val, 0] := by decide +kernel
theorem e1 : ∀ t : Fin cfg0.N, 0 < t.val → win0_1.index t = ![64 * t.val - 1, 0] := by decide +kernel
theorem e2 : ∀ t : Fin cfg0.N, win0_2.index t = ![0, 0] := by decide +kernel
theorem e3 : ∀ t : Fin cfg0.N, win0_3.index t = ![0, 0] := by decide +kernel
theorem e4 : ∀ t : Fin cfg0.N, win0_4.index t = ![t.val, 0] := by decide +kernel
theorem e5 : ∀ t : Fin cfg0.N, win0_5.index t = ![t.val, 0] := by decide +kernel

/-- The tile of point `t`. -/
def tl (t : Fin cfg0.N) : Fin 8 := ⟨t.val, t.isLt⟩

theorem coord : ∀ t : Fin cfg0.N, (grid0.coords t 0).val = (tl t).val := by decide +kernel

theorem pb_eq (A : In) (p : Fin 8192) (n : Fin 256) {s : ℕ} {n' : Fin 256} (hs : p.val + 16 = s) (hn : n = n') : A.p p n = A.pb s n' := by
  subst hs hn
  exact (A.pb_of p n).symm

theorem blk0 (t : Fin cfg0.N) : iblk m c 0 t = tile (tl t) fun s => (args m c).pb (s + 16) := by
  funext y
  blk_simp [iblk]
  refine (congrFun ((V_main_arg0 m c).trans (a0 m c)) _).trans ?_
  refine pb_eq (args m c) _ _ ?_ (Fin.ext ?_)
  · blk_simp [e0]
    simp only [tl]
    omega
  · blk_simp [e0]

theorem blk1 (t : Fin cfg0.N) (ht : 0 < t.val) : iblk m c 1 t = fun y : S16x256.Idx => (args m c).pb (1024 * t.val + (y 0).val) (y 1) := by
  funext y
  blk_simp [iblk]
  refine (congrFun ((V_main_arg0 m c).trans (a0 m c)) _).trans ?_
  refine pb_eq (args m c) _ _ ?_ (Fin.ext ?_)
  · blk_simp [e1 t ht]
    omega
  · blk_simp [e1 t ht]

theorem blk2 (t : Fin cfg0.N) : iblk m c 2 t = mat 256 256 fun a b => if qu a = qu b then (args m c).w (qu a) (pl a) (pl b) else 0 := by
  funext y
  blk_simp [iblk]
  refine (congrFun (V9 m c) _).trans ?_
  refine congrArg₂ (fun a b => if qu a = qu b then (args m c).w (qu a) (pl a) (pl b) else 0) (Fin.ext ?_) (Fin.ext ?_) <;> blk_simp [e2]

theorem blk3 (t : Fin cfg0.N) : iblk m c 3 t = fun y : S1x256.Idx => (args m c).sc (y 1) := by
  funext y
  blk_simp [iblk]
  refine (congrFun (V10 m c) _).trans ?_
  refine congrArg (args m c).sc (Fin.ext ?_)
  blk_simp [e3]

theorem hz : (![0, 0] : Fin 2 → ℕ) = fun _ => 0 := funext fun a => by fin_cases a <;> rfl

theorem xAt (t : Fin cfg0.N) : k0_pay7 (F := Ideal) (grid0.coords t) (iblk m c 0 t) (iblk m c 1 t) (iblk m c 2 t) (iblk m c 3 t) = back (tl t) (args m c).pb := by
  unfold k0_pay7
  rw [View.ld_unit_zero (S := S1024x256) hz _ (iblk m c 0 t), View.ld_unit_zero (S := S16x256) hz _ (iblk m c 1 t), blk0]
  exact p2 _ (coord t) fun h => blk1 m c t h

theorem dAt (t : Fin cfg0.N) : k0_pay5 (F := Ideal) (BitVec.ofNat 32 (grid0.coords t 0).val) (iblk m c 0 t) (k0_pay7 (grid0.coords t) (iblk m c 0 t) (iblk m c 1 t) (iblk m c 2 t) (iblk m c 3 t))
    (k0_pay8 (F := Ideal) (grid0.coords t) (iblk m c 0 t) (iblk m c 1 t) (iblk m c 2 t) (iblk m c 3 t)) (k0_pay9 (F := Ideal) (grid0.coords t) (iblk m c 0 t) (iblk m c 1 t) (iblk m c 2 t) (iblk m c 3 t)) 3#32
      = tile (tl t) (args m c).dm := by
  rw [xAt, blk0, coord]
  exact p5

theorem arr4 : (dats m 0 c).arrAt 4 cfg0.N = mat 8192 256 fun t n => (args m c).dm t n := by
  refine (dats m 0 c).arrAt_eq_of_covers 4 _ (by decide +kernel) fun t hf y => ?_
  blk_simp
  rw [after0_4]
  unfold out0_4
  frame_out
  refine (congrFun (dAt m c t) _).trans ?_
  refine congrArg₂ (args m c).dm ?_ (Fin.ext ?_)
  · blk_simp [e4]
    simp only [tl]
    omega
  · blk_simp [e4]

theorem arr5 : (dats m 0 c).arrAt 5 cfg0.N = mat 8192 256 fun t n => (args m c).ym t n := by
  refine (dats m 0 c).arrAt_eq_of_covers 5 _ (by decide +kernel) fun t hf y => ?_
  blk_simp
  rw [after0_5]
  unfold out0_5
  frame_out
  unfold k0_pay6
  rw [blk2 m c t, blk3 m c t]
  refine (congrFun (p1 (dAt m c t)) _).trans ?_
  refine congrArg₂ (args m c).ym ?_ (Fin.ext ?_)
  · blk_simp [e5]
    simp only [tl]
    omega
  · blk_simp [e5]

/-- The call computes what the reference does. -/
theorem algebraic : algebraic_KernelpoolfwdIdeal_ReferencepoolfwdIdeal := by
  pair_intro
  · run_from Cert.KernelpoolfwdIdeal.Value.run_blocks m g
  · refine θ_run_mono (Cert.ReferencepoolfwdIdeal.Value.run m' g') fun r hr c => ?_
    obtain ⟨r0, r1, a⟩ := hr c
    obtain ⟨g0, g1, g2⟩ := hagree c
    refine ⟨(r0.trans (Cert.ReferencepoolfwdIdeal.Read.val_main_v40_eq ..)).trans ?_, (r1.trans (Cert.ReferencepoolfwdIdeal.Read.val_main_v45_eq ..)).trans ?_, a⟩
    · rw [g0.trans (a0 m c)]
      exact (Ref.v40 (args m c)).trans (arr4 m c).symm
    · rw [g0.trans (a0 m c), g1.trans (a1 m c), g2.trans (a2 m c)]
      exact (Ref.v45 (args m c)).trans (arr5 m c).symm

/-- The reference's run leaves the arguments and the counters as they were. -/
theorem frame_ref : quiescent_ReferencepoolfwdIdeal := fun m g _ =>
  θ_run_mono (Cert.ReferencepoolfwdIdeal.Value.run m g) fun r hr => ⟨fun c => (hr c).2.2, sem_eq_zero_of_no_sems (by decide) r.2⟩

end Cert.PoolFwd
end
-- ==== Proof.lean ====
module

public import proofs.«01_k».proof.Defs
public import proofs.«01_k».proof.Proof.Gen.KernelIdeal.Value
public import proofs.«01_k».proof.Proof.Gen.ReferenceIdeal.Read
public import proofs.«01_k».proof.Proof.Arr
public import proofs.«01_k».proof.Proof.Ref
public import proofs.«01_k».proof.Proof.Finite
public import proofs.«01_k».proof.Proof.W2in
public import proofs.«01_k».proof.Proof.Win
public import proofs.«01_k».proof.Proof.Wbranch
public import proofs.«01_k».proof.Proof.FwdArr
public import proofs.«01_k».proof.Proof.LastEnd
public import proofs.«01_k».proof.Proof.PoolArr
public import proofs.«01_k».proof.Proof.Gen.Kernelfwd
public import proofs.«01_k».proof.Proof.Gen.Kernelfwd.Frame
public import proofs.«01_k».proof.Proof.Gen.KernelfwdIdeal
public import proofs.«01_k».proof.Proof.Gen.KernelfwdIdeal.Value
public import proofs.«01_k».proof.Proof.Gen.ReferencefwdIdeal
public import proofs.«01_k».proof.Proof.Gen.ReferencefwdIdeal.Read
public import proofs.«01_k».proof.Proof.W2out
public import proofs.«01_k».proof.Proof.Gen.Kernel2out
public import proofs.«01_k».proof.Proof.Gen.Kernel2out.Frame
public import proofs.«01_k».proof.Proof.Gen.Kernel2outIdeal
public import proofs.«01_k».proof.Proof.Gen.Kernel2outIdeal.Value
public import proofs.«01_k».proof.Proof.Gen.Reference2outIdeal
public import proofs.«01_k».proof.Proof.Gen.Reference2outIdeal.Read
public import proofs.«01_k».proof.Proof.Wout
public import proofs.«01_k».proof.Proof.Gen.Kernelout
public import proofs.«01_k».proof.Proof.Gen.Kernelout.Frame
public import proofs.«01_k».proof.Proof.Gen.KerneloutIdeal
public import proofs.«01_k».proof.Proof.Gen.KerneloutIdeal.Value
public import proofs.«01_k».proof.Proof.Gen.ReferenceoutIdeal
public import proofs.«01_k».proof.Proof.Gen.ReferenceoutIdeal.Read
public import Idealize.ShloMosaic.Lib.Claim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernellast
public import proofs.«01_k».proof.Proof.Gen.Kernellast.Frame
public import proofs.«01_k».proof.Proof.Gen.KernellastIdeal
public import proofs.«01_k».proof.Proof.Gen.KernellastIdeal.Value
public import proofs.«01_k».proof.Proof.Gen.ReferencelastIdeal
public import proofs.«01_k».proof.Proof.Gen.ReferencelastIdeal.Read
public import proofs.«01_k».proof.Proof.Gen.Pre_finite_last
public import proofs.«01_k».proof.Proof.Gen.Kernelpool
public import proofs.«01_k».proof.Proof.Gen.Kernelpool.Frame
public import proofs.«01_k».proof.Proof.Gen.KernelpoolIdeal
public import proofs.«01_k».proof.Proof.Gen.KernelpoolIdeal.Value
public import proofs.«01_k».proof.Proof.Gen.ReferencepoolIdeal
public import proofs.«01_k».proof.Proof.Gen.ReferencepoolIdeal.Read
public import proofs.«01_k».proof.Proof.Gen.Kernel2in
public import proofs.«01_k».proof.Proof.Gen.Kernel2in.Frame
public import proofs.«01_k».proof.Proof.Gen.Kernel2inIdeal
public import proofs.«01_k».proof.Proof.Gen.Kernel2inIdeal.Value
public import proofs.«01_k».proof.Proof.Gen.Reference2inIdeal
public import proofs.«01_k».proof.Proof.Gen.Reference2inIdeal.Read
public import proofs.«01_k».proof.Proof.Gen.Kernelin
public import proofs.«01_k».proof.Proof.Gen.Kernelin.Frame
public import proofs.«01_k».proof.Proof.Gen.KernelinIdeal
public import proofs.«01_k».proof.Proof.Gen.KernelinIdeal.Value
public import proofs.«01_k».proof.Proof.Gen.ReferenceinIdeal
public import proofs.«01_k».proof.Proof.Gen.ReferenceinIdeal.Read
public import proofs.«01_k».proof.Proof.Gen.Kernelbranch
public import proofs.«01_k».proof.Proof.Gen.Kernelbranch.Frame
public import proofs.«01_k».proof.Proof.Gen.KernelbranchIdeal
public import proofs.«01_k».proof.Proof.Gen.KernelbranchIdeal.Value
public import proofs.«01_k».proof.Proof.Gen.ReferencebranchIdeal
public import proofs.«01_k».proof.Proof.Gen.ReferencebranchIdeal.Read
public import proofs.«01_k».proof.Proof.Gen.Kernelada
public import proofs.«01_k».proof.Proof.Gen.Kernelada.Frame
public import proofs.«01_k».proof.Proof.Gen.KerneladaIdeal
public import proofs.«01_k».proof.Proof.Gen.KerneladaIdeal.Frame
public import proofs.«01_k».proof.Proof.Gen.ReferenceadaIdeal
public import proofs.«01_k».proof.Proof.Gen.ReferenceadaIdeal.Read
public import proofs.«01_k».proof.Proof.Gen.Kernelslots
public import proofs.«01_k».proof.Proof.Gen.Kernelslots.Frame
public import proofs.«01_k».proof.Proof.Gen.KernelslotsIdeal
public import proofs.«01_k».proof.Proof.Gen.KernelslotsIdeal.Value
public import proofs.«01_k».proof.Proof.Gen.ReferenceslotsIdeal
public import proofs.«01_k».proof.Proof.Gen.ReferenceslotsIdeal.Read
public import proofs.«01_k».proof.Proof.Gen.Kernelmod
public import proofs.«01_k».proof.Proof.Gen.Kernelmod.Frame
public import proofs.«01_k».proof.Proof.Gen.KernelmodIdeal
public import proofs.«01_k».proof.Proof.Gen.KernelmodIdeal.Value
public import proofs.«01_k».proof.Proof.Gen.ReferencemodIdeal
public import proofs.«01_k».proof.Proof.Gen.ReferencemodIdeal.Read
public import proofs.«01_k».proof.Proof.Gen.Kernelpoolfwd
public import proofs.«01_k».proof.Proof.Gen.Kernelpoolfwd.Frame
public import proofs.«01_k».proof.Proof.Gen.KernelpoolfwdIdeal
public import proofs.«01_k».proof.Proof.Gen.KernelpoolfwdIdeal.Value
public import proofs.«01_k».proof.Proof.Gen.ReferencepoolfwdIdeal
public import proofs.«01_k».proof.Proof.Gen.ReferencepoolfwdIdeal.Read
public import Idealize.ShloMosaic.Adequacy
public import Idealize.ShloMosaic.Init
public import proofs.«01_k».proof.Proof.Ada
public import proofs.«01_k».proof.Proof.Slots
public import proofs.«01_k».proof.Proof.Mod
public import proofs.«01_k».proof.Proof.PoolFwd

@[expose] public section

noncomputable section

namespace Cert.Proof

open Idealize.ShloMosaic Idealize.SL.Sem Cert.Kernel

attribute [local instance] Cert.Pre_finite.Gen.facts Cert.KernelIdeal.Gen.facts Cert.ReferenceIdeal.Gen.facts Cert.Kernel.Gen.facts

/-- Under the precondition the kernel's arguments on a core are real arrays. -/
theorem at_of_pre {m : (ℓ : Loc Cert.KernelIdeal.nD Cert.KernelIdeal.τ Cert.KernelIdeal.sig) → Buf (Elt Ideal) ℓ} (h : Pre_KernelIdeal_finite m)
    (c : Dev Cert.KernelIdeal.nD) : ∃ A : Cert.Ffn.Args, Cert.Ffn.Host.At A m c := by
  obtain ⟨A, h0, h1, h2, h3, h4, h5, h6, h7⟩ := Cert.Ffn.Finite.finite _ _ _ _ _ _ _ _ (h c)
  exact ⟨A, h0, h1, h2, h3, h4, h5, h6, h7⟩

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- The two memories hold the same arguments on core `c`. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

theorem out_v85 (h : Agree m m' c) {A : Cert.Ffn.Args} (H : Cert.Ffn.Host.At A m c) :
    Cert.ReferenceIdeal.Value.res_main_v85 m' c = (Cert.KernelIdeal.Gen.dats m 0 c).arrAt 5 Cert.KernelIdeal.cfg0.N := by
  obtain ⟨g0, g1, g2, g3, g4, g5, g6, g7⟩ := h
  refine (Cert.ReferenceIdeal.Read.val_main_v85_eq m' c).trans ?_
  rw [g0, g1, g2, g3, g4, g5, g6, g7, H.dh, H.h, H.g, H.sh, H.sc, H.gt, H.w, H.v]
  exact (Cert.Ffn.Ref.v85 A).trans (Cert.Ffn.Arr.arr5 H).symm

theorem out_v94 (h : Agree m m' c) {A : Cert.Ffn.Args} (H : Cert.Ffn.Host.At A m c) :
    Cert.ReferenceIdeal.Value.res_main_v94 m' c = (Cert.KernelIdeal.Gen.dats m 0 c).arrAt 6 Cert.KernelIdeal.cfg0.N := by
  obtain ⟨g0, g1, g2, g3, g4, g5, g6, g7⟩ := h
  refine (Cert.ReferenceIdeal.Read.val_main_v94_eq m' c).trans ?_
  rw [g0, g1, g2, g3, g4, g5, g6, g7, H.dh, H.h, H.g, H.sh, H.sc, H.gt, H.w, H.v]
  exact (Cert.Ffn.Ref.v94 A).trans (Cert.Ffn.Arr.arr6 H).symm

theorem out_v97 (h : Agree m m' c) {A : Cert.Ffn.Args} (H : Cert.Ffn.Host.At A m c) :
    Cert.ReferenceIdeal.Value.res_main_v97 m' c = (Cert.KernelIdeal.Gen.dats m 0 c).arrAt 8 Cert.KernelIdeal.cfg0.N := by
  obtain ⟨g0, g1, g2, g3, g4, g5, g6, g7⟩ := h
  refine (Cert.ReferenceIdeal.Read.val_main_v97_eq m' c).trans ?_
  rw [g0, g1, g2, g3, g4, g5, g6, g7, H.dh, H.h, H.g, H.sh, H.sc, H.gt, H.w, H.v]
  exact (Cert.Ffn.Ref.v97 A).trans (Cert.Ffn.Arr.arr8 H).symm

theorem out_v95 (h : Agree m m' c) {A : Cert.Ffn.Args} (H : Cert.Ffn.Host.At A m c) :
    Cert.ReferenceIdeal.Read.val_main_v95 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg5))
      = (Cert.KernelIdeal.Gen.dats m 0 c).arrAt 7 Cert.KernelIdeal.cfg0.N := by
  obtain ⟨g0, g1, g2, g3, g4, g5, g6, g7⟩ := h
  rw [g0, g5, H.dh, H.gt]
  exact (Cert.Ffn.Ref.v95 A).trans (Cert.Ffn.Arr.arr7 H).symm

theorem algebraic : algebraic_KernelIdeal_ReferenceIdeal_pre_finite := by
  pair_intro
  · run_from Cert.KernelIdeal.Value.run_blocks m g
  · refine θ_run_mono (Cert.ReferenceIdeal.Value.run m' g') fun r hr c => ?_
    obtain ⟨r0, r1, r2, r3, a⟩ := hr c
    obtain ⟨A, H⟩ := at_of_pre hpre c
    exact ⟨r0.trans (out_v85 (hagree c) H), r1.trans (out_v94 (hagree c) H), (r2.trans (Cert.ReferenceIdeal.Read.val_main_v95_eq _ _)).trans (out_v95 (hagree c) H),
      r3.trans (out_v97 (hagree c) H), a⟩

/-- The reference's run leaves the arguments and the counters as they were. -/
theorem frame_ref : quiescent_ReferenceIdeal := fun m g _ =>
  θ_run_mono (Cert.ReferenceIdeal.Value.run m g) fun r hr => ⟨fun c => (hr c).2.2.2.2, sem_eq_zero_of_no_sems (by decide) r.2⟩

theorem claim : Cert.Claim :=
  ⟨Cert.Kernel.Gen.facts, Cert.KernelIdeal.Gen.facts, Cert.ReferenceIdeal.Gen.facts,
    Cert.Kernel2in.Gen.facts, Cert.Kernel2inIdeal.Gen.facts, Cert.Reference2inIdeal.Gen.facts,
    Cert.Kernelin.Gen.facts, Cert.KernelinIdeal.Gen.facts, Cert.ReferenceinIdeal.Gen.facts,
    Cert.Kernelbranch.Gen.facts, Cert.KernelbranchIdeal.Gen.facts, Cert.ReferencebranchIdeal.Gen.facts,
    Cert.Kernel2out.Gen.facts, Cert.Kernel2outIdeal.Gen.facts, Cert.Reference2outIdeal.Gen.facts,
    Cert.Kernelout.Gen.facts, Cert.KerneloutIdeal.Gen.facts, Cert.ReferenceoutIdeal.Gen.facts,
    Cert.Kernelfwd.Gen.facts, Cert.KernelfwdIdeal.Gen.facts, Cert.ReferencefwdIdeal.Gen.facts,
    Cert.Kernellast.Gen.facts, Cert.KernellastIdeal.Gen.facts, Cert.ReferencelastIdeal.Gen.facts,
    Cert.Kernelpool.Gen.facts, Cert.KernelpoolIdeal.Gen.facts, Cert.ReferencepoolIdeal.Gen.facts,
    Cert.Kernelada.Gen.facts, Cert.KerneladaIdeal.Gen.facts, Cert.ReferenceadaIdeal.Gen.facts,
    Cert.Kernelslots.Gen.facts, Cert.KernelslotsIdeal.Gen.facts, Cert.ReferenceslotsIdeal.Gen.facts,
    Cert.Kernelmod.Gen.facts, Cert.KernelmodIdeal.Gen.facts, Cert.ReferencemodIdeal.Gen.facts,
    Cert.Kernelpoolfwd.Gen.facts, Cert.KernelpoolfwdIdeal.Gen.facts, Cert.ReferencepoolfwdIdeal.Gen.facts, Cert.Pre_finite.Gen.facts, Cert.Pre_finite_last.Gen.facts,
    fun m g _ => Cert.Kernel.Gen.frame m g, fun m g _ => Cert.KernelIdeal.Gen.frame m g, fun m g _ => Cert.KernelIdeal.Gen.frame m g,
    frame_ref, fun m g _ => frame_ref m g True.intro,
    fun m g _ => Cert.Kernel2in.Gen.frame m g, fun m g _ => Cert.Kernel2inIdeal.Gen.frame m g, Cert.W2in.frame_ref,
    fun m g _ => Cert.Kernelin.Gen.frame m g, fun m g _ => Cert.KernelinIdeal.Gen.frame m g, Cert.Win.frame_ref,
    fun m g _ => Cert.Kernelbranch.Gen.frame m g, fun m g _ => Cert.KernelbranchIdeal.Gen.frame m g, Cert.Wbranch.frame_ref,
    fun m g _ => Cert.Kernel2out.Gen.frame m g, fun m g _ => Cert.Kernel2outIdeal.Gen.frame m g, Cert.W2out.frame_ref,
    fun m g _ => Cert.Kernelout.Gen.frame m g, fun m g _ => Cert.KerneloutIdeal.Gen.frame m g, Cert.Wout.frame_ref,
    fun m g _ => Cert.Kernelfwd.Gen.frame m g, fun m g _ => Cert.KernelfwdIdeal.Gen.frame m g, Cert.Fwd.frame_ref,
    fun m g _ => Cert.Kernellast.Gen.frame m g, fun m g _ => Cert.KernellastIdeal.Gen.frame m g, fun m g _ => Cert.KernellastIdeal.Gen.frame m g,
    Cert.Last.frame_ref, fun m g _ => Cert.Last.frame_ref m g True.intro,
    fun m g _ => Cert.Kernelpool.Gen.frame m g, fun m g _ => Cert.KernelpoolIdeal.Gen.frame m g, Cert.Pool.frame_ref,
    fun m g _ => Cert.Kernelada.Gen.frame m g, fun m g _ => Cert.KerneladaIdeal.Gen.frame m g, Cert.Ada.frame_ref,
    fun m g _ => Cert.Kernelslots.Gen.frame m g, fun m g _ => Cert.KernelslotsIdeal.Gen.frame m g, Cert.Slots.frame_ref,
    fun m g _ => Cert.Kernelmod.Gen.frame m g, fun m g _ => Cert.KernelmodIdeal.Gen.frame m g, Cert.Mod.frame_ref,
    fun m g _ => Cert.Kernelpoolfwd.Gen.frame m g, fun m g _ => Cert.KernelpoolfwdIdeal.Gen.frame m g, Cert.PoolFwd.frame_ref,
    trivial, algebraic, trivial, Cert.W2in.algebraic, trivial, Cert.Win.algebraic, trivial, Cert.Wbranch.algebraic, trivial, Cert.W2out.algebraic, trivial, Cert.Wout.algebraic, trivial, Cert.Fwd.algebraic,
    trivial, Cert.Last.algebraic, trivial, Cert.Pool.algebraic, trivial, Cert.Ada.algebraic, trivial, Cert.Slots.algebraic, trivial, Cert.Mod.algebraic, trivial, Cert.PoolFwd.algebraic⟩

end Cert.Proof

end
